-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.2 = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelMoe (m : (ℓ : Loc Cert.KernelMoe.nD Cert.KernelMoe.τ Cert.KernelMoe.sig) → Buf (Elt Bits) ℓ) : Prop :=
  True

def Pre_KernelMoeIdeal (m : (ℓ : Loc Cert.KernelMoeIdeal.nD Cert.KernelMoeIdeal.τ Cert.KernelMoeIdeal.sig) → Buf (Elt Ideal) ℓ) : Prop :=
  True

def Pre_ReferenceMoeIdeal (m : (ℓ : Loc Cert.ReferenceMoeIdeal.nD Cert.ReferenceMoeIdeal.τ Cert.ReferenceMoeIdeal.sig) → Buf (Elt Ideal) ℓ) : Prop :=
  True

def Pre_KernelFinal (m : (ℓ : Loc Cert.KernelFinal.nD Cert.KernelFinal.τ Cert.KernelFinal.sig) → Buf (Elt Bits) ℓ) : Prop :=
  True

def Pre_KernelFinalIdeal (m : (ℓ : Loc Cert.KernelFinalIdeal.nD Cert.KernelFinalIdeal.τ Cert.KernelFinalIdeal.sig) → Buf (Elt Ideal) ℓ) : Prop :=
  True

def Pre_ReferenceFinalIdeal (m : (ℓ : Loc Cert.ReferenceFinalIdeal.nD Cert.ReferenceFinalIdeal.τ Cert.ReferenceFinalIdeal.sig) → Buf (Elt Ideal) ℓ) : Prop :=
  True

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_ReferenceModIdeal (m : (ℓ : Loc Cert.ReferenceModIdeal.nD Cert.ReferenceModIdeal.τ Cert.ReferenceModIdeal.sig) → Buf (Elt Ideal) ℓ) : Prop :=
  True

def Pre_KernelDisc (m : (ℓ : Loc Cert.KernelDisc.nD Cert.KernelDisc.τ Cert.KernelDisc.sig) → Buf (Elt Bits) ℓ) : Prop :=
  True

def Pre_KernelDiscIdeal (m : (ℓ : Loc Cert.KernelDiscIdeal.nD Cert.KernelDiscIdeal.τ Cert.KernelDiscIdeal.sig) → Buf (Elt Ideal) ℓ) : Prop :=
  True

def Pre_ReferenceDiscIdeal (m : (ℓ : Loc Cert.ReferenceDiscIdeal.nD Cert.ReferenceDiscIdeal.τ Cert.ReferenceDiscIdeal.sig) → Buf (Elt Ideal) ℓ) : Prop :=
  True

def Pre_KernelFw (m : (ℓ : Loc Cert.KernelFw.nD Cert.KernelFw.τ Cert.KernelFw.sig) → Buf (Elt Bits) ℓ) : Prop :=
  True

def Pre_KernelFwIdeal (m : (ℓ : Loc Cert.KernelFwIdeal.nD Cert.KernelFwIdeal.τ Cert.KernelFwIdeal.sig) → Buf (Elt Ideal) ℓ) : Prop :=
  True

def Pre_ReferenceFwIdeal (m : (ℓ : Loc Cert.ReferenceFwIdeal.nD Cert.ReferenceFwIdeal.τ Cert.ReferenceFwIdeal.sig) → Buf (Elt Ideal) ℓ) : Prop :=
  True

def Pre_KernelFnet (m : (ℓ : Loc Cert.KernelFnet.nD Cert.KernelFnet.τ Cert.KernelFnet.sig) → Buf (Elt Bits) ℓ) : Prop :=
  True

def Pre_KernelFnetIdeal (m : (ℓ : Loc Cert.KernelFnetIdeal.nD Cert.KernelFnetIdeal.τ Cert.KernelFnetIdeal.sig) → Buf (Elt Ideal) ℓ) : Prop :=
  True

def Pre_KernelFnetIdeal_finite [hPre_finite : Cert.Pre_finite.Facts] (m : (ℓ : Loc Cert.KernelFnetIdeal.nD Cert.KernelFnetIdeal.τ Cert.KernelFnetIdeal.sig) → Buf (Elt Ideal) ℓ) : Prop :=
  ∀ c : Dev Cert.KernelFnetIdeal.nD,
    (Cert.Pre_finite.fn (F := Ideal) (m ((c.tc : Thread Cert.KernelFnetIdeal.nD Cert.KernelFnetIdeal.τ).loc Cert.KernelFnetIdeal.main_arg0)) (m ((c.tc : Thread Cert.KernelFnetIdeal.nD Cert.KernelFnetIdeal.τ).loc Cert.KernelFnetIdeal.main_arg1)) (m ((c.tc : Thread Cert.KernelFnetIdeal.nD Cert.KernelFnetIdeal.τ).loc Cert.KernelFnetIdeal.main_arg2)) (m ((c.tc : Thread Cert.KernelFnetIdeal.nD Cert.KernelFnetIdeal.τ).loc Cert.KernelFnetIdeal.main_arg3)) (m ((c.tc : Thread Cert.KernelFnetIdeal.nD Cert.KernelFnetIdeal.τ).loc Cert.KernelFnetIdeal.main_arg4))).1 = (fun _ => 1#1)
    ∧ (Cert.Pre_finite.fn (F := Ideal) (m ((c.tc : Thread Cert.KernelFnetIdeal.nD Cert.KernelFnetIdeal.τ).loc Cert.KernelFnetIdeal.main_arg0)) (m ((c.tc : Thread Cert.KernelFnetIdeal.nD Cert.KernelFnetIdeal.τ).loc Cert.KernelFnetIdeal.main_arg1)) (m ((c.tc : Thread Cert.KernelFnetIdeal.nD Cert.KernelFnetIdeal.τ).loc Cert.KernelFnetIdeal.main_arg2)) (m ((c.tc : Thread Cert.KernelFnetIdeal.nD Cert.KernelFnetIdeal.τ).loc Cert.KernelFnetIdeal.main_arg3)) (m ((c.tc : Thread Cert.KernelFnetIdeal.nD Cert.KernelFnetIdeal.τ).loc Cert.KernelFnetIdeal.main_arg4))).2.1 = (fun _ => 1#1)
    ∧ (Cert.Pre_finite.fn (F := Ideal) (m ((c.tc : Thread Cert.KernelFnetIdeal.nD Cert.KernelFnetIdeal.τ).loc Cert.KernelFnetIdeal.main_arg0)) (m ((c.tc : Thread Cert.KernelFnetIdeal.nD Cert.KernelFnetIdeal.τ).loc Cert.KernelFnetIdeal.main_arg1)) (m ((c.tc : Thread Cert.KernelFnetIdeal.nD Cert.KernelFnetIdeal.τ).loc Cert.KernelFnetIdeal.main_arg2)) (m ((c.tc : Thread Cert.KernelFnetIdeal.nD Cert.KernelFnetIdeal.τ).loc Cert.KernelFnetIdeal.main_arg3)) (m ((c.tc : Thread Cert.KernelFnetIdeal.nD Cert.KernelFnetIdeal.τ).loc Cert.KernelFnetIdeal.main_arg4))).2.2.1 = (fun _ => 1#1)
    ∧ (Cert.Pre_finite.fn (F := Ideal) (m ((c.tc : Thread Cert.KernelFnetIdeal.nD Cert.KernelFnetIdeal.τ).loc Cert.KernelFnetIdeal.main_arg0)) (m ((c.tc : Thread Cert.KernelFnetIdeal.nD Cert.KernelFnetIdeal.τ).loc Cert.KernelFnetIdeal.main_arg1)) (m ((c.tc : Thread Cert.KernelFnetIdeal.nD Cert.KernelFnetIdeal.τ).loc Cert.KernelFnetIdeal.main_arg2)) (m ((c.tc : Thread Cert.KernelFnetIdeal.nD Cert.KernelFnetIdeal.τ).loc Cert.KernelFnetIdeal.main_arg3)) (m ((c.tc : Thread Cert.KernelFnetIdeal.nD Cert.KernelFnetIdeal.τ).loc Cert.KernelFnetIdeal.main_arg4))).2.2.2.1 = (fun _ => 1#1)
    ∧ (Cert.Pre_finite.fn (F := Ideal) (m ((c.tc : Thread Cert.KernelFnetIdeal.nD Cert.KernelFnetIdeal.τ).loc Cert.KernelFnetIdeal.main_arg0)) (m ((c.tc : Thread Cert.KernelFnetIdeal.nD Cert.KernelFnetIdeal.τ).loc Cert.KernelFnetIdeal.main_arg1)) (m ((c.tc : Thread Cert.KernelFnetIdeal.nD Cert.KernelFnetIdeal.τ).loc Cert.KernelFnetIdeal.main_arg2)) (m ((c.tc : Thread Cert.KernelFnetIdeal.nD Cert.KernelFnetIdeal.τ).loc Cert.KernelFnetIdeal.main_arg3)) (m ((c.tc : Thread Cert.KernelFnetIdeal.nD Cert.KernelFnetIdeal.τ).loc Cert.KernelFnetIdeal.main_arg4))).2.2.2.2 = (fun _ => 1#1)

def Pre_ReferenceFnetIdeal (m : (ℓ : Loc Cert.ReferenceFnetIdeal.nD Cert.ReferenceFnetIdeal.τ Cert.ReferenceFnetIdeal.sig) → Buf (Elt Ideal) ℓ) : Prop :=
  True

def Pre_ReferenceFnetIdeal_finite [hPre_finite : Cert.Pre_finite.Facts] (m : (ℓ : Loc Cert.ReferenceFnetIdeal.nD Cert.ReferenceFnetIdeal.τ Cert.ReferenceFnetIdeal.sig) → Buf (Elt Ideal) ℓ) : Prop :=
  ∀ c : Dev Cert.ReferenceFnetIdeal.nD,
    (Cert.Pre_finite.fn (F := Ideal) (m ((c.tc : Thread Cert.ReferenceFnetIdeal.nD Cert.ReferenceFnetIdeal.τ).loc Cert.ReferenceFnetIdeal.main_arg0)) (m ((c.tc : Thread Cert.ReferenceFnetIdeal.nD Cert.ReferenceFnetIdeal.τ).loc Cert.ReferenceFnetIdeal.main_arg1)) (m ((c.tc : Thread Cert.ReferenceFnetIdeal.nD Cert.ReferenceFnetIdeal.τ).loc Cert.ReferenceFnetIdeal.main_arg2)) (m ((c.tc : Thread Cert.ReferenceFnetIdeal.nD Cert.ReferenceFnetIdeal.τ).loc Cert.ReferenceFnetIdeal.main_arg3)) (m ((c.tc : Thread Cert.ReferenceFnetIdeal.nD Cert.ReferenceFnetIdeal.τ).loc Cert.ReferenceFnetIdeal.main_arg4))).1 = (fun _ => 1#1)
    ∧ (Cert.Pre_finite.fn (F := Ideal) (m ((c.tc : Thread Cert.ReferenceFnetIdeal.nD Cert.ReferenceFnetIdeal.τ).loc Cert.ReferenceFnetIdeal.main_arg0)) (m ((c.tc : Thread Cert.ReferenceFnetIdeal.nD Cert.ReferenceFnetIdeal.τ).loc Cert.ReferenceFnetIdeal.main_arg1)) (m ((c.tc : Thread Cert.ReferenceFnetIdeal.nD Cert.ReferenceFnetIdeal.τ).loc Cert.ReferenceFnetIdeal.main_arg2)) (m ((c.tc : Thread Cert.ReferenceFnetIdeal.nD Cert.ReferenceFnetIdeal.τ).loc Cert.ReferenceFnetIdeal.main_arg3)) (m ((c.tc : Thread Cert.ReferenceFnetIdeal.nD Cert.ReferenceFnetIdeal.τ).loc Cert.ReferenceFnetIdeal.main_arg4))).2.1 = (fun _ => 1#1)
    ∧ (Cert.Pre_finite.fn (F := Ideal) (m ((c.tc : Thread Cert.ReferenceFnetIdeal.nD Cert.ReferenceFnetIdeal.τ).loc Cert.ReferenceFnetIdeal.main_arg0)) (m ((c.tc : Thread Cert.ReferenceFnetIdeal.nD Cert.ReferenceFnetIdeal.τ).loc Cert.ReferenceFnetIdeal.main_arg1)) (m ((c.tc : Thread Cert.ReferenceFnetIdeal.nD Cert.ReferenceFnetIdeal.τ).loc Cert.ReferenceFnetIdeal.main_arg2)) (m ((c.tc : Thread Cert.ReferenceFnetIdeal.nD Cert.ReferenceFnetIdeal.τ).loc Cert.ReferenceFnetIdeal.main_arg3)) (m ((c.tc : Thread Cert.ReferenceFnetIdeal.nD Cert.ReferenceFnetIdeal.τ).loc Cert.ReferenceFnetIdeal.main_arg4))).2.2.1 = (fun _ => 1#1)
    ∧ (Cert.Pre_finite.fn (F := Ideal) (m ((c.tc : Thread Cert.ReferenceFnetIdeal.nD Cert.ReferenceFnetIdeal.τ).loc Cert.ReferenceFnetIdeal.main_arg0)) (m ((c.tc : Thread Cert.ReferenceFnetIdeal.nD Cert.ReferenceFnetIdeal.τ).loc Cert.ReferenceFnetIdeal.main_arg1)) (m ((c.tc : Thread Cert.ReferenceFnetIdeal.nD Cert.ReferenceFnetIdeal.τ).loc Cert.ReferenceFnetIdeal.main_arg2)) (m ((c.tc : Thread Cert.ReferenceFnetIdeal.nD Cert.ReferenceFnetIdeal.τ).loc Cert.ReferenceFnetIdeal.main_arg3)) (m ((c.tc : Thread Cert.ReferenceFnetIdeal.nD Cert.ReferenceFnetIdeal.τ).loc Cert.ReferenceFnetIdeal.main_arg4))).2.2.2.1 = (fun _ => 1#1)
    ∧ (Cert.Pre_finite.fn (F := Ideal) (m ((c.tc : Thread Cert.ReferenceFnetIdeal.nD Cert.ReferenceFnetIdeal.τ).loc Cert.ReferenceFnetIdeal.main_arg0)) (m ((c.tc : Thread Cert.ReferenceFnetIdeal.nD Cert.ReferenceFnetIdeal.τ).loc Cert.ReferenceFnetIdeal.main_arg1)) (m ((c.tc : Thread Cert.ReferenceFnetIdeal.nD Cert.ReferenceFnetIdeal.τ).loc Cert.ReferenceFnetIdeal.main_arg2)) (m ((c.tc : Thread Cert.ReferenceFnetIdeal.nD Cert.ReferenceFnetIdeal.τ).loc Cert.ReferenceFnetIdeal.main_arg3)) (m ((c.tc : Thread Cert.ReferenceFnetIdeal.nD Cert.ReferenceFnetIdeal.τ).loc Cert.ReferenceFnetIdeal.main_arg4))).2.2.2.2 = (fun _ => 1#1)

def Pre_KernelLong (m : (ℓ : Loc Cert.KernelLong.nD Cert.KernelLong.τ Cert.KernelLong.sig) → Buf (Elt Bits) ℓ) : Prop :=
  True

def Pre_KernelLongIdeal (m : (ℓ : Loc Cert.KernelLongIdeal.nD Cert.KernelLongIdeal.τ Cert.KernelLongIdeal.sig) → Buf (Elt Ideal) ℓ) : Prop :=
  True

def Pre_KernelLongIdeal_finite_long [hPre_finite_long : Cert.Pre_finite_long.Facts] (m : (ℓ : Loc Cert.KernelLongIdeal.nD Cert.KernelLongIdeal.τ Cert.KernelLongIdeal.sig) → Buf (Elt Ideal) ℓ) : Prop :=
  ∀ c : Dev Cert.KernelLongIdeal.nD,
    (Cert.Pre_finite_long.fn (F := Ideal) (m ((c.tc : Thread Cert.KernelLongIdeal.nD Cert.KernelLongIdeal.τ).loc Cert.KernelLongIdeal.main_arg0)) (m ((c.tc : Thread Cert.KernelLongIdeal.nD Cert.KernelLongIdeal.τ).loc Cert.KernelLongIdeal.main_arg1)) (m ((c.tc : Thread Cert.KernelLongIdeal.nD Cert.KernelLongIdeal.τ).loc Cert.KernelLongIdeal.main_arg2)) (m ((c.tc : Thread Cert.KernelLongIdeal.nD Cert.KernelLongIdeal.τ).loc Cert.KernelLongIdeal.main_arg3)) (m ((c.tc : Thread Cert.KernelLongIdeal.nD Cert.KernelLongIdeal.τ).loc Cert.KernelLongIdeal.main_arg4))).1 = (fun _ => 1#1)
    ∧ (Cert.Pre_finite_long.fn (F := Ideal) (m ((c.tc : Thread Cert.KernelLongIdeal.nD Cert.KernelLongIdeal.τ).loc Cert.KernelLongIdeal.main_arg0)) (m ((c.tc : Thread Cert.KernelLongIdeal.nD Cert.KernelLongIdeal.τ).loc Cert.KernelLongIdeal.main_arg1)) (m ((c.tc : Thread Cert.KernelLongIdeal.nD Cert.KernelLongIdeal.τ).loc Cert.KernelLongIdeal.main_arg2)) (m ((c.tc : Thread Cert.KernelLongIdeal.nD Cert.KernelLongIdeal.τ).loc Cert.KernelLongIdeal.main_arg3)) (m ((c.tc : Thread Cert.KernelLongIdeal.nD Cert.KernelLongIdeal.τ).loc Cert.KernelLongIdeal.main_arg4))).2.1 = (fun _ => 1#1)
    ∧ (Cert.Pre_finite_long.fn (F := Ideal) (m ((c.tc : Thread Cert.KernelLongIdeal.nD Cert.KernelLongIdeal.τ).loc Cert.KernelLongIdeal.main_arg0)) (m ((c.tc : Thread Cert.KernelLongIdeal.nD Cert.KernelLongIdeal.τ).loc Cert.KernelLongIdeal.main_arg1)) (m ((c.tc : Thread Cert.KernelLongIdeal.nD Cert.KernelLongIdeal.τ).loc Cert.KernelLongIdeal.main_arg2)) (m ((c.tc : Thread Cert.KernelLongIdeal.nD Cert.KernelLongIdeal.τ).loc Cert.KernelLongIdeal.main_arg3)) (m ((c.tc : Thread Cert.KernelLongIdeal.nD Cert.KernelLongIdeal.τ).loc Cert.KernelLongIdeal.main_arg4))).2.2.1 = (fun _ => 1#1)
    ∧ (Cert.Pre_finite_long.fn (F := Ideal) (m ((c.tc : Thread Cert.KernelLongIdeal.nD Cert.KernelLongIdeal.τ).loc Cert.KernelLongIdeal.main_arg0)) (m ((c.tc : Thread Cert.KernelLongIdeal.nD Cert.KernelLongIdeal.τ).loc Cert.KernelLongIdeal.main_arg1)) (m ((c.tc : Thread Cert.KernelLongIdeal.nD Cert.KernelLongIdeal.τ).loc Cert.KernelLongIdeal.main_arg2)) (m ((c.tc : Thread Cert.KernelLongIdeal.nD Cert.KernelLongIdeal.τ).loc Cert.KernelLongIdeal.main_arg3)) (m ((c.tc : Thread Cert.KernelLongIdeal.nD Cert.KernelLongIdeal.τ).loc Cert.KernelLongIdeal.main_arg4))).2.2.2.1 = (fun _ => 1#1)
    ∧ (Cert.Pre_finite_long.fn (F := Ideal) (m ((c.tc : Thread Cert.KernelLongIdeal.nD Cert.KernelLongIdeal.τ).loc Cert.KernelLongIdeal.main_arg0)) (m ((c.tc : Thread Cert.KernelLongIdeal.nD Cert.KernelLongIdeal.τ).loc Cert.KernelLongIdeal.main_arg1)) (m ((c.tc : Thread Cert.KernelLongIdeal.nD Cert.KernelLongIdeal.τ).loc Cert.KernelLongIdeal.main_arg2)) (m ((c.tc : Thread Cert.KernelLongIdeal.nD Cert.KernelLongIdeal.τ).loc Cert.KernelLongIdeal.main_arg3)) (m ((c.tc : Thread Cert.KernelLongIdeal.nD Cert.KernelLongIdeal.τ).loc Cert.KernelLongIdeal.main_arg4))).2.2.2.2 = (fun _ => 1#1)

def Pre_ReferenceLongIdeal (m : (ℓ : Loc Cert.ReferenceLongIdeal.nD Cert.ReferenceLongIdeal.τ Cert.ReferenceLongIdeal.sig) → Buf (Elt Ideal) ℓ) : Prop :=
  True

def Pre_ReferenceLongIdeal_finite_long [hPre_finite_long : Cert.Pre_finite_long.Facts] (m : (ℓ : Loc Cert.ReferenceLongIdeal.nD Cert.ReferenceLongIdeal.τ Cert.ReferenceLongIdeal.sig) → Buf (Elt Ideal) ℓ) : Prop :=
  ∀ c : Dev Cert.ReferenceLongIdeal.nD,
    (Cert.Pre_finite_long.fn (F := Ideal) (m ((c.tc : Thread Cert.ReferenceLongIdeal.nD Cert.ReferenceLongIdeal.τ).loc Cert.ReferenceLongIdeal.main_arg0)) (m ((c.tc : Thread Cert.ReferenceLongIdeal.nD Cert.ReferenceLongIdeal.τ).loc Cert.ReferenceLongIdeal.main_arg1)) (m ((c.tc : Thread Cert.ReferenceLongIdeal.nD Cert.ReferenceLongIdeal.τ).loc Cert.ReferenceLongIdeal.main_arg2)) (m ((c.tc : Thread Cert.ReferenceLongIdeal.nD Cert.ReferenceLongIdeal.τ).loc Cert.ReferenceLongIdeal.main_arg3)) (m ((c.tc : Thread Cert.ReferenceLongIdeal.nD Cert.ReferenceLongIdeal.τ).loc Cert.ReferenceLongIdeal.main_arg4))).1 = (fun _ => 1#1)
    ∧ (Cert.Pre_finite_long.fn (F := Ideal) (m ((c.tc : Thread Cert.ReferenceLongIdeal.nD Cert.ReferenceLongIdeal.τ).loc Cert.ReferenceLongIdeal.main_arg0)) (m ((c.tc : Thread Cert.ReferenceLongIdeal.nD Cert.ReferenceLongIdeal.τ).loc Cert.ReferenceLongIdeal.main_arg1)) (m ((c.tc : Thread Cert.ReferenceLongIdeal.nD Cert.ReferenceLongIdeal.τ).loc Cert.ReferenceLongIdeal.main_arg2)) (m ((c.tc : Thread Cert.ReferenceLongIdeal.nD Cert.ReferenceLongIdeal.τ).loc Cert.ReferenceLongIdeal.main_arg3)) (m ((c.tc : Thread Cert.ReferenceLongIdeal.nD Cert.ReferenceLongIdeal.τ).loc Cert.ReferenceLongIdeal.main_arg4))).2.1 = (fun _ => 1#1)
    ∧ (Cert.Pre_finite_long.fn (F := Ideal) (m ((c.tc : Thread Cert.ReferenceLongIdeal.nD Cert.ReferenceLongIdeal.τ).loc Cert.ReferenceLongIdeal.main_arg0)) (m ((c.tc : Thread Cert.ReferenceLongIdeal.nD Cert.ReferenceLongIdeal.τ).loc Cert.ReferenceLongIdeal.main_arg1)) (m ((c.tc : Thread Cert.ReferenceLongIdeal.nD Cert.ReferenceLongIdeal.τ).loc Cert.ReferenceLongIdeal.main_arg2)) (m ((c.tc : Thread Cert.ReferenceLongIdeal.nD Cert.ReferenceLongIdeal.τ).loc Cert.ReferenceLongIdeal.main_arg3)) (m ((c.tc : Thread Cert.ReferenceLongIdeal.nD Cert.ReferenceLongIdeal.τ).loc Cert.ReferenceLongIdeal.main_arg4))).2.2.1 = (fun _ => 1#1)
    ∧ (Cert.Pre_finite_long.fn (F := Ideal) (m ((c.tc : Thread Cert.ReferenceLongIdeal.nD Cert.ReferenceLongIdeal.τ).loc Cert.ReferenceLongIdeal.main_arg0)) (m ((c.tc : Thread Cert.ReferenceLongIdeal.nD Cert.ReferenceLongIdeal.τ).loc Cert.ReferenceLongIdeal.main_arg1)) (m ((c.tc : Thread Cert.ReferenceLongIdeal.nD Cert.ReferenceLongIdeal.τ).loc Cert.ReferenceLongIdeal.main_arg2)) (m ((c.tc : Thread Cert.ReferenceLongIdeal.nD Cert.ReferenceLongIdeal.τ).loc Cert.ReferenceLongIdeal.main_arg3)) (m ((c.tc : Thread Cert.ReferenceLongIdeal.nD Cert.ReferenceLongIdeal.τ).loc Cert.ReferenceLongIdeal.main_arg4))).2.2.2.1 = (fun _ => 1#1)
    ∧ (Cert.Pre_finite_long.fn (F := Ideal) (m ((c.tc : Thread Cert.ReferenceLongIdeal.nD Cert.ReferenceLongIdeal.τ).loc Cert.ReferenceLongIdeal.main_arg0)) (m ((c.tc : Thread Cert.ReferenceLongIdeal.nD Cert.ReferenceLongIdeal.τ).loc Cert.ReferenceLongIdeal.main_arg1)) (m ((c.tc : Thread Cert.ReferenceLongIdeal.nD Cert.ReferenceLongIdeal.τ).loc Cert.ReferenceLongIdeal.main_arg2)) (m ((c.tc : Thread Cert.ReferenceLongIdeal.nD Cert.ReferenceLongIdeal.τ).loc Cert.ReferenceLongIdeal.main_arg3)) (m ((c.tc : Thread Cert.ReferenceLongIdeal.nD Cert.ReferenceLongIdeal.τ).loc Cert.ReferenceLongIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5))
      ∧ r.2.sem = fun _ => 0)

def quiescent_KernelMoe [hKernelMoe : Cert.KernelMoe.Facts] : Prop :=
  ∀ (m : (ℓ : Loc Cert.KernelMoe.nD Cert.KernelMoe.τ Cert.KernelMoe.sig) → Buf (Elt Bits) ℓ) (g : Dev Cert.KernelMoe.nD → PrngReg), Pre_KernelMoe m →
    θ_run (Cert.KernelMoe.defs (F := Bits)) (onTc (τ := Cert.KernelMoe.τ) (Cert.KernelMoe.main (F := Bits))) ⟨m, fun _ => 0, g⟩ (fun r => (∀ c : Dev Cert.KernelMoe.nD,
      r.2.mem ((c.tc : Thread Cert.KernelMoe.nD Cert.KernelMoe.τ).loc Cert.KernelMoe.main_arg0) = m ((c.tc : Thread Cert.KernelMoe.nD Cert.KernelMoe.τ).loc Cert.KernelMoe.main_arg0)
      ∧ r.2.mem ((c.tc : Thread Cert.KernelMoe.nD Cert.KernelMoe.τ).loc Cert.KernelMoe.main_arg1) = m ((c.tc : Thread Cert.KernelMoe.nD Cert.KernelMoe.τ).loc Cert.KernelMoe.main_arg1)
      ∧ r.2.mem ((c.tc : Thread Cert.KernelMoe.nD Cert.KernelMoe.τ).loc Cert.KernelMoe.main_arg2) = m ((c.tc : Thread Cert.KernelMoe.nD Cert.KernelMoe.τ).loc Cert.KernelMoe.main_arg2)
      ∧ r.2.mem ((c.tc : Thread Cert.KernelMoe.nD Cert.KernelMoe.τ).loc Cert.KernelMoe.main_arg3) = m ((c.tc : Thread Cert.KernelMoe.nD Cert.KernelMoe.τ).loc Cert.KernelMoe.main_arg3)
      ∧ r.2.mem ((c.tc : Thread Cert.KernelMoe.nD Cert.KernelMoe.τ).loc Cert.KernelMoe.main_arg4) = m ((c.tc : Thread Cert.KernelMoe.nD Cert.KernelMoe.τ).loc Cert.KernelMoe.main_arg4)
      ∧ r.2.mem ((c.tc : Thread Cert.KernelMoe.nD Cert.KernelMoe.τ).loc Cert.KernelMoe.main_arg5) = m ((c.tc : Thread Cert.KernelMoe.nD Cert.KernelMoe.τ).loc Cert.KernelMoe.main_arg5)
      ∧ r.2.mem ((c.tc : Thread Cert.KernelMoe.nD Cert.KernelMoe.τ).loc Cert.KernelMoe.main_arg6) = m ((c.tc : Thread Cert.KernelMoe.nD Cert.KernelMoe.τ).loc Cert.KernelMoe.main_arg6)
      ∧ r.2.mem ((c.tc : Thread Cert.KernelMoe.nD Cert.KernelMoe.τ).loc Cert.KernelMoe.main_arg7) = m ((c.tc : Thread Cert.KernelMoe.nD Cert.KernelMoe.τ).loc Cert.KernelMoe.main_arg7))
      ∧ r.2.sem = fun _ => 0)

def quiescent_KernelMoeIdeal [hKernelMoeIdeal : Cert.KernelMoeIdeal.Facts] : Prop :=
  ∀ (m : (ℓ : Loc Cert.KernelMoeIdeal.nD Cert.KernelMoeIdeal.τ Cert.KernelMoeIdeal.sig) → Buf (Elt Ideal) ℓ) (g : Dev Cert.KernelMoeIdeal.nD → PrngReg), Pre_KernelMoeIdeal m →
    θ_run (Cert.KernelMoeIdeal.defs (F := Ideal)) (onTc (τ := Cert.KernelMoeIdeal.τ) (Cert.KernelMoeIdeal.main (F := Ideal))) ⟨m, fun _ => 0, g⟩ (fun r => (∀ c : Dev Cert.KernelMoeIdeal.nD,
      r.2.mem ((c.tc : Thread Cert.KernelMoeIdeal.nD Cert.KernelMoeIdeal.τ).loc Cert.KernelMoeIdeal.main_arg0) = m ((c.tc : Thread Cert.KernelMoeIdeal.nD Cert.KernelMoeIdeal.τ).loc Cert.KernelMoeIdeal.main_arg0)
      ∧ r.2.mem ((c.tc : Thread Cert.KernelMoeIdeal.nD Cert.KernelMoeIdeal.τ).loc Cert.KernelMoeIdeal.main_arg1) = m ((c.tc : Thread Cert.KernelMoeIdeal.nD Cert.KernelMoeIdeal.τ).loc Cert.KernelMoeIdeal.main_arg1)
      ∧ r.2.mem ((c.tc : Thread Cert.KernelMoeIdeal.nD Cert.KernelMoeIdeal.τ).loc Cert.KernelMoeIdeal.main_arg2) = m ((c.tc : Thread Cert.KernelMoeIdeal.nD Cert.KernelMoeIdeal.τ).loc Cert.KernelMoeIdeal.main_arg2)
      ∧ r.2.mem ((c.tc : Thread Cert.KernelMoeIdeal.nD Cert.KernelMoeIdeal.τ).loc Cert.KernelMoeIdeal.main_arg3) = m ((c.tc : Thread Cert.KernelMoeIdeal.nD Cert.KernelMoeIdeal.τ).loc Cert.KernelMoeIdeal.main_arg3)
      ∧ r.2.mem ((c.tc : Thread Cert.KernelMoeIdeal.nD Cert.KernelMoeIdeal.τ).loc Cert.KernelMoeIdeal.main_arg4) = m ((c.tc : Thread Cert.KernelMoeIdeal.nD Cert.KernelMoeIdeal.τ).loc Cert.KernelMoeIdeal.main_arg4)
      ∧ r.2.mem ((c.tc : Thread Cert.KernelMoeIdeal.nD Cert.KernelMoeIdeal.τ).loc Cert.KernelMoeIdeal.main_arg5) = m ((c.tc : Thread Cert.KernelMoeIdeal.nD Cert.KernelMoeIdeal.τ).loc Cert.KernelMoeIdeal.main_arg5)
      ∧ r.2.mem ((c.tc : Thread Cert.KernelMoeIdeal.nD Cert.KernelMoeIdeal.τ).loc Cert.KernelMoeIdeal.main_arg6) = m ((c.tc : Thread Cert.KernelMoeIdeal.nD Cert.KernelMoeIdeal.τ).loc Cert.KernelMoeIdeal.main_arg6)
      ∧ r.2.mem ((c.tc : Thread Cert.KernelMoeIdeal.nD Cert.KernelMoeIdeal.τ).loc Cert.KernelMoeIdeal.main_arg7) = m ((c.tc : Thread Cert.KernelMoeIdeal.nD Cert.KernelMoeIdeal.τ).loc Cert.KernelMoeIdeal.main_arg7))
      ∧ r.2.sem = fun _ => 0)

def quiescent_ReferenceMoeIdeal [hReferenceMoeIdeal : Cert.ReferenceMoeIdeal.Facts] : Prop :=
  ∀ (m : (ℓ : Loc Cert.ReferenceMoeIdeal.nD Cert.ReferenceMoeIdeal.τ Cert.ReferenceMoeIdeal.sig) → Buf (Elt Ideal) ℓ) (g : Dev Cert.ReferenceMoeIdeal.nD → PrngReg), Pre_ReferenceMoeIdeal m →
    θ_run (Cert.ReferenceMoeIdeal.defs (F := Ideal)) (onTc (τ := Cert.ReferenceMoeIdeal.τ) (Cert.ReferenceMoeIdeal.main (F := Ideal))) ⟨m, fun _ => 0, g⟩ (fun r => (∀ c : Dev Cert.ReferenceMoeIdeal.nD,
      r.2.mem ((c.tc : Thread Cert.ReferenceMoeIdeal.nD Cert.ReferenceMoeIdeal.τ).loc Cert.ReferenceMoeIdeal.main_arg0) = m ((c.tc : Thread Cert.ReferenceMoeIdeal.nD Cert.ReferenceMoeIdeal.τ).loc Cert.ReferenceMoeIdeal.main_arg0)
      ∧ r.2.mem ((c.tc : Thread Cert.ReferenceMoeIdeal.nD Cert.ReferenceMoeIdeal.τ).loc Cert.ReferenceMoeIdeal.main_arg1) = m ((c.tc : Thread Cert.ReferenceMoeIdeal.nD Cert.ReferenceMoeIdeal.τ).loc Cert.ReferenceMoeIdeal.main_arg1)
      ∧ r.2.mem ((c.tc : Thread Cert.ReferenceMoeIdeal.nD Cert.ReferenceMoeIdeal.τ).loc Cert.ReferenceMoeIdeal.main_arg2) = m ((c.tc : Thread Cert.ReferenceMoeIdeal.nD Cert.ReferenceMoeIdeal.τ).loc Cert.ReferenceMoeIdeal.main_arg2)
      ∧ r.2.mem ((c.tc : Thread Cert.ReferenceMoeIdeal.nD Cert.ReferenceMoeIdeal.τ).loc Cert.ReferenceMoeIdeal.main_arg3) = m ((c.tc : Thread Cert.ReferenceMoeIdeal.nD Cert.ReferenceMoeIdeal.τ).loc Cert.ReferenceMoeIdeal.main_arg3)
      ∧ r.2.mem ((c.tc : Thread Cert.ReferenceMoeIdeal.nD Cert.ReferenceMoeIdeal.τ).loc Cert.ReferenceMoeIdeal.main_arg4) = m ((c.tc : Thread Cert.ReferenceMoeIdeal.nD Cert.ReferenceMoeIdeal.τ).loc Cert.ReferenceMoeIdeal.main_arg4)
      ∧ r.2.mem ((c.tc : Thread Cert.ReferenceMoeIdeal.nD Cert.ReferenceMoeIdeal.τ).loc Cert.ReferenceMoeIdeal.main_arg5) = m ((c.tc : Thread Cert.ReferenceMoeIdeal.nD Cert.ReferenceMoeIdeal.τ).loc Cert.ReferenceMoeIdeal.main_arg5)
      ∧ r.2.mem ((c.tc : Thread Cert.ReferenceMoeIdeal.nD Cert.ReferenceMoeIdeal.τ).loc Cert.ReferenceMoeIdeal.main_arg6) = m ((c.tc : Thread Cert.ReferenceMoeIdeal.nD Cert.ReferenceMoeIdeal.τ).loc Cert.ReferenceMoeIdeal.main_arg6)
      ∧ r.2.mem ((c.tc : Thread Cert.ReferenceMoeIdeal.nD Cert.ReferenceMoeIdeal.τ).loc Cert.ReferenceMoeIdeal.main_arg7) = m ((c.tc : Thread Cert.ReferenceMoeIdeal.nD Cert.ReferenceMoeIdeal.τ).loc Cert.ReferenceMoeIdeal.main_arg7))
      ∧ r.2.sem = fun _ => 0)

def quiescent_KernelFinal [hKernelFinal : Cert.KernelFinal.Facts] : Prop :=
  ∀ (m : (ℓ : Loc Cert.KernelFinal.nD Cert.KernelFinal.τ Cert.KernelFinal.sig) → Buf (Elt Bits) ℓ) (g : Dev Cert.KernelFinal.nD → PrngReg), Pre_KernelFinal m →
    θ_run (Cert.KernelFinal.defs (F := Bits)) (onTc (τ := Cert.KernelFinal.τ) (Cert.KernelFinal.main (F := Bits))) ⟨m, fun _ => 0, g⟩ (fun r => (∀ c : Dev Cert.KernelFinal.nD,
      r.2.mem ((c.tc : Thread Cert.KernelFinal.nD Cert.KernelFinal.τ).loc Cert.KernelFinal.main_arg0) = m ((c.tc : Thread Cert.KernelFinal.nD Cert.KernelFinal.τ).loc Cert.KernelFinal.main_arg0)
      ∧ r.2.mem ((c.tc : Thread Cert.KernelFinal.nD Cert.KernelFinal.τ).loc Cert.KernelFinal.main_arg1) = m ((c.tc : Thread Cert.KernelFinal.nD Cert.KernelFinal.τ).loc Cert.KernelFinal.main_arg1)
      ∧ r.2.mem ((c.tc : Thread Cert.KernelFinal.nD Cert.KernelFinal.τ).loc Cert.KernelFinal.main_arg2) = m ((c.tc : Thread Cert.KernelFinal.nD Cert.KernelFinal.τ).loc Cert.KernelFinal.main_arg2)
      ∧ r.2.mem ((c.tc : Thread Cert.KernelFinal.nD Cert.KernelFinal.τ).loc Cert.KernelFinal.main_arg3) = m ((c.tc : Thread Cert.KernelFinal.nD Cert.KernelFinal.τ).loc Cert.KernelFinal.main_arg3))
      ∧ r.2.sem = fun _ => 0)

def quiescent_KernelFinalIdeal [hKernelFinalIdeal : Cert.KernelFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg), Pre_KernelFinalIdeal m →
    θ_run (Cert.KernelFinalIdeal.defs (F := Ideal)) (onTc (τ := Cert.KernelFinalIdeal.τ) (Cert.KernelFinalIdeal.main (F := Ideal))) ⟨m, fun _ => 0, g⟩ (fun r => (∀ c : Dev Cert.KernelFinalIdeal.nD,
      r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
      ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
      ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2)
      ∧ r.2.mem ((c.tc : Thread Cert.KernelFinalIdeal.nD Cert.KernelFinalIdeal.τ).loc Cert.KernelFinalIdeal.main_arg3) = m ((c.tc : Thread Cert.KernelFinalIdeal.nD Cert.KernelFinalIdeal.τ).loc Cert.KernelFinalIdeal.main_arg3))
      ∧ r.2.sem = fun _ => 0)

def quiescent_ReferenceFinalIdeal [hReferenceFinalIdeal : Cert.ReferenceFinalIdeal.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1)
      ∧ r.2.mem ((c.tc : Thread Cert.ReferenceFinalIdeal.nD Cert.ReferenceFinalIdeal.τ).loc Cert.ReferenceFinalIdeal.main_arg2) = m ((c.tc : Thread Cert.ReferenceFinalIdeal.nD Cert.ReferenceFinalIdeal.τ).loc Cert.ReferenceFinalIdeal.main_arg2)
      ∧ r.2.mem ((c.tc : Thread Cert.ReferenceFinalIdeal.nD Cert.ReferenceFinalIdeal.τ).loc Cert.ReferenceFinalIdeal.main_arg3) = m ((c.tc : Thread Cert.ReferenceFinalIdeal.nD Cert.ReferenceFinalIdeal.τ).loc Cert.ReferenceFinalIdeal.main_arg3))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2))
      ∧ r.2.sem = fun _ => 0)

def quiescent_KernelDisc [hKernelDisc : Cert.KernelDisc.Facts] : Prop :=
  ∀ (m : (ℓ : Loc Cert.KernelDisc.nD Cert.KernelDisc.τ Cert.KernelDisc.sig) → Buf (Elt Bits) ℓ) (g : Dev Cert.KernelDisc.nD → PrngReg), Pre_KernelDisc m →
    θ_run (Cert.KernelDisc.defs (F := Bits)) (onTc (τ := Cert.KernelDisc.τ) (Cert.KernelDisc.main (F := Bits))) ⟨m, fun _ => 0, g⟩ (fun r => (∀ c : Dev Cert.KernelDisc.nD,
      r.2.mem ((c.tc : Thread Cert.KernelDisc.nD Cert.KernelDisc.τ).loc Cert.KernelDisc.main_arg0) = m ((c.tc : Thread Cert.KernelDisc.nD Cert.KernelDisc.τ).loc Cert.KernelDisc.main_arg0)
      ∧ r.2.mem ((c.tc : Thread Cert.KernelDisc.nD Cert.KernelDisc.τ).loc Cert.KernelDisc.main_arg1) = m ((c.tc : Thread Cert.KernelDisc.nD Cert.KernelDisc.τ).loc Cert.KernelDisc.main_arg1)
      ∧ r.2.mem ((c.tc : Thread Cert.KernelDisc.nD Cert.KernelDisc.τ).loc Cert.KernelDisc.main_arg2) = m ((c.tc : Thread Cert.KernelDisc.nD Cert.KernelDisc.τ).loc Cert.KernelDisc.main_arg2)
      ∧ r.2.mem ((c.tc : Thread Cert.KernelDisc.nD Cert.KernelDisc.τ).loc Cert.KernelDisc.main_arg3) = m ((c.tc : Thread Cert.KernelDisc.nD Cert.KernelDisc.τ).loc Cert.KernelDisc.main_arg3)
      ∧ r.2.mem ((c.tc : Thread Cert.KernelDisc.nD Cert.KernelDisc.τ).loc Cert.KernelDisc.main_arg4) = m ((c.tc : Thread Cert.KernelDisc.nD Cert.KernelDisc.τ).loc Cert.KernelDisc.main_arg4))
      ∧ r.2.sem = fun _ => 0)

def quiescent_KernelDiscIdeal [hKernelDiscIdeal : Cert.KernelDiscIdeal.Facts] : Prop :=
  ∀ (m : (ℓ : Loc Cert.KernelDiscIdeal.nD Cert.KernelDiscIdeal.τ Cert.KernelDiscIdeal.sig) → Buf (Elt Ideal) ℓ) (g : Dev Cert.KernelDiscIdeal.nD → PrngReg), Pre_KernelDiscIdeal m →
    θ_run (Cert.KernelDiscIdeal.defs (F := Ideal)) (onTc (τ := Cert.KernelDiscIdeal.τ) (Cert.KernelDiscIdeal.main (F := Ideal))) ⟨m, fun _ => 0, g⟩ (fun r => (∀ c : Dev Cert.KernelDiscIdeal.nD,
      r.2.mem ((c.tc : Thread Cert.KernelDiscIdeal.nD Cert.KernelDiscIdeal.τ).loc Cert.KernelDiscIdeal.main_arg0) = m ((c.tc : Thread Cert.KernelDiscIdeal.nD Cert.KernelDiscIdeal.τ).loc Cert.KernelDiscIdeal.main_arg0)
      ∧ r.2.mem ((c.tc : Thread Cert.KernelDiscIdeal.nD Cert.KernelDiscIdeal.τ).loc Cert.KernelDiscIdeal.main_arg1) = m ((c.tc : Thread Cert.KernelDiscIdeal.nD Cert.KernelDiscIdeal.τ).loc Cert.KernelDiscIdeal.main_arg1)
      ∧ r.2.mem ((c.tc : Thread Cert.KernelDiscIdeal.nD Cert.KernelDiscIdeal.τ).loc Cert.KernelDiscIdeal.main_arg2) = m ((c.tc : Thread Cert.KernelDiscIdeal.nD Cert.KernelDiscIdeal.τ).loc Cert.KernelDiscIdeal.main_arg2)
      ∧ r.2.mem ((c.tc : Thread Cert.KernelDiscIdeal.nD Cert.KernelDiscIdeal.τ).loc Cert.KernelDiscIdeal.main_arg3) = m ((c.tc : Thread Cert.KernelDiscIdeal.nD Cert.KernelDiscIdeal.τ).loc Cert.KernelDiscIdeal.main_arg3)
      ∧ r.2.mem ((c.tc : Thread Cert.KernelDiscIdeal.nD Cert.KernelDiscIdeal.τ).loc Cert.KernelDiscIdeal.main_arg4) = m ((c.tc : Thread Cert.KernelDiscIdeal.nD Cert.KernelDiscIdeal.τ).loc Cert.KernelDiscIdeal.main_arg4))
      ∧ r.2.sem = fun _ => 0)

def quiescent_ReferenceDiscIdeal [hReferenceDiscIdeal : Cert.ReferenceDiscIdeal.Facts] : Prop :=
  ∀ (m : (ℓ : Loc Cert.ReferenceDiscIdeal.nD Cert.ReferenceDiscIdeal.τ Cert.ReferenceDiscIdeal.sig) → Buf (Elt Ideal) ℓ) (g : Dev Cert.ReferenceDiscIdeal.nD → PrngReg), Pre_ReferenceDiscIdeal m →
    θ_run (Cert.ReferenceDiscIdeal.defs (F := Ideal)) (onTc (τ := Cert.ReferenceDiscIdeal.τ) (Cert.ReferenceDiscIdeal.main (F := Ideal))) ⟨m, fun _ => 0, g⟩ (fun r => (∀ c : Dev Cert.ReferenceDiscIdeal.nD,
      r.2.mem ((c.tc : Thread Cert.ReferenceDiscIdeal.nD Cert.ReferenceDiscIdeal.τ).loc Cert.ReferenceDiscIdeal.main_arg0) = m ((c.tc : Thread Cert.ReferenceDiscIdeal.nD Cert.ReferenceDiscIdeal.τ).loc Cert.ReferenceDiscIdeal.main_arg0)
      ∧ r.2.mem ((c.tc : Thread Cert.ReferenceDiscIdeal.nD Cert.ReferenceDiscIdeal.τ).loc Cert.ReferenceDiscIdeal.main_arg1) = m ((c.tc : Thread Cert.ReferenceDiscIdeal.nD Cert.ReferenceDiscIdeal.τ).loc Cert.ReferenceDiscIdeal.main_arg1)
      ∧ r.2.mem ((c.tc : Thread Cert.ReferenceDiscIdeal.nD Cert.ReferenceDiscIdeal.τ).loc Cert.ReferenceDiscIdeal.main_arg2) = m ((c.tc : Thread Cert.ReferenceDiscIdeal.nD Cert.ReferenceDiscIdeal.τ).loc Cert.ReferenceDiscIdeal.main_arg2)
      ∧ r.2.mem ((c.tc : Thread Cert.ReferenceDiscIdeal.nD Cert.ReferenceDiscIdeal.τ).loc Cert.ReferenceDiscIdeal.main_arg3) = m ((c.tc : Thread Cert.ReferenceDiscIdeal.nD Cert.ReferenceDiscIdeal.τ).loc Cert.ReferenceDiscIdeal.main_arg3)
      ∧ r.2.mem ((c.tc : Thread Cert.ReferenceDiscIdeal.nD Cert.ReferenceDiscIdeal.τ).loc Cert.ReferenceDiscIdeal.main_arg4) = m ((c.tc : Thread Cert.ReferenceDiscIdeal.nD Cert.ReferenceDiscIdeal.τ).loc Cert.ReferenceDiscIdeal.main_arg4))
      ∧ r.2.sem = fun _ => 0)

def quiescent_KernelFw [hKernelFw : Cert.KernelFw.Facts] : Prop :=
  ∀ (m : (ℓ : Loc Cert.KernelFw.nD Cert.KernelFw.τ Cert.KernelFw.sig) → Buf (Elt Bits) ℓ) (g : Dev Cert.KernelFw.nD → PrngReg), Pre_KernelFw m →
    θ_run (Cert.KernelFw.defs (F := Bits)) (onTc (τ := Cert.KernelFw.τ) (Cert.KernelFw.main (F := Bits))) ⟨m, fun _ => 0, g⟩ (fun r => (∀ c : Dev Cert.KernelFw.nD,
      r.2.mem ((c.tc : Thread Cert.KernelFw.nD Cert.KernelFw.τ).loc Cert.KernelFw.main_arg0) = m ((c.tc : Thread Cert.KernelFw.nD Cert.KernelFw.τ).loc Cert.KernelFw.main_arg0)
      ∧ r.2.mem ((c.tc : Thread Cert.KernelFw.nD Cert.KernelFw.τ).loc Cert.KernelFw.main_arg1) = m ((c.tc : Thread Cert.KernelFw.nD Cert.KernelFw.τ).loc Cert.KernelFw.main_arg1)
      ∧ r.2.mem ((c.tc : Thread Cert.KernelFw.nD Cert.KernelFw.τ).loc Cert.KernelFw.main_arg2) = m ((c.tc : Thread Cert.KernelFw.nD Cert.KernelFw.τ).loc Cert.KernelFw.main_arg2))
      ∧ r.2.sem = fun _ => 0)

def quiescent_KernelFwIdeal [hKernelFwIdeal : Cert.KernelFwIdeal.Facts] : Prop :=
  ∀ (m : (ℓ : Loc Cert.KernelFwIdeal.nD Cert.KernelFwIdeal.τ Cert.KernelFwIdeal.sig) → Buf (Elt Ideal) ℓ) (g : Dev Cert.KernelFwIdeal.nD → PrngReg), Pre_KernelFwIdeal m →
    θ_run (Cert.KernelFwIdeal.defs (F := Ideal)) (onTc (τ := Cert.KernelFwIdeal.τ) (Cert.KernelFwIdeal.main (F := Ideal))) ⟨m, fun _ => 0, g⟩ (fun r => (∀ c : Dev Cert.KernelFwIdeal.nD,
      r.2.mem ((c.tc : Thread Cert.KernelFwIdeal.nD Cert.KernelFwIdeal.τ).loc Cert.KernelFwIdeal.main_arg0) = m ((c.tc : Thread Cert.KernelFwIdeal.nD Cert.KernelFwIdeal.τ).loc Cert.KernelFwIdeal.main_arg0)
      ∧ r.2.mem ((c.tc : Thread Cert.KernelFwIdeal.nD Cert.KernelFwIdeal.τ).loc Cert.KernelFwIdeal.main_arg1) = m ((c.tc : Thread Cert.KernelFwIdeal.nD Cert.KernelFwIdeal.τ).loc Cert.KernelFwIdeal.main_arg1)
      ∧ r.2.mem ((c.tc : Thread Cert.KernelFwIdeal.nD Cert.KernelFwIdeal.τ).loc Cert.KernelFwIdeal.main_arg2) = m ((c.tc : Thread Cert.KernelFwIdeal.nD Cert.KernelFwIdeal.τ).loc Cert.KernelFwIdeal.main_arg2))
      ∧ r.2.sem = fun _ => 0)

def quiescent_ReferenceFwIdeal [hReferenceFwIdeal : Cert.ReferenceFwIdeal.Facts] : Prop :=
  ∀ (m : (ℓ : Loc Cert.ReferenceFwIdeal.nD Cert.ReferenceFwIdeal.τ Cert.ReferenceFwIdeal.sig) → Buf (Elt Ideal) ℓ) (g : Dev Cert.ReferenceFwIdeal.nD → PrngReg), Pre_ReferenceFwIdeal m →
    θ_run (Cert.ReferenceFwIdeal.defs (F := Ideal)) (onTc (τ := Cert.ReferenceFwIdeal.τ) (Cert.ReferenceFwIdeal.main (F := Ideal))) ⟨m, fun _ => 0, g⟩ (fun r => (∀ c : Dev Cert.ReferenceFwIdeal.nD,
      r.2.mem ((c.tc : Thread Cert.ReferenceFwIdeal.nD Cert.ReferenceFwIdeal.τ).loc Cert.ReferenceFwIdeal.main_arg0) = m ((c.tc : Thread Cert.ReferenceFwIdeal.nD Cert.ReferenceFwIdeal.τ).loc Cert.ReferenceFwIdeal.main_arg0)
      ∧ r.2.mem ((c.tc : Thread Cert.ReferenceFwIdeal.nD Cert.ReferenceFwIdeal.τ).loc Cert.ReferenceFwIdeal.main_arg1) = m ((c.tc : Thread Cert.ReferenceFwIdeal.nD Cert.ReferenceFwIdeal.τ).loc Cert.ReferenceFwIdeal.main_arg1)
      ∧ r.2.mem ((c.tc : Thread Cert.ReferenceFwIdeal.nD Cert.ReferenceFwIdeal.τ).loc Cert.ReferenceFwIdeal.main_arg2) = m ((c.tc : Thread Cert.ReferenceFwIdeal.nD Cert.ReferenceFwIdeal.τ).loc Cert.ReferenceFwIdeal.main_arg2))
      ∧ r.2.sem = fun _ => 0)

def quiescent_KernelFnet [hKernelFnet : Cert.KernelFnet.Facts] : Prop :=
  ∀ (m : (ℓ : Loc Cert.KernelFnet.nD Cert.KernelFnet.τ Cert.KernelFnet.sig) → Buf (Elt Bits) ℓ) (g : Dev Cert.KernelFnet.nD → PrngReg), Pre_KernelFnet m →
    θ_run (Cert.KernelFnet.defs (F := Bits)) (onTc (τ := Cert.KernelFnet.τ) (Cert.KernelFnet.main (F := Bits))) ⟨m, fun _ => 0, g⟩ (fun r => (∀ c : Dev Cert.KernelFnet.nD,
      r.2.mem ((c.tc : Thread Cert.KernelFnet.nD Cert.KernelFnet.τ).loc Cert.KernelFnet.main_arg0) = m ((c.tc : Thread Cert.KernelFnet.nD Cert.KernelFnet.τ).loc Cert.KernelFnet.main_arg0)
      ∧ r.2.mem ((c.tc : Thread Cert.KernelFnet.nD Cert.KernelFnet.τ).loc Cert.KernelFnet.main_arg1) = m ((c.tc : Thread Cert.KernelFnet.nD Cert.KernelFnet.τ).loc Cert.KernelFnet.main_arg1)
      ∧ r.2.mem ((c.tc : Thread Cert.KernelFnet.nD Cert.KernelFnet.τ).loc Cert.KernelFnet.main_arg2) = m ((c.tc : Thread Cert.KernelFnet.nD Cert.KernelFnet.τ).loc Cert.KernelFnet.main_arg2)
      ∧ r.2.mem ((c.tc : Thread Cert.KernelFnet.nD Cert.KernelFnet.τ).loc Cert.KernelFnet.main_arg3) = m ((c.tc : Thread Cert.KernelFnet.nD Cert.KernelFnet.τ).loc Cert.KernelFnet.main_arg3)
      ∧ r.2.mem ((c.tc : Thread Cert.KernelFnet.nD Cert.KernelFnet.τ).loc Cert.KernelFnet.main_arg4) = m ((c.tc : Thread Cert.KernelFnet.nD Cert.KernelFnet.τ).loc Cert.KernelFnet.main_arg4))
      ∧ r.2.sem = fun _ => 0)

def quiescent_KernelFnetIdeal [hKernelFnetIdeal : Cert.KernelFnetIdeal.Facts] : Prop :=
  ∀ (m : (ℓ : Loc Cert.KernelFnetIdeal.nD Cert.KernelFnetIdeal.τ Cert.KernelFnetIdeal.sig) → Buf (Elt Ideal) ℓ) (g : Dev Cert.KernelFnetIdeal.nD → PrngReg), Pre_KernelFnetIdeal m →
    θ_run (Cert.KernelFnetIdeal.defs (F := Ideal)) (onTc (τ := Cert.KernelFnetIdeal.τ) (Cert.KernelFnetIdeal.main (F := Ideal))) ⟨m, fun _ => 0, g⟩ (fun r => (∀ c : Dev Cert.KernelFnetIdeal.nD,
      r.2.mem ((c.tc : Thread Cert.KernelFnetIdeal.nD Cert.KernelFnetIdeal.τ).loc Cert.KernelFnetIdeal.main_arg0) = m ((c.tc : Thread Cert.KernelFnetIdeal.nD Cert.KernelFnetIdeal.τ).loc Cert.KernelFnetIdeal.main_arg0)
      ∧ r.2.mem ((c.tc : Thread Cert.KernelFnetIdeal.nD Cert.KernelFnetIdeal.τ).loc Cert.KernelFnetIdeal.main_arg1) = m ((c.tc : Thread Cert.KernelFnetIdeal.nD Cert.KernelFnetIdeal.τ).loc Cert.KernelFnetIdeal.main_arg1)
      ∧ r.2.mem ((c.tc : Thread Cert.KernelFnetIdeal.nD Cert.KernelFnetIdeal.τ).loc Cert.KernelFnetIdeal.main_arg2) = m ((c.tc : Thread Cert.KernelFnetIdeal.nD Cert.KernelFnetIdeal.τ).loc Cert.KernelFnetIdeal.main_arg2)
      ∧ r.2.mem ((c.tc : Thread Cert.KernelFnetIdeal.nD Cert.KernelFnetIdeal.τ).loc Cert.KernelFnetIdeal.main_arg3) = m ((c.tc : Thread Cert.KernelFnetIdeal.nD Cert.KernelFnetIdeal.τ).loc Cert.KernelFnetIdeal.main_arg3)
      ∧ r.2.mem ((c.tc : Thread Cert.KernelFnetIdeal.nD Cert.KernelFnetIdeal.τ).loc Cert.KernelFnetIdeal.main_arg4) = m ((c.tc : Thread Cert.KernelFnetIdeal.nD Cert.KernelFnetIdeal.τ).loc Cert.KernelFnetIdeal.main_arg4))
      ∧ r.2.sem = fun _ => 0)

def quiescent_KernelFnetIdeal_pre_finite [hKernelFnetIdeal : Cert.KernelFnetIdeal.Facts] [hPre_finite : Cert.Pre_finite.Facts] : Prop :=
  ∀ (m : (ℓ : Loc Cert.KernelFnetIdeal.nD Cert.KernelFnetIdeal.τ Cert.KernelFnetIdeal.sig) → Buf (Elt Ideal) ℓ) (g : Dev Cert.KernelFnetIdeal.nD → PrngReg), Pre_KernelFnetIdeal_finite m →
    θ_run (Cert.KernelFnetIdeal.defs (F := Ideal)) (onTc (τ := Cert.KernelFnetIdeal.τ) (Cert.KernelFnetIdeal.main (F := Ideal))) ⟨m, fun _ => 0, g⟩ (fun r => (∀ c : Dev Cert.KernelFnetIdeal.nD,
      r.2.mem ((c.tc : Thread Cert.KernelFnetIdeal.nD Cert.KernelFnetIdeal.τ).loc Cert.KernelFnetIdeal.main_arg0) = m ((c.tc : Thread Cert.KernelFnetIdeal.nD Cert.KernelFnetIdeal.τ).loc Cert.KernelFnetIdeal.main_arg0)
      ∧ r.2.mem ((c.tc : Thread Cert.KernelFnetIdeal.nD Cert.KernelFnetIdeal.τ).loc Cert.KernelFnetIdeal.main_arg1) = m ((c.tc : Thread Cert.KernelFnetIdeal.nD Cert.KernelFnetIdeal.τ).loc Cert.KernelFnetIdeal.main_arg1)
      ∧ r.2.mem ((c.tc : Thread Cert.KernelFnetIdeal.nD Cert.KernelFnetIdeal.τ).loc Cert.KernelFnetIdeal.main_arg2) = m ((c.tc : Thread Cert.KernelFnetIdeal.nD Cert.KernelFnetIdeal.τ).loc Cert.KernelFnetIdeal.main_arg2)
      ∧ r.2.mem ((c.tc : Thread Cert.KernelFnetIdeal.nD Cert.KernelFnetIdeal.τ).loc Cert.KernelFnetIdeal.main_arg3) = m ((c.tc : Thread Cert.KernelFnetIdeal.nD Cert.KernelFnetIdeal.τ).loc Cert.KernelFnetIdeal.main_arg3)
      ∧ r.2.mem ((c.tc : Thread Cert.KernelFnetIdeal.nD Cert.KernelFnetIdeal.τ).loc Cert.KernelFnetIdeal.main_arg4) = m ((c.tc : Thread Cert.KernelFnetIdeal.nD Cert.KernelFnetIdeal.τ).loc Cert.KernelFnetIdeal.main_arg4))
      ∧ r.2.sem = fun _ => 0)

def quiescent_ReferenceFnetIdeal [hReferenceFnetIdeal : Cert.ReferenceFnetIdeal.Facts] : Prop :=
  ∀ (m : (ℓ : Loc Cert.ReferenceFnetIdeal.nD Cert.ReferenceFnetIdeal.τ Cert.ReferenceFnetIdeal.sig) → Buf (Elt Ideal) ℓ) (g : Dev Cert.ReferenceFnetIdeal.nD → PrngReg), Pre_ReferenceFnetIdeal m →
    θ_run (Cert.ReferenceFnetIdeal.defs (F := Ideal)) (onTc (τ := Cert.ReferenceFnetIdeal.τ) (Cert.ReferenceFnetIdeal.main (F := Ideal))) ⟨m, fun _ => 0, g⟩ (fun r => (∀ c : Dev Cert.ReferenceFnetIdeal.nD,
      r.2.mem ((c.tc : Thread Cert.ReferenceFnetIdeal.nD Cert.ReferenceFnetIdeal.τ).loc Cert.ReferenceFnetIdeal.main_arg0) = m ((c.tc : Thread Cert.ReferenceFnetIdeal.nD Cert.ReferenceFnetIdeal.τ).loc Cert.ReferenceFnetIdeal.main_arg0)
      ∧ r.2.mem ((c.tc : Thread Cert.ReferenceFnetIdeal.nD Cert.ReferenceFnetIdeal.τ).loc Cert.ReferenceFnetIdeal.main_arg1) = m ((c.tc : Thread Cert.ReferenceFnetIdeal.nD Cert.ReferenceFnetIdeal.τ).loc Cert.ReferenceFnetIdeal.main_arg1)
      ∧ r.2.mem ((c.tc : Thread Cert.ReferenceFnetIdeal.nD Cert.ReferenceFnetIdeal.τ).loc Cert.ReferenceFnetIdeal.main_arg2) = m ((c.tc : Thread Cert.ReferenceFnetIdeal.nD Cert.ReferenceFnetIdeal.τ).loc Cert.ReferenceFnetIdeal.main_arg2)
      ∧ r.2.mem ((c.tc : Thread Cert.ReferenceFnetIdeal.nD Cert.ReferenceFnetIdeal.τ).loc Cert.ReferenceFnetIdeal.main_arg3) = m ((c.tc : Thread Cert.ReferenceFnetIdeal.nD Cert.ReferenceFnetIdeal.τ).loc Cert.ReferenceFnetIdeal.main_arg3)
      ∧ r.2.mem ((c.tc : Thread Cert.ReferenceFnetIdeal.nD Cert.ReferenceFnetIdeal.τ).loc Cert.ReferenceFnetIdeal.main_arg4) = m ((c.tc : Thread Cert.ReferenceFnetIdeal.nD Cert.ReferenceFnetIdeal.τ).loc Cert.ReferenceFnetIdeal.main_arg4))
      ∧ r.2.sem = fun _ => 0)

def quiescent_ReferenceFnetIdeal_pre_finite [hReferenceFnetIdeal : Cert.ReferenceFnetIdeal.Facts] [hPre_finite : Cert.Pre_finite.Facts] : Prop :=
  ∀ (m : (ℓ : Loc Cert.ReferenceFnetIdeal.nD Cert.ReferenceFnetIdeal.τ Cert.ReferenceFnetIdeal.sig) → Buf (Elt Ideal) ℓ) (g : Dev Cert.ReferenceFnetIdeal.nD → PrngReg), Pre_ReferenceFnetIdeal_finite m →
    θ_run (Cert.ReferenceFnetIdeal.defs (F := Ideal)) (onTc (τ := Cert.ReferenceFnetIdeal.τ) (Cert.ReferenceFnetIdeal.main (F := Ideal))) ⟨m, fun _ => 0, g⟩ (fun r => (∀ c : Dev Cert.ReferenceFnetIdeal.nD,
      r.2.mem ((c.tc : Thread Cert.ReferenceFnetIdeal.nD Cert.ReferenceFnetIdeal.τ).loc Cert.ReferenceFnetIdeal.main_arg0) = m ((c.tc : Thread Cert.ReferenceFnetIdeal.nD Cert.ReferenceFnetIdeal.τ).loc Cert.ReferenceFnetIdeal.main_arg0)
      ∧ r.2.mem ((c.tc : Thread Cert.ReferenceFnetIdeal.nD Cert.ReferenceFnetIdeal.τ).loc Cert.ReferenceFnetIdeal.main_arg1) = m ((c.tc : Thread Cert.ReferenceFnetIdeal.nD Cert.ReferenceFnetIdeal.τ).loc Cert.ReferenceFnetIdeal.main_arg1)
      ∧ r.2.mem ((c.tc : Thread Cert.ReferenceFnetIdeal.nD Cert.ReferenceFnetIdeal.τ).loc Cert.ReferenceFnetIdeal.main_arg2) = m ((c.tc : Thread Cert.ReferenceFnetIdeal.nD Cert.ReferenceFnetIdeal.τ).loc Cert.ReferenceFnetIdeal.main_arg2)
      ∧ r.2.mem ((c.tc : Thread Cert.ReferenceFnetIdeal.nD Cert.ReferenceFnetIdeal.τ).loc Cert.ReferenceFnetIdeal.main_arg3) = m ((c.tc : Thread Cert.ReferenceFnetIdeal.nD Cert.ReferenceFnetIdeal.τ).loc Cert.ReferenceFnetIdeal.main_arg3)
      ∧ r.2.mem ((c.tc : Thread Cert.ReferenceFnetIdeal.nD Cert.ReferenceFnetIdeal.τ).loc Cert.ReferenceFnetIdeal.main_arg4) = m ((c.tc : Thread Cert.ReferenceFnetIdeal.nD Cert.ReferenceFnetIdeal.τ).loc Cert.ReferenceFnetIdeal.main_arg4))
      ∧ r.2.sem = fun _ => 0)

def quiescent_KernelLong [hKernelLong : Cert.KernelLong.Facts] : Prop :=
  ∀ (m : (ℓ : Loc Cert.KernelLong.nD Cert.KernelLong.τ Cert.KernelLong.sig) → Buf (Elt Bits) ℓ) (g : Dev Cert.KernelLong.nD → PrngReg), Pre_KernelLong m →
    θ_run (Cert.KernelLong.defs (F := Bits)) (onTc (τ := Cert.KernelLong.τ) (Cert.KernelLong.main (F := Bits))) ⟨m, fun _ => 0, g⟩ (fun r => (∀ c : Dev Cert.KernelLong.nD,
      r.2.mem ((c.tc : Thread Cert.KernelLong.nD Cert.KernelLong.τ).loc Cert.KernelLong.main_arg0) = m ((c.tc : Thread Cert.KernelLong.nD Cert.KernelLong.τ).loc Cert.KernelLong.main_arg0)
      ∧ r.2.mem ((c.tc : Thread Cert.KernelLong.nD Cert.KernelLong.τ).loc Cert.KernelLong.main_arg1) = m ((c.tc : Thread Cert.KernelLong.nD Cert.KernelLong.τ).loc Cert.KernelLong.main_arg1)
      ∧ r.2.mem ((c.tc : Thread Cert.KernelLong.nD Cert.KernelLong.τ).loc Cert.KernelLong.main_arg2) = m ((c.tc : Thread Cert.KernelLong.nD Cert.KernelLong.τ).loc Cert.KernelLong.main_arg2)
      ∧ r.2.mem ((c.tc : Thread Cert.KernelLong.nD Cert.KernelLong.τ).loc Cert.KernelLong.main_arg3) = m ((c.tc : Thread Cert.KernelLong.nD Cert.KernelLong.τ).loc Cert.KernelLong.main_arg3)
      ∧ r.2.mem ((c.tc : Thread Cert.KernelLong.nD Cert.KernelLong.τ).loc Cert.KernelLong.main_arg4) = m ((c.tc : Thread Cert.KernelLong.nD Cert.KernelLong.τ).loc Cert.KernelLong.main_arg4))
      ∧ r.2.sem = fun _ => 0)

def quiescent_KernelLongIdeal [hKernelLongIdeal : Cert.KernelLongIdeal.Facts] : Prop :=
  ∀ (m : (ℓ : Loc Cert.KernelLongIdeal.nD Cert.KernelLongIdeal.τ Cert.KernelLongIdeal.sig) → Buf (Elt Ideal) ℓ) (g : Dev Cert.KernelLongIdeal.nD → PrngReg), Pre_KernelLongIdeal m →
    θ_run (Cert.KernelLongIdeal.defs (F := Ideal)) (onTc (τ := Cert.KernelLongIdeal.τ) (Cert.KernelLongIdeal.main (F := Ideal))) ⟨m, fun _ => 0, g⟩ (fun r => (∀ c : Dev Cert.KernelLongIdeal.nD,
      r.2.mem ((c.tc : Thread Cert.KernelLongIdeal.nD Cert.KernelLongIdeal.τ).loc Cert.KernelLongIdeal.main_arg0) = m ((c.tc : Thread Cert.KernelLongIdeal.nD Cert.KernelLongIdeal.τ).loc Cert.KernelLongIdeal.main_arg0)
      ∧ r.2.mem ((c.tc : Thread Cert.KernelLongIdeal.nD Cert.KernelLongIdeal.τ).loc Cert.KernelLongIdeal.main_arg1) = m ((c.tc : Thread Cert.KernelLongIdeal.nD Cert.KernelLongIdeal.τ).loc Cert.KernelLongIdeal.main_arg1)
      ∧ r.2.mem ((c.tc : Thread Cert.KernelLongIdeal.nD Cert.KernelLongIdeal.τ).loc Cert.KernelLongIdeal.main_arg2) = m ((c.tc : Thread Cert.KernelLongIdeal.nD Cert.KernelLongIdeal.τ).loc Cert.KernelLongIdeal.main_arg2)
      ∧ r.2.mem ((c.tc : Thread Cert.KernelLongIdeal.nD Cert.KernelLongIdeal.τ).loc Cert.KernelLongIdeal.main_arg3) = m ((c.tc : Thread Cert.KernelLongIdeal.nD Cert.KernelLongIdeal.τ).loc Cert.KernelLongIdeal.main_arg3)
      ∧ r.2.mem ((c.tc : Thread Cert.KernelLongIdeal.nD Cert.KernelLongIdeal.τ).loc Cert.KernelLongIdeal.main_arg4) = m ((c.tc : Thread Cert.KernelLongIdeal.nD Cert.KernelLongIdeal.τ).loc Cert.KernelLongIdeal.main_arg4))
      ∧ r.2.sem = fun _ => 0)

def quiescent_KernelLongIdeal_pre_finite_long [hKernelLongIdeal : Cert.KernelLongIdeal.Facts] [hPre_finite_long : Cert.Pre_finite_long.Facts] : Prop :=
  ∀ (m : (ℓ : Loc Cert.KernelLongIdeal.nD Cert.KernelLongIdeal.τ Cert.KernelLongIdeal.sig) → Buf (Elt Ideal) ℓ) (g : Dev Cert.KernelLongIdeal.nD → PrngReg), Pre_KernelLongIdeal_finite_long m →
    θ_run (Cert.KernelLongIdeal.defs (F := Ideal)) (onTc (τ := Cert.KernelLongIdeal.τ) (Cert.KernelLongIdeal.main (F := Ideal))) ⟨m, fun _ => 0, g⟩ (fun r => (∀ c : Dev Cert.KernelLongIdeal.nD,
      r.2.mem ((c.tc : Thread Cert.KernelLongIdeal.nD Cert.KernelLongIdeal.τ).loc Cert.KernelLongIdeal.main_arg0) = m ((c.tc : Thread Cert.KernelLongIdeal.nD Cert.KernelLongIdeal.τ).loc Cert.KernelLongIdeal.main_arg0)
      ∧ r.2.mem ((c.tc : Thread Cert.KernelLongIdeal.nD Cert.KernelLongIdeal.τ).loc Cert.KernelLongIdeal.main_arg1) = m ((c.tc : Thread Cert.KernelLongIdeal.nD Cert.KernelLongIdeal.τ).loc Cert.KernelLongIdeal.main_arg1)
      ∧ r.2.mem ((c.tc : Thread Cert.KernelLongIdeal.nD Cert.KernelLongIdeal.τ).loc Cert.KernelLongIdeal.main_arg2) = m ((c.tc : Thread Cert.KernelLongIdeal.nD Cert.KernelLongIdeal.τ).loc Cert.KernelLongIdeal.main_arg2)
      ∧ r.2.mem ((c.tc : Thread Cert.KernelLongIdeal.nD Cert.KernelLongIdeal.τ).loc Cert.KernelLongIdeal.main_arg3) = m ((c.tc : Thread Cert.KernelLongIdeal.nD Cert.KernelLongIdeal.τ).loc Cert.KernelLongIdeal.main_arg3)
      ∧ r.2.mem ((c.tc : Thread Cert.KernelLongIdeal.nD Cert.KernelLongIdeal.τ).loc Cert.KernelLongIdeal.main_arg4) = m ((c.tc : Thread Cert.KernelLongIdeal.nD Cert.KernelLongIdeal.τ).loc Cert.KernelLongIdeal.main_arg4))
      ∧ r.2.sem = fun _ => 0)

def quiescent_ReferenceLongIdeal [hReferenceLongIdeal : Cert.ReferenceLongIdeal.Facts] : Prop :=
  ∀ (m : (ℓ : Loc Cert.ReferenceLongIdeal.nD Cert.ReferenceLongIdeal.τ Cert.ReferenceLongIdeal.sig) → Buf (Elt Ideal) ℓ) (g : Dev Cert.ReferenceLongIdeal.nD → PrngReg), Pre_ReferenceLongIdeal m →
    θ_run (Cert.ReferenceLongIdeal.defs (F := Ideal)) (onTc (τ := Cert.ReferenceLongIdeal.τ) (Cert.ReferenceLongIdeal.main (F := Ideal))) ⟨m, fun _ => 0, g⟩ (fun r => (∀ c : Dev Cert.ReferenceLongIdeal.nD,
      r.2.mem ((c.tc : Thread Cert.ReferenceLongIdeal.nD Cert.ReferenceLongIdeal.τ).loc Cert.ReferenceLongIdeal.main_arg0) = m ((c.tc : Thread Cert.ReferenceLongIdeal.nD Cert.ReferenceLongIdeal.τ).loc Cert.ReferenceLongIdeal.main_arg0)
      ∧ r.2.mem ((c.tc : Thread Cert.ReferenceLongIdeal.nD Cert.ReferenceLongIdeal.τ).loc Cert.ReferenceLongIdeal.main_arg1) = m ((c.tc : Thread Cert.ReferenceLongIdeal.nD Cert.ReferenceLongIdeal.τ).loc Cert.ReferenceLongIdeal.main_arg1)
      ∧ r.2.mem ((c.tc : Thread Cert.ReferenceLongIdeal.nD Cert.ReferenceLongIdeal.τ).loc Cert.ReferenceLongIdeal.main_arg2) = m ((c.tc : Thread Cert.ReferenceLongIdeal.nD Cert.ReferenceLongIdeal.τ).loc Cert.ReferenceLongIdeal.main_arg2)
      ∧ r.2.mem ((c.tc : Thread Cert.ReferenceLongIdeal.nD Cert.ReferenceLongIdeal.τ).loc Cert.ReferenceLongIdeal.main_arg3) = m ((c.tc : Thread Cert.ReferenceLongIdeal.nD Cert.ReferenceLongIdeal.τ).loc Cert.ReferenceLongIdeal.main_arg3)
      ∧ r.2.mem ((c.tc : Thread Cert.ReferenceLongIdeal.nD Cert.ReferenceLongIdeal.τ).loc Cert.ReferenceLongIdeal.main_arg4) = m ((c.tc : Thread Cert.ReferenceLongIdeal.nD Cert.ReferenceLongIdeal.τ).loc Cert.ReferenceLongIdeal.main_arg4))
      ∧ r.2.sem = fun _ => 0)

def quiescent_ReferenceLongIdeal_pre_finite_long [hReferenceLongIdeal : Cert.ReferenceLongIdeal.Facts] [hPre_finite_long : Cert.Pre_finite_long.Facts] : Prop :=
  ∀ (m : (ℓ : Loc Cert.ReferenceLongIdeal.nD Cert.ReferenceLongIdeal.τ Cert.ReferenceLongIdeal.sig) → Buf (Elt Ideal) ℓ) (g : Dev Cert.ReferenceLongIdeal.nD → PrngReg), Pre_ReferenceLongIdeal_finite_long m →
    θ_run (Cert.ReferenceLongIdeal.defs (F := Ideal)) (onTc (τ := Cert.ReferenceLongIdeal.τ) (Cert.ReferenceLongIdeal.main (F := Ideal))) ⟨m, fun _ => 0, g⟩ (fun r => (∀ c : Dev Cert.ReferenceLongIdeal.nD,
      r.2.mem ((c.tc : Thread Cert.ReferenceLongIdeal.nD Cert.ReferenceLongIdeal.τ).loc Cert.ReferenceLongIdeal.main_arg0) = m ((c.tc : Thread Cert.ReferenceLongIdeal.nD Cert.ReferenceLongIdeal.τ).loc Cert.ReferenceLongIdeal.main_arg0)
      ∧ r.2.mem ((c.tc : Thread Cert.ReferenceLongIdeal.nD Cert.ReferenceLongIdeal.τ).loc Cert.ReferenceLongIdeal.main_arg1) = m ((c.tc : Thread Cert.ReferenceLongIdeal.nD Cert.ReferenceLongIdeal.τ).loc Cert.ReferenceLongIdeal.main_arg1)
      ∧ r.2.mem ((c.tc : Thread Cert.ReferenceLongIdeal.nD Cert.ReferenceLongIdeal.τ).loc Cert.ReferenceLongIdeal.main_arg2) = m ((c.tc : Thread Cert.ReferenceLongIdeal.nD Cert.ReferenceLongIdeal.τ).loc Cert.ReferenceLongIdeal.main_arg2)
      ∧ r.2.mem ((c.tc : Thread Cert.ReferenceLongIdeal.nD Cert.ReferenceLongIdeal.τ).loc Cert.ReferenceLongIdeal.main_arg3) = m ((c.tc : Thread Cert.ReferenceLongIdeal.nD Cert.ReferenceLongIdeal.τ).loc Cert.ReferenceLongIdeal.main_arg3)
      ∧ r.2.mem ((c.tc : Thread Cert.ReferenceLongIdeal.nD Cert.ReferenceLongIdeal.τ).loc Cert.ReferenceLongIdeal.main_arg4) = m ((c.tc : Thread Cert.ReferenceLongIdeal.nD Cert.ReferenceLongIdeal.τ).loc Cert.ReferenceLongIdeal.main_arg4))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)) →
    ∃ (v0 : (c : Dev Cert.KernelInIdeal.nD) → Buf (Elt Ideal) ((c.tc : Thread Cert.KernelInIdeal.nD Cert.KernelInIdeal.τ).loc Cert.KernelInIdeal.main_v17_0)) (v1 : (c : Dev Cert.KernelInIdeal.nD) → Buf (Elt Ideal) ((c.tc : Thread Cert.KernelInIdeal.nD Cert.KernelInIdeal.τ).loc Cert.KernelInIdeal.main_v17_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v17_0) = v0 c
          ∧ r.2.mem ((c.tc : Thread Cert.KernelInIdeal.nD Cert.KernelInIdeal.τ).loc Cert.KernelInIdeal.main_v17_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v35) = v0 c
          ∧ r.2.mem ((c.tc : Thread Cert.ReferenceInIdeal.nD Cert.ReferenceInIdeal.τ).loc Cert.ReferenceInIdeal.main_v36) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5))

def preserves_KernelMoe_KernelMoeIdeal : Prop :=
  True

def algebraic_KernelMoeIdeal_ReferenceMoeIdeal [hKernelMoeIdeal : Cert.KernelMoeIdeal.Facts] [hReferenceMoeIdeal : Cert.ReferenceMoeIdeal.Facts] : Prop :=
  ∀ (m : (ℓ : Loc Cert.KernelMoeIdeal.nD Cert.KernelMoeIdeal.τ Cert.KernelMoeIdeal.sig) → Buf (Elt Ideal) ℓ) (g : Dev Cert.KernelMoeIdeal.nD → PrngReg)
    (m' : (ℓ : Loc Cert.ReferenceMoeIdeal.nD Cert.ReferenceMoeIdeal.τ Cert.ReferenceMoeIdeal.sig) → Buf (Elt Ideal) ℓ) (g' : Dev Cert.ReferenceMoeIdeal.nD → PrngReg), Pre_KernelMoeIdeal m →
    (∀ c : Dev Cert.KernelMoeIdeal.nD,
      m' ((c.tc : Thread Cert.ReferenceMoeIdeal.nD Cert.ReferenceMoeIdeal.τ).loc Cert.ReferenceMoeIdeal.main_arg0) = m ((c.tc : Thread Cert.KernelMoeIdeal.nD Cert.KernelMoeIdeal.τ).loc Cert.KernelMoeIdeal.main_arg0)
      ∧ m' ((c.tc : Thread Cert.ReferenceMoeIdeal.nD Cert.ReferenceMoeIdeal.τ).loc Cert.ReferenceMoeIdeal.main_arg1) = m ((c.tc : Thread Cert.KernelMoeIdeal.nD Cert.KernelMoeIdeal.τ).loc Cert.KernelMoeIdeal.main_arg1)
      ∧ m' ((c.tc : Thread Cert.ReferenceMoeIdeal.nD Cert.ReferenceMoeIdeal.τ).loc Cert.ReferenceMoeIdeal.main_arg2) = m ((c.tc : Thread Cert.KernelMoeIdeal.nD Cert.KernelMoeIdeal.τ).loc Cert.KernelMoeIdeal.main_arg2)
      ∧ m' ((c.tc : Thread Cert.ReferenceMoeIdeal.nD Cert.ReferenceMoeIdeal.τ).loc Cert.ReferenceMoeIdeal.main_arg3) = m ((c.tc : Thread Cert.KernelMoeIdeal.nD Cert.KernelMoeIdeal.τ).loc Cert.KernelMoeIdeal.main_arg3)
      ∧ m' ((c.tc : Thread Cert.ReferenceMoeIdeal.nD Cert.ReferenceMoeIdeal.τ).loc Cert.ReferenceMoeIdeal.main_arg4) = m ((c.tc : Thread Cert.KernelMoeIdeal.nD Cert.KernelMoeIdeal.τ).loc Cert.KernelMoeIdeal.main_arg4)
      ∧ m' ((c.tc : Thread Cert.ReferenceMoeIdeal.nD Cert.ReferenceMoeIdeal.τ).loc Cert.ReferenceMoeIdeal.main_arg5) = m ((c.tc : Thread Cert.KernelMoeIdeal.nD Cert.KernelMoeIdeal.τ).loc Cert.KernelMoeIdeal.main_arg5)
      ∧ m' ((c.tc : Thread Cert.ReferenceMoeIdeal.nD Cert.ReferenceMoeIdeal.τ).loc Cert.ReferenceMoeIdeal.main_arg6) = m ((c.tc : Thread Cert.KernelMoeIdeal.nD Cert.KernelMoeIdeal.τ).loc Cert.KernelMoeIdeal.main_arg6)
      ∧ m' ((c.tc : Thread Cert.ReferenceMoeIdeal.nD Cert.ReferenceMoeIdeal.τ).loc Cert.ReferenceMoeIdeal.main_arg7) = m ((c.tc : Thread Cert.KernelMoeIdeal.nD Cert.KernelMoeIdeal.τ).loc Cert.KernelMoeIdeal.main_arg7)) →
    ∃ (v0 : (c : Dev Cert.KernelMoeIdeal.nD) → Buf (Elt Ideal) ((c.tc : Thread Cert.KernelMoeIdeal.nD Cert.KernelMoeIdeal.τ).loc Cert.KernelMoeIdeal.main_v3)),
      θ_run (Cert.KernelMoeIdeal.defs (F := Ideal)) (onTc (τ := Cert.KernelMoeIdeal.τ) (Cert.KernelMoeIdeal.main (F := Ideal))) ⟨m, fun _ => 0, g⟩ (fun r => ∀ c : Dev Cert.KernelMoeIdeal.nD,
          r.2.mem ((c.tc : Thread Cert.KernelMoeIdeal.nD Cert.KernelMoeIdeal.τ).loc Cert.KernelMoeIdeal.main_v3) = v0 c
          ∧ r.2.mem ((c.tc : Thread Cert.KernelMoeIdeal.nD Cert.KernelMoeIdeal.τ).loc Cert.KernelMoeIdeal.main_arg0) = m ((c.tc : Thread Cert.KernelMoeIdeal.nD Cert.KernelMoeIdeal.τ).loc Cert.KernelMoeIdeal.main_arg0)
          ∧ r.2.mem ((c.tc : Thread Cert.KernelMoeIdeal.nD Cert.KernelMoeIdeal.τ).loc Cert.KernelMoeIdeal.main_arg1) = m ((c.tc : Thread Cert.KernelMoeIdeal.nD Cert.KernelMoeIdeal.τ).loc Cert.KernelMoeIdeal.main_arg1)
          ∧ r.2.mem ((c.tc : Thread Cert.KernelMoeIdeal.nD Cert.KernelMoeIdeal.τ).loc Cert.KernelMoeIdeal.main_arg2) = m ((c.tc : Thread Cert.KernelMoeIdeal.nD Cert.KernelMoeIdeal.τ).loc Cert.KernelMoeIdeal.main_arg2)
          ∧ r.2.mem ((c.tc : Thread Cert.KernelMoeIdeal.nD Cert.KernelMoeIdeal.τ).loc Cert.KernelMoeIdeal.main_arg3) = m ((c.tc : Thread Cert.KernelMoeIdeal.nD Cert.KernelMoeIdeal.τ).loc Cert.KernelMoeIdeal.main_arg3)
          ∧ r.2.mem ((c.tc : Thread Cert.KernelMoeIdeal.nD Cert.KernelMoeIdeal.τ).loc Cert.KernelMoeIdeal.main_arg4) = m ((c.tc : Thread Cert.KernelMoeIdeal.nD Cert.KernelMoeIdeal.τ).loc Cert.KernelMoeIdeal.main_arg4)
          ∧ r.2.mem ((c.tc : Thread Cert.KernelMoeIdeal.nD Cert.KernelMoeIdeal.τ).loc Cert.KernelMoeIdeal.main_arg5) = m ((c.tc : Thread Cert.KernelMoeIdeal.nD Cert.KernelMoeIdeal.τ).loc Cert.KernelMoeIdeal.main_arg5)
          ∧ r.2.mem ((c.tc : Thread Cert.KernelMoeIdeal.nD Cert.KernelMoeIdeal.τ).loc Cert.KernelMoeIdeal.main_arg6) = m ((c.tc : Thread Cert.KernelMoeIdeal.nD Cert.KernelMoeIdeal.τ).loc Cert.KernelMoeIdeal.main_arg6)
          ∧ r.2.mem ((c.tc : Thread Cert.KernelMoeIdeal.nD Cert.KernelMoeIdeal.τ).loc Cert.KernelMoeIdeal.main_arg7) = m ((c.tc : Thread Cert.KernelMoeIdeal.nD Cert.KernelMoeIdeal.τ).loc Cert.KernelMoeIdeal.main_arg7))
      ∧ θ_run (Cert.ReferenceMoeIdeal.defs (F := Ideal)) (onTc (τ := Cert.ReferenceMoeIdeal.τ) (Cert.ReferenceMoeIdeal.main (F := Ideal))) ⟨m', fun _ => 0, g'⟩ (fun r => ∀ c : Dev Cert.ReferenceMoeIdeal.nD,
          r.2.mem ((c.tc : Thread Cert.ReferenceMoeIdeal.nD Cert.ReferenceMoeIdeal.τ).loc Cert.ReferenceMoeIdeal.main_v30) = v0 c
          ∧ r.2.mem ((c.tc : Thread Cert.ReferenceMoeIdeal.nD Cert.ReferenceMoeIdeal.τ).loc Cert.ReferenceMoeIdeal.main_arg0) = m' ((c.tc : Thread Cert.ReferenceMoeIdeal.nD Cert.ReferenceMoeIdeal.τ).loc Cert.ReferenceMoeIdeal.main_arg0)
          ∧ r.2.mem ((c.tc : Thread Cert.ReferenceMoeIdeal.nD Cert.ReferenceMoeIdeal.τ).loc Cert.ReferenceMoeIdeal.main_arg1) = m' ((c.tc : Thread Cert.ReferenceMoeIdeal.nD Cert.ReferenceMoeIdeal.τ).loc Cert.ReferenceMoeIdeal.main_arg1)
          ∧ r.2.mem ((c.tc : Thread Cert.ReferenceMoeIdeal.nD Cert.ReferenceMoeIdeal.τ).loc Cert.ReferenceMoeIdeal.main_arg2) = m' ((c.tc : Thread Cert.ReferenceMoeIdeal.nD Cert.ReferenceMoeIdeal.τ).loc Cert.ReferenceMoeIdeal.main_arg2)
          ∧ r.2.mem ((c.tc : Thread Cert.ReferenceMoeIdeal.nD Cert.ReferenceMoeIdeal.τ).loc Cert.ReferenceMoeIdeal.main_arg3) = m' ((c.tc : Thread Cert.ReferenceMoeIdeal.nD Cert.ReferenceMoeIdeal.τ).loc Cert.ReferenceMoeIdeal.main_arg3)
          ∧ r.2.mem ((c.tc : Thread Cert.ReferenceMoeIdeal.nD Cert.ReferenceMoeIdeal.τ).loc Cert.ReferenceMoeIdeal.main_arg4) = m' ((c.tc : Thread Cert.ReferenceMoeIdeal.nD Cert.ReferenceMoeIdeal.τ).loc Cert.ReferenceMoeIdeal.main_arg4)
          ∧ r.2.mem ((c.tc : Thread Cert.ReferenceMoeIdeal.nD Cert.ReferenceMoeIdeal.τ).loc Cert.ReferenceMoeIdeal.main_arg5) = m' ((c.tc : Thread Cert.ReferenceMoeIdeal.nD Cert.ReferenceMoeIdeal.τ).loc Cert.ReferenceMoeIdeal.main_arg5)
          ∧ r.2.mem ((c.tc : Thread Cert.ReferenceMoeIdeal.nD Cert.ReferenceMoeIdeal.τ).loc Cert.ReferenceMoeIdeal.main_arg6) = m' ((c.tc : Thread Cert.ReferenceMoeIdeal.nD Cert.ReferenceMoeIdeal.τ).loc Cert.ReferenceMoeIdeal.main_arg6)
          ∧ r.2.mem ((c.tc : Thread Cert.ReferenceMoeIdeal.nD Cert.ReferenceMoeIdeal.τ).loc Cert.ReferenceMoeIdeal.main_arg7) = m' ((c.tc : Thread Cert.ReferenceMoeIdeal.nD Cert.ReferenceMoeIdeal.τ).loc Cert.ReferenceMoeIdeal.main_arg7))

def preserves_KernelFinal_KernelFinalIdeal : Prop :=
  True

def algebraic_KernelFinalIdeal_ReferenceFinalIdeal [hKernelFinalIdeal : Cert.KernelFinalIdeal.Facts] [hReferenceFinalIdeal : Cert.ReferenceFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg)
    (m' : (ℓ : Loc Cert.ReferenceFinalIdeal.nD Cert.ReferenceFinalIdeal.τ Cert.ReferenceFinalIdeal.sig) → Buf (Elt Ideal) ℓ) (g' : Dev Cert.ReferenceFinalIdeal.nD → PrngReg), Pre_KernelFinalIdeal m →
    (∀ c : Dev Cert.KernelFinalIdeal.nD,
      m' ((c.tc : Thread Cert.ReferenceFinalIdeal.nD Cert.ReferenceFinalIdeal.τ).loc Cert.ReferenceFinalIdeal.main_arg0) = m ((c.tc : Thread Cert.KernelFinalIdeal.nD Cert.KernelFinalIdeal.τ).loc Cert.KernelFinalIdeal.main_arg0)
      ∧ m' ((c.tc : Thread Cert.ReferenceFinalIdeal.nD Cert.ReferenceFinalIdeal.τ).loc Cert.ReferenceFinalIdeal.main_arg1) = m ((c.tc : Thread Cert.KernelFinalIdeal.nD Cert.KernelFinalIdeal.τ).loc Cert.KernelFinalIdeal.main_arg1)
      ∧ m' ((c.tc : Thread Cert.ReferenceFinalIdeal.nD Cert.ReferenceFinalIdeal.τ).loc Cert.ReferenceFinalIdeal.main_arg2) = m ((c.tc : Thread Cert.KernelFinalIdeal.nD Cert.KernelFinalIdeal.τ).loc Cert.KernelFinalIdeal.main_arg2)
      ∧ m' ((c.tc : Thread Cert.ReferenceFinalIdeal.nD Cert.ReferenceFinalIdeal.τ).loc Cert.ReferenceFinalIdeal.main_arg3) = m ((c.tc : Thread Cert.KernelFinalIdeal.nD Cert.KernelFinalIdeal.τ).loc Cert.KernelFinalIdeal.main_arg3)) →
    ∃ (v0 : (c : Dev Cert.KernelFinalIdeal.nD) → Buf (Elt Ideal) ((c.tc : Thread Cert.KernelFinalIdeal.nD Cert.KernelFinalIdeal.τ).loc Cert.KernelFinalIdeal.main_v3)),
      θ_run (Cert.KernelFinalIdeal.defs (F := Ideal)) (onTc (τ := Cert.KernelFinalIdeal.τ) (Cert.KernelFinalIdeal.main (F := Ideal))) ⟨m, fun _ => 0, g⟩ (fun r => ∀ c : Dev Cert.KernelFinalIdeal.nD,
          r.2.mem ((c.tc : Thread Cert.KernelFinalIdeal.nD Cert.KernelFinalIdeal.τ).loc Cert.KernelFinalIdeal.main_v3) = v0 c
          ∧ r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
          ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
          ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2)
          ∧ r.2.mem ((c.tc : Thread Cert.KernelFinalIdeal.nD Cert.KernelFinalIdeal.τ).loc Cert.KernelFinalIdeal.main_arg3) = m ((c.tc : Thread Cert.KernelFinalIdeal.nD Cert.KernelFinalIdeal.τ).loc Cert.KernelFinalIdeal.main_arg3))
      ∧ θ_run (Cert.ReferenceFinalIdeal.defs (F := Ideal)) (onTc (τ := Cert.ReferenceFinalIdeal.τ) (Cert.ReferenceFinalIdeal.main (F := Ideal))) ⟨m', fun _ => 0, g'⟩ (fun r => ∀ c : Dev Cert.ReferenceFinalIdeal.nD,
          r.2.mem ((c.tc : Thread Cert.ReferenceFinalIdeal.nD Cert.ReferenceFinalIdeal.τ).loc Cert.ReferenceFinalIdeal.main_v20) = v0 c
          ∧ r.2.mem ((c.tc : Thread Cert.ReferenceFinalIdeal.nD Cert.ReferenceFinalIdeal.τ).loc Cert.ReferenceFinalIdeal.main_arg0) = m' ((c.tc : Thread Cert.ReferenceFinalIdeal.nD Cert.ReferenceFinalIdeal.τ).loc Cert.ReferenceFinalIdeal.main_arg0)
          ∧ r.2.mem ((c.tc : Thread Cert.ReferenceFinalIdeal.nD Cert.ReferenceFinalIdeal.τ).loc Cert.ReferenceFinalIdeal.main_arg1) = m' ((c.tc : Thread Cert.ReferenceFinalIdeal.nD Cert.ReferenceFinalIdeal.τ).loc Cert.ReferenceFinalIdeal.main_arg1)
          ∧ r.2.mem ((c.tc : Thread Cert.ReferenceFinalIdeal.nD Cert.ReferenceFinalIdeal.τ).loc Cert.ReferenceFinalIdeal.main_arg2) = m' ((c.tc : Thread Cert.ReferenceFinalIdeal.nD Cert.ReferenceFinalIdeal.τ).loc Cert.ReferenceFinalIdeal.main_arg2)
          ∧ r.2.mem ((c.tc : Thread Cert.ReferenceFinalIdeal.nD Cert.ReferenceFinalIdeal.τ).loc Cert.ReferenceFinalIdeal.main_arg3) = m' ((c.tc : Thread Cert.ReferenceFinalIdeal.nD Cert.ReferenceFinalIdeal.τ).loc Cert.ReferenceFinalIdeal.main_arg3))

def preserves_KernelMod_KernelModIdeal : Prop :=
  True

def algebraic_KernelModIdeal_ReferenceModIdeal [hKernelModIdeal : Cert.KernelModIdeal.Facts] [hReferenceModIdeal : Cert.ReferenceModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)) →
    ∃ (v0 : (c : Dev Cert.KernelModIdeal.nD) → Buf (Elt Ideal) ((c.tc : Thread Cert.KernelModIdeal.nD Cert.KernelModIdeal.τ).loc Cert.KernelModIdeal.main_v1)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v1) = v0 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v4) = v0 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2))

def preserves_KernelDisc_KernelDiscIdeal : Prop :=
  True

def algebraic_KernelDiscIdeal_ReferenceDiscIdeal [hKernelDiscIdeal : Cert.KernelDiscIdeal.Facts] [hReferenceDiscIdeal : Cert.ReferenceDiscIdeal.Facts] : Prop :=
  ∀ (m : (ℓ : Loc Cert.KernelDiscIdeal.nD Cert.KernelDiscIdeal.τ Cert.KernelDiscIdeal.sig) → Buf (Elt Ideal) ℓ) (g : Dev Cert.KernelDiscIdeal.nD → PrngReg)
    (m' : (ℓ : Loc Cert.ReferenceDiscIdeal.nD Cert.ReferenceDiscIdeal.τ Cert.ReferenceDiscIdeal.sig) → Buf (Elt Ideal) ℓ) (g' : Dev Cert.ReferenceDiscIdeal.nD → PrngReg), Pre_KernelDiscIdeal m →
    (∀ c : Dev Cert.KernelDiscIdeal.nD,
      m' ((c.tc : Thread Cert.ReferenceDiscIdeal.nD Cert.ReferenceDiscIdeal.τ).loc Cert.ReferenceDiscIdeal.main_arg0) = m ((c.tc : Thread Cert.KernelDiscIdeal.nD Cert.KernelDiscIdeal.τ).loc Cert.KernelDiscIdeal.main_arg0)
      ∧ m' ((c.tc : Thread Cert.ReferenceDiscIdeal.nD Cert.ReferenceDiscIdeal.τ).loc Cert.ReferenceDiscIdeal.main_arg1) = m ((c.tc : Thread Cert.KernelDiscIdeal.nD Cert.KernelDiscIdeal.τ).loc Cert.KernelDiscIdeal.main_arg1)
      ∧ m' ((c.tc : Thread Cert.ReferenceDiscIdeal.nD Cert.ReferenceDiscIdeal.τ).loc Cert.ReferenceDiscIdeal.main_arg2) = m ((c.tc : Thread Cert.KernelDiscIdeal.nD Cert.KernelDiscIdeal.τ).loc Cert.KernelDiscIdeal.main_arg2)
      ∧ m' ((c.tc : Thread Cert.ReferenceDiscIdeal.nD Cert.ReferenceDiscIdeal.τ).loc Cert.ReferenceDiscIdeal.main_arg3) = m ((c.tc : Thread Cert.KernelDiscIdeal.nD Cert.KernelDiscIdeal.τ).loc Cert.KernelDiscIdeal.main_arg3)
      ∧ m' ((c.tc : Thread Cert.ReferenceDiscIdeal.nD Cert.ReferenceDiscIdeal.τ).loc Cert.ReferenceDiscIdeal.main_arg4) = m ((c.tc : Thread Cert.KernelDiscIdeal.nD Cert.KernelDiscIdeal.τ).loc Cert.KernelDiscIdeal.main_arg4)) →
    ∃ (v0 : (c : Dev Cert.KernelDiscIdeal.nD) → Buf (Elt Ideal) ((c.tc : Thread Cert.KernelDiscIdeal.nD Cert.KernelDiscIdeal.τ).loc Cert.KernelDiscIdeal.main_v8_0)) (v1 : (c : Dev Cert.KernelDiscIdeal.nD) → Buf (Elt Ideal) ((c.tc : Thread Cert.KernelDiscIdeal.nD Cert.KernelDiscIdeal.τ).loc Cert.KernelDiscIdeal.main_v8_1)) (v2 : (c : Dev Cert.KernelDiscIdeal.nD) → Buf (Elt Ideal) ((c.tc : Thread Cert.KernelDiscIdeal.nD Cert.KernelDiscIdeal.τ).loc Cert.KernelDiscIdeal.main_v8_2)) (v3 : (c : Dev Cert.KernelDiscIdeal.nD) → Buf (Elt Ideal) ((c.tc : Thread Cert.KernelDiscIdeal.nD Cert.KernelDiscIdeal.τ).loc Cert.KernelDiscIdeal.main_v8_3)),
      θ_run (Cert.KernelDiscIdeal.defs (F := Ideal)) (onTc (τ := Cert.KernelDiscIdeal.τ) (Cert.KernelDiscIdeal.main (F := Ideal))) ⟨m, fun _ => 0, g⟩ (fun r => ∀ c : Dev Cert.KernelDiscIdeal.nD,
          r.2.mem ((c.tc : Thread Cert.KernelDiscIdeal.nD Cert.KernelDiscIdeal.τ).loc Cert.KernelDiscIdeal.main_v8_0) = v0 c
          ∧ r.2.mem ((c.tc : Thread Cert.KernelDiscIdeal.nD Cert.KernelDiscIdeal.τ).loc Cert.KernelDiscIdeal.main_v8_1) = v1 c
          ∧ r.2.mem ((c.tc : Thread Cert.KernelDiscIdeal.nD Cert.KernelDiscIdeal.τ).loc Cert.KernelDiscIdeal.main_v8_2) = v2 c
          ∧ r.2.mem ((c.tc : Thread Cert.KernelDiscIdeal.nD Cert.KernelDiscIdeal.τ).loc Cert.KernelDiscIdeal.main_v8_3) = v3 c
          ∧ r.2.mem ((c.tc : Thread Cert.KernelDiscIdeal.nD Cert.KernelDiscIdeal.τ).loc Cert.KernelDiscIdeal.main_arg0) = m ((c.tc : Thread Cert.KernelDiscIdeal.nD Cert.KernelDiscIdeal.τ).loc Cert.KernelDiscIdeal.main_arg0)
          ∧ r.2.mem ((c.tc : Thread Cert.KernelDiscIdeal.nD Cert.KernelDiscIdeal.τ).loc Cert.KernelDiscIdeal.main_arg1) = m ((c.tc : Thread Cert.KernelDiscIdeal.nD Cert.KernelDiscIdeal.τ).loc Cert.KernelDiscIdeal.main_arg1)
          ∧ r.2.mem ((c.tc : Thread Cert.KernelDiscIdeal.nD Cert.KernelDiscIdeal.τ).loc Cert.KernelDiscIdeal.main_arg2) = m ((c.tc : Thread Cert.KernelDiscIdeal.nD Cert.KernelDiscIdeal.τ).loc Cert.KernelDiscIdeal.main_arg2)
          ∧ r.2.mem ((c.tc : Thread Cert.KernelDiscIdeal.nD Cert.KernelDiscIdeal.τ).loc Cert.KernelDiscIdeal.main_arg3) = m ((c.tc : Thread Cert.KernelDiscIdeal.nD Cert.KernelDiscIdeal.τ).loc Cert.KernelDiscIdeal.main_arg3)
          ∧ r.2.mem ((c.tc : Thread Cert.KernelDiscIdeal.nD Cert.KernelDiscIdeal.τ).loc Cert.KernelDiscIdeal.main_arg4) = m ((c.tc : Thread Cert.KernelDiscIdeal.nD Cert.KernelDiscIdeal.τ).loc Cert.KernelDiscIdeal.main_arg4))
      ∧ θ_run (Cert.ReferenceDiscIdeal.defs (F := Ideal)) (onTc (τ := Cert.ReferenceDiscIdeal.τ) (Cert.ReferenceDiscIdeal.main (F := Ideal))) ⟨m', fun _ => 0, g'⟩ (fun r => ∀ c : Dev Cert.ReferenceDiscIdeal.nD,
          r.2.mem ((c.tc : Thread Cert.ReferenceDiscIdeal.nD Cert.ReferenceDiscIdeal.τ).loc Cert.ReferenceDiscIdeal.main_v42) = v0 c
          ∧ r.2.mem ((c.tc : Thread Cert.ReferenceDiscIdeal.nD Cert.ReferenceDiscIdeal.τ).loc Cert.ReferenceDiscIdeal.main_v43) = v1 c
          ∧ r.2.mem ((c.tc : Thread Cert.ReferenceDiscIdeal.nD Cert.ReferenceDiscIdeal.τ).loc Cert.ReferenceDiscIdeal.main_v44) = v2 c
          ∧ r.2.mem ((c.tc : Thread Cert.ReferenceDiscIdeal.nD Cert.ReferenceDiscIdeal.τ).loc Cert.ReferenceDiscIdeal.main_v45) = v3 c
          ∧ r.2.mem ((c.tc : Thread Cert.ReferenceDiscIdeal.nD Cert.ReferenceDiscIdeal.τ).loc Cert.ReferenceDiscIdeal.main_arg0) = m' ((c.tc : Thread Cert.ReferenceDiscIdeal.nD Cert.ReferenceDiscIdeal.τ).loc Cert.ReferenceDiscIdeal.main_arg0)
          ∧ r.2.mem ((c.tc : Thread Cert.ReferenceDiscIdeal.nD Cert.ReferenceDiscIdeal.τ).loc Cert.ReferenceDiscIdeal.main_arg1) = m' ((c.tc : Thread Cert.ReferenceDiscIdeal.nD Cert.ReferenceDiscIdeal.τ).loc Cert.ReferenceDiscIdeal.main_arg1)
          ∧ r.2.mem ((c.tc : Thread Cert.ReferenceDiscIdeal.nD Cert.ReferenceDiscIdeal.τ).loc Cert.ReferenceDiscIdeal.main_arg2) = m' ((c.tc : Thread Cert.ReferenceDiscIdeal.nD Cert.ReferenceDiscIdeal.τ).loc Cert.ReferenceDiscIdeal.main_arg2)
          ∧ r.2.mem ((c.tc : Thread Cert.ReferenceDiscIdeal.nD Cert.ReferenceDiscIdeal.τ).loc Cert.ReferenceDiscIdeal.main_arg3) = m' ((c.tc : Thread Cert.ReferenceDiscIdeal.nD Cert.ReferenceDiscIdeal.τ).loc Cert.ReferenceDiscIdeal.main_arg3)
          ∧ r.2.mem ((c.tc : Thread Cert.ReferenceDiscIdeal.nD Cert.ReferenceDiscIdeal.τ).loc Cert.ReferenceDiscIdeal.main_arg4) = m' ((c.tc : Thread Cert.ReferenceDiscIdeal.nD Cert.ReferenceDiscIdeal.τ).loc Cert.ReferenceDiscIdeal.main_arg4))

def preserves_KernelFw_KernelFwIdeal : Prop :=
  True

def algebraic_KernelFwIdeal_ReferenceFwIdeal [hKernelFwIdeal : Cert.KernelFwIdeal.Facts] [hReferenceFwIdeal : Cert.ReferenceFwIdeal.Facts] : Prop :=
  ∀ (m : (ℓ : Loc Cert.KernelFwIdeal.nD Cert.KernelFwIdeal.τ Cert.KernelFwIdeal.sig) → Buf (Elt Ideal) ℓ) (g : Dev Cert.KernelFwIdeal.nD → PrngReg)
    (m' : (ℓ : Loc Cert.ReferenceFwIdeal.nD Cert.ReferenceFwIdeal.τ Cert.ReferenceFwIdeal.sig) → Buf (Elt Ideal) ℓ) (g' : Dev Cert.ReferenceFwIdeal.nD → PrngReg), Pre_KernelFwIdeal m →
    (∀ c : Dev Cert.KernelFwIdeal.nD,
      m' ((c.tc : Thread Cert.ReferenceFwIdeal.nD Cert.ReferenceFwIdeal.τ).loc Cert.ReferenceFwIdeal.main_arg0) = m ((c.tc : Thread Cert.KernelFwIdeal.nD Cert.KernelFwIdeal.τ).loc Cert.KernelFwIdeal.main_arg0)
      ∧ m' ((c.tc : Thread Cert.ReferenceFwIdeal.nD Cert.ReferenceFwIdeal.τ).loc Cert.ReferenceFwIdeal.main_arg1) = m ((c.tc : Thread Cert.KernelFwIdeal.nD Cert.KernelFwIdeal.τ).loc Cert.KernelFwIdeal.main_arg1)
      ∧ m' ((c.tc : Thread Cert.ReferenceFwIdeal.nD Cert.ReferenceFwIdeal.τ).loc Cert.ReferenceFwIdeal.main_arg2) = m ((c.tc : Thread Cert.KernelFwIdeal.nD Cert.KernelFwIdeal.τ).loc Cert.KernelFwIdeal.main_arg2)) →
    ∃ (v0 : (c : Dev Cert.KernelFwIdeal.nD) → Buf (Elt Ideal) ((c.tc : Thread Cert.KernelFwIdeal.nD Cert.KernelFwIdeal.τ).loc Cert.KernelFwIdeal.main_v18_0)) (v1 : (c : Dev Cert.KernelFwIdeal.nD) → Buf (Elt Ideal) ((c.tc : Thread Cert.KernelFwIdeal.nD Cert.KernelFwIdeal.τ).loc Cert.KernelFwIdeal.main_v18_1)),
      θ_run (Cert.KernelFwIdeal.defs (F := Ideal)) (onTc (τ := Cert.KernelFwIdeal.τ) (Cert.KernelFwIdeal.main (F := Ideal))) ⟨m, fun _ => 0, g⟩ (fun r => ∀ c : Dev Cert.KernelFwIdeal.nD,
          r.2.mem ((c.tc : Thread Cert.KernelFwIdeal.nD Cert.KernelFwIdeal.τ).loc Cert.KernelFwIdeal.main_v18_0) = v0 c
          ∧ r.2.mem ((c.tc : Thread Cert.KernelFwIdeal.nD Cert.KernelFwIdeal.τ).loc Cert.KernelFwIdeal.main_v18_1) = v1 c
          ∧ r.2.mem ((c.tc : Thread Cert.KernelFwIdeal.nD Cert.KernelFwIdeal.τ).loc Cert.KernelFwIdeal.main_arg0) = m ((c.tc : Thread Cert.KernelFwIdeal.nD Cert.KernelFwIdeal.τ).loc Cert.KernelFwIdeal.main_arg0)
          ∧ r.2.mem ((c.tc : Thread Cert.KernelFwIdeal.nD Cert.KernelFwIdeal.τ).loc Cert.KernelFwIdeal.main_arg1) = m ((c.tc : Thread Cert.KernelFwIdeal.nD Cert.KernelFwIdeal.τ).loc Cert.KernelFwIdeal.main_arg1)
          ∧ r.2.mem ((c.tc : Thread Cert.KernelFwIdeal.nD Cert.KernelFwIdeal.τ).loc Cert.KernelFwIdeal.main_arg2) = m ((c.tc : Thread Cert.KernelFwIdeal.nD Cert.KernelFwIdeal.τ).loc Cert.KernelFwIdeal.main_arg2))
      ∧ θ_run (Cert.ReferenceFwIdeal.defs (F := Ideal)) (onTc (τ := Cert.ReferenceFwIdeal.τ) (Cert.ReferenceFwIdeal.main (F := Ideal))) ⟨m', fun _ => 0, g'⟩ (fun r => ∀ c : Dev Cert.ReferenceFwIdeal.nD,
          r.2.mem ((c.tc : Thread Cert.ReferenceFwIdeal.nD Cert.ReferenceFwIdeal.τ).loc Cert.ReferenceFwIdeal.main_v12) = v0 c
          ∧ r.2.mem ((c.tc : Thread Cert.ReferenceFwIdeal.nD Cert.ReferenceFwIdeal.τ).loc Cert.ReferenceFwIdeal.main_v18) = v1 c
          ∧ r.2.mem ((c.tc : Thread Cert.ReferenceFwIdeal.nD Cert.ReferenceFwIdeal.τ).loc Cert.ReferenceFwIdeal.main_arg0) = m' ((c.tc : Thread Cert.ReferenceFwIdeal.nD Cert.ReferenceFwIdeal.τ).loc Cert.ReferenceFwIdeal.main_arg0)
          ∧ r.2.mem ((c.tc : Thread Cert.ReferenceFwIdeal.nD Cert.ReferenceFwIdeal.τ).loc Cert.ReferenceFwIdeal.main_arg1) = m' ((c.tc : Thread Cert.ReferenceFwIdeal.nD Cert.ReferenceFwIdeal.τ).loc Cert.ReferenceFwIdeal.main_arg1)
          ∧ r.2.mem ((c.tc : Thread Cert.ReferenceFwIdeal.nD Cert.ReferenceFwIdeal.τ).loc Cert.ReferenceFwIdeal.main_arg2) = m' ((c.tc : Thread Cert.ReferenceFwIdeal.nD Cert.ReferenceFwIdeal.τ).loc Cert.ReferenceFwIdeal.main_arg2))

def preserves_KernelFnet_KernelFnetIdeal : Prop :=
  True

def algebraic_KernelFnetIdeal_ReferenceFnetIdeal_pre_finite [hKernelFnetIdeal : Cert.KernelFnetIdeal.Facts] [hReferenceFnetIdeal : Cert.ReferenceFnetIdeal.Facts] [hPre_finite : Cert.Pre_finite.Facts] : Prop :=
  ∀ (m : (ℓ : Loc Cert.KernelFnetIdeal.nD Cert.KernelFnetIdeal.τ Cert.KernelFnetIdeal.sig) → Buf (Elt Ideal) ℓ) (g : Dev Cert.KernelFnetIdeal.nD → PrngReg)
    (m' : (ℓ : Loc Cert.ReferenceFnetIdeal.nD Cert.ReferenceFnetIdeal.τ Cert.ReferenceFnetIdeal.sig) → Buf (Elt Ideal) ℓ) (g' : Dev Cert.ReferenceFnetIdeal.nD → PrngReg), Pre_KernelFnetIdeal_finite m →
    (∀ c : Dev Cert.KernelFnetIdeal.nD,
      m' ((c.tc : Thread Cert.ReferenceFnetIdeal.nD Cert.ReferenceFnetIdeal.τ).loc Cert.ReferenceFnetIdeal.main_arg0) = m ((c.tc : Thread Cert.KernelFnetIdeal.nD Cert.KernelFnetIdeal.τ).loc Cert.KernelFnetIdeal.main_arg0)
      ∧ m' ((c.tc : Thread Cert.ReferenceFnetIdeal.nD Cert.ReferenceFnetIdeal.τ).loc Cert.ReferenceFnetIdeal.main_arg1) = m ((c.tc : Thread Cert.KernelFnetIdeal.nD Cert.KernelFnetIdeal.τ).loc Cert.KernelFnetIdeal.main_arg1)
      ∧ m' ((c.tc : Thread Cert.ReferenceFnetIdeal.nD Cert.ReferenceFnetIdeal.τ).loc Cert.ReferenceFnetIdeal.main_arg2) = m ((c.tc : Thread Cert.KernelFnetIdeal.nD Cert.KernelFnetIdeal.τ).loc Cert.KernelFnetIdeal.main_arg2)
      ∧ m' ((c.tc : Thread Cert.ReferenceFnetIdeal.nD Cert.ReferenceFnetIdeal.τ).loc Cert.ReferenceFnetIdeal.main_arg3) = m ((c.tc : Thread Cert.KernelFnetIdeal.nD Cert.KernelFnetIdeal.τ).loc Cert.KernelFnetIdeal.main_arg3)
      ∧ m' ((c.tc : Thread Cert.ReferenceFnetIdeal.nD Cert.ReferenceFnetIdeal.τ).loc Cert.ReferenceFnetIdeal.main_arg4) = m ((c.tc : Thread Cert.KernelFnetIdeal.nD Cert.KernelFnetIdeal.τ).loc Cert.KernelFnetIdeal.main_arg4)) →
    ∃ (v0 : (c : Dev Cert.KernelFnetIdeal.nD) → Buf (Elt Ideal) ((c.tc : Thread Cert.KernelFnetIdeal.nD Cert.KernelFnetIdeal.τ).loc Cert.KernelFnetIdeal.main_v0)),
      θ_run (Cert.KernelFnetIdeal.defs (F := Ideal)) (onTc (τ := Cert.KernelFnetIdeal.τ) (Cert.KernelFnetIdeal.main (F := Ideal))) ⟨m, fun _ => 0, g⟩ (fun r => ∀ c : Dev Cert.KernelFnetIdeal.nD,
          r.2.mem ((c.tc : Thread Cert.KernelFnetIdeal.nD Cert.KernelFnetIdeal.τ).loc Cert.KernelFnetIdeal.main_v0) = v0 c
          ∧ r.2.mem ((c.tc : Thread Cert.KernelFnetIdeal.nD Cert.KernelFnetIdeal.τ).loc Cert.KernelFnetIdeal.main_arg0) = m ((c.tc : Thread Cert.KernelFnetIdeal.nD Cert.KernelFnetIdeal.τ).loc Cert.KernelFnetIdeal.main_arg0)
          ∧ r.2.mem ((c.tc : Thread Cert.KernelFnetIdeal.nD Cert.KernelFnetIdeal.τ).loc Cert.KernelFnetIdeal.main_arg1) = m ((c.tc : Thread Cert.KernelFnetIdeal.nD Cert.KernelFnetIdeal.τ).loc Cert.KernelFnetIdeal.main_arg1)
          ∧ r.2.mem ((c.tc : Thread Cert.KernelFnetIdeal.nD Cert.KernelFnetIdeal.τ).loc Cert.KernelFnetIdeal.main_arg2) = m ((c.tc : Thread Cert.KernelFnetIdeal.nD Cert.KernelFnetIdeal.τ).loc Cert.KernelFnetIdeal.main_arg2)
          ∧ r.2.mem ((c.tc : Thread Cert.KernelFnetIdeal.nD Cert.KernelFnetIdeal.τ).loc Cert.KernelFnetIdeal.main_arg3) = m ((c.tc : Thread Cert.KernelFnetIdeal.nD Cert.KernelFnetIdeal.τ).loc Cert.KernelFnetIdeal.main_arg3)
          ∧ r.2.mem ((c.tc : Thread Cert.KernelFnetIdeal.nD Cert.KernelFnetIdeal.τ).loc Cert.KernelFnetIdeal.main_arg4) = m ((c.tc : Thread Cert.KernelFnetIdeal.nD Cert.KernelFnetIdeal.τ).loc Cert.KernelFnetIdeal.main_arg4))
      ∧ θ_run (Cert.ReferenceFnetIdeal.defs (F := Ideal)) (onTc (τ := Cert.ReferenceFnetIdeal.τ) (Cert.ReferenceFnetIdeal.main (F := Ideal))) ⟨m', fun _ => 0, g'⟩ (fun r => ∀ c : Dev Cert.ReferenceFnetIdeal.nD,
          r.2.mem ((c.tc : Thread Cert.ReferenceFnetIdeal.nD Cert.ReferenceFnetIdeal.τ).loc Cert.ReferenceFnetIdeal.main_v10) = v0 c
          ∧ r.2.mem ((c.tc : Thread Cert.ReferenceFnetIdeal.nD Cert.ReferenceFnetIdeal.τ).loc Cert.ReferenceFnetIdeal.main_arg0) = m' ((c.tc : Thread Cert.ReferenceFnetIdeal.nD Cert.ReferenceFnetIdeal.τ).loc Cert.ReferenceFnetIdeal.main_arg0)
          ∧ r.2.mem ((c.tc : Thread Cert.ReferenceFnetIdeal.nD Cert.ReferenceFnetIdeal.τ).loc Cert.ReferenceFnetIdeal.main_arg1) = m' ((c.tc : Thread Cert.ReferenceFnetIdeal.nD Cert.ReferenceFnetIdeal.τ).loc Cert.ReferenceFnetIdeal.main_arg1)
          ∧ r.2.mem ((c.tc : Thread Cert.ReferenceFnetIdeal.nD Cert.ReferenceFnetIdeal.τ).loc Cert.ReferenceFnetIdeal.main_arg2) = m' ((c.tc : Thread Cert.ReferenceFnetIdeal.nD Cert.ReferenceFnetIdeal.τ).loc Cert.ReferenceFnetIdeal.main_arg2)
          ∧ r.2.mem ((c.tc : Thread Cert.ReferenceFnetIdeal.nD Cert.ReferenceFnetIdeal.τ).loc Cert.ReferenceFnetIdeal.main_arg3) = m' ((c.tc : Thread Cert.ReferenceFnetIdeal.nD Cert.ReferenceFnetIdeal.τ).loc Cert.ReferenceFnetIdeal.main_arg3)
          ∧ r.2.mem ((c.tc : Thread Cert.ReferenceFnetIdeal.nD Cert.ReferenceFnetIdeal.τ).loc Cert.ReferenceFnetIdeal.main_arg4) = m' ((c.tc : Thread Cert.ReferenceFnetIdeal.nD Cert.ReferenceFnetIdeal.τ).loc Cert.ReferenceFnetIdeal.main_arg4))

def preserves_KernelLong_KernelLongIdeal : Prop :=
  True

def algebraic_KernelLongIdeal_ReferenceLongIdeal_pre_finite_long [hKernelLongIdeal : Cert.KernelLongIdeal.Facts] [hReferenceLongIdeal : Cert.ReferenceLongIdeal.Facts] [hPre_finite_long : Cert.Pre_finite_long.Facts] : Prop :=
  ∀ (m : (ℓ : Loc Cert.KernelLongIdeal.nD Cert.KernelLongIdeal.τ Cert.KernelLongIdeal.sig) → Buf (Elt Ideal) ℓ) (g : Dev Cert.KernelLongIdeal.nD → PrngReg)
    (m' : (ℓ : Loc Cert.ReferenceLongIdeal.nD Cert.ReferenceLongIdeal.τ Cert.ReferenceLongIdeal.sig) → Buf (Elt Ideal) ℓ) (g' : Dev Cert.ReferenceLongIdeal.nD → PrngReg), Pre_KernelLongIdeal_finite_long m →
    (∀ c : Dev Cert.KernelLongIdeal.nD,
      m' ((c.tc : Thread Cert.ReferenceLongIdeal.nD Cert.ReferenceLongIdeal.τ).loc Cert.ReferenceLongIdeal.main_arg0) = m ((c.tc : Thread Cert.KernelLongIdeal.nD Cert.KernelLongIdeal.τ).loc Cert.KernelLongIdeal.main_arg0)
      ∧ m' ((c.tc : Thread Cert.ReferenceLongIdeal.nD Cert.ReferenceLongIdeal.τ).loc Cert.ReferenceLongIdeal.main_arg1) = m ((c.tc : Thread Cert.KernelLongIdeal.nD Cert.KernelLongIdeal.τ).loc Cert.KernelLongIdeal.main_arg1)
      ∧ m' ((c.tc : Thread Cert.ReferenceLongIdeal.nD Cert.ReferenceLongIdeal.τ).loc Cert.ReferenceLongIdeal.main_arg2) = m ((c.tc : Thread Cert.KernelLongIdeal.nD Cert.KernelLongIdeal.τ).loc Cert.KernelLongIdeal.main_arg2)
      ∧ m' ((c.tc : Thread Cert.ReferenceLongIdeal.nD Cert.ReferenceLongIdeal.τ).loc Cert.ReferenceLongIdeal.main_arg3) = m ((c.tc : Thread Cert.KernelLongIdeal.nD Cert.KernelLongIdeal.τ).loc Cert.KernelLongIdeal.main_arg3)
      ∧ m' ((c.tc : Thread Cert.ReferenceLongIdeal.nD Cert.ReferenceLongIdeal.τ).loc Cert.ReferenceLongIdeal.main_arg4) = m ((c.tc : Thread Cert.KernelLongIdeal.nD Cert.KernelLongIdeal.τ).loc Cert.KernelLongIdeal.main_arg4)) →
    ∃ (v0 : (c : Dev Cert.KernelLongIdeal.nD) → Buf (Elt Ideal) ((c.tc : Thread Cert.KernelLongIdeal.nD Cert.KernelLongIdeal.τ).loc Cert.KernelLongIdeal.main_v0)),
      θ_run (Cert.KernelLongIdeal.defs (F := Ideal)) (onTc (τ := Cert.KernelLongIdeal.τ) (Cert.KernelLongIdeal.main (F := Ideal))) ⟨m, fun _ => 0, g⟩ (fun r => ∀ c : Dev Cert.KernelLongIdeal.nD,
          r.2.mem ((c.tc : Thread Cert.KernelLongIdeal.nD Cert.KernelLongIdeal.τ).loc Cert.KernelLongIdeal.main_v0) = v0 c
          ∧ r.2.mem ((c.tc : Thread Cert.KernelLongIdeal.nD Cert.KernelLongIdeal.τ).loc Cert.KernelLongIdeal.main_arg0) = m ((c.tc : Thread Cert.KernelLongIdeal.nD Cert.KernelLongIdeal.τ).loc Cert.KernelLongIdeal.main_arg0)
          ∧ r.2.mem ((c.tc : Thread Cert.KernelLongIdeal.nD Cert.KernelLongIdeal.τ).loc Cert.KernelLongIdeal.main_arg1) = m ((c.tc : Thread Cert.KernelLongIdeal.nD Cert.KernelLongIdeal.τ).loc Cert.KernelLongIdeal.main_arg1)
          ∧ r.2.mem ((c.tc : Thread Cert.KernelLongIdeal.nD Cert.KernelLongIdeal.τ).loc Cert.KernelLongIdeal.main_arg2) = m ((c.tc : Thread Cert.KernelLongIdeal.nD Cert.KernelLongIdeal.τ).loc Cert.KernelLongIdeal.main_arg2)
          ∧ r.2.mem ((c.tc : Thread Cert.KernelLongIdeal.nD Cert.KernelLongIdeal.τ).loc Cert.KernelLongIdeal.main_arg3) = m ((c.tc : Thread Cert.KernelLongIdeal.nD Cert.KernelLongIdeal.τ).loc Cert.KernelLongIdeal.main_arg3)
          ∧ r.2.mem ((c.tc : Thread Cert.KernelLongIdeal.nD Cert.KernelLongIdeal.τ).loc Cert.KernelLongIdeal.main_arg4) = m ((c.tc : Thread Cert.KernelLongIdeal.nD Cert.KernelLongIdeal.τ).loc Cert.KernelLongIdeal.main_arg4))
      ∧ θ_run (Cert.ReferenceLongIdeal.defs (F := Ideal)) (onTc (τ := Cert.ReferenceLongIdeal.τ) (Cert.ReferenceLongIdeal.main (F := Ideal))) ⟨m', fun _ => 0, g'⟩ (fun r => ∀ c : Dev Cert.ReferenceLongIdeal.nD,
          r.2.mem ((c.tc : Thread Cert.ReferenceLongIdeal.nD Cert.ReferenceLongIdeal.τ).loc Cert.ReferenceLongIdeal.main_v10) = v0 c
          ∧ r.2.mem ((c.tc : Thread Cert.ReferenceLongIdeal.nD Cert.ReferenceLongIdeal.τ).loc Cert.ReferenceLongIdeal.main_arg0) = m' ((c.tc : Thread Cert.ReferenceLongIdeal.nD Cert.ReferenceLongIdeal.τ).loc Cert.ReferenceLongIdeal.main_arg0)
          ∧ r.2.mem ((c.tc : Thread Cert.ReferenceLongIdeal.nD Cert.ReferenceLongIdeal.τ).loc Cert.ReferenceLongIdeal.main_arg1) = m' ((c.tc : Thread Cert.ReferenceLongIdeal.nD Cert.ReferenceLongIdeal.τ).loc Cert.ReferenceLongIdeal.main_arg1)
          ∧ r.2.mem ((c.tc : Thread Cert.ReferenceLongIdeal.nD Cert.ReferenceLongIdeal.τ).loc Cert.ReferenceLongIdeal.main_arg2) = m' ((c.tc : Thread Cert.ReferenceLongIdeal.nD Cert.ReferenceLongIdeal.τ).loc Cert.ReferenceLongIdeal.main_arg2)
          ∧ r.2.mem ((c.tc : Thread Cert.ReferenceLongIdeal.nD Cert.ReferenceLongIdeal.τ).loc Cert.ReferenceLongIdeal.main_arg3) = m' ((c.tc : Thread Cert.ReferenceLongIdeal.nD Cert.ReferenceLongIdeal.τ).loc Cert.ReferenceLongIdeal.main_arg3)
          ∧ r.2.mem ((c.tc : Thread Cert.ReferenceLongIdeal.nD Cert.ReferenceLongIdeal.τ).loc Cert.ReferenceLongIdeal.main_arg4) = m' ((c.tc : Thread Cert.ReferenceLongIdeal.nD Cert.ReferenceLongIdeal.τ).loc Cert.ReferenceLongIdeal.main_arg4))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelMoe : Cert.KernelMoe.Facts) (hKernelMoeIdeal : Cert.KernelMoeIdeal.Facts) (hReferenceMoeIdeal : Cert.ReferenceMoeIdeal.Facts) (hKernelFinal : Cert.KernelFinal.Facts) (hKernelFinalIdeal : Cert.KernelFinalIdeal.Facts) (hReferenceFinalIdeal : Cert.ReferenceFinalIdeal.Facts) (hKernelMod : Cert.KernelMod.Facts) (hKernelModIdeal : Cert.KernelModIdeal.Facts) (hReferenceModIdeal : Cert.ReferenceModIdeal.Facts) (hKernelDisc : Cert.KernelDisc.Facts) (hKernelDiscIdeal : Cert.KernelDiscIdeal.Facts) (hReferenceDiscIdeal : Cert.ReferenceDiscIdeal.Facts) (hKernelFw : Cert.KernelFw.Facts) (hKernelFwIdeal : Cert.KernelFwIdeal.Facts) (hReferenceFwIdeal : Cert.ReferenceFwIdeal.Facts) (hKernelFnet : Cert.KernelFnet.Facts) (hKernelFnetIdeal : Cert.KernelFnetIdeal.Facts) (hReferenceFnetIdeal : Cert.ReferenceFnetIdeal.Facts) (hKernelLong : Cert.KernelLong.Facts) (hKernelLongIdeal : Cert.KernelLongIdeal.Facts) (hReferenceLongIdeal : Cert.ReferenceLongIdeal.Facts) (hPre_tame : Cert.Pre_tame.Facts) (hPre_finite : Cert.Pre_finite.Facts) (hPre_finite_long : Cert.Pre_finite_long.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelMoe (hKernelMoe := hKernelMoe)
    ∧ quiescent_KernelMoeIdeal (hKernelMoeIdeal := hKernelMoeIdeal)
    ∧ quiescent_ReferenceMoeIdeal (hReferenceMoeIdeal := hReferenceMoeIdeal)
    ∧ quiescent_KernelFinal (hKernelFinal := hKernelFinal)
    ∧ quiescent_KernelFinalIdeal (hKernelFinalIdeal := hKernelFinalIdeal)
    ∧ quiescent_ReferenceFinalIdeal (hReferenceFinalIdeal := hReferenceFinalIdeal)
    ∧ quiescent_KernelMod (hKernelMod := hKernelMod)
    ∧ quiescent_KernelModIdeal (hKernelModIdeal := hKernelModIdeal)
    ∧ quiescent_ReferenceModIdeal (hReferenceModIdeal := hReferenceModIdeal)
    ∧ quiescent_KernelDisc (hKernelDisc := hKernelDisc)
    ∧ quiescent_KernelDiscIdeal (hKernelDiscIdeal := hKernelDiscIdeal)
    ∧ quiescent_ReferenceDiscIdeal (hReferenceDiscIdeal := hReferenceDiscIdeal)
    ∧ quiescent_KernelFw (hKernelFw := hKernelFw)
    ∧ quiescent_KernelFwIdeal (hKernelFwIdeal := hKernelFwIdeal)
    ∧ quiescent_ReferenceFwIdeal (hReferenceFwIdeal := hReferenceFwIdeal)
    ∧ quiescent_KernelFnet (hKernelFnet := hKernelFnet)
    ∧ quiescent_KernelFnetIdeal (hKernelFnetIdeal := hKernelFnetIdeal)
    ∧ quiescent_KernelFnetIdeal_pre_finite (hKernelFnetIdeal := hKernelFnetIdeal) (hPre_finite := hPre_finite)
    ∧ quiescent_ReferenceFnetIdeal (hReferenceFnetIdeal := hReferenceFnetIdeal)
    ∧ quiescent_ReferenceFnetIdeal_pre_finite (hReferenceFnetIdeal := hReferenceFnetIdeal) (hPre_finite := hPre_finite)
    ∧ quiescent_KernelLong (hKernelLong := hKernelLong)
    ∧ quiescent_KernelLongIdeal (hKernelLongIdeal := hKernelLongIdeal)
    ∧ quiescent_KernelLongIdeal_pre_finite_long (hKernelLongIdeal := hKernelLongIdeal) (hPre_finite_long := hPre_finite_long)
    ∧ quiescent_ReferenceLongIdeal (hReferenceLongIdeal := hReferenceLongIdeal)
    ∧ quiescent_ReferenceLongIdeal_pre_finite_long (hReferenceLongIdeal := hReferenceLongIdeal) (hPre_finite_long := hPre_finite_long)
    ∧ preserves_Kernel_KernelIdeal
    ∧ algebraic_KernelIdeal_ReferenceIdeal_pre_tame (hKernelIdeal := hKernelIdeal) (hReferenceIdeal := hReferenceIdeal) (hPre_tame := hPre_tame)
    ∧ preserves_KernelIn_KernelInIdeal
    ∧ algebraic_KernelInIdeal_ReferenceInIdeal (hKernelInIdeal := hKernelInIdeal) (hReferenceInIdeal := hReferenceInIdeal)
    ∧ preserves_KernelMoe_KernelMoeIdeal
    ∧ algebraic_KernelMoeIdeal_ReferenceMoeIdeal (hKernelMoeIdeal := hKernelMoeIdeal) (hReferenceMoeIdeal := hReferenceMoeIdeal)
    ∧ preserves_KernelFinal_KernelFinalIdeal
    ∧ algebraic_KernelFinalIdeal_ReferenceFinalIdeal (hKernelFinalIdeal := hKernelFinalIdeal) (hReferenceFinalIdeal := hReferenceFinalIdeal)
    ∧ preserves_KernelMod_KernelModIdeal
    ∧ algebraic_KernelModIdeal_ReferenceModIdeal (hKernelModIdeal := hKernelModIdeal) (hReferenceModIdeal := hReferenceModIdeal)
    ∧ preserves_KernelDisc_KernelDiscIdeal
    ∧ algebraic_KernelDiscIdeal_ReferenceDiscIdeal (hKernelDiscIdeal := hKernelDiscIdeal) (hReferenceDiscIdeal := hReferenceDiscIdeal)
    ∧ preserves_KernelFw_KernelFwIdeal
    ∧ algebraic_KernelFwIdeal_ReferenceFwIdeal (hKernelFwIdeal := hKernelFwIdeal) (hReferenceFwIdeal := hReferenceFwIdeal)
    ∧ preserves_KernelFnet_KernelFnetIdeal
    ∧ algebraic_KernelFnetIdeal_ReferenceFnetIdeal_pre_finite (hKernelFnetIdeal := hKernelFnetIdeal) (hReferenceFnetIdeal := hReferenceFnetIdeal) (hPre_finite := hPre_finite)
    ∧ preserves_KernelLong_KernelLongIdeal
    ∧ algebraic_KernelLongIdeal_ReferenceLongIdeal_pre_finite_long (hKernelLongIdeal := hKernelLongIdeal) (hReferenceLongIdeal := hReferenceLongIdeal) (hPre_finite_long := hPre_finite_long)
-- ==== Pre_finite.lean ====
abbrev S16x256x256 : Shape := ⟨3, ![16, 256, 256]⟩
abbrev S256x256 : Shape := ⟨2, ![256, 256]⟩
abbrev S_ : Shape := ⟨0, ![]⟩

class Facts : Prop where
  bitsLt_bf16_f32 : FTy.bits .bf16 < FTy.bits .f32
  bcast_S_S16x256x256 : S_.BroadcastsInDim S16x256x256 (![] : Fin 0 → Fin S16x256x256.rank)
  bcast_S_S256x256 : S_.BroadcastsInDim S256x256 (![] : Fin 0 → Fin S256x256.rank)

variable [Facts]

def fn {F : FTy → Type} [FloatOps F] (main_arg0 : FVec F S16x256x256 .bf16) (main_arg1 : FVec F S256x256 .f32) (main_arg2 : FVec F S256x256 .f32) (main_arg3 : FVec F S256x256 .bf16) (main_arg4 : FVec F S256x256 .bf16) : IVec S16x256x256 1 × IVec S256x256 1 × IVec S256x256 1 × IVec S256x256 1 × IVec S256x256 1 :=
  let main_v0 : FVec F S16x256x256 .f32 := (extf .f32 · bitsLt_bf16_f32) main_arg0
  let main_v1 : FVec F S16x256x256 .f32 := Host.absf main_v0
  let main_cst : FVec F S_ .f32 := constant S_ .f32 0x7F800000#32
  let main_v2 : FVec F S16x256x256 .f32 := broadcastInDim S16x256x256 ![] bcast_S_S16x256x256 main_cst
  let main_v3 : IVec S16x256x256 1 := cmpf .olt main_v1 main_v2
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_v7 : FVec F S256x256 .f32 := Host.absf main_arg2
  let main_cst_1 : FVec F S_ .f32 := constant S_ .f32 0x7F800000#32
  let main_v8 : FVec F S256x256 .f32 := broadcastInDim S256x256 ![] bcast_S_S256x256 main_cst_1
  let main_v9 : IVec S256x256 1 := cmpf .olt main_v7 main_v8
  let main_v10 : FVec F S256x256 .f32 := (extf .f32 · bitsLt_bf16_f32) main_arg3
  let main_v11 : FVec F S256x256 .f32 := Host.absf main_v10
  let main_cst_2 : FVec F S_ .f32 := constant S_ .f32 0x7F800000#32
  let main_v12 : FVec F S256x256 .f32 := broadcastInDim S256x256 ![] bcast_S_S256x256 main_cst_2
  let main_v13 : IVec S256x256 1 := cmpf .olt main_v11 main_v12
  let main_v14 : FVec F S256x256 .f32 := (extf .f32 · bitsLt_bf16_f32) main_arg4
  let main_v15 : FVec F S256x256 .f32 := Host.absf main_v14
  let main_cst_3 : FVec F S_ .f32 := constant S_ .f32 0x7F800000#32
  let main_v16 : FVec F S256x256 .f32 := broadcastInDim S256x256 ![] bcast_S_S256x256 main_cst_3
  let main_v17 : IVec S256x256 1 := cmpf .olt main_v15 main_v16
  (main_v3, main_v6, main_v9, main_v13, main_v17)
-- ==== Pre_finite_long.lean ====
abbrev S2x1024x256 : Shape := ⟨3, ![2, 1024, 256]⟩
abbrev S1024x1024 : Shape := ⟨2, ![1024, 1024]⟩
abbrev S256x256 : Shape := ⟨2, ![256, 256]⟩
abbrev S_ : Shape := ⟨0, ![]⟩

class Facts : Prop where
  bitsLt_bf16_f32 : FTy.bits .bf16 < FTy.bits .f32
  bcast_S_S2x1024x256 : S_.BroadcastsInDim S2x1024x256 (![] : Fin 0 → Fin S2x1024x256.rank)
  bcast_S_S1024x1024 : S_.BroadcastsInDim S1024x1024 (![] : Fin 0 → Fin S1024x1024.rank)
  bcast_S_S256x256 : S_.BroadcastsInDim S256x256 (![] : Fin 0 → Fin S256x256.rank)

variable [Facts]

def fn {F : FTy → Type} [FloatOps F] (main_arg0 : FVec F S2x1024x256 .bf16) (main_arg1 : FVec F S1024x1024 .f32) (main_arg2 : FVec F S1024x1024 .f32) (main_arg3 : FVec F S256x256 .bf16) (main_arg4 : FVec F S256x256 .bf16) : IVec S2x1024x256 1 × IVec S1024x1024 1 × IVec S1024x1024 1 × IVec S256x256 1 × IVec S256x256 1 :=
  let main_v0 : FVec F S2x1024x256 .f32 := (extf .f32 · bitsLt_bf16_f32) main_arg0
  let main_v1 : FVec F S2x1024x256 .f32 := Host.absf main_v0
  let main_cst : FVec F S_ .f32 := constant S_ .f32 0x7F800000#32
  let main_v2 : FVec F S2x1024x256 .f32 := broadcastInDim S2x1024x256 ![] bcast_S_S2x1024x256 main_cst
  let main_v3 : IVec S2x1024x256 1 := cmpf .olt main_v1 main_v2
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_v7 : FVec F S1024x1024 .f32 := Host.absf main_arg2
  let main_cst_1 : FVec F S_ .f32 := constant S_ .f32 0x7F800000#32
  let main_v8 : FVec F S1024x1024 .f32 := broadcastInDim S1024x1024 ![] bcast_S_S1024x1024 main_cst_1
  let main_v9 : IVec S1024x1024 1 := cmpf .olt main_v7 main_v8
  let main_v10 : FVec F S256x256 .f32 := (extf .f32 · bitsLt_bf16_f32) main_arg3
  let main_v11 : FVec F S256x256 .f32 := Host.absf main_v10
  let main_cst_2 : FVec F S_ .f32 := constant S_ .f32 0x7F800000#32
  let main_v12 : FVec F S256x256 .f32 := broadcastInDim S256x256 ![] bcast_S_S256x256 main_cst_2
  let main_v13 : IVec S256x256 1 := cmpf .olt main_v11 main_v12
  let main_v14 : FVec F S256x256 .f32 := (extf .f32 · bitsLt_bf16_f32) main_arg4
  let main_v15 : FVec F S256x256 .f32 := Host.absf main_v14
  let main_cst_3 : FVec F S_ .f32 := constant S_ .f32 0x7F800000#32
  let main_v16 : FVec F S256x256 .f32 := broadcastInDim S256x256 ![] bcast_S_S256x256 main_cst_3
  let main_v17 : IVec S256x256 1 := cmpf .olt main_v15 main_v16
  (main_v3, main_v6, main_v9, main_v13, main_v17)
-- ==== Pre_tame.lean ====
abbrev S3x2048x768 : Shape := ⟨3, ![3, 2048, 768]⟩
abbrev S3x8x256x256 : Shape := ⟨4, ![3, 8, 256, 256]⟩
abbrev S16x256x1024 : Shape := ⟨3, ![16, 256, 1024]⟩
abbrev S2x1024x1024 : Shape := ⟨3, ![2, 1024, 1024]⟩
abbrev S1024x1024 : Shape := ⟨2, ![1024, 1024]⟩
abbrev S24x6144 : Shape := ⟨2, ![24, 6144]⟩
abbrev S768x768 : Shape := ⟨2, ![768, 768]⟩
abbrev S1024 : Shape := ⟨1, ![1024]⟩
abbrev S1024x32 : Shape := ⟨2, ![1024, 32]⟩
abbrev S32 : Shape := ⟨1, ![32]⟩
abbrev S_ : Shape := ⟨0, ![]⟩

class Facts : Prop where
  bcast_S_S3x2048x768 : S_.BroadcastsInDim S3x2048x768 (![] : Fin 0 → Fin S3x2048x768.rank)
  bitsLt_bf16_f32 : FTy.bits .bf16 < FTy.bits .f32
  bcast_S_S3x8x256x256 : S_.BroadcastsInDim S3x8x256x256 (![] : Fin 0 → Fin S3x8x256x256.rank)
  bcast_S_S16x256x1024 : S_.BroadcastsInDim S16x256x1024 (![] : Fin 0 → Fin S16x256x1024.rank)
  bcast_S_S2x1024x1024 : S_.BroadcastsInDim S2x1024x1024 (![] : Fin 0 → Fin S2x1024x1024.rank)
  bcast_S_S1024x1024 : S_.BroadcastsInDim S1024x1024 (![] : Fin 0 → Fin S1024x1024.rank)
  bcast_S_S24x6144 : S_.BroadcastsInDim S24x6144 (![] : Fin 0 → Fin S24x6144.rank)
  bcast_S_S768x768 : S_.BroadcastsInDim S768x768 (![] : Fin 0 → Fin S768x768.rank)
  bcast_S_S1024 : S_.BroadcastsInDim S1024 (![] : Fin 0 → Fin S1024.rank)
  bcast_S_S1024x32 : S_.BroadcastsInDim S1024x32 (![] : Fin 0 → Fin S1024x32.rank)
  bcast_S_S32 : S_.BroadcastsInDim S32 (![] : Fin 0 → Fin S32.rank)

variable [Facts]

def fn_part1 {F : FTy → Type} [FloatOps F] (main_arg6 : FVec F S768x768 .f32) (main_arg7 : FVec F S1024x1024 .f32) (main_arg8 : FVec F S1024 .f32) (main_arg9 : FVec F S1024x32 .f32) (main_arg10 : FVec F S32 .f32) (main_v2 : IVec S3x2048x768 1) (main_v6 : IVec S3x8x256x256 1) (main_v9 : IVec S16x256x1024 1) (main_v12 : IVec S2x1024x1024 1) (main_v15 : IVec S1024x1024 1) (main_v16 : FVec F S24x6144 .f32) (main_v17 : FVec F S24x6144 .f32) : IVec S3x2048x768 1 × IVec S3x8x256x256 1 × IVec S16x256x1024 1 × IVec S2x1024x1024 1 × IVec S1024x1024 1 × IVec S24x6144 1 × IVec S768x768 1 × IVec S1024x1024 1 × IVec S1024 1 × IVec S1024x32 1 × IVec S32 1 :=
  let main_v18 : IVec S24x6144 1 := cmpf .olt main_v16 main_v17
  let main_v19 : FVec F S768x768 .f32 := Host.absf main_arg6
  let main_cst_5 : FVec F S_ .f32 := constant S_ .f32 0x7F800000#32
  let main_v20 : FVec F S768x768 .f32 := broadcastInDim S768x768 ![] bcast_S_S768x768 main_cst_5
  let main_v21 : IVec S768x768 1 := cmpf .olt main_v19 main_v20
  let main_v22 : FVec F S1024x1024 .f32 := Host.absf main_arg7
  let main_cst_6 : FVec F S_ .f32 := constant S_ .f32 0x7F800000#32
  let main_v23 : FVec F S1024x1024 .f32 := broadcastInDim S1024x1024 ![] bcast_S_S1024x1024 main_cst_6
  let main_v24 : IVec S1024x1024 1 := cmpf .olt main_v22 main_v23
  let main_v25 : FVec F S1024 .f32 := Host.absf main_arg8
  let main_cst_7 : FVec F S_ .f32 := constant S_ .f32 0x49800000#32
  let main_v26 : FVec F S1024 .f32 := broadcastInDim S1024 ![] bcast_S_S1024 main_cst_7
  let main_v27 : IVec S1024 1 := cmpf .olt main_v25 main_v26
  let main_v28 : FVec F S1024x32 .f32 := Host.absf main_arg9
  let main_cst_8 : FVec F S_ .f32 := constant S_ .f32 0x49800000#32
  let main_v29 : FVec F S1024x32 .f32 := broadcastInDim S1024x32 ![] bcast_S_S1024x32 main_cst_8
  let main_v30 : IVec S1024x32 1 := cmpf .olt main_v28 main_v29
  let main_v31 : FVec F S32 .f32 := Host.absf main_arg10
  let main_cst_9 : FVec F S_ .f32 := constant S_ .f32 0x49800000#32
  let main_v32 : FVec F S32 .f32 := broadcastInDim S32 ![] bcast_S_S32 main_cst_9
  let main_v33 : IVec S32 1 := cmpf .olt main_v31 main_v32
  (main_v2, main_v6, main_v9, main_v12, main_v15, main_v18, main_v21, main_v24, main_v27, main_v30, main_v33)

def fn {F : FTy → Type} [FloatOps F] (main_arg0 : FVec F S3x2048x768 .f32) (main_arg1 : FVec F S3x8x256x256 .bf16) (main_arg2 : FVec F S16x256x1024 .f32) (main_arg3 : FVec F S2x1024x1024 .f32) (main_arg4 : FVec F S1024x1024 .f32) (main_arg5 : FVec F S24x6144 .f32) (main_arg6 : FVec F S768x768 .f32) (main_arg7 : FVec F S1024x1024 .f32) (main_arg8 : FVec F S1024 .f32) (main_arg9 : FVec F S1024x32 .f32) (main_arg10 : FVec F S32 .f32) : IVec S3x2048x768 1 × IVec S3x8x256x256 1 × IVec S16x256x1024 1 × IVec S2x1024x1024 1 × IVec S1024x1024 1 × IVec S24x6144 1 × IVec S768x768 1 × IVec S1024x1024 1 × IVec S1024 1 × IVec S1024x32 1 × IVec S32 1 :=
  let main_v0 : FVec F S3x2048x768 .f32 := Host.absf main_arg0
  let main_cst : FVec F S_ .f32 := constant S_ .f32 0x7F800000#32
  let main_v1 : FVec F S3x2048x768 .f32 := broadcastInDim S3x2048x768 ![] bcast_S_S3x2048x768 main_cst
  let main_v2 : IVec S3x2048x768 1 := cmpf .olt main_v0 main_v1
  let main_v3 : FVec F S3x8x256x256 .f32 := (extf .f32 · bitsLt_bf16_f32) main_arg1
  let main_v4 : FVec F S3x8x256x256 .f32 := Host.absf main_v3
  let main_cst_0 : FVec F S_ .f32 := constant S_ .f32 0x7F800000#32
  let main_v5 : FVec F S3x8x256x256 .f32 := broadcastInDim S3x8x256x256 ![] bcast_S_S3x8x256x256 main_cst_0
  let main_v6 : IVec S3x8x256x256 1 := cmpf .olt main_v4 main_v5
  let main_v7 : FVec F S16x256x1024 .f32 := Host.absf main_arg2
  let main_cst_1 : FVec F S_ .f32 := constant S_ .f32 0x7F800000#32
  let main_v8 : FVec F S16x256x1024 .f32 := broadcastInDim S16x256x1024 ![] bcast_S_S16x256x1024 main_cst_1
  let main_v9 : IVec S16x256x1024 1 := cmpf .olt main_v7 main_v8
  let main_v10 : FVec F S2x1024x1024 .f32 := Host.absf main_arg3
  let main_cst_2 : FVec F S_ .f32 := constant S_ .f32 0x7F800000#32
  let main_v11 : FVec F S2x1024x1024 .f32 := broadcastInDim S2x1024x1024 ![] bcast_S_S2x1024x1024 main_cst_2
  let main_v12 : IVec S2x1024x1024 1 := cmpf .olt main_v10 main_v11
  let main_v13 : FVec F S1024x1024 .f32 := Host.absf main_arg4
  let main_cst_3 : FVec F S_ .f32 := constant S_ .f32 0x7F800000#32
  let main_v14 : FVec F S1024x1024 .f32 := broadcastInDim S1024x1024 ![] bcast_S_S1024x1024 main_cst_3
  let main_v15 : IVec S1024x1024 1 := cmpf .olt main_v13 main_v14
  let main_v16 : FVec F S24x6144 .f32 := Host.absf main_arg5
  let main_cst_4 : FVec F S_ .f32 := constant S_ .f32 0x49800000#32
  let main_v17 : FVec F S24x6144 .f32 := broadcastInDim S24x6144 ![] bcast_S_S24x6144 main_cst_4
  fn_part1 (F := F) main_arg6 main_arg7 main_arg8 main_arg9 main_arg10 main_v2 main_v6 main_v9 main_v12 main_v15 main_v16 main_v17
-- ==== Kernel.lean ====
abbrev S3x2048x768 : Shape := ⟨3, ![3, 2048, 768]⟩
abbrev S3x8x256x256 : Shape := ⟨4, ![3, 8, 256, 256]⟩
abbrev S16x256x1024 : Shape := ⟨3, ![16, 256, 1024]⟩
abbrev S2x1024x1024 : Shape := ⟨3, ![2, 1024, 1024]⟩
abbrev S1024x1024 : Shape := ⟨2, ![1024, 1024]⟩
abbrev S24x6144 : Shape := ⟨2, ![24, 6144]⟩
abbrev S768x768 : Shape := ⟨2, ![768, 768]⟩
abbrev S1024 : Shape := ⟨1, ![1024]⟩
abbrev S1024x32 : Shape := ⟨2, ![1024, 32]⟩
abbrev S32 : Shape := ⟨1, ![32]⟩
abbrev S2x8x256x1024 : Shape := ⟨4, ![2, 8, 256, 1024]⟩
abbrev S1x8x256x1024 : Shape := ⟨4, ![1, 8, 256, 1024]⟩
abbrev S4x256x1024 : Shape := ⟨3, ![4, 256, 1024]⟩
abbrev S3x8x1x6144 : Shape := ⟨4, ![3, 8, 1, 6144]⟩
abbrev S256x256 : Shape := ⟨2, ![256, 256]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x1024 : Shape := ⟨2, ![1, 1024]⟩
abbrev S3x8x256x1024 : Shape := ⟨4, ![3, 8, 256, 1024]⟩
abbrev S3x8x256x128 : Shape := ⟨4, ![3, 8, 256, 128]⟩
abbrev S1x1024x768 : Shape := ⟨3, ![1, 1024, 768]⟩
abbrev S1x8x128x256 : Shape := ⟨4, ![1, 8, 128, 256]⟩
abbrev S1x8x128x1024 : Shape := ⟨4, ![1, 8, 128, 1024]⟩
abbrev S4x128x1024 : Shape := ⟨3, ![4, 128, 1024]⟩
abbrev S1x8x1x6144 : Shape := ⟨4, ![1, 8, 1, 6144]⟩
abbrev S1x8x128x128 : Shape := ⟨4, ![1, 8, 128, 128]⟩
abbrev S1024x768 : Shape := ⟨2, ![1024, 768]⟩
abbrev S256x768 : Shape := ⟨2, ![256, 768]⟩
abbrev S32x768 : Shape := ⟨2, ![32, 768]⟩
abbrev S768x1024 : Shape := ⟨2, ![768, 1024]⟩
abbrev S8x128x256 : Shape := ⟨3, ![8, 128, 256]⟩
abbrev S1024x256 : Shape := ⟨2, ![1024, 256]⟩
abbrev S256x1024 : Shape := ⟨2, ![256, 1024]⟩
abbrev S8x128x1024 : Shape := ⟨3, ![8, 128, 1024]⟩
abbrev S8x1x6144 : Shape := ⟨3, ![8, 1, 6144]⟩
abbrev S8x1x1024 : Shape := ⟨3, ![8, 1, 1024]⟩
abbrev S8x128 : Shape := ⟨2, ![8, 128]⟩
abbrev S8x128x1 : Shape := ⟨3, ![8, 128, 1]⟩
abbrev S1x1x1024 : Shape := ⟨3, ![1, 1, 1024]⟩
abbrev S1024x1 : Shape := ⟨2, ![1024, 1]⟩
abbrev S8x128x128 : Shape := ⟨3, ![8, 128, 128]⟩

abbrev nBuf : Space → Nat
  | .hbm => 47
  | .vmem => 24
  | .smem => 0
  | _ => 0

abbrev bufTy : (tb : Table) → Fin (tcTables nBuf tb) → BufTy
  | .hbm, ⟨0, _⟩ => ⟨S3x2048x768, .f32⟩
  | .hbm, ⟨1, _⟩ => ⟨S3x8x256x256, .bf16⟩
  | .hbm, ⟨2, _⟩ => ⟨S16x256x1024, .f32⟩
  | .hbm, ⟨3, _⟩ => ⟨S2x1024x1024, .f32⟩
  | .hbm, ⟨4, _⟩ => ⟨S1024x1024, .f32⟩
  | .hbm, ⟨5, _⟩ => ⟨S24x6144, .f32⟩
  | .hbm, ⟨6, _⟩ => ⟨S768x768, .f32⟩
  | .hbm, ⟨7, _⟩ => ⟨S1024x1024, .f32⟩
  | .hbm, ⟨8, _⟩ => ⟨S1024, .f32⟩
  | .hbm, ⟨9, _⟩ => ⟨S1024x32, .f32⟩
  | .hbm, ⟨10, _⟩ => ⟨S32, .f32⟩
  | .hbm, ⟨11, _⟩ => ⟨S2x8x256x1024, .f32⟩
  | .hbm, ⟨12, _⟩ => ⟨S1x8x256x1024, .f32⟩
  | .hbm, ⟨13, _⟩ => ⟨S4x256x1024, .f32⟩
  | .hbm, ⟨14, _⟩ => ⟨S3x8x1x6144, .f32⟩
  | .hbm, ⟨15, _⟩ => ⟨S256x256, .i32⟩
  | .hbm, ⟨16, _⟩ => ⟨S256x256, .i32⟩
  | .hbm, ⟨17, _⟩ => ⟨S_, .i32⟩
  | .hbm, ⟨18, _⟩ => ⟨S256x256, .i32⟩
  | .hbm, ⟨19, _⟩ => ⟨S256x256, .i32⟩
  | .hbm, ⟨20, _⟩ => ⟨S_, .i32⟩
  | .hbm, ⟨21, _⟩ => ⟨S256x256, .i32⟩
  | .hbm, ⟨22, _⟩ => ⟨S256x256, .i32⟩
  | .hbm, ⟨23, _⟩ => ⟨S_, .i32⟩
  | .hbm, ⟨24, _⟩ => ⟨S256x256, .i32⟩
  | .hbm, ⟨25, _⟩ => ⟨S256x256, .i32⟩
  | .hbm, ⟨26, _⟩ => ⟨S256x256, .i32⟩
  | .hbm, ⟨27, _⟩ => ⟨S256x256, .i1⟩
  | .hbm, ⟨28, _⟩ => ⟨S256x256, .f32⟩
  | .hbm, ⟨29, _⟩ => ⟨S256x256, .bf16⟩
  | .hbm, ⟨30, _⟩ => ⟨S_, .f32⟩
  | .hbm, ⟨31, _⟩ => ⟨S1024x128, .f32⟩
  | .hbm, ⟨32, _⟩ => ⟨S_, .i32⟩
  | .hbm, ⟨33, _⟩ => ⟨S1, .i32⟩
  | .hbm, ⟨34, _⟩ => ⟨S1024x128, .f32⟩
  | .hbm, ⟨35, _⟩ => ⟨S_, .f32⟩
  | .hbm, ⟨36, _⟩ => ⟨S1x128, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S1x128, .f32⟩
  | .hbm, ⟨43, _⟩ => ⟨S1x1024, .f32⟩
  | .hbm, ⟨44, _⟩ => ⟨S3x8x256x1024, .f32⟩
  | .hbm, ⟨45, _⟩ => ⟨S3x8x256x1024, .bf16⟩
  | .hbm, ⟨46, _⟩ => ⟨S3x8x256x128, .f32⟩
  | .local _ .vmem, ⟨0, _⟩ => ⟨S1x1024x768, .f32⟩
  | .local _ .vmem, ⟨1, _⟩ => ⟨S1x1024x768, .f32⟩
  | .local _ .vmem, ⟨2, _⟩ => ⟨S1x8x128x256, .bf16⟩
  | .local _ .vmem, ⟨3, _⟩ => ⟨S1x8x128x256, .bf16⟩
  | .local _ .vmem, ⟨4, _⟩ => ⟨S1x8x128x1024, .f32⟩
  | .local _ .vmem, ⟨5, _⟩ => ⟨S1x8x128x1024, .f32⟩
  | .local _ .vmem, ⟨6, _⟩ => ⟨S1x8x128x1024, .f32⟩
  | .local _ .vmem, ⟨7, _⟩ => ⟨S1x8x128x1024, .f32⟩
  | .local _ .vmem, ⟨8, _⟩ => ⟨S4x128x1024, .f32⟩
  | .local _ .vmem, ⟨9, _⟩ => ⟨S4x128x1024, .f32⟩
  | .local _ .vmem, ⟨10, _⟩ => ⟨S1x8x1x6144, .f32⟩
  | .local _ .vmem, ⟨11, _⟩ => ⟨S1x8x1x6144, .f32⟩
  | .local _ .vmem, ⟨12, _⟩ => ⟨S768x768, .f32⟩
  | .local _ .vmem, ⟨13, _⟩ => ⟨S1024x1024, .f32⟩
  | .local _ .vmem, ⟨14, _⟩ => ⟨S1x1024, .f32⟩
  | .local _ .vmem, ⟨15, _⟩ => ⟨S1024x128, .f32⟩
  | .local _ .vmem, ⟨16, _⟩ => ⟨S1x128, .f32⟩
  | .local _ .vmem, ⟨17, _⟩ => ⟨S256x256, .bf16⟩
  | .local _ .vmem, ⟨18, _⟩ => ⟨S1x8x128x1024, .f32⟩
  | .local _ .vmem, ⟨19, _⟩ => ⟨S1x8x128x1024, .f32⟩
  | .local _ .vmem, ⟨20, _⟩ => ⟨S1x8x128x1024, .bf16⟩
  | .local _ .vmem, ⟨21, _⟩ => ⟨S1x8x128x1024, .bf16⟩
  | .local _ .vmem, ⟨22, _⟩ => ⟨S1x8x128x128, .f32⟩
  | .local _ .vmem, ⟨23, _⟩ => ⟨S1x8x128x128, .f32⟩
  | _, _ => ⟨S3x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25_0 : Ref sig .tc := ⟨.hbm, 44, rfl⟩
abbrev main_v25_1 : Ref sig .tc := ⟨.hbm, 45, rfl⟩
abbrev main_v25_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![3, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c2_i32 : BitVec 32 := 2#32
  let v1 : BitVec 1 := Scalar.cmpi .sge arg0 c2_i32
  let c1_i32_0 : BitVec 32 := 1#32
  let v2 : BitVec 32 := Scalar.select v1 c1_i32_0 arg1
  let c0_i32 : BitVec 32 := 0#32
  let c0_i32_1 : BitVec 32 := 0#32
  let c0_i32_2 : BitVec 32 := 0#32
  ![v0.toNat, c0_i32.toNat, v2.toNat, c0_i32_1.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x8x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S768x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x8x128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S3x2048x768 : Shape := ⟨3, ![3, 2048, 768]⟩
abbrev S3x8x256x256 : Shape := ⟨4, ![3, 8, 256, 256]⟩
abbrev S16x256x1024 : Shape := ⟨3, ![16, 256, 1024]⟩
abbrev S2x1024x1024 : Shape := ⟨3, ![2, 1024, 1024]⟩
abbrev S1024x1024 : Shape := ⟨2, ![1024, 1024]⟩
abbrev S24x6144 : Shape := ⟨2, ![24, 6144]⟩
abbrev S768x768 : Shape := ⟨2, ![768, 768]⟩
abbrev S1024 : Shape := ⟨1, ![1024]⟩
abbrev S1024x32 : Shape := ⟨2, ![1024, 32]⟩
abbrev S32 : Shape := ⟨1, ![32]⟩
abbrev S1x1024x1024 : Shape := ⟨3, ![1, 1024, 1024]⟩
abbrev S8x256x1024 : Shape := ⟨3, ![8, 256, 1024]⟩
abbrev S24x256x1024 : Shape := ⟨3, ![24, 256, 1024]⟩
abbrev S3x256x8x768 : Shape := ⟨4, ![3, 256, 8, 768]⟩
abbrev S3x8x256x768 : Shape := ⟨4, ![3, 8, 256, 768]⟩
abbrev S24x256x768 : Shape := ⟨3, ![24, 256, 768]⟩
abbrev S24x256x256 : Shape := ⟨3, ![24, 256, 256]⟩
abbrev S24x1024 : Shape := ⟨2, ![24, 1024]⟩
abbrev S24x1x1024 : Shape := ⟨3, ![24, 1, 1024]⟩
abbrev S_ : Shape := ⟨0, ![]⟩
abbrev S24x256 : Shape := ⟨2, ![24, 256]⟩
abbrev S24x256x1 : Shape := ⟨3, ![24, 256, 1]⟩
abbrev S1x1x1024 : Shape := ⟨3, ![1, 1, 1024]⟩
abbrev S6144x1024 : Shape := ⟨2, ![6144, 1024]⟩
abbrev S6144x32 : Shape := ⟨2, ![6144, 32]⟩
abbrev S1x32 : Shape := ⟨2, ![1, 32]⟩
abbrev S6144x4 : Shape := ⟨2, ![6144, 4]⟩
abbrev S6144 : Shape := ⟨1, ![6144]⟩
abbrev S6144x1 : Shape := ⟨2, ![6144, 1]⟩
abbrev S6144x4x1 : Shape := ⟨3, ![6144, 4, 1]⟩
abbrev S1x1x32 : Shape := ⟨3, ![1, 1, 32]⟩
abbrev S6144x4x32 : Shape := ⟨3, ![6144, 4, 32]⟩
abbrev S6144x128 : Shape := ⟨2, ![6144, 128]⟩
abbrev S3x8x256x1024 : Shape := ⟨4, ![3, 8, 256, 1024]⟩
abbrev S3x8x256x128 : Shape := ⟨4, ![3, 8, 256, 128]⟩

abbrev nBuf : Space → Nat
  | .hbm => 121
  | .vmem => 0
  | .smem => 0
  | _ => 0

abbrev bufTy : (tb : Table) → Fin (tcTables nBuf tb) → BufTy
  | .hbm, ⟨0, _⟩ => ⟨S3x2048x768, .f32⟩
  | .hbm, ⟨1, _⟩ => ⟨S3x8x256x256, .bf16⟩
  | .hbm, ⟨2, _⟩ => ⟨S16x256x1024, .f32⟩
  | .hbm, ⟨3, _⟩ => ⟨S2x1024x1024, .f32⟩
  | .hbm, ⟨4, _⟩ => ⟨S1024x1024, .f32⟩
  | .hbm, ⟨5, _⟩ => ⟨S24x6144, .f32⟩
  | .hbm, ⟨6, _⟩ => ⟨S768x768, .f32⟩
  | .hbm, ⟨7, _⟩ => ⟨S1024x1024, .f32⟩
  | .hbm, ⟨8, _⟩ => ⟨S1024, .f32⟩
  | .hbm, ⟨9, _⟩ => ⟨S1024x32, .f32⟩
  | .hbm, ⟨10, _⟩ => ⟨S32, .f32⟩
  | .hbm, ⟨11, _⟩ => ⟨S1x1024x1024, .f32⟩
  | .hbm, ⟨12, _⟩ => ⟨S2x1024x1024, .f32⟩
  | .hbm, ⟨13, _⟩ => ⟨S2x1024x1024, .f32⟩
  | .hbm, ⟨14, _⟩ => ⟨S8x256x1024, .f32⟩
  | .hbm, ⟨15, _⟩ => ⟨S24x256x1024, .f32⟩
  | .hbm, ⟨16, _⟩ => ⟨S3x256x8x768, .f32⟩
  | .hbm, ⟨17, _⟩ => ⟨S3x8x256x768, .f32⟩
  | .hbm, ⟨18, _⟩ => ⟨S24x256x768, .f32⟩
  | .hbm, ⟨19, _⟩ => ⟨S3x8x256x256, .f32⟩
  | .hbm, ⟨20, _⟩ => ⟨S24x256x256, .f32⟩
  | .hbm, ⟨21, _⟩ => ⟨S24x1024, .f32⟩
  | .hbm, ⟨22, _⟩ => ⟨S24x1x1024, .f32⟩
  | .hbm, ⟨23, _⟩ => ⟨S24x1024, .f32⟩
  | .hbm, ⟨24, _⟩ => ⟨S24x1x1024, .f32⟩
  | .hbm, ⟨25, _⟩ => ⟨S24x1024, .f32⟩
  | .hbm, ⟨26, _⟩ => ⟨S24x1x1024, .f32⟩
  | .hbm, ⟨27, _⟩ => ⟨S24x256x768, .f32⟩
  | .hbm, ⟨28, _⟩ => ⟨S24x256x768, .f32⟩
  | .hbm, ⟨29, _⟩ => ⟨S_, .f32⟩
  | .hbm, ⟨30, _⟩ => ⟨S24x256x768, .f32⟩
  | .hbm, ⟨31, _⟩ => ⟨S24x256x768, .f32⟩
  | .hbm, ⟨32, _⟩ => ⟨S24x256x768, .f32⟩
  | .hbm, ⟨33, _⟩ => ⟨S_, .f32⟩
  | .hbm, ⟨34, _⟩ => ⟨S24x256x768, .f32⟩
  | .hbm, ⟨35, _⟩ => ⟨S24x256x768, .f32⟩
  | .hbm, ⟨36, _⟩ => ⟨S24x256x768, .f32⟩
  | .hbm, ⟨37, _⟩ => ⟨S_, .f32⟩
  | .hbm, ⟨38, _⟩ => ⟨S24x256x768, .f32⟩
  | .hbm, ⟨39, _⟩ => ⟨S24x256x768, .f32⟩
  | .hbm, ⟨40, _⟩ => ⟨S_, .f32⟩
  | .hbm, ⟨41, _⟩ => ⟨S24x256x768, .f32⟩
  | .hbm, ⟨42, _⟩ => ⟨S24x256x768, .f32⟩
  | .hbm, ⟨43, _⟩ => ⟨S24x256x768, .f32⟩
  | .hbm, ⟨44, _⟩ => ⟨S24x256x768, .f32⟩
  | .hbm, ⟨45, _⟩ => ⟨S24x256x768, .f32⟩
  | .hbm, ⟨46, _⟩ => ⟨S24x256x768, .f32⟩
  | .hbm, ⟨47, _⟩ => ⟨S_, .f32⟩
  | .hbm, ⟨48, _⟩ => ⟨S24x256x768, .f32⟩
  | .hbm, ⟨49, _⟩ => ⟨S24x256x768, .f32⟩
  | .hbm, ⟨50, _⟩ => ⟨S_, .f32⟩
  | .hbm, ⟨51, _⟩ => ⟨S24x256x768, .f32⟩
  | .hbm, ⟨52, _⟩ => ⟨S24x256x768, .f32⟩
  | .hbm, ⟨53, _⟩ => ⟨S24x256x768, .f32⟩
  | .hbm, ⟨54, _⟩ => ⟨S24x256x1024, .f32⟩
  | .hbm, ⟨55, _⟩ => ⟨S24x256x1024, .f32⟩
  | .hbm, ⟨56, _⟩ => ⟨S24x256x1024, .f32⟩
  | .hbm, ⟨57, _⟩ => ⟨S24x256x1024, .f32⟩
  | .hbm, ⟨58, _⟩ => ⟨S24x256x1024, .f32⟩
  | .hbm, ⟨59, _⟩ => ⟨S24x256x1024, .f32⟩
  | .hbm, ⟨60, _⟩ => ⟨S_, .f32⟩
  | .hbm, ⟨61, _⟩ => ⟨S24x256, .f32⟩
  | .hbm, ⟨62, _⟩ => ⟨S24x256x1, .f32⟩
  | .hbm, ⟨63, _⟩ => ⟨S_, .f32⟩
  | .hbm, ⟨64, _⟩ => ⟨S24x256x1, .f32⟩
  | .hbm, ⟨65, _⟩ => ⟨S24x256x1, .f32⟩
  | .hbm, ⟨66, _⟩ => ⟨S_, .f32⟩
  | .hbm, ⟨67, _⟩ => ⟨S24x256x1, .f32⟩
  | .hbm, ⟨68, _⟩ => ⟨S24x256x1, .f32⟩
  | .hbm, ⟨69, _⟩ => ⟨S24x256x1, .f32⟩
  | .hbm, ⟨70, _⟩ => ⟨S24x256x1024, .f32⟩
  | .hbm, ⟨71, _⟩ => ⟨S24x256x1024, .f32⟩
  | .hbm, ⟨72, _⟩ => ⟨S1x1x1024, .f32⟩
  | .hbm, ⟨73, _⟩ => ⟨S24x256x1024, .f32⟩
  | .hbm, ⟨74, _⟩ => ⟨S24x256x1024, .f32⟩
  | .hbm, ⟨75, _⟩ => ⟨S_, .f32⟩
  | .hbm, ⟨76, _⟩ => ⟨S24x1x1024, .f32⟩
  | .hbm, ⟨77, _⟩ => ⟨S24x1x1024, .f32⟩
  | .hbm, ⟨78, _⟩ => ⟨S24x256x1024, .f32⟩
  | .hbm, ⟨79, _⟩ => ⟨S24x256x1024, .f32⟩
  | .hbm, ⟨80, _⟩ => ⟨S24x256x1024, .f32⟩
  | .hbm, ⟨81, _⟩ => ⟨S24x256x1024, .f32⟩
  | .hbm, ⟨82, _⟩ => ⟨S6144x1024, .f32⟩
  | .hbm, ⟨83, _⟩ => ⟨S6144x32, .f32⟩
  | .hbm, ⟨84, _⟩ => ⟨S1x32, .f32⟩
  | .hbm, ⟨85, _⟩ => ⟨S6144x32, .f32⟩
  | .hbm, ⟨86, _⟩ => ⟨S6144x32, .f32⟩
  | .hbm, ⟨87, _⟩ => ⟨S6144x4, .f32⟩
  | .hbm, ⟨88, _⟩ => ⟨S6144x4, .i32⟩
  | .hbm, ⟨89, _⟩ => ⟨S_, .f32⟩
  | .hbm, ⟨90, _⟩ => ⟨S6144, .f32⟩
  | .hbm, ⟨91, _⟩ => ⟨S_, .f32⟩
  | .hbm, ⟨92, _⟩ => ⟨S6144, .f32⟩
  | .hbm, ⟨93, _⟩ => ⟨S6144, .f32⟩
  | .hbm, ⟨94, _⟩ => ⟨S6144x1, .f32⟩
  | .hbm, ⟨95, _⟩ => ⟨S6144x4, .f32⟩
  | .hbm, ⟨96, _⟩ => ⟨S6144x4, .f32⟩
  | .hbm, ⟨97, _⟩ => ⟨S6144x4, .f32⟩
  | .hbm, ⟨98, _⟩ => ⟨S_, .f32⟩
  | .hbm, ⟨99, _⟩ => ⟨S6144, .f32⟩
  | .hbm, ⟨100, _⟩ => ⟨S6144x1, .f32⟩
  | .hbm, ⟨101, _⟩ => ⟨S6144x4, .f32⟩
  | .hbm, ⟨102, _⟩ => ⟨S6144x4, .f32⟩
  | .hbm, ⟨103, _⟩ => ⟨S6144x4x1, .i32⟩
  | .hbm, ⟨104, _⟩ => ⟨S1x1x32, .i32⟩
  | .hbm, ⟨105, _⟩ => ⟨S6144x4x32, .i32⟩
  | .hbm, ⟨106, _⟩ => ⟨S6144x4x32, .i32⟩
  | .hbm, ⟨107, _⟩ => ⟨S6144x4x32, .i1⟩
  | .hbm, ⟨108, _⟩ => ⟨S6144x4x32, .f32⟩
  | .hbm, ⟨109, _⟩ => ⟨S6144x4x1, .f32⟩
  | .hbm, ⟨110, _⟩ => ⟨S6144x4x32, .f32⟩
  | .hbm, ⟨111, _⟩ => ⟨S6144x4x32, .f32⟩
  | .hbm, ⟨112, _⟩ => ⟨S_, .f32⟩
  | .hbm, ⟨113, _⟩ => ⟨S6144x32, .f32⟩
  | .hbm, ⟨114, _⟩ => ⟨S_, .i32⟩
  | .hbm, ⟨115, _⟩ => ⟨S_, .f32⟩
  | .hbm, ⟨116, _⟩ => ⟨S6144x128, .f32⟩
  | .hbm, ⟨117, _⟩ => ⟨S3x8x256x1024, .f32⟩
  | .hbm, ⟨118, _⟩ => ⟨S24x256x1024, .bf16⟩
  | .hbm, ⟨119, _⟩ => ⟨S3x8x256x1024, .bf16⟩
  | .hbm, ⟨120, _⟩ => ⟨S3x8x256x128, .f32⟩
  | _, _ => ⟨S3x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_values : Ref sig .tc := ⟨.hbm, 87, rfl⟩
abbrev main_indices : Ref sig .tc := ⟨.hbm, 88, rfl⟩
abbrev main_cst_9 : Ref sig .tc := ⟨.hbm, 89, rfl⟩
abbrev main_v66 : Ref sig .tc := ⟨.hbm, 90, rfl⟩
abbrev main_cst_10 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_11 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_call0_v0 : Ref sig .tc := ⟨.hbm, 103, rfl⟩
abbrev main_call0_v1 : Ref sig .tc := ⟨.hbm, 104, rfl⟩
abbrev main_call0_v2 : Ref sig .tc := ⟨.hbm, 105, rfl⟩
abbrev main_call0_v3 : Ref sig .tc := ⟨.hbm, 106, rfl⟩
abbrev main_call0_v4 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_12 : Ref sig .tc := ⟨.hbm, 112, rfl⟩
abbrev main_v81 : Ref sig .tc := ⟨.hbm, 113, rfl⟩
abbrev main_c : Ref sig .tc := ⟨.hbm, 114, rfl⟩
abbrev main_call1_v0 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩

abbrev nD : Nat := 1
abbrev τ : Topo := Topo.v7x

variable {F : FTy → Type} [FloatOps F]
-- ==== KernelIn.lean ====
abbrev S16x256x1024 : Shape := ⟨3, ![16, 256, 1024]⟩
abbrev S2x1024x1024 : Shape := ⟨3, ![2, 1024, 1024]⟩
abbrev S1024x1024 : Shape := ⟨2, ![1024, 1024]⟩
abbrev S24x6144 : Shape := ⟨2, ![24, 6144]⟩
abbrev S1024 : Shape := ⟨1, ![1024]⟩
abbrev S2x8x256x1024 : Shape := ⟨4, ![2, 8, 256, 1024]⟩
abbrev S1x8x256x1024 : Shape := ⟨4, ![1, 8, 256, 1024]⟩
abbrev S4x256x1024 : Shape := ⟨3, ![4, 256, 1024]⟩
abbrev S3x8x1x6144 : Shape := ⟨4, ![3, 8, 1, 6144]⟩
abbrev S256x256 : Shape := ⟨2, ![256, 256]⟩
abbrev S_ : Shape := ⟨0, ![]⟩
abbrev S1x1024 : Shape := ⟨2, ![1, 1024]⟩
abbrev S3x2048x768 : Shape := ⟨3, ![3, 2048, 768]⟩
abbrev S3x8x256x256 : Shape := ⟨4, ![3, 8, 256, 256]⟩
abbrev S1x8x128x1024 : Shape := ⟨4, ![1, 8, 128, 1024]⟩
abbrev S4x128x1024 : Shape := ⟨3, ![4, 128, 1024]⟩
abbrev S1x8x1x6144 : Shape := ⟨4, ![1, 8, 1, 6144]⟩
abbrev S1x1024x768 : Shape := ⟨3, ![1, 1024, 768]⟩
abbrev S1x8x128x256 : Shape := ⟨4, ![1, 8, 128, 256]⟩
abbrev S8x128x1024 : Shape := ⟨3, ![8, 128, 1024]⟩
abbrev S8x1x6144 : Shape := ⟨3, ![8, 1, 6144]⟩
abbrev S8x1x1024 : Shape := ⟨3, ![8, 1, 1024]⟩
abbrev S8x128 : Shape := ⟨2, ![8, 128]⟩
abbrev S8x128x1 : Shape := ⟨3, ![8, 128, 1]⟩
abbrev S1x1x1024 : Shape := ⟨3, ![1, 1, 1024]⟩
abbrev S1024x256 : Shape := ⟨2, ![1024, 256]⟩
abbrev S8x128x256 : Shape := ⟨3, ![8, 128, 256]⟩
abbrev S1024x768 : Shape := ⟨2, ![1024, 768]⟩
abbrev S32x768 : Shape := ⟨2, ![32, 768]⟩
abbrev S256x768 : Shape := ⟨2, ![256, 768]⟩
abbrev S1x256x768 : Shape := ⟨3, ![1, 256, 768]⟩

abbrev nBuf : Space → Nat
  | .hbm => 28
  | .vmem => 15
  | .smem => 0
  | _ => 0

abbrev bufTy : (tb : Table) → Fin (tcTables nBuf tb) → BufTy
  | .hbm, ⟨0, _⟩ => ⟨S16x256x1024, .f32⟩
  | .hbm, ⟨1, _⟩ => ⟨S2x1024x1024, .f32⟩
  | .hbm, ⟨2, _⟩ => ⟨S1024x1024, .f32⟩
  | .hbm, ⟨3, _⟩ => ⟨S24x6144, .f32⟩
  | .hbm, ⟨4, _⟩ => ⟨S1024, .f32⟩
  | .hbm, ⟨5, _⟩ => ⟨S1024x1024, .f32⟩
  | .hbm, ⟨6, _⟩ => ⟨S2x8x256x1024, .f32⟩
  | .hbm, ⟨7, _⟩ => ⟨S1x8x256x1024, .f32⟩
  | .hbm, ⟨8, _⟩ => ⟨S4x256x1024, .f32⟩
  | .hbm, ⟨9, _⟩ => ⟨S3x8x1x6144, .f32⟩
  | .hbm, ⟨10, _⟩ => ⟨S256x256, .i32⟩
  | .hbm, ⟨11, _⟩ => ⟨S256x256, .i32⟩
  | .hbm, ⟨12, _⟩ => ⟨S_, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S_, .i32⟩
  | .hbm, ⟨19, _⟩ => ⟨S256x256, .i32⟩
  | .hbm, ⟨20, _⟩ => ⟨S256x256, .i32⟩
  | .hbm, ⟨21, _⟩ => ⟨S256x256, .i32⟩
  | .hbm, ⟨22, _⟩ => ⟨S256x256, .i1⟩
  | .hbm, ⟨23, _⟩ => ⟨S256x256, .f32⟩
  | .hbm, ⟨24, _⟩ => ⟨S256x256, .bf16⟩
  | .hbm, ⟨25, _⟩ => ⟨S1x1024, .f32⟩
  | .hbm, ⟨26, _⟩ => ⟨S3x2048x768, .bf16⟩
  | .hbm, ⟨27, _⟩ => ⟨S3x8x256x256, .bf16⟩
  | .local _ .vmem, ⟨0, _⟩ => ⟨S1x8x128x1024, .f32⟩
  | .local _ .vmem, ⟨1, _⟩ => ⟨S1x8x128x1024, .f32⟩
  | .local _ .vmem, ⟨2, _⟩ => ⟨S1x8x128x1024, .f32⟩
  | .local _ .vmem, ⟨3, _⟩ => ⟨S1x8x128x1024, .f32⟩
  | .local _ .vmem, ⟨4, _⟩ => ⟨S4x128x1024, .f32⟩
  | .local _ .vmem, ⟨5, _⟩ => ⟨S4x128x1024, .f32⟩
  | .local _ .vmem, ⟨6, _⟩ => ⟨S1x8x1x6144, .f32⟩
  | .local _ .vmem, ⟨7, _⟩ => ⟨S1x8x1x6144, .f32⟩
  | .local _ .vmem, ⟨8, _⟩ => ⟨S1x1024, .f32⟩
  | .local _ .vmem, ⟨9, _⟩ => ⟨S1024x1024, .f32⟩
  | .local _ .vmem, ⟨10, _⟩ => ⟨S256x256, .bf16⟩
  | .local _ .vmem, ⟨11, _⟩ => ⟨S1x1024x768, .bf16⟩
  | .local _ .vmem, ⟨12, _⟩ => ⟨S1x1024x768, .bf16⟩
  | .local _ .vmem, ⟨13, _⟩ => ⟨S1x8x128x256, .bf16⟩
  | .local _ .vmem, ⟨14, _⟩ => ⟨S1x8x128x256, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![3, 2], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c2_i32 : BitVec 32 := 2#32
  let v1 : BitVec 1 := Scalar.cmpi .sge arg0 c2_i32
  let c1_i32_0 : BitVec 32 := 1#32
  let v2 : BitVec 32 := Scalar.select v1 c1_i32_0 arg1
  let c0_i32 : BitVec 32 := 0#32
  let c0_i32_1 : BitVec 32 := 0#32
  let c0_i32_2 : BitVec 32 := 0#32
  ![v0.toNat, c0_i32.toNat, v2.toNat, c0_i32_1.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x8x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceInIdeal.lean ====
abbrev S16x256x1024 : Shape := ⟨3, ![16, 256, 1024]⟩
abbrev S2x1024x1024 : Shape := ⟨3, ![2, 1024, 1024]⟩
abbrev S1024x1024 : Shape := ⟨2, ![1024, 1024]⟩
abbrev S24x6144 : Shape := ⟨2, ![24, 6144]⟩
abbrev S1024 : Shape := ⟨1, ![1024]⟩
abbrev S1x1024x1024 : Shape := ⟨3, ![1, 1024, 1024]⟩
abbrev S8x256x1024 : Shape := ⟨3, ![8, 256, 1024]⟩
abbrev S24x256x1024 : Shape := ⟨3, ![24, 256, 1024]⟩
abbrev S24x1024 : Shape := ⟨2, ![24, 1024]⟩
abbrev S24x1x1024 : Shape := ⟨3, ![24, 1, 1024]⟩
abbrev S_ : Shape := ⟨0, ![]⟩
abbrev S24x256 : Shape := ⟨2, ![24, 256]⟩
abbrev S24x256x1 : Shape := ⟨3, ![24, 256, 1]⟩
abbrev S1x1x1024 : Shape := ⟨3, ![1, 1, 1024]⟩
abbrev S24x256x768 : Shape := ⟨3, ![24, 256, 768]⟩
abbrev S3x8x256x768 : Shape := ⟨4, ![3, 8, 256, 768]⟩
abbrev S3x256x8x768 : Shape := ⟨4, ![3, 256, 8, 768]⟩
abbrev S3x2048x768 : Shape := ⟨3, ![3, 2048, 768]⟩
abbrev S24x256x256 : Shape := ⟨3, ![24, 256, 256]⟩
abbrev S3x8x256x256 : Shape := ⟨4, ![3, 8, 256, 256]⟩

abbrev nBuf : Space → Nat
  | .hbm => 47
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S2x1024x1024, .f32⟩
  | .hbm, ⟨2, _⟩ => ⟨S1024x1024, .f32⟩
  | .hbm, ⟨3, _⟩ => ⟨S24x6144, .f32⟩
  | .hbm, ⟨4, _⟩ => ⟨S1024, .f32⟩
  | .hbm, ⟨5, _⟩ => ⟨S1024x1024, .f32⟩
  | .hbm, ⟨6, _⟩ => ⟨S1x1024x1024, .f32⟩
  | .hbm, ⟨7, _⟩ => ⟨S2x1024x1024, .f32⟩
  | .hbm, ⟨8, _⟩ => ⟨S2x1024x1024, .f32⟩
  | .hbm, ⟨9, _⟩ => ⟨S8x256x1024, .f32⟩
  | .hbm, ⟨10, _⟩ => ⟨S24x256x1024, .f32⟩
  | .hbm, ⟨11, _⟩ => ⟨S24x1024, .f32⟩
  | .hbm, ⟨12, _⟩ => ⟨S24x1x1024, .f32⟩
  | .hbm, ⟨13, _⟩ => ⟨S24x1024, .f32⟩
  | .hbm, ⟨14, _⟩ => ⟨S24x1x1024, .f32⟩
  | .hbm, ⟨15, _⟩ => ⟨S24x256x1024, .f32⟩
  | .hbm, ⟨16, _⟩ => ⟨S_, .f32⟩
  | .hbm, ⟨17, _⟩ => ⟨S24x256, .f32⟩
  | .hbm, ⟨18, _⟩ => ⟨S24x256x1, .f32⟩
  | .hbm, ⟨19, _⟩ => ⟨S_, .f32⟩
  | .hbm, ⟨20, _⟩ => ⟨S24x256x1, .f32⟩
  | .hbm, ⟨21, _⟩ => ⟨S24x256x1, .f32⟩
  | .hbm, ⟨22, _⟩ => ⟨S_, .f32⟩
  | .hbm, ⟨23, _⟩ => ⟨S24x256x1, .f32⟩
  | .hbm, ⟨24, _⟩ => ⟨S24x256x1, .f32⟩
  | .hbm, ⟨25, _⟩ => ⟨S24x256x1, .f32⟩
  | .hbm, ⟨26, _⟩ => ⟨S24x256x1024, .f32⟩
  | .hbm, ⟨27, _⟩ => ⟨S24x256x1024, .f32⟩
  | .hbm, ⟨28, _⟩ => ⟨S1x1x1024, .f32⟩
  | .hbm, ⟨29, _⟩ => ⟨S24x256x1024, .f32⟩
  | .hbm, ⟨30, _⟩ => ⟨S24x256x1024, .f32⟩
  | .hbm, ⟨31, _⟩ => ⟨S_, .f32⟩
  | .hbm, ⟨32, _⟩ => ⟨S24x1x1024, .f32⟩
  | .hbm, ⟨33, _⟩ => ⟨S24x1x1024, .f32⟩
  | .hbm, ⟨34, _⟩ => ⟨S24x256x1024, .f32⟩
  | .hbm, ⟨35, _⟩ => ⟨S24x256x1024, .f32⟩
  | .hbm, ⟨36, _⟩ => ⟨S24x256x1024, .f32⟩
  | .hbm, ⟨37, _⟩ => ⟨S24x256x1024, .f32⟩
  | .hbm, ⟨38, _⟩ => ⟨S24x256x1024, .f32⟩
  | .hbm, ⟨39, _⟩ => ⟨S24x256x768, .f32⟩
  | .hbm, ⟨40, _⟩ => ⟨S3x8x256x768, .f32⟩
  | .hbm, ⟨41, _⟩ => ⟨S3x256x8x768, .f32⟩
  | .hbm, ⟨42, _⟩ => ⟨S3x2048x768, .f32⟩
  | .hbm, ⟨43, _⟩ => ⟨S24x256x256, .f32⟩
  | .hbm, ⟨44, _⟩ => ⟨S3x8x256x256, .f32⟩
  | .hbm, ⟨45, _⟩ => ⟨S3x2048x768, .bf16⟩
  | .hbm, ⟨46, _⟩ => ⟨S3x8x256x256, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== KernelMoe.lean ====
abbrev S6144x1024 : Shape := ⟨2, ![6144, 1024]⟩
abbrev S6144x128 : Shape := ⟨2, ![6144, 128]⟩
abbrev S32x1024x1024 : Shape := ⟨3, ![32, 1024, 1024]⟩
abbrev S32x1024 : Shape := ⟨2, ![32, 1024]⟩
abbrev S32x1x1024 : Shape := ⟨3, ![32, 1, 1024]⟩
abbrev S1024x1024 : Shape := ⟨2, ![1024, 1024]⟩
abbrev S1024x128 : Shape := ⟨2, ![1024, 128]⟩
abbrev S1x1024x1024 : Shape := ⟨3, ![1, 1024, 1024]⟩
abbrev S1x1x1024 : Shape := ⟨3, ![1, 1, 1024]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩

abbrev nBuf : Space → Nat
  | .hbm => 12
  | .vmem => 18
  | .smem => 0
  | _ => 0

abbrev bufTy : (tb : Table) → Fin (tcTables nBuf tb) → BufTy
  | .hbm, ⟨0, _⟩ => ⟨S6144x1024, .bf16⟩
  | .hbm, ⟨1, _⟩ => ⟨S6144x128, .f32⟩
  | .hbm, ⟨2, _⟩ => ⟨S32x1024x1024, .f32⟩
  | .hbm, ⟨3, _⟩ => ⟨S32x1024, .f32⟩
  | .hbm, ⟨4, _⟩ => ⟨S32x1024x1024, .f32⟩
  | .hbm, ⟨5, _⟩ => ⟨S32x1024, .f32⟩
  | .hbm, ⟨6, _⟩ => ⟨S32x1024x1024, .f32⟩
  | .hbm, ⟨7, _⟩ => ⟨S32x1024, .f32⟩
  | .hbm, ⟨8, _⟩ => ⟨S32x1x1024, .f32⟩
  | .hbm, ⟨9, _⟩ => ⟨S32x1x1024, .f32⟩
  | .hbm, ⟨10, _⟩ => ⟨S32x1x1024, .f32⟩
  | .hbm, ⟨11, _⟩ => ⟨S6144x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x1024, .f32⟩
  | .local _ .vmem, ⟨17, _⟩ => ⟨S1024x1024, .f32⟩
  | _, _ => ⟨S6144x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![6, 32], ![false, false]⟩

@[reducible] def k0_t1_loop : Scf.Loop 32 :=
  let c0_i32_9 : BitVec 32 := 0#32
  let c4_i32 : BitVec 32 := 4#32
  let v13 : BitVec 32 := Scalar.addi c0_i32_9 c4_i32
  let c1_i32 : BitVec 32 := 1#32
  ⟨c0_i32_9, v13, c1_i32⟩
def k0_mult1 (k0_t1 : Fin k0_t1_loop.trips) : BitVec 32 :=
  let c0_i32_9 : BitVec 32 := 0#32
  let c1_i32 : BitVec 32 := 1#32
  let arg11 : BitVec 32 := Scf.iv c0_i32_9 c1_i32 k0_t1
  let c256_i32 : BitVec 32 := 256#32
  let v14 : BitVec 32 := Scalar.muli arg11 c256_i32
  v14
def k0_off1 (k0_t1 : Fin k0_t1_loop.trips) : Fin 2 → Nat :=
  let c0_i32_9 : BitVec 32 := 0#32
  let c1_i32 : BitVec 32 := 1#32
  let arg11 : BitVec 32 := Scf.iv c0_i32_9 c1_i32 k0_t1
  let c256_i32 : BitVec 32 := 256#32
  let v14 : BitVec 32 := Scalar.muli arg11 c256_i32
  let v15 : BitVec 32 := v14
  let v16 : Index := Scalar.indexCast v15
  let c0_11 : Index := 0#32
  ![v16.toNat, 0]
def k0_off2 (k0_t1 : Fin k0_t1_loop.trips) : Fin 2 → Nat :=
  let c0_i32_9 : BitVec 32 := 0#32
  let c1_i32 : BitVec 32 := 1#32
  let arg11 : BitVec 32 := Scf.iv c0_i32_9 c1_i32 k0_t1
  let c256_i32 : BitVec 32 := 256#32
  let v14 : BitVec 32 := Scalar.muli arg11 c256_i32
  let v15 : BitVec 32 := v14
  let v20 : Index := Scalar.indexCast v15
  let c0_12 : Index := 0#32
  ![v20.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceMoeIdeal.lean ====
abbrev S6144x1024 : Shape := ⟨2, ![6144, 1024]⟩
abbrev S6144x128 : Shape := ⟨2, ![6144, 128]⟩
abbrev S32x1024x1024 : Shape := ⟨3, ![32, 1024, 1024]⟩
abbrev S32x1024 : Shape := ⟨2, ![32, 1024]⟩
abbrev S6144x32 : Shape := ⟨2, ![6144, 32]⟩
abbrev S6144x32x1024 : Shape := ⟨3, ![6144, 32, 1024]⟩
abbrev S1x32x1024 : Shape := ⟨3, ![1, 32, 1024]⟩
abbrev S_ : Shape := ⟨0, ![]⟩
abbrev S6144x32x1 : Shape := ⟨3, ![6144, 32, 1]⟩

abbrev nBuf : Space → Nat
  | .hbm => 51
  | .vmem => 0
  | .smem => 0
  | _ => 0

abbrev bufTy : (tb : Table) → Fin (tcTables nBuf tb) → BufTy
  | .hbm, ⟨0, _⟩ => ⟨S6144x1024, .bf16⟩
  | .hbm, ⟨1, _⟩ => ⟨S6144x128, .f32⟩
  | .hbm, ⟨2, _⟩ => ⟨S32x1024x1024, .f32⟩
  | .hbm, ⟨3, _⟩ => ⟨S32x1024, .f32⟩
  | .hbm, ⟨4, _⟩ => ⟨S32x1024x1024, .f32⟩
  | .hbm, ⟨5, _⟩ => ⟨S32x1024, .f32⟩
  | .hbm, ⟨6, _⟩ => ⟨S32x1024x1024, .f32⟩
  | .hbm, ⟨7, _⟩ => ⟨S32x1024, .f32⟩
  | .hbm, ⟨8, _⟩ => ⟨S6144x1024, .f32⟩
  | .hbm, ⟨9, _⟩ => ⟨S6144x32, .f32⟩
  | .hbm, ⟨10, _⟩ => ⟨S6144x32x1024, .f32⟩
  | .hbm, ⟨11, _⟩ => ⟨S1x32x1024, .f32⟩
  | .hbm, ⟨12, _⟩ => ⟨S6144x32x1024, .f32⟩
  | .hbm, ⟨13, _⟩ => ⟨S6144x32x1024, .f32⟩
  | .hbm, ⟨14, _⟩ => ⟨S6144x32x1024, .f32⟩
  | .hbm, ⟨15, _⟩ => ⟨S1x32x1024, .f32⟩
  | .hbm, ⟨16, _⟩ => ⟨S6144x32x1024, .f32⟩
  | .hbm, ⟨17, _⟩ => ⟨S6144x32x1024, .f32⟩
  | .hbm, ⟨18, _⟩ => ⟨S_, .f32⟩
  | .hbm, ⟨19, _⟩ => ⟨S6144x32x1024, .f32⟩
  | .hbm, ⟨20, _⟩ => ⟨S6144x32x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S6144x32x1024, .f32⟩
  | .hbm, ⟨25, _⟩ => ⟨S6144x32x1024, .f32⟩
  | .hbm, ⟨26, _⟩ => ⟨S_, .f32⟩
  | .hbm, ⟨27, _⟩ => ⟨S6144x32x1024, .f32⟩
  | .hbm, ⟨28, _⟩ => ⟨S6144x32x1024, .f32⟩
  | .hbm, ⟨29, _⟩ => ⟨S_, .f32⟩
  | .hbm, ⟨30, _⟩ => ⟨S6144x32x1024, .f32⟩
  | .hbm, ⟨31, _⟩ => ⟨S6144x32x1024, .f32⟩
  | .hbm, ⟨32, _⟩ => ⟨S6144x32x1024, .f32⟩
  | .hbm, ⟨33, _⟩ => ⟨S_, .f32⟩
  | .hbm, ⟨34, _⟩ => ⟨S6144x32x1024, .f32⟩
  | .hbm, ⟨35, _⟩ => ⟨S6144x32x1024, .f32⟩
  | .hbm, ⟨36, _⟩ => ⟨S6144x32x1024, .f32⟩
  | .hbm, ⟨37, _⟩ => ⟨S6144x32x1024, .f32⟩
  | .hbm, ⟨38, _⟩ => ⟨S_, .f32⟩
  | .hbm, ⟨39, _⟩ => ⟨S6144x32x1024, .f32⟩
  | .hbm, ⟨40, _⟩ => ⟨S6144x32x1024, .f32⟩
  | .hbm, ⟨41, _⟩ => ⟨S_, .f32⟩
  | .hbm, ⟨42, _⟩ => ⟨S6144x32x1024, .f32⟩
  | .hbm, ⟨43, _⟩ => ⟨S6144x32x1024, .f32⟩
  | .hbm, ⟨44, _⟩ => ⟨S6144x32x1024, .f32⟩
  | .hbm, ⟨45, _⟩ => ⟨S6144x32x1, .f32⟩
  | .hbm, ⟨46, _⟩ => ⟨S6144x32x1024, .f32⟩
  | .hbm, ⟨47, _⟩ => ⟨S6144x32x1024, .f32⟩
  | .hbm, ⟨48, _⟩ => ⟨S6144x1024, .f32⟩
  | .hbm, ⟨49, _⟩ => ⟨S6144x1024, .f32⟩
  | .hbm, ⟨50, _⟩ => ⟨S6144x1024, .f32⟩
  | _, _ => ⟨S6144x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== KernelFinal.lean ====
abbrev S3x8x256x1024 : Shape := ⟨4, ![3, 8, 256, 1024]⟩
abbrev S6144x1024 : Shape := ⟨2, ![6144, 1024]⟩
abbrev S24x6144 : Shape := ⟨2, ![24, 6144]⟩
abbrev S1024 : Shape := ⟨1, ![1024]⟩
abbrev S3x8x1x6144 : Shape := ⟨4, ![3, 8, 1, 6144]⟩
abbrev S1x1024 : Shape := ⟨2, ![1, 1024]⟩
abbrev S1x8x128x1024 : Shape := ⟨4, ![1, 8, 128, 1024]⟩
abbrev S1x8x1x6144 : Shape := ⟨4, ![1, 8, 1, 6144]⟩
abbrev S1x8x1x1024 : Shape := ⟨4, ![1, 8, 1, 1024]⟩
abbrev S8x1x1024 : Shape := ⟨3, ![8, 1, 1024]⟩
abbrev S8x128x1024 : Shape := ⟨3, ![8, 128, 1024]⟩
abbrev S8x128 : Shape := ⟨2, ![8, 128]⟩
abbrev S8x128x1 : Shape := ⟨3, ![8, 128, 1]⟩
abbrev S1x1x1024 : Shape := ⟨3, ![1, 1, 1024]⟩

abbrev nBuf : Space → Nat
  | .hbm => 8
  | .vmem => 9
  | .smem => 0
  | _ => 0

abbrev bufTy : (tb : Table) → Fin (tcTables nBuf tb) → BufTy
  | .hbm, ⟨0, _⟩ => ⟨S3x8x256x1024, .f32⟩
  | .hbm, ⟨1, _⟩ => ⟨S6144x1024, .f32⟩
  | .hbm, ⟨2, _⟩ => ⟨S24x6144, .f32⟩
  | .hbm, ⟨3, _⟩ => ⟨S1024, .f32⟩
  | .hbm, ⟨4, _⟩ => ⟨S3x8x1x6144, .f32⟩
  | .hbm, ⟨5, _⟩ => ⟨S3x8x256x1024, .f32⟩
  | .hbm, ⟨6, _⟩ => ⟨S1x1024, .f32⟩
  | .hbm, ⟨7, _⟩ => ⟨S3x8x256x1024, .f32⟩
  | .local _ .vmem, ⟨0, _⟩ => ⟨S1x8x128x1024, .f32⟩
  | .local _ .vmem, ⟨1, _⟩ => ⟨S1x8x128x1024, .f32⟩
  | .local _ .vmem, ⟨2, _⟩ => ⟨S1x8x128x1024, .f32⟩
  | .local _ .vmem, ⟨3, _⟩ => ⟨S1x8x128x1024, .f32⟩
  | .local _ .vmem, ⟨4, _⟩ => ⟨S1x8x1x6144, .f32⟩
  | .local _ .vmem, ⟨5, _⟩ => ⟨S1x8x1x6144, .f32⟩
  | .local _ .vmem, ⟨6, _⟩ => ⟨S1x1024, .f32⟩
  | .local _ .vmem, ⟨7, _⟩ => ⟨S1x8x128x1024, .f32⟩
  | .local _ .vmem, ⟨8, _⟩ => ⟨S1x8x128x1024, .f32⟩
  | _, _ => ⟨S3x8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![3, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceFinalIdeal.lean ====
abbrev S3x8x256x1024 : Shape := ⟨4, ![3, 8, 256, 1024]⟩
abbrev S6144x1024 : Shape := ⟨2, ![6144, 1024]⟩
abbrev S24x6144 : Shape := ⟨2, ![24, 6144]⟩
abbrev S1024 : Shape := ⟨1, ![1024]⟩
abbrev S24x256x1024 : Shape := ⟨3, ![24, 256, 1024]⟩
abbrev S24x1024 : Shape := ⟨2, ![24, 1024]⟩
abbrev S24x1x1024 : Shape := ⟨3, ![24, 1, 1024]⟩
abbrev S_ : Shape := ⟨0, ![]⟩
abbrev S24x256 : Shape := ⟨2, ![24, 256]⟩
abbrev S24x256x1 : Shape := ⟨3, ![24, 256, 1]⟩
abbrev S1x1x1024 : Shape := ⟨3, ![1, 1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S3x8x256x1024, .f32⟩
  | .hbm, ⟨1, _⟩ => ⟨S6144x1024, .f32⟩
  | .hbm, ⟨2, _⟩ => ⟨S24x6144, .f32⟩
  | .hbm, ⟨3, _⟩ => ⟨S1024, .f32⟩
  | .hbm, ⟨4, _⟩ => ⟨S24x256x1024, .f32⟩
  | .hbm, ⟨5, _⟩ => ⟨S24x1024, .f32⟩
  | .hbm, ⟨6, _⟩ => ⟨S24x1x1024, .f32⟩
  | .hbm, ⟨7, _⟩ => ⟨S24x256x1024, .f32⟩
  | .hbm, ⟨8, _⟩ => ⟨S24x256x1024, .f32⟩
  | .hbm, ⟨9, _⟩ => ⟨S24x256x1024, .f32⟩
  | .hbm, ⟨10, _⟩ => ⟨S24x256x1024, .f32⟩
  | .hbm, ⟨11, _⟩ => ⟨S24x256x1024, .f32⟩
  | .hbm, ⟨12, _⟩ => ⟨S_, .f32⟩
  | .hbm, ⟨13, _⟩ => ⟨S24x256, .f32⟩
  | .hbm, ⟨14, _⟩ => ⟨S24x256x1, .f32⟩
  | .hbm, ⟨15, _⟩ => ⟨S_, .f32⟩
  | .hbm, ⟨16, _⟩ => ⟨S24x256x1, .f32⟩
  | .hbm, ⟨17, _⟩ => ⟨S24x256x1, .f32⟩
  | .hbm, ⟨18, _⟩ => ⟨S_, .f32⟩
  | .hbm, ⟨19, _⟩ => ⟨S24x256x1, .f32⟩
  | .hbm, ⟨20, _⟩ => ⟨S24x256x1, .f32⟩
  | .hbm, ⟨21, _⟩ => ⟨S24x256x1, .f32⟩
  | .hbm, ⟨22, _⟩ => ⟨S24x256x1024, .f32⟩
  | .hbm, ⟨23, _⟩ => ⟨S24x256x1024, .f32⟩
  | .hbm, ⟨24, _⟩ => ⟨S1x1x1024, .f32⟩
  | .hbm, ⟨25, _⟩ => ⟨S24x256x1024, .f32⟩
  | .hbm, ⟨26, _⟩ => ⟨S24x256x1024, .f32⟩
  | .hbm, ⟨27, _⟩ => ⟨S3x8x256x1024, .f32⟩
  | _, _ => ⟨S3x8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== KernelMod.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceModIdeal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== KernelDisc.lean ====
abbrev S2x48x64 : Shape := ⟨3, ![2, 48, 64]⟩
abbrev S2x48 : Shape := ⟨2, ![2, 48]⟩
abbrev S2x48x64x16 : Shape := ⟨4, ![2, 48, 64, 16]⟩
abbrev S96x1x64 : Shape := ⟨3, ![96, 1, 64]⟩
abbrev S96x1x1 : Shape := ⟨3, ![96, 1, 1]⟩
abbrev S2x48x16x64 : Shape := ⟨4, ![2, 48, 16, 64]⟩
abbrev S96x16x64 : Shape := ⟨3, ![96, 16, 64]⟩

abbrev nBuf : Space → Nat
  | .hbm => 17
  | .vmem => 9
  | .smem => 0
  | _ => 0

abbrev bufTy : (tb : Table) → Fin (tcTables nBuf tb) → BufTy
  | .hbm, ⟨0, _⟩ => ⟨S2x48x64, .f32⟩
  | .hbm, ⟨1, _⟩ => ⟨S2x48x64, .f32⟩
  | .hbm, ⟨2, _⟩ => ⟨S2x48, .f32⟩
  | .hbm, ⟨3, _⟩ => ⟨S2x48x64x16, .f32⟩
  | .hbm, ⟨4, _⟩ => ⟨S2x48x64x16, .f32⟩
  | .hbm, ⟨5, _⟩ => ⟨S96x1x64, .f32⟩
  | .hbm, ⟨6, _⟩ => ⟨S96x1x64, .f32⟩
  | .hbm, ⟨7, _⟩ => ⟨S96x1x1, .f32⟩
  | .hbm, ⟨8, _⟩ => ⟨S96x1x64, .f32⟩
  | .hbm, ⟨9, _⟩ => ⟨S2x48x16x64, .f32⟩
  | .hbm, ⟨10, _⟩ => ⟨S96x16x64, .f32⟩
  | .hbm, ⟨11, _⟩ => ⟨S2x48x16x64, .f32⟩
  | .hbm, ⟨12, _⟩ => ⟨S96x16x64, .f32⟩
  | .hbm, ⟨13, _⟩ => ⟨S96x1x64, .f32⟩
  | .hbm, ⟨14, _⟩ => ⟨S96x1x64, .f32⟩
  | .hbm, ⟨15, _⟩ => ⟨S96x16x64, .f32⟩
  | .hbm, ⟨16, _⟩ => ⟨S96x16x64, .f32⟩
  | .local _ .vmem, ⟨0, _⟩ => ⟨S96x1x64, .f32⟩
  | .local _ .vmem, ⟨1, _⟩ => ⟨S96x1x64, .f32⟩
  | .local _ .vmem, ⟨2, _⟩ => ⟨S96x1x64, .f32⟩
  | .local _ .vmem, ⟨3, _⟩ => ⟨S96x16x64, .f32⟩
  | .local _ .vmem, ⟨4, _⟩ => ⟨S96x16x64, .f32⟩
  | .local _ .vmem, ⟨5, _⟩ => ⟨S96x1x64, .f32⟩
  | .local _ .vmem, ⟨6, _⟩ => ⟨S96x1x64, .f32⟩
  | .local _ .vmem, ⟨7, _⟩ => ⟨S96x16x64, .f32⟩
  | .local _ .vmem, ⟨8, _⟩ => ⟨S96x16x64, .f32⟩
  | _, _ => ⟨S2x48x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S96x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S96x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceDiscIdeal.lean ====
abbrev S2x48x64 : Shape := ⟨3, ![2, 48, 64]⟩
abbrev S2x48 : Shape := ⟨2, ![2, 48]⟩
abbrev S2x48x64x16 : Shape := ⟨4, ![2, 48, 64, 16]⟩
abbrev S2x48x1 : Shape := ⟨3, ![2, 48, 1]⟩
abbrev S_ : Shape := ⟨0, ![]⟩
abbrev S2x48x64x1 : Shape := ⟨4, ![2, 48, 64, 1]⟩
abbrev S2x48x16x64 : Shape := ⟨4, ![2, 48, 16, 64]⟩
abbrev S96x1x64 : Shape := ⟨3, ![96, 1, 64]⟩
abbrev S96x16x64 : Shape := ⟨3, ![96, 16, 64]⟩

abbrev nBuf : Space → Nat
  | .hbm => 53
  | .vmem => 0
  | .smem => 0
  | _ => 0

abbrev bufTy : (tb : Table) → Fin (tcTables nBuf tb) → BufTy
  | .hbm, ⟨0, _⟩ => ⟨S2x48x64, .f32⟩
  | .hbm, ⟨1, _⟩ => ⟨S2x48x64, .f32⟩
  | .hbm, ⟨2, _⟩ => ⟨S2x48, .f32⟩
  | .hbm, ⟨3, _⟩ => ⟨S2x48x64x16, .f32⟩
  | .hbm, ⟨4, _⟩ => ⟨S2x48x64x16, .f32⟩
  | .hbm, ⟨5, _⟩ => ⟨S2x48, .f32⟩
  | .hbm, ⟨6, _⟩ => ⟨S2x48x1, .f32⟩
  | .hbm, ⟨7, _⟩ => ⟨S_, .f32⟩
  | .hbm, ⟨8, _⟩ => ⟨S2x48x64, .f32⟩
  | .hbm, ⟨9, _⟩ => ⟨S2x48x64, .f32⟩
  | .hbm, ⟨10, _⟩ => ⟨S2x48x64, .f32⟩
  | .hbm, ⟨11, _⟩ => ⟨S2x48x64, .f32⟩
  | .hbm, ⟨12, _⟩ => ⟨S2x48x64, .f32⟩
  | .hbm, ⟨13, _⟩ => ⟨S2x48x64, .f32⟩
  | .hbm, ⟨14, _⟩ => ⟨S2x48x64, .f32⟩
  | .hbm, ⟨15, _⟩ => ⟨S2x48x64, .f32⟩
  | .hbm, ⟨16, _⟩ => ⟨S2x48x64, .f32⟩
  | .hbm, ⟨17, _⟩ => ⟨S2x48x64, .f32⟩
  | .hbm, ⟨18, _⟩ => ⟨S2x48x64, .f32⟩
  | .hbm, ⟨19, _⟩ => ⟨S2x48x64, .f32⟩
  | .hbm, ⟨20, _⟩ => ⟨S2x48x64, .f32⟩
  | .hbm, ⟨21, _⟩ => ⟨S2x48x64, .f32⟩
  | .hbm, ⟨22, _⟩ => ⟨S2x48x64, .f32⟩
  | .hbm, ⟨23, _⟩ => ⟨S2x48x64, .f32⟩
  | .hbm, ⟨24, _⟩ => ⟨S_, .f32⟩
  | .hbm, ⟨25, _⟩ => ⟨S2x48x64, .f32⟩
  | .hbm, ⟨26, _⟩ => ⟨S2x48x64, .f32⟩
  | .hbm, ⟨27, _⟩ => ⟨S2x48x64, .f32⟩
  | .hbm, ⟨28, _⟩ => ⟨S2x48x64, .f32⟩
  | .hbm, ⟨29, _⟩ => ⟨S2x48x64, .f32⟩
  | .hbm, ⟨30, _⟩ => ⟨S2x48x64, .f32⟩
  | .hbm, ⟨31, _⟩ => ⟨S2x48x64x1, .f32⟩
  | .hbm, ⟨32, _⟩ => ⟨S2x48x64, .f32⟩
  | .hbm, ⟨33, _⟩ => ⟨S2x48x64, .f32⟩
  | .hbm, ⟨34, _⟩ => ⟨S2x48x64, .f32⟩
  | .hbm, ⟨35, _⟩ => ⟨S2x48x64, .f32⟩
  | .hbm, ⟨36, _⟩ => ⟨S2x48x64x1, .f32⟩
  | .hbm, ⟨37, _⟩ => ⟨S2x48x64x16, .f32⟩
  | .hbm, ⟨38, _⟩ => ⟨S2x48x64x16, .f32⟩
  | .hbm, ⟨39, _⟩ => ⟨S2x48x64x16, .f32⟩
  | .hbm, ⟨40, _⟩ => ⟨S2x48x64x16, .f32⟩
  | .hbm, ⟨41, _⟩ => ⟨S2x48x64x16, .f32⟩
  | .hbm, ⟨42, _⟩ => ⟨S2x48x16x64, .f32⟩
  | .hbm, ⟨43, _⟩ => ⟨S2x48x64x16, .f32⟩
  | .hbm, ⟨44, _⟩ => ⟨S2x48x64x16, .f32⟩
  | .hbm, ⟨45, _⟩ => ⟨S2x48x64x16, .f32⟩
  | .hbm, ⟨46, _⟩ => ⟨S2x48x64x16, .f32⟩
  | .hbm, ⟨47, _⟩ => ⟨S2x48x64x16, .f32⟩
  | .hbm, ⟨48, _⟩ => ⟨S2x48x16x64, .f32⟩
  | .hbm, ⟨49, _⟩ => ⟨S96x1x64, .f32⟩
  | .hbm, ⟨50, _⟩ => ⟨S96x1x64, .f32⟩
  | .hbm, ⟨51, _⟩ => ⟨S96x16x64, .f32⟩
  | .hbm, ⟨52, _⟩ => ⟨S96x16x64, .f32⟩
  | _, _ => ⟨S2x48x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩

abbrev nD : Nat := 1
abbrev τ : Topo := Topo.v7x

variable {F : FTy → Type} [FloatOps F]
-- ==== KernelFw.lean ====
abbrev S64x64 : Shape := ⟨2, ![64, 64]⟩
abbrev S4x64x64 : Shape := ⟨3, ![4, 64, 64]⟩
abbrev S4x4 : Shape := ⟨2, ![4, 4]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S4x64x1x64 : Shape := ⟨4, ![4, 64, 1, 64]⟩

abbrev nBuf : Space → Nat
  | .hbm => 24
  | .vmem => 5
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S4x64x64, .f32⟩
  | .hbm, ⟨3, _⟩ => ⟨S4x4, .f32⟩
  | .hbm, ⟨4, _⟩ => ⟨S4x1x4x1, .f32⟩
  | .hbm, ⟨5, _⟩ => ⟨S1x64x1x64, .f32⟩
  | .hbm, ⟨6, _⟩ => ⟨S4x64x4x64, .f32⟩
  | .hbm, ⟨7, _⟩ => ⟨S4x64x4x64, .f32⟩
  | .hbm, ⟨8, _⟩ => ⟨S4x64x4x64, .f32⟩
  | .hbm, ⟨9, _⟩ => ⟨S256x256, .f32⟩
  | .hbm, ⟨10, _⟩ => ⟨S4x1x4x1, .f32⟩
  | .hbm, ⟨11, _⟩ => ⟨S1x64x1x64, .f32⟩
  | .hbm, ⟨12, _⟩ => ⟨S4x64x4x64, .f32⟩
  | .hbm, ⟨13, _⟩ => ⟨S4x64x4x64, .f32⟩
  | .hbm, ⟨14, _⟩ => ⟨S4x64x4x64, .f32⟩
  | .hbm, ⟨15, _⟩ => ⟨S256x256, .f32⟩
  | .hbm, ⟨16, _⟩ => ⟨S4x64x1x64, .f32⟩
  | .hbm, ⟨17, _⟩ => ⟨S4x1x4x1, .f32⟩
  | .hbm, ⟨18, _⟩ => ⟨S4x64x4x64, .f32⟩
  | .hbm, ⟨19, _⟩ => ⟨S4x64x4x64, .f32⟩
  | .hbm, ⟨20, _⟩ => ⟨S4x64x4x64, .f32⟩
  | .hbm, ⟨21, _⟩ => ⟨S256x256, .f32⟩
  | .hbm, ⟨22, _⟩ => ⟨S256x256, .bf16⟩
  | .hbm, ⟨23, _⟩ => ⟨S256x256, .bf16⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .bf16⟩
  | .local _ .vmem, ⟨4, _⟩ => ⟨S256x256, .bf16⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18_0 : Ref sig .tc := ⟨.hbm, 22, rfl⟩
abbrev main_v18_1 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceFwIdeal.lean ====
abbrev S64x64 : Shape := ⟨2, ![64, 64]⟩
abbrev S4x64x64 : Shape := ⟨3, ![4, 64, 64]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S4x1x4x1 : Shape := ⟨4, ![4, 1, 4, 1]⟩
abbrev S4x64x1x64 : Shape := ⟨4, ![4, 64, 1, 64]⟩
abbrev S_ : Shape := ⟨0, ![]⟩
abbrev S4x64x4x64 : Shape := ⟨4, ![4, 64, 4, 64]⟩
abbrev S256x256 : Shape := ⟨2, ![256, 256]⟩

abbrev nBuf : Space → Nat
  | .hbm => 32
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S4x64x64, .f32⟩
  | .hbm, ⟨3, _⟩ => ⟨S4, .i32⟩
  | .hbm, ⟨4, _⟩ => ⟨S4x1, .i32⟩
  | .hbm, ⟨5, _⟩ => ⟨S1x4, .i32⟩
  | .hbm, ⟨6, _⟩ => ⟨S4x4, .i32⟩
  | .hbm, ⟨7, _⟩ => ⟨S4x4, .i32⟩
  | .hbm, ⟨8, _⟩ => ⟨S4x4, .i1⟩
  | .hbm, ⟨9, _⟩ => ⟨S4x1x4x1, .i1⟩
  | .hbm, ⟨10, _⟩ => ⟨S4x64x64, .f32⟩
  | .hbm, ⟨11, _⟩ => ⟨S4x64x64, .f32⟩
  | .hbm, ⟨12, _⟩ => ⟨S4x64x1x64, .f32⟩
  | .hbm, ⟨13, _⟩ => ⟨S_, .f32⟩
  | .hbm, ⟨14, _⟩ => ⟨S_, .f32⟩
  | .hbm, ⟨15, _⟩ => ⟨S4x64x4x64, .i1⟩
  | .hbm, ⟨16, _⟩ => ⟨S4x64x4x64, .f32⟩
  | .hbm, ⟨17, _⟩ => ⟨S4x64x4x64, .f32⟩
  | .hbm, ⟨18, _⟩ => ⟨S4x64x4x64, .f32⟩
  | .hbm, ⟨19, _⟩ => ⟨S256x256, .f32⟩
  | .hbm, ⟨20, _⟩ => ⟨S256x256, .bf16⟩
  | .hbm, ⟨21, _⟩ => ⟨S4x64x64, .f32⟩
  | .hbm, ⟨22, _⟩ => ⟨S4x64x64, .f32⟩
  | .hbm, ⟨23, _⟩ => ⟨S4x64x1x64, .f32⟩
  | .hbm, ⟨24, _⟩ => ⟨S_, .f32⟩
  | .hbm, ⟨25, _⟩ => ⟨S_, .f32⟩
  | .hbm, ⟨26, _⟩ => ⟨S4x64x4x64, .i1⟩
  | .hbm, ⟨27, _⟩ => ⟨S4x64x4x64, .f32⟩
  | .hbm, ⟨28, _⟩ => ⟨S4x64x4x64, .f32⟩
  | .hbm, ⟨29, _⟩ => ⟨S4x64x4x64, .f32⟩
  | .hbm, ⟨30, _⟩ => ⟨S256x256, .f32⟩
  | .hbm, ⟨31, _⟩ => ⟨S256x256, .bf16⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]
-- ==== KernelFnet.lean ====
abbrev S16x256x256 : Shape := ⟨3, ![16, 256, 256]⟩
abbrev S256x256 : Shape := ⟨2, ![256, 256]⟩
abbrev S1x256x256 : Shape := ⟨3, ![1, 256, 256]⟩

abbrev nBuf : Space → Nat
  | .hbm => 6
  | .vmem => 8
  | .smem => 0
  | _ => 0

abbrev bufTy : (tb : Table) → Fin (tcTables nBuf tb) → BufTy
  | .hbm, ⟨0, _⟩ => ⟨S16x256x256, .bf16⟩
  | .hbm, ⟨1, _⟩ => ⟨S256x256, .f32⟩
  | .hbm, ⟨2, _⟩ => ⟨S256x256, .f32⟩
  | .hbm, ⟨3, _⟩ => ⟨S256x256, .bf16⟩
  | .hbm, ⟨4, _⟩ => ⟨S256x256, .bf16⟩
  | .hbm, ⟨5, _⟩ => ⟨S16x256x256, .bf16⟩
  | .local _ .vmem, ⟨0, _⟩ => ⟨S1x256x256, .bf16⟩
  | .local _ .vmem, ⟨1, _⟩ => ⟨S1x256x256, .bf16⟩
  | .local _ .vmem, ⟨2, _⟩ => ⟨S256x256, .f32⟩
  | .local _ .vmem, ⟨3, _⟩ => ⟨S256x256, .f32⟩
  | .local _ .vmem, ⟨4, _⟩ => ⟨S256x256, .bf16⟩
  | .local _ .vmem, ⟨5, _⟩ => ⟨S256x256, .bf16⟩
  | .local _ .vmem, ⟨6, _⟩ => ⟨S1x256x256, .bf16⟩
  | .local _ .vmem, ⟨7, _⟩ => ⟨S1x256x256, .bf16⟩
  | _, _ => ⟨S16x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFnetIdeal.lean ====
abbrev S16x256x256 : Shape := ⟨3, ![16, 256, 256]⟩
abbrev S256x256 : Shape := ⟨2, ![256, 256]⟩

abbrev nBuf : Space → Nat
  | .hbm => 16
  | .vmem => 0
  | .smem => 0
  | _ => 0

abbrev bufTy : (tb : Table) → Fin (tcTables nBuf tb) → BufTy
  | .hbm, ⟨0, _⟩ => ⟨S16x256x256, .bf16⟩
  | .hbm, ⟨1, _⟩ => ⟨S256x256, .f32⟩
  | .hbm, ⟨2, _⟩ => ⟨S256x256, .f32⟩
  | .hbm, ⟨3, _⟩ => ⟨S256x256, .bf16⟩
  | .hbm, ⟨4, _⟩ => ⟨S256x256, .bf16⟩
  | .hbm, ⟨5, _⟩ => ⟨S16x256x256, .f32⟩
  | .hbm, ⟨6, _⟩ => ⟨S16x256x256, .f32⟩
  | .hbm, ⟨7, _⟩ => ⟨S16x256x256, .f32⟩
  | .hbm, ⟨8, _⟩ => ⟨S16x256x256, .f32⟩
  | .hbm, ⟨9, _⟩ => ⟨S16x256x256, .f32⟩
  | .hbm, ⟨10, _⟩ => ⟨S256x256, .f32⟩
  | .hbm, ⟨11, _⟩ => ⟨S16x256x256, .f32⟩
  | .hbm, ⟨12, _⟩ => ⟨S256x256, .f32⟩
  | .hbm, ⟨13, _⟩ => ⟨S16x256x256, .f32⟩
  | .hbm, ⟨14, _⟩ => ⟨S16x256x256, .f32⟩
  | .hbm, ⟨15, _⟩ => ⟨S16x256x256, .bf16⟩
  | _, _ => ⟨S16x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== KernelLong.lean ====
abbrev S2x1024x256 : Shape := ⟨3, ![2, 1024, 256]⟩
abbrev S1024x1024 : Shape := ⟨2, ![1024, 1024]⟩
abbrev S256x256 : Shape := ⟨2, ![256, 256]⟩
abbrev S1x1024x256 : Shape := ⟨3, ![1, 1024, 256]⟩
abbrev S1024x256 : Shape := ⟨2, ![1024, 256]⟩

abbrev nBuf : Space → Nat
  | .hbm => 6
  | .vmem => 8
  | .smem => 0
  | _ => 0

abbrev bufTy : (tb : Table) → Fin (tcTables nBuf tb) → BufTy
  | .hbm, ⟨0, _⟩ => ⟨S2x1024x256, .bf16⟩
  | .hbm, ⟨1, _⟩ => ⟨S1024x1024, .f32⟩
  | .hbm, ⟨2, _⟩ => ⟨S1024x1024, .f32⟩
  | .hbm, ⟨3, _⟩ => ⟨S256x256, .bf16⟩
  | .hbm, ⟨4, _⟩ => ⟨S256x256, .bf16⟩
  | .hbm, ⟨5, _⟩ => ⟨S2x1024x256, .bf16⟩
  | .local _ .vmem, ⟨0, _⟩ => ⟨S1x1024x256, .bf16⟩
  | .local _ .vmem, ⟨1, _⟩ => ⟨S1x1024x256, .bf16⟩
  | .local _ .vmem, ⟨2, _⟩ => ⟨S1024x1024, .f32⟩
  | .local _ .vmem, ⟨3, _⟩ => ⟨S1024x1024, .f32⟩
  | .local _ .vmem, ⟨4, _⟩ => ⟨S256x256, .bf16⟩
  | .local _ .vmem, ⟨5, _⟩ => ⟨S256x256, .bf16⟩
  | .local _ .vmem, ⟨6, _⟩ => ⟨S1x1024x256, .bf16⟩
  | .local _ .vmem, ⟨7, _⟩ => ⟨S1x1024x256, .bf16⟩
  | _, _ => ⟨S2x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceLongIdeal.lean ====
abbrev S2x1024x256 : Shape := ⟨3, ![2, 1024, 256]⟩
abbrev S1024x1024 : Shape := ⟨2, ![1024, 1024]⟩
abbrev S256x256 : Shape := ⟨2, ![256, 256]⟩
abbrev S2x256x1024 : Shape := ⟨3, ![2, 256, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2x1024x256, .bf16⟩
  | .hbm, ⟨1, _⟩ => ⟨S1024x1024, .f32⟩
  | .hbm, ⟨2, _⟩ => ⟨S1024x1024, .f32⟩
  | .hbm, ⟨3, _⟩ => ⟨S256x256, .bf16⟩
  | .hbm, ⟨4, _⟩ => ⟨S256x256, .bf16⟩
  | .hbm, ⟨5, _⟩ => ⟨S2x1024x256, .f32⟩
  | .hbm, ⟨6, _⟩ => ⟨S2x256x1024, .f32⟩
  | .hbm, ⟨7, _⟩ => ⟨S2x1024x256, .f32⟩
  | .hbm, ⟨8, _⟩ => ⟨S2x256x1024, .f32⟩
  | .hbm, ⟨9, _⟩ => ⟨S2x1024x256, .f32⟩
  | .hbm, ⟨10, _⟩ => ⟨S256x256, .f32⟩
  | .hbm, ⟨11, _⟩ => ⟨S2x1024x256, .f32⟩
  | .hbm, ⟨12, _⟩ => ⟨S256x256, .f32⟩
  | .hbm, ⟨13, _⟩ => ⟨S2x1024x256, .f32⟩
  | .hbm, ⟨14, _⟩ => ⟨S2x1024x256, .f32⟩
  | .hbm, ⟨15, _⟩ => ⟨S2x1024x256, .bf16⟩
  | _, _ => ⟨S2x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Spec.lean ====
/- What the routing call computes, written over plain functions of extended reals: one token is a row, and each
   definition below is one line of the layer. Both programs are read down to these. -/
module

public import Idealize.ShloMosaic.PureOps.Ideal.Laws
public import Idealize.ShloMosaic.Lib.ValueIdx

@[expose] public section

noncomputable section

namespace Cert.Proof

open Idealize.ShloMosaic
open scoped BigOperators

/-- The constants of the tanh form of gelu, the row length and the norm's epsilon. -/
abbrev cHalf : EReal := Ideal.ofBits .f32 0x3F000000#32
abbrev cCube : EReal := Ideal.ofBits .f32 0x3D372713#32
abbrev cRoot : EReal := Ideal.ofBits .f32 0x3F4C422A#32
abbrev cOne : EReal := Ideal.ofBits .f32 0x3F800000#32
abbrev cLen : EReal := Ideal.ofBits .f32 0x44800000#32
abbrev cEps : EReal := Ideal.ofBits .f32 0x358637BD#32

/-- gelu in its tanh form. -/
def gelu (y : EReal) : EReal := y * (cHalf * (cOne + Ideal.tanh (cRoot * (y + cCube * (y * y * y)))))

/-- The gated unit at channel `k`: gelu of the row times the logistic of its product with the gate weights. -/
def glu {n : Nat} (w : Fin n → Fin n → EReal) (y : Fin n → EReal) (k : Fin n) : EReal :=
  gelu (y k) * Ideal.logistic (∑ j, gelu (y j) * w j k)

/-- The output projection at channel `d`: the recurrence's channels then the Fourier ones. -/
def mix (w : Fin 1024 → Fin 1024 → EReal) (u : Fin 768 → EReal) (f : Fin 256 → EReal) (d : Fin 1024) : EReal :=
  (∑ k : Fin 768, u k * w (k.castLE (by decide)) d) + ∑ k : Fin 256, f k * w (k.natAdd 768) d

/-- The reciprocal root mean square of a row. -/
def rms (x : Fin 1024 → EReal) : EReal := Ideal.rsqrt (Ideal.div (∑ d, x d * x d) cLen + cEps)

/-- The modulated norm of a row at channel `d`. -/
def modNorm (x g sc sh : Fin 1024 → EReal) (d : Fin 1024) : EReal :=
  x d * rms x * g d * (cOne + sc d) + sh d

/-- The router's logit of expert `e`. -/
def logit {n : Nat} (w : Fin 1024 → Fin n → EReal) (b : Fin n → EReal) (h : Fin 1024 → EReal) (e : Fin n) : EReal :=
  (∑ d, h d * w d e) + b e

/-- The softmax weight of the `k`-th of four chosen logits, shifted by the first. -/
def weight {n : Nat} (l : Fin n → EReal) (p : Fin 4 → Fin n) (k : Fin 4) : EReal :=
  Ideal.div (Ideal.exp (l (p k) - l (p 0))) (∑ j, Ideal.exp (l (p j) - l (p 0)))

/-- The combine row at lane `e`: the weight of the choice that names `e`, zero if none does. -/
def combine {n : Nat} (l : Fin n → EReal) (p : Fin 4 → Fin n) (e : Nat) : EReal :=
  ∑ k : Fin 4, if (p k).val = e then weight l p k else 0

/-- `a` ranks above `b`: a greater logit, or the same one at a lower number. -/
def Above {n : Nat} (l : Fin n → EReal) (a b : Fin n) : Prop := l b < l a ∨ (l a = l b ∧ a < b)

/-- `p` names the four best of `l` in order: each is new and ranks above everything not yet named. -/
def TopFour {n : Nat} (l : Fin n → EReal) (p : Fin 4 → Fin n) : Prop :=
  ∀ k : Fin 4, (∀ j < k, p j ≠ p k) ∧ ∀ e, (∀ j ≤ k, p j ≠ e) → Above l (p k) e

theorem Above.asymm {n : Nat} {l : Fin n → EReal} {a b : Fin n} (h : Above l a b) : ¬ Above l b a := by
  rintro (h' | ⟨h', hp⟩) <;> rcases h with h | ⟨h, hq⟩
  · exact lt_asymm h h'
  · rw [h] at h'; exact lt_irrefl _ h'
  · rw [h'] at h; exact lt_irrefl _ h
  · exact lt_asymm hp hq

/-- The four best are determined by the logits. -/
theorem TopFour.unique {n : Nat} {l : Fin n → EReal} {p q : Fin 4 → Fin n} (hp : TopFour l p) (hq : TopFour l q) :
    p = q := by
  have key : ∀ m : Nat, ∀ k : Fin 4, k.val = m → p k = q k := by
    intro m
    induction m using Nat.strong_induction_on with
    | _ m ih =>
      intro k hk
      by_contra hne
      have hlt : ∀ j < k, p j = q j := fun j hj => ih j.val (by omega) j rfl
      have h1 : Above l (p k) (q k) := (hp k).2 _ fun j hj => by
        rcases lt_or_eq_of_le hj with h | h
        · rw [hlt j h]; exact (hq k).1 j h
        · rw [h]; exact hne
      have h2 : Above l (q k) (p k) := (hq k).2 _ fun j hj => by
        rcases lt_or_eq_of_le hj with h | h
        · rw [← hlt j h]; exact (hp k).1 j h
        · rw [h]; exact fun h => hne h.symm
      exact h1.asymm h2
  exact funext fun k => key k.val k rfl

/-- Later choices are not greater. -/
theorem TopFour.le_first {n : Nat} {l : Fin n → EReal} {p : Fin 4 → Fin n} (hp : TopFour l p) (k : Fin 4) :
    l (p k) ≤ l (p 0) := by
  by_cases h : p 0 = p k
  · rw [h]
  · rcases (hp 0).2 (p k) (fun j hj => by
      have : j = 0 := Fin.le_zero_iff.mp hj
      subst this; exact h) with h | ⟨h, _⟩
    · exact h.le
    · exact h.ge

/-- Rows that agree on the first `n` entries and hold something less than all of those elsewhere have the same four best. -/
theorem TopFour.restrict {n m : Nat} (hnm : n ≤ m) (h4 : 4 ≤ n) {l : Fin n → EReal} {L : Fin m → EReal}
    (hin : ∀ e : Fin n, L (e.castLE hnm) = l e) (hout : ∀ (e : Fin n) (e' : Fin m), n ≤ e'.val → L e' < l e)
    {p : Fin 4 → Fin m} (hp : TopFour L p) :
    ∃ q : Fin 4 → Fin n, (∀ k, p k = (q k).castLE hnm) ∧ TopFour l q := by
  have hlt : ∀ k, (p k).val < n := by
    intro k
    by_contra hk
    -- one of the first four entries is not named by the choices up to `k`
    have : ∃ e : Fin n, ∀ j ≤ k, p j ≠ e.castLE hnm := by
      by_contra hall
      push Not at hall
      choose f hf hfe using hall
      have hfk : ∀ e, f e ≠ k := fun e h => by
        have := hfe e; rw [h] at this; rw [this] at hk; exact hk e.isLt
      have hinj : Function.Injective f := fun a b hab => by
        have h1 := hfe a; have h2 := hfe b
        rw [hab] at h1
        exact Fin.ext (by have := congrArg Fin.val (h1.symm.trans h2); exact this)
      have hsub : (Finset.univ.image f) ⊆ Finset.univ.erase k := fun x hx => by
        obtain ⟨a, _, rfl⟩ := Finset.mem_image.mp hx
        exact Finset.mem_erase.mpr ⟨hfk a, Finset.mem_univ _⟩
      have hc := Finset.card_le_card hsub
      rw [Finset.card_image_of_injective _ hinj, Finset.card_erase_of_mem (Finset.mem_univ _)] at hc
      simp at hc
      omega
    obtain ⟨e, he⟩ := this
    have hlt := hout e (p k) (by omega)
    rcases (hp k).2 _ he with h | ⟨h, _⟩
    · rw [hin e] at h; exact lt_asymm h hlt
    · rw [hin e] at h; rw [h] at hlt; exact lt_irrefl _ hlt
  refine ⟨fun k => ⟨(p k).val, hlt k⟩, fun k => rfl, fun k => ⟨fun j hj h => (hp k).1 j hj ?_, fun e he => ?_⟩⟩
  · have h' : (p j).val = (p k).val := congrArg (fun x : Fin n => x.val) h
    exact Fin.ext h'
  · rcases (hp k).2 (e.castLE hnm) (fun j hj h => he j hj (Fin.ext (congrArg (fun x : Fin m => x.val) h))) with h | ⟨h, h'⟩
    · left
      rw [hin e] at h
      rw [← hin ⟨(p k).val, hlt k⟩]; exact h
    · right
      rw [hin e] at h
      exact ⟨by rw [← hin ⟨(p k).val, hlt k⟩]; exact h, h'⟩

/-- The combine row does not see how many lanes the logits are kept on. -/
theorem combine_castLE {n m : Nat} (hnm : n ≤ m) {l : Fin n → EReal} {L : Fin m → EReal}
    (hin : ∀ e : Fin n, L (e.castLE hnm) = l e) {p : Fin 4 → Fin m} {q : Fin 4 → Fin n}
    (hpq : ∀ k, p k = (q k).castLE hnm) (e : Nat) : combine L p e = combine l q e := by
  unfold combine weight
  simp only [hpq, hin]
  rfl

end Cert.Proof

end
-- ==== Proof.Ix.lean ====
/- Array operations of the two programs read at an index given by its coordinates. -/
module

public import Idealize.ShloMosaic.PureOps.Ideal.Laws
public import Idealize.ShloMosaic.Lib.Pipeline.Value
public import Idealize.ShloMosaic.Lib.ValueIdx

@[expose] public section

noncomputable section

namespace Cert.Proof

open Idealize.ShloMosaic Idealize.ShloMosaic.ValueIdx
open scoped BigOperators

/-- A rows-by-columns product into zero, at row `i` and column `j`. -/
theorem plain_apply {M K N : Nat} {φ₁ φ₂ : FTy} (prec : Option ContractPrecision) (a : FVec Ideal ⟨2, ![M, K]⟩ φ₁)
    (b : FVec Ideal ⟨2, ![K, N]⟩ φ₂) (i : Fin M) (j : Fin N) :
    FloatOps.matmul (DotDims.plain M K N) prec a b (constant ⟨2, ![M, N]⟩ .f32 0x00000000#32) (ix2 i j)
      = ∑ k : Fin K, a (ix2 i k) * b (ix2 k j) := by
  rw [Ideal.matmul_constant_zero_apply, ← Equiv.sum_comp (contrEquiv1 (DotDims.plain M K N) K rfl rfl).symm]
  refine Finset.sum_congr rfl fun k _ => ?_
  congr 1
  · congr 1; funext x; match x with
    | ⟨0, _⟩ => rfl
    | ⟨1, _⟩ => rfl
  · congr 1; funext x; match x with
    | ⟨0, _⟩ => rfl
    | ⟨1, _⟩ => rfl

/-- A reshape read through the row-major numbers of the two indices. -/
theorem shapeCast_at {α : Type} {s t : Shape} (x : s.Idx → α) (h : s.ShapeCasts t) {j : t.Idx} (k : s.Idx)
    (hk : (s.rowMajor k).val = (t.rowMajor j).val) : shapeCast t x h j = x k := shapeCast_apply x h j k hk

/-- A point has row-major number zero. -/
theorem rank0 (d : Fin 0 → Nat) (i : ∀ a, Fin (d a)) : Shape.rankPi d i = 0 := rfl

theorem rowMajor1 {a : Nat} (i : Fin a) : ((⟨1, ![a]⟩ : Shape).rowMajor (ix1 i)).val = i.val := by
  show (Shape.rowMajorPi _ _).val = _
  rw [Shape.rowMajorPi_succ_val]; simp [Shape.rowMajorPi, rank0]

theorem rowMajor2 {a b : Nat} (i : Fin a) (j : Fin b) : ((⟨2, ![a, b]⟩ : Shape).rowMajor (ix2 i j)).val = i.val * b + j.val := by
  show (Shape.rowMajorPi _ _).val = _
  rw [Shape.rowMajorPi_succ_val, Shape.rowMajorPi_succ_val]; simp [Shape.rowMajorPi, rank0]

theorem rowMajor3 {a b c : Nat} (i : Fin a) (j : Fin b) (k : Fin c) :
    ((⟨3, ![a, b, c]⟩ : Shape).rowMajor (ix3 i j k)).val = (i.val * b + j.val) * c + k.val := by
  show (Shape.rowMajorPi _ _).val = _
  rw [Shape.rowMajorPi_succ_val, Shape.rowMajorPi_succ_val, Shape.rowMajorPi_succ_val]; simp [Shape.rowMajorPi, rank0, Fin.prod_univ_succ]; ring

theorem rowMajor4 {a b c d : Nat} (i : Fin a) (j : Fin b) (k : Fin c) (l : Fin d) :
    ((⟨4, ![a, b, c, d]⟩ : Shape).rowMajor (ix4 i j k l)).val = ((i.val * b + j.val) * c + k.val) * d + l.val := by
  show (Shape.rowMajorPi _ _).val = _
  rw [Shape.rowMajorPi_succ_val, Shape.rowMajorPi_succ_val, Shape.rowMajorPi_succ_val, Shape.rowMajorPi_succ_val]
  simp [Shape.rowMajorPi, rank0, Fin.prod_univ_succ]; ring

end Cert.Proof

end
-- ==== Proof.KernelMix.lean ====
/- The kernel's gated unit, its change of row order and its output projection, read at an index. -/
module

public import proofs.«01_k».proof.Proof.Gen.KernelIdeal.Skeleton
public import proofs.«01_k».proof.Proof.Spec
public import proofs.«01_k».proof.Proof.Ix

@[expose] public section

set_option maxRecDepth 16384

noncomputable section

namespace Cert.Proof

open Cert.KernelIdeal Cert.KernelIdeal.Gen Idealize.ShloMosaic Idealize.ShloMosaic.ValueIdx
open scoped BigOperators

theorem drop3 {α : Type} {a b : Nat} (x : (⟨3, ![1, a, b]⟩ : Shape).Idx → α) (h : (⟨3, ![1, a, b]⟩ : Shape).ShapeCasts ⟨2, ![a, b]⟩)
    (i : Fin a) (j : Fin b) : shapeCast ⟨2, ![a, b]⟩ x h (ix2 i j) = x (ix3 0 i j) :=
  shapeCast_at x h _ (by rw [rowMajor2, rowMajor3]; simp)

theorem drop4 {α : Type} {a b c : Nat} (x : (⟨4, ![1, a, b, c]⟩ : Shape).Idx → α)
    (h : (⟨4, ![1, a, b, c]⟩ : Shape).ShapeCasts ⟨3, ![a, b, c]⟩) (i : Fin a) (j : Fin b) (k : Fin c) :
    shapeCast ⟨3, ![a, b, c]⟩ x h (ix3 i j k) = x (ix4 0 i j k) :=
  shapeCast_at x h _ (by rw [rowMajor3, rowMajor4]; simp)

/-- gelu as the kernel multiplies it out. -/
theorem gelu_kernel (y : EReal) :
    cHalf * y * (cOne + Ideal.tanh (cRoot * (y + cCube * (y * y * y)))) = gelu y := by
  unfold gelu; rw [mul_comm cHalf y, mul_assoc]

/-- The kernel's gelu of a block. -/
def geluK (x : FVec Ideal S1024x768 .f32) : FVec Ideal S1024x768 .f32 :=
  mulf (mulf (broadcast S1024x768 cHalf) x) (addf (broadcast S1024x768 cOne) (tanh (mulf (broadcast S1024x768 cRoot)
    (addf x (mulf (broadcast S1024x768 cCube) (mulf (mulf x x) x))))))

theorem geluK_apply (x : FVec Ideal S1024x768 .f32) (i : S1024x768.Idx) : geluK x i = gelu (x i) := gelu_kernel _

theorem pay2_apply (v0 : Vec Ideal S1x1024x768 .f32) (v16 : Vec Ideal S768x768 .f32) (r : Fin 1024) (k : Fin 768) :
    k0_pay2 v0 v16 (ix2 r k) = glu (fun i j => v16 (ix2 i j)) (fun j => v0 (ix3 0 r j)) k := by
  have hg : ∀ j : Fin 768, geluK (shapeCast S1024x768 v0 shapeCasts_S1x1024x768_S1024x768) (ix2 r j) = gelu (v0 (ix3 0 r j)) :=
    fun j => (geluK_apply _ _).trans (congrArg gelu (drop3 v0 shapeCasts_S1x1024x768_S1024x768 r j))
  show geluK _ (ix2 r k) * Ideal.logistic (FloatOps.matmul (F := Ideal) (φ₁ := .bf16) (φ₂ := .bf16) (DotDims.plain 1024 768 768) none
    (geluK (shapeCast S1024x768 v0 shapeCasts_S1x1024x768_S1024x768)) v16 (constant S1024x768 .f32 0x00000000#32) (ix2 r k)) = _
  rw [plain_apply]
  unfold glu
  exact congrArg₂ (· * ·) (hg k) (congrArg Ideal.logistic (Finset.sum_congr rfl fun j _ => congrArg (· * v16 (ix2 j k)) (hg j)))

/-- Row `i` of the permuted block is row `turn i` of the block as it lies. -/
def turn (i : Fin 256) : Fin 256 := ⟨i.val % 32 * 8 + i.val / 32, by omega⟩

/-- A product with the permutation's matrix reads the permuted row. -/
theorem perm_apply (v22 : Vec Ideal S256x256 .bf16) (hperm : ∀ i c, v22 (ix2 i c) = if c = turn i then (1 : EReal) else 0)
    (X : FVec Ideal S256x768 .bf16) (i : Fin 256) (k : Fin 768) :
    matmul dot_S256x256_S256x768_S256x768_1_0_0_1_n_n none (k0_pay3 v22) X (constant S256x768 .f32 0x00000000#32) (ix2 i k)
      = X (ix2 (turn i) k) := by
  show FloatOps.matmul (F := Ideal) (DotDims.plain 256 256 768) none _ _ _ (ix2 i k) = _
  rw [plain_apply]
  have h3 : k0_pay3 v22 = v22 := shapeCast_self _ _
  simp only [h3, hperm, ite_mul, one_mul, zero_mul]
  rw [Finset.sum_ite_eq' Finset.univ (turn i)]
  simp

section
variable (v0 : Vec Ideal S1x1024x768 .f32) (v16 : Vec Ideal S768x768 .f32) (v22 : Vec Ideal S256x256 .bf16)
  (hperm : ∀ i c, v22 (ix2 i c) = if c = turn i then (1 : EReal) else 0)
include hperm

theorem pay4_apply (i : Fin 256) (k : Fin 768) : k0_pay4 v0 v16 v22 (ix2 i k)
    = k0_pay2 v0 v16 (ix2 ⟨(turn i).val, by omega⟩ k) :=
  (perm_apply v22 hperm _ i k).trans (extractStridedSlice_apply _ _ _ _ _ fun a => by
    match a with | ⟨0, _⟩ => exact (Nat.zero_add _).symm | ⟨1, _⟩ => exact (Nat.zero_add _).symm)

theorem pay5_apply (i : Fin 256) (k : Fin 768) : k0_pay5 v0 v16 v22 (ix2 i k)
    = k0_pay2 v0 v16 (ix2 ⟨256 + (turn i).val, by omega⟩ k) :=
  (perm_apply v22 hperm _ i k).trans (extractStridedSlice_apply _ _ _ _ _ fun a => by
    match a with | ⟨0, _⟩ => rfl | ⟨1, _⟩ => exact (Nat.zero_add _).symm)

theorem pay6_apply (i : Fin 256) (k : Fin 768) : k0_pay6 v0 v16 v22 (ix2 i k)
    = k0_pay2 v0 v16 (ix2 ⟨512 + (turn i).val, by omega⟩ k) :=
  (perm_apply v22 hperm _ i k).trans (extractStridedSlice_apply _ _ _ _ _ fun a => by
    match a with | ⟨0, _⟩ => rfl | ⟨1, _⟩ => exact (Nat.zero_add _).symm)

theorem pay7_apply (i : Fin 256) (k : Fin 768) : k0_pay7 v0 v16 v22 (ix2 i k)
    = k0_pay2 v0 v16 (ix2 ⟨768 + (turn i).val, by omega⟩ k) :=
  (perm_apply v22 hperm _ i k).trans (extractStridedSlice_apply _ _ _ _ _ fun a => by
    match a with | ⟨0, _⟩ => rfl | ⟨1, _⟩ => exact (Nat.zero_add _).symm)

end

/-- The 32 pieces of 32 rows laid end to end: piece `n` is rows `n / 4 * 32 …` of quarter `n % 4`. -/
def piece (P : Fin 4 → FVec Ideal S256x768 .bf16) (n : Fin 32) : FVec Ideal S32x768 .bf16 :=
  extractStridedSlice S32x768 ![n.val / 4 * 32, 0] (P ⟨n.val % 4, Nat.mod_lt _ (by decide)⟩)
    ⟨rfl, fun a => by
      match a with
      | ⟨0, _⟩ => show n.val / 4 * 32 + 32 ≤ 256; omega
      | ⟨1, _⟩ => show 0 + 768 ≤ 768; omega⟩

theorem piece_apply (P : Fin 4 → FVec Ideal S256x768 .bf16) (n : Fin 32) (i : Fin 32) (k : Fin 768) :
    piece P n (ix2 i k) = P ⟨n.val % 4, Nat.mod_lt _ (by decide)⟩ (ix2 ⟨n.val / 4 * 32 + i.val, by omega⟩ k) :=
  extractStridedSlice_apply _ _ _ _ _ fun a => by
    match a with
    | ⟨0, _⟩ => rfl
    | ⟨1, _⟩ => exact (Nat.zero_add _).symm

/-- The pieces laid end to end, at row `r`. -/
theorem laid_apply (P : Fin 4 → FVec Ideal S256x768 .bf16)
    (h : Shape.Concatenates ((List.ofFn fun n : Fin 32 => (⟨S32x768, piece P n⟩ : (s : Shape) × (s.Idx → Ideal .bf16))).map (·.1)) S1024x768 0)
    (r : Fin 1024) (k : Fin 768) :
    concatenate S1024x768 0 (List.ofFn fun n : Fin 32 => (⟨S32x768, piece P n⟩ : (s : Shape) × (s.Idx → Ideal .bf16))) h (ix2 r k)
      = P ⟨r.val / 32 % 4, Nat.mod_lt _ (by decide)⟩ (ix2 ⟨r.val / 128 * 32 + r.val % 32, by omega⟩ k) := by
  rw [concatenate_ofFn_apply (t := S1024x768) (s₁ := S32x768) 0 (piece P) h rfl 32 rfl (ix2 r k) ⟨r.val / 32, by omega⟩ rfl
    (ix2 ⟨r.val % 32, by omega⟩ k) rfl (fun b hb => by
      match b with
      | ⟨0, _⟩ => exact absurd rfl hb
      | ⟨1, _⟩ => rfl)]
  rw [piece_apply]
  congr 2
  exact Fin.ext (by show r.val / 32 / 4 * 32 + r.val % 32 = r.val / 128 * 32 + r.val % 32; omega)

/-- The rows entering the output projection from the recurrence. -/
def laid (P : Fin 4 → FVec Ideal S256x768 .bf16) : FVec Ideal S1024x768 .bf16 :=
  concatenate S1024x768 0 (List.ofFn fun n : Fin 32 => (⟨S32x768, piece P n⟩ : (s : Shape) × (s.Idx → Ideal .bf16)))
    concatenates_S32x768_S32x768_S32x768_S32x768_S32x768_S32x768_S32x768_S32x768_S32x768_S32x768_S32x768_S32x768_S32x768_S32x768_S32x768_S32x768_S32x768_S32x768_S32x768_S32x768_S32x768_S32x768_S32x768_S32x768_S32x768_S32x768_S32x768_S32x768_S32x768_S32x768_S32x768_S32x768_S1024x768_d0

/-- The output projection of a block: its two halves of the contraction. -/
def mixK (P : Fin 4 → FVec Ideal S256x768 .bf16) (v69 : FVec Ideal S1024x1024 .f32) (v73 : FVec Ideal S1x8x128x256 .bf16) :
    FVec Ideal S1024x1024 .f32 :=
  addf (FloatOps.matmul (F := Ideal) (φ₁ := .bf16) (φ₂ := .bf16) (DotDims.plain 1024 768 1024) none (laid P)
      (extractStridedSlice S768x1024 ![0, 0] v69 slices_S1024x1024_o0_0_S768x1024) (constant S1024x1024 .f32 0x00000000#32))
    (FloatOps.matmul (F := Ideal) (φ₁ := .bf16) (φ₂ := .bf16) (DotDims.plain 1024 256 1024) none
      (shapeCast S1024x256 (shapeCast S8x128x256 v73 shapeCasts_S1x8x128x256_S8x128x256) shapeCasts_S8x128x256_S1024x256)
      (extractStridedSlice S256x1024 ![768, 0] v69 slices_S1024x1024_o768_0_S256x1024) (constant S1024x1024 .f32 0x00000000#32))

/-- The printed projection is that one. -/
theorem pay14_eq (v0 : Vec Ideal S1x1024x768 .f32) (v16 : Vec Ideal S768x768 .f32) (v22 : Vec Ideal S256x256 .bf16)
    (v69 : Vec Ideal S1024x1024 .f32) (v73 : Vec Ideal S1x8x128x256 .bf16) :
    k0_pay14 (k0_pay4 v0 v16 v22) (k0_pay5 v0 v16 v22) (k0_pay6 v0 v16 v22) (k0_pay7 v0 v16 v22)
      (k0_pay8 v0 v16 v22) (k0_pay9 v0 v16 v22) (k0_pay10 v0 v16 v22) (k0_pay11 v0 v16 v22)
      (k0_pay12 v0 v16 v22) (k0_pay13 v0 v16 v22) v69 v73
    = mixK ![k0_pay4 v0 v16 v22, k0_pay5 v0 v16 v22, k0_pay6 v0 v16 v22, k0_pay7 v0 v16 v22] v69 v73 := rfl

theorem mixK_apply (P : Fin 4 → FVec Ideal S256x768 .bf16) (v69 : FVec Ideal S1024x1024 .f32) (v73 : FVec Ideal S1x8x128x256 .bf16)
    (r : Fin 1024) (d : Fin 1024) : mixK P v69 v73 (ix2 r d)
      = mix (fun k d => v69 (ix2 k d))
          (fun k => P ⟨r.val / 32 % 4, Nat.mod_lt _ (by decide)⟩ (ix2 ⟨r.val / 128 * 32 + r.val % 32, by omega⟩ k))
          (fun k => v73 (ix4 0 ⟨r.val / 128, by omega⟩ ⟨r.val % 128, by omega⟩ k)) d := by
  unfold mixK mix
  rw [addf_apply, plain_apply, plain_apply]
  refine congrArg₂ (· + ·) (Finset.sum_congr rfl fun k _ => congrArg₂ (· * ·) (laid_apply P _ r k) ?_)
    (Finset.sum_congr rfl fun k _ => congrArg₂ (· * ·) ?_ ?_)
  · exact extractStridedSlice_apply _ _ _ _ _ fun a => by
      match a with | ⟨0, _⟩ => exact (Nat.zero_add _).symm | ⟨1, _⟩ => exact (Nat.zero_add _).symm
  · rw [shapeCast_at (s := S8x128x256) (t := S1024x256) _ _ (j := ix2 r k) (ix3 ⟨r.val / 128, by omega⟩ ⟨r.val % 128, by omega⟩ k)
      (by rw [rowMajor2, rowMajor3]; show (r.val / 128 * 128 + r.val % 128) * 256 + k.val = _; omega), drop4]
  · exact extractStridedSlice_apply _ _ _ _ _ fun a => by
      match a with | ⟨0, _⟩ => rfl | ⟨1, _⟩ => exact (Nat.zero_add _).symm

/-- The row of the recurrence's block that local row `r` (a sequence's 128 steps, sequence by sequence) is made from:
    the block lies step by step. -/
def stepRow (r : Fin 1024) : Fin 1024 := ⟨r.val % 128 * 8 + r.val / 128, by omega⟩

/-- The output projection of a block at local row `r`. -/
theorem pay14_apply (v0 : Vec Ideal S1x1024x768 .f32) (v16 : Vec Ideal S768x768 .f32) (v22 : Vec Ideal S256x256 .bf16)
    (hperm : ∀ i c, v22 (ix2 i c) = if c = turn i then (1 : EReal) else 0)
    (v69 : Vec Ideal S1024x1024 .f32) (v73 : Vec Ideal S1x8x128x256 .bf16) (r d : Fin 1024) :
    mixK ![k0_pay4 v0 v16 v22, k0_pay5 v0 v16 v22, k0_pay6 v0 v16 v22, k0_pay7 v0 v16 v22] v69 v73 (ix2 r d)
      = mix (fun k d => v69 (ix2 k d)) (glu (fun i j => v16 (ix2 i j)) fun j => v0 (ix3 0 (stepRow r) j))
          (fun k => v73 (ix4 0 ⟨r.val / 128, by omega⟩ ⟨r.val % 128, by omega⟩ k)) d := by
  rw [mixK_apply]
  congr 1
  funext k
  rw [← pay2_apply]
  have hrow : ∀ (o : Nat) (ho : o + (turn ⟨r.val / 128 * 32 + r.val % 32, by omega⟩).val < 1024), o = r.val / 32 % 4 * 256 →
      (⟨o + (turn ⟨r.val / 128 * 32 + r.val % 32, by omega⟩).val, ho⟩ : Fin 1024) = stepRow r := fun o ho h => Fin.ext (by
    show o + ((r.val / 128 * 32 + r.val % 32) % 32 * 8 + (r.val / 128 * 32 + r.val % 32) / 32) = r.val % 128 * 8 + r.val / 128
    omega)
  obtain ⟨q, hq⟩ : ∃ q : Fin 4, (⟨r.val / 32 % 4, Nat.mod_lt _ (by decide)⟩ : Fin 4) = q := ⟨_, rfl⟩
  have hqv : r.val / 32 % 4 = q.val := congrArg Fin.val hq
  rw [hq]
  match q, hqv with
  | ⟨0, _⟩, h =>
    refine (pay4_apply v0 v16 v22 hperm _ k).trans (congrArg (fun i => k0_pay2 v0 v16 (ix2 i k)) ?_)
    have h' : r.val / 32 % 4 = 0 := h
    rw [← hrow 0 (by omega) (by omega)]; exact Fin.ext (Nat.zero_add _).symm
  | ⟨1, _⟩, h => exact (pay5_apply v0 v16 v22 hperm _ k).trans (congrArg (fun i => k0_pay2 v0 v16 (ix2 i k)) (hrow 256 _ (by have h' : r.val / 32 % 4 = 1 := h; omega)))
  | ⟨2, _⟩, h => exact (pay6_apply v0 v16 v22 hperm _ k).trans (congrArg (fun i => k0_pay2 v0 v16 (ix2 i k)) (hrow 512 _ (by have h' : r.val / 32 % 4 = 2 := h; omega)))
  | ⟨3, _⟩, h => exact (pay7_apply v0 v16 v22 hperm _ k).trans (congrArg (fun i => k0_pay2 v0 v16 (ix2 i k)) (hrow 768 _ (by have h' : r.val / 32 % 4 = 3 := h; omega)))

end Cert.Proof

end
-- ==== Proof.Bounds.lean ====
/- Where the arguments are real numbers of ordinary size, so is everything the call computes: the rows entering the norm
   are real, a normed row is at most 32 in magnitude whatever the row, and a logit stays far inside the masks' values. -/
module

public import proofs.«01_k».proof.Proof.Spec

@[expose] public section

noncomputable section

namespace Cert.Proof

open Idealize.ShloMosaic
open scoped BigOperators

/-- `x` is a real number. -/
def IsReal (x : EReal) : Prop := ∃ r : ℝ, x = (r : EReal)

/-- `x` is a real number of magnitude at most `B`. -/
def Within (B : ℝ) (x : EReal) : Prop := ∃ r : ℝ, x = (r : EReal) ∧ |r| ≤ B

theorem Within.isReal {B : ℝ} {x : EReal} (h : Within B x) : IsReal x := h.imp fun _ h => h.1

theorem Within.mono {A B : ℝ} {x : EReal} (h : Within A x) (hab : A ≤ B) : Within B x :=
  h.imp fun _ h => ⟨h.1, h.2.trans hab⟩

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem Within.add {A B : ℝ} {x y : EReal} : Within A x → Within B y → Within (A + B) (x + y) := by
  rintro ⟨a, rfl, ha⟩ ⟨b, rfl, hb⟩
  exact ⟨a + b, (EReal.coe_add a b).symm, (abs_add_le a b).trans (add_le_add ha hb)⟩

theorem Within.mul {A B : ℝ} {x y : EReal} : Within A x → Within B y → Within (A * B) (x * y) := by
  rintro ⟨a, rfl, ha⟩ ⟨b, rfl, hb⟩
  refine ⟨a * b, (EReal.coe_mul a b).symm, ?_⟩
  rw [abs_mul]
  exact mul_le_mul ha hb (abs_nonneg b) ((abs_nonneg a).trans ha)

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} (s : Finset ι) {f : ι → EReal} (h : ∀ i, IsReal (f i)) : IsReal (∑ i ∈ s, f i) := by
  choose g hg using h
  exact ⟨∑ i ∈ s, g i, by simp only [hg]; exact coe_sum s g⟩

theorem Within.sum {ι : Type} (s : Finset ι) {B : ℝ} {f : ι → EReal} (h : ∀ i, Within B (f i)) :
    Within (s.card * B) (∑ i ∈ s, f i) := by
  choose g hg hB using h
  refine ⟨∑ i ∈ s, g i, by simp only [hg]; exact coe_sum s g, ?_⟩
  refine (Finset.abs_sum_le_sum_abs g s).trans ((Finset.sum_le_sum fun i _ => hB i).trans ?_)
  rw [Finset.sum_const, nsmul_eq_mul]

/-! ## The constants -/

theorem cHalf_real : IsReal cHalf := ⟨1 / 2, by simp [cHalf, Ideal.ofBits, Ideal.ieee, -EReal.coe_mul]; norm_num⟩
theorem cOne_eq : cOne = ((1 : ℝ) : EReal) := by simp [cOne, Ideal.ofBits, Ideal.ieee, -EReal.coe_mul]; norm_num
theorem cLen_eq : cLen = ((1024 : ℝ) : EReal) := by simp [cLen, Ideal.ofBits, Ideal.ieee, -EReal.coe_mul]; norm_num
theorem cCube_real : IsReal cCube := ⟨_, by simp [cCube, Ideal.ofBits, Ideal.ieee, -EReal.coe_mul]; rfl⟩
theorem cRoot_real : IsReal cRoot := ⟨_, by simp [cRoot, Ideal.ofBits, Ideal.ieee, -EReal.coe_mul]; rfl⟩
theorem cEps_pos : ∃ e : ℝ, 0 < e ∧ cEps = (e : EReal) := by
  refine ⟨8796093 * 2 ^ (-43 : Int), by positivity, ?_⟩
  simp [cEps, Ideal.ofBits, Ideal.ieee, -EReal.coe_mul]

/-! ## The gated unit, the projection, the norm and the logits -/

theorem tanh_real {x : EReal} (h : IsReal x) : IsReal (Ideal.tanh x) := by
  obtain ⟨r, rfl⟩ := h; exact ⟨Real.tanh r, rfl⟩

theorem logistic_real {x : EReal} (h : IsReal x) : IsReal (Ideal.logistic x) := by
  obtain ⟨r, rfl⟩ := h
  have hp : (0 : ℝ) < 1 + Real.exp (-r) := by positivity
  have he : (1 : EReal) + Ideal.exp (-(r : EReal)) = ((1 + Real.exp (-r) : ℝ) : EReal) := by
    rw [EReal.coe_add, ← EReal.coe_neg]; rfl
  refine ⟨(1 + Real.exp (-r))⁻¹, ?_⟩
  unfold Ideal.logistic Ideal.div
  rw [he, if_neg (by exact_mod_cast hp.ne'), one_mul, ← EReal.coe_inv]

theorem gelu_real {y : EReal} (h : IsReal y) : IsReal (gelu y) :=
  h.mul (cHalf_real.mul ((show IsReal cOne from ⟨1, cOne_eq⟩).add
    (tanh_real (cRoot_real.mul (h.add (cCube_real.mul ((h.mul h).mul h)))))))

theorem glu_real {n : Nat} {w : Fin n → Fin n → EReal} {y : Fin n → EReal} (hw : ∀ i j, IsReal (w i j)) (hy : ∀ i, IsReal (y i))
    (k : Fin n) : IsReal (glu w y k) :=
  (gelu_real (hy k)).mul (logistic_real (IsReal.sum _ fun j => (gelu_real (hy j)).mul (hw j k)))

theorem mix_real {w : Fin 1024 → Fin 1024 → EReal} {u : Fin 768 → EReal} {f : Fin 256 → EReal} (hw : ∀ i j, IsReal (w i j))
    (hu : ∀ i, IsReal (u i)) (hf : ∀ i, IsReal (f i)) (d : Fin 1024) : IsReal (mix w u f d) :=
  (IsReal.sum _ fun k => (hu k).mul (hw _ d)).add (IsReal.sum _ fun k => (hf k).mul (hw _ d))

/-- A normed entry is at most the square root of the row's length. -/
theorem rms_within {x : Fin 1024 → EReal} (hx : ∀ d, IsReal (x d)) (d : Fin 1024) : Within 32 (x d * rms x) := by
  choose r hr using hx
  obtain ⟨e, he, hec⟩ := cEps_pos
  have hS : 0 ≤ ∑ d, r d * r d := Finset.sum_nonneg fun i _ => mul_self_nonneg (r i)
  have hm : Ideal.div (∑ d, x d * x d) cLen + cEps = (((∑ d, r d * r d) / 1024 + e : ℝ) : EReal) := by
    have hsum : (∑ d, x d * x d) = ((∑ d, r d * r d : ℝ) : EReal) := by
      simp only [hr, ← EReal.coe_mul]; exact coe_sum _ _
    unfold Ideal.div
    rw [hsum, cLen_eq, hec, if_neg (by exact_mod_cast (by norm_num : (1024 : ℝ) ≠ 0)), ← EReal.coe_inv, ← EReal.coe_mul,
      ← EReal.coe_add, div_eq_mul_inv]
  have hpos : 0 < (∑ d, r d * r d) / 1024 + e := by positivity
  have hrs : rms x = ((Real.sqrt ((∑ d, r d * r d) / 1024 + e))⁻¹ : ℝ) := by
    unfold rms
    rw [hm]
    show (if _ then _ else if _ then _ else _ : EReal) = _
    rw [if_neg (not_lt.mpr hpos.le), if_neg hpos.ne']
  refine ⟨r d * (Real.sqrt ((∑ d, r d * r d) / 1024 + e))⁻¹, by rw [hr, hrs, EReal.coe_mul], ?_⟩
  have hs : 0 < Real.sqrt ((∑ d, r d * r d) / 1024 + e) := Real.sqrt_pos.mpr hpos
  rw [abs_mul, abs_of_pos (inv_pos.mpr hs), ← div_eq_mul_inv, div_le_iff₀ hs]
  refine abs_le_of_sq_le_sq ?_ (by positivity)
  rw [mul_pow, Real.sq_sqrt hpos.le]
  have : r d * r d ≤ ∑ d, r d * r d := Finset.single_le_sum (fun i _ => mul_self_nonneg (r i)) (Finset.mem_univ d)
  nlinarith

theorem modNorm_within {x g sc sh : Fin 1024 → EReal} (hx : ∀ d, IsReal (x d)) (hg : ∀ d, Within (2 ^ 20) (g d))
    (hsc : ∀ d, Within (2 ^ 20) (sc d)) (hsh : ∀ d, Within (2 ^ 20) (sh d)) (d : Fin 1024) :
    Within (2 ^ 47) (modNorm x g sc sh d) :=
  ((((rms_within hx d).mul (hg d)).mul ((show Within 1 cOne from ⟨1, cOne_eq, by norm_num⟩).add (hsc d))).add (hsh d)).mono
    (by norm_num)

theorem logit_within {n : Nat} {w : Fin 1024 → Fin n → EReal} {b : Fin n → EReal} {h : Fin 1024 → EReal}
    (hw : ∀ d e, Within (2 ^ 20) (w d e)) (hb : ∀ e, Within (2 ^ 20) (b e)) (hh : ∀ d, Within (2 ^ 47) (h d)) (e : Fin n) :
    Within (2 ^ 78) (logit w b h e) :=
  ((Within.sum Finset.univ fun d => (hh d).mul (hw d e)).add (hb e)).mono (by simp; norm_num)

/-- The padding lanes' value lies below every logit, and the value that overwrites a chosen lane below both. -/
theorem pad_lt {x : EReal} (h : Within (2 ^ 78) x) : Ideal.ofBits .f32 0xF149F2CA#32 < x := by
  obtain ⟨r, rfl, hr⟩ := h
  have hp : Ideal.ofBits .f32 0xF149F2CA#32 = ((-(13234890 * 2 ^ 76) : ℝ) : EReal) := by
    simp [Ideal.ofBits, Ideal.ieee, -EReal.coe_mul]
  rw [hp]
  have := (abs_le.mp hr).1
  exact_mod_cast lt_of_lt_of_le (by norm_num) this

theorem mask_lt_pad : Ideal.ofBits .f32 0xFF61B1E6#32 < Ideal.ofBits .f32 0xF149F2CA#32 := by
  have hp : Ideal.ofBits .f32 0xF149F2CA#32 = ((-(13234890 * 2 ^ 76) : ℝ) : EReal) := by
    simp [Ideal.ofBits, Ideal.ieee, -EReal.coe_mul]
  have hq : Ideal.ofBits .f32 0xFF61B1E6#32 = ((-(14791142 * 2 ^ 104) : ℝ) : EReal) := by
    simp [Ideal.ofBits, Ideal.ieee, -EReal.coe_mul]
  rw [hp, hq]
  exact_mod_cast (by norm_num : (-(14791142 * 2 ^ 104) : ℝ) < -(13234890 * 2 ^ 76))

end Cert.Proof

end
-- ==== Proof.KernelNorm.lean ====
/- The kernel's residual row, its modulated norm and its router logits, read at an index. -/
module

public import proofs.«01_k».proof.Proof.KernelMix
public import proofs.«01_k».proof.Proof.Bounds

@[expose] public section

set_option maxRecDepth 16384

noncomputable section

namespace Cert.Proof

open Cert.KernelIdeal Cert.KernelIdeal.Gen Idealize.ShloMosaic Idealize.ShloMosaic.ValueIdx
open scoped BigOperators

/-- The row of a sequence of the latent grid, with its position added: the same four position rows serve both halves. -/
theorem pay15_apply (v80 : Vec Ideal S4x128x1024 .f32) (v83 : Vec Ideal S1x8x128x1024 .f32) (s : Fin 8) (q : Fin 128) (d : Fin 1024) :
    k0_pay15 v80 v83 (ix3 s q d) = v83 (ix4 0 s q d) + v80 (ix3 ⟨s.val % 4, Nat.mod_lt _ (by decide)⟩ q d) := by
  unfold k0_pay15
  rw [addf_apply, drop4]
  congr 1
  rw [shapeCast_self]
  by_cases h : s.val < 4
  · rw [concatenate_pair_apply_left (t := S8x128x1024) (s₁ := S4x128x1024) (s₂ := S4x128x1024) 0 v80 v80 _ (ix3 s q d) rfl
      (ix3 ⟨s.val, h⟩ q d) (fun b => by match b with | ⟨0, _⟩ => rfl | ⟨1, _⟩ => rfl | ⟨2, _⟩ => rfl)]
    congr 2; exact Fin.ext (Nat.mod_eq_of_lt h).symm
  · rw [concatenate_pair_apply_right (t := S8x128x1024) (s₁ := S4x128x1024) (s₂ := S4x128x1024) 0 v80 v80 _ (ix3 s q d) rfl rfl
      (ix3 ⟨s.val - 4, by omega⟩ q d)
      (fun b hb => by match b with | ⟨0, _⟩ => exact absurd rfl hb | ⟨1, _⟩ => rfl | ⟨2, _⟩ => rfl)
      (by show s.val - 4 + 4 = s.val; omega)]
    congr 2; exact Fin.ext (by show s.val - 4 = s.val % 4; omega)

/-- A slice of a sequence's modulation row, spread over its steps. -/
theorem modRow_apply (v89 : Vec Ideal S1x8x1x6144 .f32) (o : Nat) (ho : o + 1024 ≤ 6144) (h : S8x1x6144.Slices ![0, 0, o] S8x1x1024)
    (s : Fin 8) (d : Fin 1024) :
    extractStridedSlice S8x1x1024 ![0, 0, o] (k0_pay16 v89) h (ix3 s 0 d) = v89 (ix4 0 s 0 ⟨o + d.val, by omega⟩) :=
  (extractStridedSlice_apply _ _ _ _ (ix3 s 0 ⟨o + d.val, by omega⟩) fun a => by
    match a with
    | ⟨0, _⟩ => exact (Nat.zero_add _).symm
    | ⟨1, _⟩ => rfl
    | ⟨2, _⟩ => rfl).trans (drop4 v89 _ _ _ _)

/-- A row per sequence spread over its steps. -/
theorem spread_apply (x : FVec Ideal S8x1x1024 .f32) (h : S8x1x1024.Broadcasts S8x128x1024) (s : Fin 8) (q : Fin 128) (d : Fin 1024) :
    broadcastTo S8x128x1024 x h (ix3 s q d) = x (ix3 s 0 d) :=
  broadcastTo_apply _ _ _ _ fun a => by match a with | ⟨0, _⟩ => rfl | ⟨1, _⟩ => rfl | ⟨2, _⟩ => rfl

section
variable (v78 : FVec Ideal S1024x1024 .f32) (v79 : BitVec 1) (v85 : FVec Ideal S8x128x1024 .f32) (v86 : Vec Ideal S1x8x128x1024 .f32)
  (v89 : Vec Ideal S1x8x1x6144 .f32)

/-- The row the call leaves: the row it entered with plus the gated projection. -/
theorem pay17_apply (s : Fin 8) (q : Fin 128) (d : Fin 1024) : k0_pay17 v78 v79 v85 v86 v89 (ix3 s q d)
    = (if v79 = 1#1 then v85 (ix3 s q d) else v86 (ix4 0 s q d))
      + v89 (ix4 0 s 0 ⟨2048 + d.val, by omega⟩) * v78 (ix2 ⟨s.val * 128 + q.val, by omega⟩ d) := by
  unfold k0_pay17
  rw [addf_apply, mulf_apply, spread_apply, modRow_apply _ 2048 (by omega),
    shapeCast_at v78 _ (j := ix3 s q d) (ix2 ⟨s.val * 128 + q.val, by omega⟩ d) (by rw [rowMajor2, rowMajor3])]
  congr 1
  unfold Scalar.select
  by_cases h : v79 = 1#1
  · rw [if_pos h, if_pos (show v79 = 1 from h)]
  · rw [if_neg h, if_neg (show ¬ v79 = 1 from h)]; exact drop4 v86 _ _ _ _

theorem pay18_apply (s : Fin 8) (q : Fin 128) (d : Fin 1024) : k0_pay18 v78 v79 v85 v86 v89 (ix4 0 s q d)
    = k0_pay17 v78 v79 v85 v86 v89 (ix3 s q d) := by
  unfold k0_pay18
  exact shapeCast_at (s := S8x128x1024) (t := S1x8x128x1024) (j := ix4 0 s q d) _ _ (ix3 s q d) (by rw [rowMajor3, rowMajor4]; simp)

variable (v101 : Vec Ideal S1x1024 .f32)

/-- The modulated norm of that row. -/
theorem pay19_apply (s : Fin 8) (q : Fin 128) (d : Fin 1024) : k0_pay19 v78 v79 v85 v86 v89 v101 (ix3 s q d)
    = modNorm (fun d => k0_pay17 v78 v79 v85 v86 v89 (ix3 s q d)) (fun d => v101 (ix2 0 d))
        (fun d => v89 (ix4 0 s 0 ⟨4096 + d.val, by omega⟩)) (fun d => v89 (ix4 0 s 0 ⟨3072 + d.val, by omega⟩)) d := by
  have hsq : ∀ h, multiReduction (F := Ideal) .add [2] S8x128 (mulf (k0_pay17 v78 v79 v85 v86 v89) (k0_pay17 v78 v79 v85 v86 v89)) 0x00000000#32
      h (.inl rfl) rfl (ix2 s q) = ∑ k : Fin 1024, k0_pay17 v78 v79 v85 v86 v89 (ix3 s q k) * k0_pay17 v78 v79 v85 v86 v89 (ix3 s q k) := fun h => by
    refine (Ideal.multiReduction_add_single _ _ h _ _ _).trans (Finset.sum_congr rfl fun k _ => ?_)
    rw [mulf_apply]
    have : h.lift (ix2 s q) k = ix3 s q k := by
      funext a; match a with | ⟨0, _⟩ => rfl | ⟨1, _⟩ => rfl | ⟨2, _⟩ => rfl
    rw [this]; rfl
  have hcol : ∀ (x : FVec Ideal S8x128x1 .f32) h, broadcastTo S8x128x1024 x h (ix3 s q d) = x (ix3 s q 0) := fun x h =>
    broadcastTo_apply _ _ _ _ fun a => by match a with | ⟨0, _⟩ => rfl | ⟨1, _⟩ => rfl | ⟨2, _⟩ => rfl
  have hg : ∀ (x : FVec Ideal S1x1x1024 .f32) h, broadcastTo S8x128x1024 x h (ix3 s q d) = x (ix3 0 0 d) := fun x h =>
    broadcastTo_apply _ _ _ _ fun a => by match a with | ⟨0, _⟩ => rfl | ⟨1, _⟩ => rfl | ⟨2, _⟩ => rfl
  unfold k0_pay19 modNorm rms
  simp only [addf_apply, mulf_apply, spread_apply, hcol, hg]
  rw [modRow_apply _ 3072 (by omega), modRow_apply _ 4096 (by omega), shapeCast_self,
    shapeCast_at v101 _ (j := ix3 0 0 d) (ix2 0 d) (by rw [rowMajor2, rowMajor3]; simp)]
  refine congrArg (· + _) (congrArg (· * _) (congrArg (· * _) (congrArg (_ * ·) ?_)))
  show Ideal.rsqrt (Ideal.div (shapeCast S8x128x1 _ _ (ix3 s q 0)) cLen + cEps) = _
  rw [shapeCast_at _ _ (j := ix3 s q 0) (ix2 s q) (by rw [rowMajor2, rowMajor3]; simp), hsq]

theorem pay21_apply (v122 : FVec Ideal S8x128x1024 .bf16) (s : Fin 8) (q : Fin 128) (d : Fin 1024) : k0_pay21 v122 (ix4 0 s q d)
    = v122 (ix3 s q d) := by
  unfold k0_pay21
  exact shapeCast_at (s := S8x128x1024) (t := S1x8x128x1024) (j := ix4 0 s q d) _ _ (ix3 s q d) (by rw [rowMajor3, rowMajor4]; simp)

end

/-- The router's logits: one product with the router's matrix, and the bias. -/
theorem pay22_apply (v121 : FVec Ideal S8x128x1024 .f32) (v131 : Vec Ideal S1024x128 .f32) (v144 : Vec Ideal S1x128 .f32)
    (s : Fin 8) (q : Fin 128) (e : Fin 128) :
    k0_pay22 v121 v131 v144 (ix2 ⟨s.val * 128 + q.val, by omega⟩ e)
      = logit (fun d e => v131 (ix2 d e)) (fun e => v144 (ix2 0 e)) (fun d => v121 (ix3 s q d)) e := by
  have hrow : ∀ d, shapeCast S1024x1024 v121 shapeCasts_S8x128x1024_S1024x1024 (ix2 ⟨s.val * 128 + q.val, by omega⟩ d) = v121 (ix3 s q d) :=
    fun d => shapeCast_at _ _ _ (by rw [rowMajor2, rowMajor3])
  have hb : ∀ h, broadcastTo S1024x128 v144 h (ix2 ⟨s.val * 128 + q.val, by omega⟩ e) = v144 (ix2 0 e) := fun h =>
    broadcastTo_apply _ _ _ _ fun a => by match a with | ⟨0, _⟩ => rfl | ⟨1, _⟩ => rfl
  unfold k0_pay22 logit
  simp only [addf_apply, matmul]
  rw [shapeCast_self, shapeCast_self, hb]
  show FloatOps.matmul (F := Ideal) (DotDims.plain 1024 1024 128) _ _ _ _ _ + _ = _
  rw [plain_apply]
  simp only [hrow]

end Cert.Proof

end
-- ==== Proof.TopFour.lean ====
/- The four best of a row of logits, reached in the two ways the programs reach them: four rounds of maximum, first
   lane and overwriting, and a stable sort's first four. -/
module

public import proofs.«01_k».proof.Proof.Spec
public import Idealize.ShloMosaic.Lib.SortPrefix

@[expose] public section

noncomputable section

namespace Cert.Proof

open Idealize.ShloMosaic
open scoped BigOperators

/-! ## By rounds -/

/-- `p` is the first position of the greatest entry. -/
def FirstMax {n : Nat} (f : Fin n → EReal) (p : Fin n) : Prop := ∀ e, f e < f p ∨ (f e = f p ∧ p ≤ e)

theorem le_fold_max {n : Nat} (f : Fin n → EReal) (e : Fin n) : f e ≤ Finset.univ.fold max ⊥ f :=
  (Finset.fold_max_le (s := Finset.univ) (b := (⊥ : EReal)) (f := f) _).mp le_rfl |>.2 e (Finset.mem_univ e)

theorem fold_min_le {n : Nat} (f : Fin n → EReal) (e : Fin n) : Finset.univ.fold min ⊤ f ≤ f e :=
  (Finset.le_fold_min (s := Finset.univ) (b := (⊤ : EReal)) (f := f) _).mp le_rfl |>.2 e (Finset.mem_univ e)

/-- The maximum of a row of `n > 0` entries is the entry at its first maximal position, which a minimum over the
    positions of the maximum finds. -/
theorem exists_firstMax {n : Nat} (hn : 0 < n) (f : Fin n → EReal) (c : EReal) (hc : ∀ e : Fin n, ((e.val : ℝ) : EReal) < c) :
    ∃ p, FirstMax f p ∧ Finset.univ.fold max ⊥ f = f p
      ∧ (Finset.univ.fold min ⊤ fun e : Fin n => if f e = Finset.univ.fold max ⊥ f then ((e.val : ℝ) : EReal) else c)
        = ((p.val : ℝ) : EReal) := by
  classical
  haveI : Nonempty (Fin n) := ⟨⟨0, hn⟩⟩
  obtain ⟨a, ha⟩ := Finite.exists_max f
  have hM : Finset.univ.fold max ⊥ f = f a :=
    le_antisymm ((Finset.fold_max_le _).mpr ⟨bot_le, fun e _ => ha e⟩) (le_fold_max f a)
  let T : Finset (Fin n) := Finset.univ.filter fun e => f e = f a
  have hT : T.Nonempty := ⟨a, by simp [T]⟩
  let p := T.min' hT
  have hpT : f p = f a := (Finset.mem_filter.mp (T.min'_mem hT)).2
  have hpmin : ∀ e, f e = f a → p ≤ e := fun e he => T.min'_le e (by simp [T, he])
  refine ⟨p, fun e => ?_, hM.trans hpT.symm, ?_⟩
  · rcases lt_or_eq_of_le (ha e) with h | h
    · left; rw [hpT]; exact h
    · right; exact ⟨h.trans hpT.symm, hpmin e h⟩
  · rw [hM]
    refine le_antisymm ?_ ((Finset.le_fold_min _).mpr ⟨le_top, fun e _ => ?_⟩)
    · have := fold_min_le (fun e : Fin n => if f e = f a then ((e.val : ℝ) : EReal) else c) p
      simpa [hpT] using this
    · by_cases he : f e = f a
      · rw [if_pos he]
        exact_mod_cast hpmin e he
      · rw [if_neg he]; exact (hc p).le

/-- The same position found over signed words: lane numbers where the maximum is attained and 128 elsewhere. -/
theorem exists_firstLane (f : Fin 128 → EReal) :
    ∃ p, FirstMax f p ∧ Finset.univ.fold max ⊥ f = f p
      ∧ (Finset.univ.fold IntOp.minsi 2147483647#32 fun e : Fin 128 =>
          if f e = Finset.univ.fold max ⊥ f then BitVec.ofNat 32 e.val else 128#32) = BitVec.ofNat 32 p.val := by
  classical
  obtain ⟨p, hp, hmax, _⟩ := exists_firstMax (by decide) f ((128 : ℝ) : EReal) (fun e => by exact_mod_cast e.isLt)
  refine ⟨p, hp, hmax, BitVec.eq_of_toInt_eq ?_⟩
  have hn : ∀ e : Fin 128, (BitVec.ofNat 32 e.val).toInt = (e.val : Int) := by decide +kernel
  have hm : ∀ x y : BitVec 32, (IntOp.minsi x y).toInt = min x.toInt y.toInt := fun x y => by
    unfold IntOp.minsi
    by_cases h : x.slt y
    · rw [if_pos h]; rw [BitVec.slt_iff_toInt_lt] at h; omega
    · rw [if_neg h]; rw [BitVec.slt_iff_toInt_lt] at h; omega
  refine (Finset.fold_hom (op := IntOp.minsi) (op' := (min : Int → Int → Int)) (m := BitVec.toInt) hm).symm.trans ?_
  rw [hn, hmax]
  refine le_antisymm ((Finset.fold_min_le _).mpr (.inr ⟨p, Finset.mem_univ _, ?_⟩)) ((Finset.le_fold_min _).mpr ⟨?_, fun e _ => ?_⟩)
  · rw [if_pos rfl, hn]
  · have : (2147483647#32 : BitVec 32).toInt = 2147483647 := by decide
    rw [this]; omega
  · by_cases he : f e = f p
    · rw [if_pos he, hn]
      rcases hp e with h | ⟨_, h⟩
      · rw [he] at h; exact absurd h (lt_irrefl _)
      · exact_mod_cast h
    · rw [if_neg he]
      have : (128#32 : BitVec 32).toInt = 128 := by decide
      rw [this]; omega

/-- A row with the entries at the positions `p j`, `j < k`, overwritten by `z`. -/
def maskOut {n : Nat} (l : Fin n → EReal) (z : EReal) (p : Fin 4 → Fin n) (k : Fin 4) (e : Fin n) : EReal :=
  if ∃ j < k, p j = e then z else l e

/-- Four rounds of first maximum, each on the row with the earlier ones overwritten by something below every entry,
    name the four best. -/
theorem topFour_of_rounds {n : Nat} (h4 : 4 ≤ n) {l : Fin n → EReal} {z : EReal} (hz : ∀ e, z < l e)
    {p : Fin 4 → Fin n} (hp : ∀ k, FirstMax (maskOut l z p k) (p k)) : TopFour l p := by
  classical
  have hnew : ∀ k, ∀ j < k, p j ≠ p k := by
    intro k j hj hjk
    obtain ⟨e, he⟩ : ∃ e : Fin n, ∀ j < k, p j ≠ e := by
      by_contra hall
      push Not at hall
      have hsub : (Finset.univ : Finset (Fin n)) ⊆ (Finset.univ.erase k).image p := fun e _ => by
        obtain ⟨j, hj, rfl⟩ := hall e
        exact Finset.mem_image.mpr ⟨j, Finset.mem_erase.mpr ⟨hj.ne, Finset.mem_univ _⟩, rfl⟩
      have hc := (Finset.card_le_card hsub).trans Finset.card_image_le
      rw [Finset.card_erase_of_mem (Finset.mem_univ _)] at hc
      simp at hc
      omega
    have hk : maskOut l z p k (p k) = z := if_pos ⟨j, hj, hjk⟩
    have hem : maskOut l z p k e = l e := if_neg fun ⟨j, hj, h⟩ => he j hj h
    rcases hp k e with h | ⟨h, _⟩
    · rw [hk, hem] at h; exact lt_asymm h (hz e)
    · rw [hk, hem] at h; exact (hz e).ne' h
  refine fun k => ⟨hnew k, fun e he => ?_⟩
  have hk : maskOut l z p k (p k) = l (p k) := if_neg fun ⟨j, hj, h⟩ => hnew k j hj h
  have hem : maskOut l z p k e = l e := if_neg fun ⟨j, hj, h⟩ => he j hj.le h
  rcases hp k e with h | ⟨h, h'⟩
  · left; rwa [hk, hem] at h
  · right
    rw [hk, hem] at h
    exact ⟨h.symm, lt_of_le_of_ne h' (he k le_rfl)⟩

/-! ## By sorting -/

/-- Inserting an element that precedes the whole list consults the comparison only from the list's side. -/
theorem insertBefore_agree {ι : Type} (R R' : ι → ι → Bool) (a : ι) (m : List ι) (h : ∀ b ∈ m, R b a = R' b a) :
    insertBefore R a m = insertBefore R' a m := insertBefore_congr R R' a m h

/-- Two comparisons that agree when the second element is the earlier one sort an increasing list alike. -/
theorem stableSort_agree {n : Nat} (R R' : Fin n → Fin n → Bool) (h : ∀ a b, a < b → R b a = R' b a) :
    ∀ m : List (Fin n), m.Pairwise (· < ·) → stableSort R m = stableSort R' m
  | [], _ => rfl
  | a :: m, hm => by
    rw [List.pairwise_cons] at hm
    unfold stableSort
    rw [stableSort_agree R R' h m hm.2]
    exact insertBefore_agree R R' a _ fun b hb => h a b (hm.1 b ((perm_stableSort R' m).mem_iff.mp hb))

/-- The comparison by logit, then by number. -/
def aboveB {n : Nat} (l : Fin n → EReal) (a b : Fin n) : Bool :=
  (fun x y : EReal => decide (y < x)) (l a) (l b) || (decide (l a = l b) && decide (a < b))

theorem aboveB_iff {n : Nat} (l : Fin n → EReal) (a b : Fin n) : aboveB l a b = true ↔ Above l a b := by
  simp [aboveB, Above]

theorem aboveB_total {n : Nat} (l : Fin n → EReal) : StrictTotalBefore (aboveB l) :=
  StrictTotalBefore.of_key_then_position (fun x y : EReal => decide (y < x)) l (by simp)
    (fun a b c h1 h2 => by
      simp only [decide_eq_true_eq] at *; exact lt_trans h2 h1)
    (fun a b => by
      rcases lt_trichotomy a b with h | h | h
      · right; right; simpa using h
      · right; left; exact h
      · left; simpa using h)

/-- The stable sort by logit alone keeps equal logits in order of their number. -/
theorem sortedFrom_gt {n : Nat} (l : Fin n → EReal) (R : Fin n → Fin n → Bool) (hR : ∀ a b, R a b = decide (l b < l a)) :
    sortedFrom R = sortedFrom (aboveB l) := by
  have hpos : sortPositions n R = sortPositions n (aboveB l) :=
    stableSort_agree _ _ (fun a b hab => by
      have : ¬ b < a := lt_asymm hab
      simp [aboveB, hR, this]) _ (List.pairwise_lt_finRange n)
  funext k
  unfold sortedFrom
  rw [List.get_of_eq hpos]
  rfl

/-- The first four positions of the stable sort by descending logit are the four best. -/
theorem topFour_of_sort {n : Nat} (h4 : 4 ≤ n) (l : Fin n → EReal) (R : Fin n → Fin n → Bool)
    (hR : ∀ a b, R a b = decide (l b < l a)) : TopFour l fun k => sortedFrom R (k.castLE h4) := by
  rw [sortedFrom_gt l R hR]
  have hB := aboveB_total l
  refine fun k => ⟨fun j hj h => ?_, fun e he => ?_⟩
  · have := sortedFrom_injective _ h
    exact hj.ne (Fin.ext (by simpa using congrArg Fin.val this))
  · obtain ⟨i, rfl⟩ := sortedFrom_surjective (aboveB l) e
    have hki : k.castLE h4 < i := by
      by_contra hle
      have hle' : i.val ≤ k.val := by
        have := not_lt.mp hle
        exact this
      exact he ⟨i.val, by omega⟩ (by exact hle') (by congr 1)
    have h1 := sortedFrom_noInversion (aboveB l) (aboveB l) (fun a b h => hB.asymm a b h) (fun _ _ h => h) hB.negTrans _ _ hki
    rcases hB.total (sortedFrom (aboveB l) (k.castLE h4)) (sortedFrom (aboveB l) i)
      (fun h => hki.ne (sortedFrom_injective _ h)) with h | h
    · exact (aboveB_iff l _ _).mp h
    · rw [h1] at h; exact absurd h (by decide)

end Cert.Proof

end
-- ==== Proof.KernelTop.lean ====
/- The kernel's four rounds of maximum and first lane over 128 lanes of logits, and the combine rows made of them. -/
module

public import proofs.«01_k».proof.Proof.KernelNorm
public import proofs.«01_k».proof.Proof.TopFour

@[expose] public section

set_option maxRecDepth 16384

noncomputable section

namespace Cert.Proof

open Cert.KernelIdeal Cert.KernelIdeal.Gen Idealize.ShloMosaic Idealize.ShloMosaic.ValueIdx
open scoped BigOperators

/-- What overwrites a lane already chosen. -/
abbrev cTaken : EReal := Ideal.ofBits .f32 0xFF61B1E6#32

/-- A round's maximum of each row. -/
def topK (L : FVec Ideal S1024x128 .f32) : FVec Ideal S1024x1 .f32 :=
  shapeCast S1024x1 (multiReduction .maximumf [1] S1024 L 0xFF800000#32 reduces_S1024x128_S1024 (.inl rfl) rfl) shapeCasts_S1024_S1024x1

/-- The lanes' numbers. -/
def lanes : IVec S1024x128 32 := iota .tc S1024x128 32 [1] iota_S1024x128_d1_w32

/-- The first lane that attains it. -/
def laneK (L : FVec Ideal S1024x128 .f32) : IVec S1024 32 :=
  multiReductionI .minsi [1] S1024 (select (cmpf .oeq L (broadcastTo S1024x128 (topK L) broadcasts_S1024x1_S1024x128))
    lanes (broadcast S1024x128 128#32)) 2147483647#32 reduces_S1024x128_S1024 rfl

/-- That lane as a mask. -/
def pickK (L : FVec Ideal S1024x128 .f32) : IVec S1024x128 1 :=
  cmpi .eq lanes (broadcastTo S1024x128 (shapeCast S1024x1 (laneK L) shapeCasts_S1024_S1024x1) broadcasts_S1024x1_S1024x128)

/-- The row with that lane overwritten. -/
def restK (L : FVec Ideal S1024x128 .f32) : FVec Ideal S1024x128 .f32 :=
  select (pickK L) (broadcast S1024x128 (Scalar.ofBits .f32 0xFF61B1E6#32)) L

/-- A choice's unnormalised weight. -/
def expK (a b : FVec Ideal S1024x1 .f32) : FVec Ideal S1024x1 .f32 := exp (subf a b)

/-- A choice's weight on its lane, zero elsewhere. -/
def putK (m : IVec S1024x128 1) (w : FVec Ideal S1024x1 .f32) : FVec Ideal S1024x128 .f32 :=
  select m (broadcastTo S1024x128 (shapeCast S1024x1 w shapeCasts_S1024x1_S1024x1) broadcasts_S1024x1_S1024x128)
    (broadcast S1024x128 (Scalar.ofBits .f32 0x00000000#32))

/-- The sum of the four unnormalised weights. -/
def totK (a b c d : FVec Ideal S1024x1 .f32) : FVec Ideal S1024x1 .f32 := addf (addf (addf (expK a a) (expK b a)) (expK c a)) (expK d a)

/-- The combine rows of a block of logits. -/
def combK (L : FVec Ideal S1024x128 .f32) : FVec Ideal S1024x128 .f32 :=
  let L2 := restK L
  let L3 := restK L2
  let L4 := restK L3
  let t := totK (topK L) (topK L2) (topK L3) (topK L4)
  addf (addf (addf (addf (broadcast S1024x128 (Scalar.ofBits .f32 0x00000000#32)) (putK (pickK L) (divf (expK (topK L) (topK L)) t)))
    (putK (pickK L2) (divf (expK (topK L2) (topK L)) t))) (putK (pickK L3) (divf (expK (topK L3) (topK L)) t)))
    (putK (pickK L4) (divf (expK (topK L4) (topK L)) t))

section
variable (v121 : FVec Ideal S8x128x1024 .f32) (v131 : Vec Ideal S1024x128 .f32) (v144 : Vec Ideal S1x128 .f32)

/-- The printed combine block is those rows, reshaped. -/
theorem pay1_eq :
    k0_pay1 (k0_pay31 (iota .tc S1024x128 32 [1] iota_S1024x128_d1_w32) (k0_pay23 v121 v131 v144) (k0_pay24 v121 v131 v144)
      (k0_pay26 v121 v131 v144) (k0_pay27 v121 v131 v144) (k0_pay28 v121 v131 v144) (k0_pay29 v121 v131 v144) (k0_pay30 v121 v131 v144))
    = shapeCast S1x8x128x128 (shapeCast S8x128x128 (combK (k0_pay22 v121 v131 v144)) shapeCasts_S1024x128_S8x128x128)
        shapeCasts_S8x128x128_S1x8x128x128 := rfl

end

/-! ## One round at a row -/

theorem lane_apply (r : Fin 1024) (e : Fin 128) : lanes (ix2 r e) = BitVec.ofNat 32 e.val :=
  (iota_single_apply _ _ _ _ _ _ : (iota .tc S1024x128 32 [1] iota_S1024x128_d1_w32) (ix2 r e) = BitVec.ofNat 32 e.val)

theorem column_apply {α : Type} (x : S1024x1.Idx → α) (r : Fin 1024) (e : Fin 128) :
    broadcastTo S1024x128 x broadcasts_S1024x1_S1024x128 (ix2 r e) = x (ix2 r 0) :=
  broadcastTo_apply _ _ _ _ fun a => by match a with | ⟨0, _⟩ => rfl | ⟨1, _⟩ => rfl

theorem toColumn_apply {α : Type} (x : S1024.Idx → α) (r : Fin 1024) :
    shapeCast S1024x1 x shapeCasts_S1024_S1024x1 (ix2 r 0) = x (ix1 r) :=
  shapeCast_at (s := S1024) (t := S1024x1) (j := ix2 r 0) _ _ (ix1 r) (by rw [rowMajor1, rowMajor2]; simp)

theorem oeq_eq (a b : EReal) : (Ideal.cmp .oeq a b = 1) ↔ a = b := by
  unfold Ideal.cmp
  by_cases h : a = b <;> simp [h]

theorem topK_apply (L : FVec Ideal S1024x128 .f32) (r : Fin 1024) :
    topK L (ix2 r 0) = Finset.univ.fold max ⊥ fun e : Fin 128 => L (ix2 r e) := by
  unfold topK
  rw [toColumn_apply]
  refine (Ideal.multiReduction_maximumf_single L _ reduces_S1024x128_S1024 _ _ (ix1 r)).trans ?_
  have h0 : FloatOps.ofBits (F := Ideal) .f32 0xFF800000#32 = (⊥ : EReal) := by
    show Ideal.ofBits .f32 0xFF800000#32 = ⊥; simp [Ideal.ofBits, Ideal.ieee]
  rw [h0]
  congr 1
  funext e
  show L _ = L _
  congr 1; funext a; match a with | ⟨0, _⟩ => rfl | ⟨1, _⟩ => rfl

theorem laneK_apply (L : FVec Ideal S1024x128 .f32) (r : Fin 1024) :
    laneK L (ix1 r) = Finset.univ.fold IntOp.minsi 2147483647#32 fun e : Fin 128 =>
      if L (ix2 r e) = topK L (ix2 r 0) then BitVec.ofNat 32 e.val else 128#32 := by
  unfold laneK
  refine (multiReductionI_eq_fold .minsi _ _ reduces_S1024x128_S1024 _ (ix1 r)).trans
    ((reduces_S1024x128_S1024.fold_filter_drop_single IntOp.minsi _ _ (ix1 r)).trans ?_)
  refine congrArg (Finset.univ.fold IntOp.minsi 2147483647#32) (funext fun e : Fin 128 => ?_)
  have hi : reduces_S1024x128_S1024.lift (ix1 r) e = ix2 r e := by
    funext a; match a with | ⟨0, _⟩ => rfl | ⟨1, _⟩ => rfl
  show Scalar.select (Ideal.cmp .oeq (L (reduces_S1024x128_S1024.lift (ix1 r) e)) (broadcastTo S1024x128 (topK L) broadcasts_S1024x1_S1024x128 (reduces_S1024x128_S1024.lift (ix1 r) e)))
    (lanes (reduces_S1024x128_S1024.lift (ix1 r) e)) 128#32 = _
  rw [hi, column_apply, lane_apply]
  unfold Scalar.select
  simp only [oeq_eq]

theorem pickK_apply (L : FVec Ideal S1024x128 .f32) (r : Fin 1024) (e : Fin 128) :
    (pickK L (ix2 r e) = 1) ↔ BitVec.ofNat 32 e.val = laneK L (ix1 r) := by
  show (Scalar.cmpi .eq (lanes (ix2 r e))
    (broadcastTo S1024x128 (shapeCast S1024x1 (laneK L) shapeCasts_S1024_S1024x1) broadcasts_S1024x1_S1024x128 (ix2 r e)) = 1) ↔ _
  rw [column_apply, toColumn_apply, lane_apply]
  show (BitVec.ofBool (BitVec.ofNat 32 e.val == laneK L (ix1 r)) = 1) ↔ _
  by_cases h : BitVec.ofNat 32 e.val = laneK L (ix1 r)
  · simp [h]
  · rw [beq_eq_false_iff_ne.mpr h]; simp [h]

theorem expK_apply (a b : FVec Ideal S1024x1 .f32) (i : S1024x1.Idx) : expK a b i = Ideal.exp (a i - b i) := rfl

theorem totK_apply (a b c d : FVec Ideal S1024x1 .f32) (i : S1024x1.Idx) :
    totK a b c d i = expK a a i + expK b a i + expK c a i + expK d a i := rfl

theorem divK_apply (a b : FVec Ideal S1024x1 .f32) (i : S1024x1.Idx) : divf a b i = Ideal.div (a i) (b i) := rfl

/-- A round at row `r`: the first position of the maximum, the maximum, its mask and the row left. -/
theorem round_apply (L : FVec Ideal S1024x128 .f32) (r : Fin 1024) :
    ∃ p : Fin 128, FirstMax (fun e => L (ix2 r e)) p ∧ topK L (ix2 r 0) = L (ix2 r p)
      ∧ (∀ (e : Fin 128), (pickK L (ix2 r e) = 1) ↔ p = e) ∧ ∀ e, restK L (ix2 r e) = if p = e then cTaken else L (ix2 r e) := by
  obtain ⟨p, hp, hmax, hmin⟩ := exists_firstLane (fun e : Fin 128 => L (ix2 r e))
  have hpick : ∀ e : Fin 128, (pickK L (ix2 r e) = 1) ↔ p = e := fun e => by
    rw [pickK_apply, laneK_apply, topK_apply, hmin]
    constructor
    · intro h
      have := congrArg BitVec.toNat h
      rw [BitVec.toNat_ofNat, BitVec.toNat_ofNat, Nat.mod_eq_of_lt (by omega), Nat.mod_eq_of_lt (by omega)] at this
      exact Fin.ext this.symm
    · rintro rfl; rfl
  refine ⟨p, hp, (topK_apply L r).trans hmax, hpick, fun e => ?_⟩
  show Scalar.select (pickK L (ix2 r e)) cTaken (L (ix2 r e)) = _
  unfold Scalar.select
  simp only [hpick]

theorem putK_apply (m : IVec S1024x128 1) (w : FVec Ideal S1024x1 .f32) (r : Fin 1024) (e p : Fin 128)
    (hm : (m (ix2 r e) = 1) ↔ p = e) : putK m w (ix2 r e) = if p.val = e.val then w (ix2 r 0) else 0 := by
  show Scalar.select (m (ix2 r e)) (broadcastTo S1024x128 (shapeCast S1024x1 w shapeCasts_S1024x1_S1024x1) broadcasts_S1024x1_S1024x128 (ix2 r e))
    (Ideal.ofBits .f32 0x00000000#32) = _
  rw [column_apply, shapeCast_self, Ideal.ofBits_zero_f32]
  unfold Scalar.select
  simp only [hm, Fin.ext_iff]

/-- The combine rows: four rounds name the four best lanes, and each puts its softmax weight on its lane. -/
theorem combK_apply (L : FVec Ideal S1024x128 .f32) (r : Fin 1024) (hz : ∀ e, cTaken < L (ix2 r e)) :
    ∃ p, TopFour (fun e : Fin 128 => L (ix2 r e)) p ∧ ∀ e : Fin 128, combK L (ix2 r e) = combine (fun e : Fin 128 => L (ix2 r e)) p e.val := by
  obtain ⟨p0, f0, t0, k0, n0⟩ := round_apply L r
  obtain ⟨p1, f1, t1, k1, n1⟩ := round_apply (restK L) r
  obtain ⟨p2, f2, t2, k2, n2⟩ := round_apply (restK (restK L)) r
  obtain ⟨p3, f3, t3, k3, n3⟩ := round_apply (restK (restK (restK L))) r
  let l : Fin 128 → EReal := fun e => L (ix2 r e)
  let p : Fin 4 → Fin 128 := ![p0, p1, p2, p3]
  have m0 : (fun e => L (ix2 r e)) = maskOut l cTaken p 0 := by
    funext e; simp [maskOut, l]
  have m1 : (fun e => restK L (ix2 r e)) = maskOut l cTaken p 1 := by
    funext e
    rw [n0]
    have : (∃ j < (1 : Fin 4), p j = e) ↔ p0 = e :=
      ⟨fun ⟨j, hj, h⟩ => by match j, hj with | ⟨0, _⟩, _ => exact h, fun h => ⟨0, by decide, h⟩⟩
    simp only [maskOut, this]; rfl
  have m2 : (fun e => restK (restK L) (ix2 r e)) = maskOut l cTaken p 2 := by
    funext e
    rw [n1, n0]
    have : (∃ j < (2 : Fin 4), p j = e) ↔ p1 = e ∨ p0 = e :=
      ⟨fun ⟨j, hj, h⟩ => by match j, hj with | ⟨0, _⟩, _ => exact .inr h | ⟨1, _⟩, _ => exact .inl h,
        fun h => h.elim (fun h => ⟨1, by decide, h⟩) fun h => ⟨0, by decide, h⟩⟩
    simp only [maskOut, this, ite_or]; rfl
  have m3 : (fun e => restK (restK (restK L)) (ix2 r e)) = maskOut l cTaken p 3 := by
    funext e
    rw [n2, n1, n0]
    have : (∃ j < (3 : Fin 4), p j = e) ↔ p2 = e ∨ p1 = e ∨ p0 = e :=
      ⟨fun ⟨j, hj, h⟩ => by
        match j, hj with
        | ⟨0, _⟩, _ => exact .inr (.inr h)
        | ⟨1, _⟩, _ => exact .inr (.inl h)
        | ⟨2, _⟩, _ => exact .inl h,
        fun h => h.elim (fun h => ⟨2, by decide, h⟩) fun h => h.elim (fun h => ⟨1, by decide, h⟩) fun h => ⟨0, by decide, h⟩⟩
    simp only [maskOut, this, ite_or]; rfl
  have hfm : ∀ k, FirstMax (maskOut l cTaken p k) (p k) := fun k => by
    match k with
    | ⟨0, _⟩ => exact m0 ▸ f0
    | ⟨1, _⟩ => exact m1 ▸ f1
    | ⟨2, _⟩ => exact m2 ▸ f2
    | ⟨3, _⟩ => exact m3 ▸ f3
  have htop : TopFour l p := topFour_of_rounds (by decide) hz hfm
  have hval : ∀ k : Fin 4, maskOut l cTaken p k (p k) = l (p k) := fun k => if_neg fun ⟨j, hj, h⟩ => (htop k).1 j hj h
  have v0 : topK L (ix2 r 0) = l (p 0) := t0
  have v1 : topK (restK L) (ix2 r 0) = l (p 1) := t1.trans ((congrFun m1 p1).trans (hval 1))
  have v2 : topK (restK (restK L)) (ix2 r 0) = l (p 2) := t2.trans ((congrFun m2 p2).trans (hval 2))
  have v3 : topK (restK (restK (restK L))) (ix2 r 0) = l (p 3) := t3.trans ((congrFun m3 p3).trans (hval 3))
  refine ⟨p, htop, fun e => ?_⟩
  have hw : ∀ (x : FVec Ideal S1024x1 .f32) (k : Fin 4), x (ix2 r 0) = l (p k) →
      divf (expK x (topK L)) (totK (topK L) (topK (restK L)) (topK (restK (restK L))) (topK (restK (restK (restK L))))) (ix2 r 0)
        = weight l p k := fun x k hx => by
    rw [divK_apply, totK_apply, expK_apply, expK_apply, expK_apply, expK_apply, expK_apply]
    rw [hx, v0, v1, v2, v3]
    unfold weight
    rw [Fin.sum_univ_four]
  unfold combK
  simp only [addf_apply]
  rw [putK_apply _ _ r e p0 (k0 e), putK_apply _ _ r e p1 (k1 e), putK_apply _ _ r e p2 (k2 e), putK_apply _ _ r e p3 (k3 e),
    hw _ 0 v0, hw _ 1 v1, hw _ 2 v2, hw _ 3 v3]
  unfold combine
  rw [Fin.sum_univ_four]
  show Ideal.ofBits .f32 0x00000000#32 + _ + _ + _ + _ = _
  rw [Ideal.ofBits_zero_f32, zero_add]
  rfl

end Cert.Proof

end
-- ==== Proof.Rows.lean ====
/- The three results of the routing call at one token, as functions of the arguments' entries. -/
module

public import proofs.«01_k».proof.Proof.Bounds
public import proofs.«01_k».proof.Proof.TopFour

@[expose] public section

noncomputable section

namespace Cert.Proof

open Idealize.ShloMosaic
open scoped BigOperators

/-- The arguments, entry by entry: the recurrence's rows in time-major groups, the Fourier rows, the prompts, the
    samples, the position table, the modulation rows, and the weights. -/
structure Args where
  y : Fin 3 → Fin 2048 → Fin 768 → EReal
  f : Fin 3 → Fin 8 → Fin 256 → Fin 256 → EReal
  p : Fin 16 → Fin 256 → Fin 1024 → EReal
  s : Fin 2 → Fin 1024 → Fin 1024 → EReal
  pos : Fin 1024 → Fin 1024 → EReal
  mod : Fin 24 → Fin 6144 → EReal
  wGlu : Fin 768 → Fin 768 → EReal
  wOut : Fin 1024 → Fin 1024 → EReal
  g : Fin 1024 → EReal
  wr : Fin 1024 → Fin 32 → EReal
  br : Fin 32 → EReal

/-- Finite arguments, the ones past the norm of moderate size. -/
structure Args.Tame (A : Args) : Prop where
  y : ∀ a b c, IsReal (A.y a b c)
  f : ∀ a b c d, IsReal (A.f a b c d)
  p : ∀ a b c, IsReal (A.p a b c)
  s : ∀ a b c, IsReal (A.s a b c)
  pos : ∀ a b, IsReal (A.pos a b)
  wGlu : ∀ a b, IsReal (A.wGlu a b)
  wOut : ∀ a b, IsReal (A.wOut a b)
  mod : ∀ a b, Within (2 ^ 20) (A.mod a b)
  g : ∀ a, Within (2 ^ 20) (A.g a)
  wr : ∀ a b, Within (2 ^ 20) (A.wr a b)
  br : ∀ a, Within (2 ^ 20) (A.br a)

/-- Chunk `s` of group `g`. -/
def chunk (g : Fin 3) (s : Fin 8) : Fin 24 := ⟨g.val * 8 + s.val, by omega⟩

/-- Token `l` of chunk `s` in its sample: four chunks make one sample. -/
def spot (s : Fin 8) (l : Fin 256) : Fin 1024 := ⟨s.val % 4 * 256 + l.val, by omega⟩

section
variable (A : Args) (g : Fin 3) (s : Fin 8) (l : Fin 256)

/-- The layer's input row: a prompt's in the first two groups, a sample's with its position in the third. -/
def inRow (d : Fin 1024) : EReal :=
  if h : g.val < 2 then A.p ⟨g.val * 8 + s.val, by omega⟩ l d else A.s ⟨s.val / 4, by omega⟩ (spot s l) d + A.pos (spot s l) d

/-- The token mixer's output row. -/
def mixRow (d : Fin 1024) : EReal := mix A.wOut (glu A.wGlu (A.y g ⟨l.val * 8 + s.val, by omega⟩)) (A.f g s l) d

/-- The row after the mixer's gated residual. -/
def midRow (d : Fin 1024) : EReal := inRow A g s l d + A.mod (chunk g s) ⟨2048 + d.val, by omega⟩ * mixRow A g s l d

/-- The experts' input row. -/
def normRow (d : Fin 1024) : EReal :=
  modNorm (midRow A g s l) A.g (fun d => A.mod (chunk g s) ⟨4096 + d.val, by omega⟩) (fun d => A.mod (chunk g s) ⟨3072 + d.val, by omega⟩) d

/-- The router's logits. -/
def logitRow (e : Fin 32) : EReal := logit A.wr A.br (normRow A g s l) e

end

/-- The four best of a row: the first four positions of its stable sort by descending value. -/
def best (l : Fin 32 → EReal) : Fin 4 → Fin 32 := fun k => sortedFrom (fun a b => decide (l b < l a)) (k.castLE (by decide))

theorem best_top (l : Fin 32 → EReal) : TopFour l (best l) := topFour_of_sort (by decide) l _ fun _ _ => rfl

/-- The combine row: the softmax of the four best logits on their experts' lanes. -/
def routeRow (A : Args) (g : Fin 3) (s : Fin 8) (l : Fin 256) (e : Nat) : EReal :=
  combine (logitRow A g s l) (best (logitRow A g s l)) e

section
variable {A : Args} (hA : A.Tame) (g : Fin 3) (s : Fin 8) (l : Fin 256)
include hA

theorem midRow_real (d : Fin 1024) : IsReal (midRow A g s l d) := by
  refine IsReal.add ?_ ((hA.mod _ _).isReal.mul (mix_real hA.wOut (glu_real hA.wGlu (hA.y _ _)) (hA.f _ _ _) d))
  unfold inRow
  split
  · exact hA.p _ _ _
  · exact (hA.s _ _ _).add (hA.pos _ _)

theorem normRow_within (d : Fin 1024) : Within (2 ^ 47) (normRow A g s l d) :=
  modNorm_within (midRow_real hA g s l) hA.g (fun _ => hA.mod _ _) (fun _ => hA.mod _ _) d

theorem logitRow_within (e : Fin 32) : Within (2 ^ 78) (logitRow A g s l e) :=
  logit_within hA.wr hA.br (normRow_within hA g s l) e

end

end Cert.Proof

end
-- ==== Proof.Windows.lean ====
/- The blocks the kernel's grid points read, each an entry of an argument array: the point `t` works on group `t / 2` of
   eight chunks and on half `t % 2` of the chunks' 256 tokens. -/
module

public import proofs.«01_k».proof.Proof.Gen.KernelIdeal.Value
public import proofs.«01_k».proof.Proof.KernelTop
public import proofs.«01_k».proof.Proof.Rows
public import Idealize.ShloMosaic.Lib.Pipeline.ValueKit
public import Idealize.ShloMosaic.Lib.Routing.OpsOne

@[expose] public section

set_option maxRecDepth 16384

noncomputable section

namespace Cert.Proof

open Cert.KernelIdeal Cert.KernelIdeal.Gen Idealize.ShloMosaic.TcCoe Idealize.SL.Sem Idealize.ShloMosaic.ValueIdx
open Idealize.ShloMosaic hiding ix1 ix2 ix3 ix4
open Idealize.ShloMosaic.Routing (resultIdx?_ix2 start_pair scatter_set_hit scatter_set_miss)
open Idealize.ShloMosaic.Pipeline (Dat)

variable (m : (ℓ : Loc nD τ sig) → Buf (Elt Ideal) ℓ) (c : Dev nD)

/-- The arguments as arrays of extended reals. -/
abbrev aY : FVec Ideal S3x2048x768 .f32 := m ((c : Thread nD τ).loc main_arg0)
abbrev aF : FVec Ideal S3x8x256x256 .bf16 := m ((c : Thread nD τ).loc main_arg1)
abbrev aP : FVec Ideal S16x256x1024 .f32 := m ((c : Thread nD τ).loc main_arg2)
abbrev aS : FVec Ideal S2x1024x1024 .f32 := m ((c : Thread nD τ).loc main_arg3)
abbrev aPos : FVec Ideal S1024x1024 .f32 := m ((c : Thread nD τ).loc main_arg4)
abbrev aMod : FVec Ideal S24x6144 .f32 := m ((c : Thread nD τ).loc main_arg5)
abbrev aGlu : FVec Ideal S768x768 .f32 := m ((c : Thread nD τ).loc main_arg6)
abbrev aOut : FVec Ideal S1024x1024 .f32 := m ((c : Thread nD τ).loc main_arg7)
abbrev aG : FVec Ideal S1024 .f32 := m ((c : Thread nD τ).loc main_arg8)
abbrev aWr : FVec Ideal S1024x32 .f32 := m ((c : Thread nD τ).loc main_arg9)
abbrev aBr : FVec Ideal S32 .f32 := m ((c : Thread nD τ).loc main_arg10)

theorem idx0 : ∀ t : Fin cfg0.N, win0_0.index t = ![t.val / 2, t.val % 2, 0] :=
  (by decide +kernel : ∀ t : Fin grid0.N, win0_0.index t = ![t.val / 2, t.val % 2, 0])
theorem idx1 : ∀ t : Fin cfg0.N, win0_1.index t = ![t.val / 2, 0, t.val % 2, 0] :=
  (by decide +kernel : ∀ t : Fin grid0.N, win0_1.index t = ![t.val / 2, 0, t.val % 2, 0])
theorem idx2 : ∀ t : Fin cfg0.N, win0_2.index t = ![min (t.val / 2) 1, 0, if t.val / 2 < 2 then t.val % 2 else 1, 0] :=
  (by decide +kernel : ∀ t : Fin grid0.N, win0_2.index t = ![min (t.val / 2) 1, 0, if t.val / 2 < 2 then t.val % 2 else 1, 0])
theorem idx3 : ∀ t : Fin cfg0.N, win0_3.index t = ![0, 0, if t.val / 2 < 2 then 0 else t.val % 2, 0] :=
  (by decide +kernel : ∀ t : Fin grid0.N, win0_3.index t = ![0, 0, if t.val / 2 < 2 then 0 else t.val % 2, 0])
theorem idx4 : ∀ t : Fin cfg0.N, win0_4.index t = ![0, t.val % 2, 0] :=
  (by decide +kernel : ∀ t : Fin grid0.N, win0_4.index t = ![0, t.val % 2, 0])
theorem idx5 : ∀ t : Fin cfg0.N, win0_5.index t = ![t.val / 2, 0, 0, 0] :=
  (by decide +kernel : ∀ t : Fin grid0.N, win0_5.index t = ![t.val / 2, 0, 0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])
theorem idx11 : ∀ t : Fin cfg0.N, win0_11.index t = ![0, 0] := (by decide +kernel : ∀ t : Fin grid0.N, win0_11.index t = ![0, 0])
theorem idx12 : ∀ t : Fin cfg0.N, win0_12.index t = ![t.val / 2, 0, t.val % 2, 0] :=
  (by decide +kernel : ∀ t : Fin grid0.N, win0_12.index t = ![t.val / 2, 0, t.val % 2, 0])
theorem idx13 : ∀ t : Fin cfg0.N, win0_13.index t = ![t.val / 2, 0, t.val % 2, 0] :=
  (by decide +kernel : ∀ t : Fin grid0.N, win0_13.index t = ![t.val / 2, 0, t.val % 2, 0])
theorem idx14 : ∀ t : Fin cfg0.N, win0_14.index t = ![t.val / 2, 0, t.val % 2, 0] :=
  (by decide +kernel : ∀ t : Fin grid0.N, win0_14.index t = ![t.val / 2, 0, t.val % 2, 0])
theorem points : ∀ t : Fin cfg0.N, t.val < 6 := (by decide +kernel : ∀ t : Fin grid0.N, t.val < 6)
theorem coord0 : ∀ t : Fin cfg0.N, (grid0.coords t 0).val = t.val / 2 := (by decide +kernel : ∀ t : Fin grid0.N, (grid0.coords t 0).val = t.val / 2)

/-- The group of a point and the token of its block's row `q`. -/
def grp (t : Fin cfg0.N) : Fin 3 := ⟨t.val / 2, by have := points t; omega⟩
def tok (t : Fin cfg0.N) (q : Fin 128) : Fin 256 := ⟨t.val % 2 * 128 + q.val, by omega⟩

theorem in0 (t : Fin cfg0.N) (n : Fin 1024) (k : Fin 768) :
    iblk m c 0 t (ix3 0 n k) = aY m c (ix3 (grp t) ⟨t.val % 2 * 1024 + n.val, by omega⟩ k) := by
  have h := points t
  unfold grp
  blk_ext [iblk, V_main_arg0, idx0]

theorem in1 (t : Fin cfg0.N) (s : Fin 8) (q : Fin 128) (k : Fin 256) :
    iblk m c 1 t (ix4 0 s q k) = aF m c (ix4 (grp t) s (tok t q) k) := by
  have h := points t
  unfold grp tok
  blk_ext [iblk, V_main_arg1, idx1]

theorem in6 (t : Fin cfg0.N) (i k : Fin 768) : iblk m c 6 t (ix2 i k) = aGlu m c (ix2 i k) := by
  blk_ext [iblk, V_main_arg6, idx6]

theorem in7 (t : Fin cfg0.N) (i k : Fin 1024) : iblk m c 7 t (ix2 i k) = aOut m c (ix2 i k) := by
  blk_ext [iblk, V_main_arg7, idx7]

theorem in8 (t : Fin cfg0.N) (d : Fin 1024) : iblk m c 8 t (ix2 0 d) = aG m c (ix1 d) := by
  show ((cfg0.win 8).blk t).view.read (Elt Ideal) (V m c main_v24) (ix2 0 d) = _
  entry_read
  show shapeCast S1x1024 (aG m c) shapeCasts_S1024_S1x1024 (((cfg0.win 8).blk t).view.emb (ix2 0 d)) = _
  rw [show ((cfg0.win 8).blk t).view.emb (ix2 0 d) = ix2 0 d from by blk_ext [idx8]]
  exact shapeCast_at (s := S1024) (t := S1x1024) (j := ix2 0 d) _ _ (ix1 d) (by rw [rowMajor1, rowMajor2]; simp)

theorem in2 (t : Fin cfg0.N) (ht : t.val / 2 < 2) (s : Fin 8) (q : Fin 128) (d : Fin 1024) :
    iblk m c 2 t (ix4 0 s q d) = aP m c (ix3 ⟨t.val / 2 * 8 + s.val, by omega⟩ (tok t q) d) := by
  have h := points t
  show ((cfg0.win 2).blk t).view.read (Elt Ideal) (V m c main_v0) (ix4 0 s q d) = _
  entry_read
  show shapeCast S2x8x256x1024 (aP m c) shapeCasts_S16x256x1024_S2x8x256x1024 (((cfg0.win 2).blk t).view.emb (ix4 0 s q d)) = _
  rw [show ((cfg0.win 2).blk t).view.emb (ix4 0 s q d) = ix4 ⟨t.val / 2, ht⟩ s (tok t q) d from by
    unfold tok
    have e2 := idx2 t
    rw [if_pos ht, min_eq_left (by omega)] at e2
    blk_ext [e2]]
  exact shapeCast_at (s := S16x256x1024) (t := S2x8x256x1024) (j := ix4 _ s (tok t q) d) _ _ (ix3 _ (tok t q) d)
    (by rw [rowMajor3, rowMajor4])

theorem in3 (t : Fin cfg0.N) (ht : ¬ t.val / 2 < 2) (s : Fin 8) (q : Fin 128) (d : Fin 1024) :
    iblk m c 3 t (ix4 0 s q d)
      = aS m c (ix3 ⟨s.val / 4, by omega⟩ ⟨s.val % 4 * 256 + (tok t q).val, by have := (tok t q).isLt; omega⟩ d) := by
  have h := points t
  show ((cfg0.win 3).blk t).view.read (Elt Ideal) (V m c main_v1) (ix4 0 s q d) = _
  entry_read
  show shapeCast S1x8x256x1024 (aS m c) shapeCasts_S2x1024x1024_S1x8x256x1024 (((cfg0.win 3).blk t).view.emb (ix4 0 s q d)) = _
  rw [show ((cfg0.win 3).blk t).view.emb (ix4 0 s q d) = ix4 0 s (tok t q) d from by
    unfold tok
    have e2 := idx3 t
    rw [if_neg ht] at e2
    blk_ext [e2]]
  exact shapeCast_at (s := S2x1024x1024) (t := S1x8x256x1024) (j := ix4 0 s (tok t q) d) _ _ (ix3 _ _ d)
    (by rw [rowMajor3, rowMajor4]; simp only [Fin.val_zero]; omega)

theorem in4 (t : Fin cfg0.N) (a : Fin 4) (q : Fin 128) (d : Fin 1024) :
    iblk m c 4 t (ix3 a q d) = aPos m c (ix2 ⟨a.val * 256 + (tok t q).val, by have := (tok t q).isLt; omega⟩ d) := by
  have h := points t
  show ((cfg0.win 4).blk t).view.read (Elt Ideal) (V m c main_v2) (ix3 a q d) = _
  entry_read
  show shapeCast S4x256x1024 (aPos m c) shapeCasts_S1024x1024_S4x256x1024 (((cfg0.win 4).blk t).view.emb (ix3 a q d)) = _
  rw [show ((cfg0.win 4).blk t).view.emb (ix3 a q d) = ix3 a (tok t q) d from by
    unfold tok
    blk_ext [idx4]]
  exact shapeCast_at (s := S1024x1024) (t := S4x256x1024) (j := ix3 a (tok t q) d) _ _ (ix2 _ d) (by rw [rowMajor3, rowMajor2])

theorem in5 (t : Fin cfg0.N) (s : Fin 8) (j : Fin 6144) :
    iblk m c 5 t (ix4 0 s 0 j) = aMod m c (ix2 (chunk (grp t) s) j) := by
  have h := points t
  show ((cfg0.win 5).blk t).view.read (Elt Ideal) (V m c main_v3) (ix4 0 s 0 j) = _
  entry_read
  show shapeCast S3x8x1x6144 (aMod m c) shapeCasts_S24x6144_S3x8x1x6144 (((cfg0.win 5).blk t).view.emb (ix4 0 s 0 j)) = _
  rw [show ((cfg0.win 5).blk t).view.emb (ix4 0 s 0 j) = ix4 (grp t) s 0 j from by
    unfold grp
    blk_ext [idx5]]
  exact shapeCast_at (s := S24x6144) (t := S3x8x1x6144) (j := ix4 (grp t) s 0 j) _ _ (ix2 (chunk (grp t) s) j)
    (by rw [rowMajor2, rowMajor4]; simp [chunk])

/-! ## The operands the host builds -/

/-- The router weights on the first 32 of 128 lanes, zero on the others. -/
theorem wide_w (x : FVec Ideal S1024x128 .f32) (idx : IVec S1 32) (hi : (idx (ix1 0)).toInt = 0) (w : FVec Ideal S1024x32 .f32)
    (d : Fin 1024) (e : Fin 128) :
    Host.scatter scatter_S1024x128_S1_S1024x32_01_n_1_0 (fun _ b => b) x idx w (ix2 d e)
      = if h : e.val < 32 then w (ix2 d ⟨e.val, h⟩) else x (ix2 d e) := by
  have hland : ∀ (j : S1024x32.Idx), scatter_S1024x128_S1_S1024x32_01_n_1_0.resultIdx? j idx = some (ix2 d e) ↔ (j 0).val = d.val ∧ (j 1).val = e.val := fun j => by
    have w0 : scatter_S1024x128_S1_S1024x32_01_n_1_0.window j 0 = (j 0).val := rfl
    have w1 : scatter_S1024x128_S1_S1024x32_01_n_1_0.window j 1 = (j 1).val := rfl
    have s0 : scatter_S1024x128_S1_S1024x32_01_n_1_0.start j idx 0 = 0 := rfl
    have s1 : scatter_S1024x128_S1_S1024x32_01_n_1_0.start j idx 1 = 0 := by
      rw [← hi]
      show (idx _).toInt = _
      congr 2; funext b
      match b with | ⟨0, _⟩ => exact Subsingleton.elim (α := Fin 1) _ _
    refine (resultIdx?_ix2 _ _ _ _ _).trans ?_
    rw [s0, s1, w0, w1]
    omega
  by_cases h : e.val < 32
  · rw [dif_pos h]
    refine scatter_set_hit _ _ _ _ _ _ (fun k hk => ?_) (ix2 d ⟨e.val, h⟩) ((hland _).mpr ⟨rfl, rfl⟩)
    have := (hland k).mp hk
    congr 1; funext a
    match a with
    | ⟨0, _⟩ => exact Fin.ext this.1
    | ⟨1, _⟩ => exact Fin.ext this.2
  · rw [dif_neg h]
    refine scatter_set_miss _ _ _ _ _ fun k hk => h ?_
    rw [← ((hland k).mp hk).2]; exact (k 1).isLt

/-- The router bias on the first 32 of 128 lanes, the fill on the others. -/
theorem wide_b (x : FVec Ideal S1x128 .f32) (idx : IVec S2 32) (h0 : (idx (ix1 0)).toInt = 0) (h1 : (idx (ix1 1)).toInt = 0)
    (w : FVec Ideal S32 .f32) (e : Fin 128) :
    Host.scatter scatter_S1x128_S2_S32_0_0_01_0 (fun _ b => b) x idx w (ix2 0 e)
      = if h : e.val < 32 then w (ix1 ⟨e.val, h⟩) else x (ix2 0 e) := by
  have hland : ∀ (j : S32.Idx), scatter_S1x128_S2_S32_0_0_01_0.resultIdx? j idx = some (ix2 0 e) ↔ (j 0).val = e.val := fun j => by
    have w0 : scatter_S1x128_S2_S32_0_0_01_0.window j 0 = 0 := rfl
    have w1 : scatter_S1x128_S2_S32_0_0_01_0.window j 1 = (j 0).val := rfl
    refine (resultIdx?_ix2 _ _ _ _ _).trans ?_
    rw [start_pair _ rfl rfl, start_pair _ rfl rfl, w0, w1]
    simp only [Fin.isValue, Fin.val_zero]
    have h1' := h1
    have h0' := h0
    omega
  by_cases h : e.val < 32
  · rw [dif_pos h]
    refine scatter_set_hit _ _ _ _ _ _ (fun k hk => ?_) (ix1 ⟨e.val, h⟩) ((hland _).mpr rfl)
    have := (hland k).mp hk
    congr 1; funext a
    match a with
    | ⟨0, _⟩ => exact Fin.ext this
  · rw [dif_neg h]
    refine scatter_set_miss _ _ _ _ _ fun k hk => h ?_
    rw [← (hland k).mp hk]; exact (k 0).isLt

theorem host9 : V m c main_v18 = Host.scatter scatter_S1024x128_S1_S1024x32_01_n_1_0 (fun _ b => b)
    (broadcastInDim S1024x128 ![] bcast_S_S1024x128 (constant (F := Ideal) S_ .f32 0x00000000#32))
    (broadcastInDim S1 ![] bcast_S_S1 (constantI S_ 32 0#32)) (aWr m c) := by
  entry_read; rfl

theorem host10 : V m c main_v23 = Host.scatter scatter_S1x128_S2_S32_0_0_01_0 (fun _ b => b)
    (broadcastInDim S1x128 ![] bcast_S_S1x128 (constant (F := Ideal) S_ .f32 0xF149F2CA#32))
    (concatenate S2 0 [⟨S1, broadcastInDim S1 ![] bcast_S_S1 (constantI S_ 32 0#32)⟩,
      ⟨S1, broadcastInDim S1 ![] bcast_S_S1 (constantI S_ 32 0#32)⟩] concatenates_S1_S1_S2_d0) (aBr m c) := by
  entry_read; rfl

theorem fill_apply {s : Shape} (h : S_.BroadcastsInDim s ![]) (b : BitVec 32) (i : s.Idx) :
    broadcastInDim s ![] h (constant (F := Ideal) S_ .f32 b) i = Ideal.ofBits .f32 b := rfl

theorem first_two :
    ((concatenate S2 0 [⟨S1, broadcastInDim S1 ![] bcast_S_S1 (constantI S_ 32 0#32)⟩,
      ⟨S1, broadcastInDim S1 ![] bcast_S_S1 (constantI S_ 32 0#32)⟩] concatenates_S1_S1_S2_d0) (ix1 0)).toInt = 0 ∧
    ((concatenate S2 0 [⟨S1, broadcastInDim S1 ![] bcast_S_S1 (constantI S_ 32 0#32)⟩,
      ⟨S1, broadcastInDim S1 ![] bcast_S_S1 (constantI S_ 32 0#32)⟩] concatenates_S1_S1_S2_d0) (ix1 1)).toInt = 0 := by
  decide +kernel

theorem in9 (t : Fin cfg0.N) (d : Fin 1024) (e : Fin 128) :
    iblk m c 9 t (ix2 d e) = if h : e.val < 32 then aWr m c (ix2 d ⟨e.val, h⟩) else (0 : EReal) := by
  have e9 : iblk m c 9 t (ix2 d e) = V m c main_v18 (ix2 d e) := by
    show V m c main_v18 (((cfg0.win 9).blk t).view.emb (ix2 d e)) = _
    rw [show ((cfg0.win 9).blk t).view.emb (ix2 d e) = ix2 d e from by blk_ext [idx9]]
  rw [e9, host9]
  have hw := wide_w (broadcastInDim S1024x128 ![] bcast_S_S1024x128 (constant (F := Ideal) S_ .f32 0x00000000#32))
    (broadcastInDim S1 ![] bcast_S_S1 (constantI S_ 32 0#32)) (by decide +kernel) (aWr m c) d e
  rw [hw, fill_apply, Ideal.ofBits_zero_f32]

theorem in10 (t : Fin cfg0.N) (e : Fin 128) :
    iblk m c 10 t (ix2 0 e) = if h : e.val < 32 then aBr m c (ix1 ⟨e.val, h⟩) else Ideal.ofBits .f32 0xF149F2CA#32 := by
  have e10 : iblk m c 10 t (ix2 0 e) = V m c main_v23 (ix2 0 e) := by blk_ext [iblk, idx10]
  rw [e10, host10]
  have hw := wide_b (broadcastInDim S1x128 ![] bcast_S_S1x128 (constant (F := Ideal) S_ .f32 0xF149F2CA#32)) _ first_two.1 first_two.2 (aBr m c) e
  rw [hw, fill_apply]

/-- The host's number of the column that holds a row's one. -/
def turnWord (x : BitVec 32) : BitVec 32 := IntOp.addi (IntOp.muli (IntOp.remsi .host x 32#32) 8#32) (IntOp.divsi .host x 32#32)

theorem turn_word : ∀ i : Fin 256, turnWord (BitVec.ofNat 32 i.val) = BitVec.ofNat 32 (turn i).val := by
  decide +kernel

theorem host11 : V m c main_v15 = truncf .bf16 (uitofp (F := Ideal) .f32 (cmpi .eq (iotaInDim S256x256 32 1)
    (fun i => turnWord (iotaInDim S256x256 32 0 i)))) bitsLt_bf16_f32 := by
  entry_read; rfl

theorem in11 (t : Fin cfg0.N) (i j : Fin 256) : iblk m c 11 t (ix2 i j) = if j = turn i then (1 : EReal) else 0 := by
  have e11 : iblk m c 11 t (ix2 i j) = V m c main_v15 (ix2 i j) := by blk_ext [iblk, idx11]
  rw [e11, host11]
  show (((IntOp.cmpi .eq (BitVec.ofNat 32 j.val) (turnWord (BitVec.ofNat 32 i.val))).toNat : ℝ) : EReal) = _
  rw [turn_word]
  have hj := j.isLt
  have ht := (turn i).isLt
  by_cases h : j = turn i
  · rw [if_pos h, ← h]; simp [IntOp.cmpi]
  · rw [if_neg h]
    have : ¬ BitVec.ofNat 32 j.val = BitVec.ofNat 32 (turn i).val := fun e => h (Fin.ext (by
      have e' := congrArg BitVec.toNat e
      simp only [BitVec.toNat_ofNat] at e'
      omega))
    simp [IntOp.cmpi, this]

end Cert.Proof

end
-- ==== Proof.Blocks.lean ====
/- The kernel's three results after the run, entry by entry: each point's blocks are the rows of `Rows`. -/
module

public import proofs.«01_k».proof.Proof.Windows

@[expose] public section

set_option maxRecDepth 16384

noncomputable section

namespace Cert.Proof

open Cert.KernelIdeal Cert.KernelIdeal.Gen Idealize.ShloMosaic.TcCoe Idealize.SL.Sem Idealize.ShloMosaic.ValueIdx
open Idealize.ShloMosaic hiding ix1 ix2 ix3 ix4
open Idealize.ShloMosaic.Pipeline (Dat)
open scoped BigOperators

/-! ## Whole loads and stores -/

theorem all0 {n : Nat} (x : Fin n → Nat) (h : ∀ a, x a = 0) : x = fun _ => 0 := funext h

section
variable (x0 : Vec Ideal S1x1024x768 .f32) (x1 : Vec Ideal S1x8x128x256 .bf16) (x2 : Vec Ideal S1x8x128x1024 .f32)
  (x4 : Vec Ideal S4x128x1024 .f32) (x5 : Vec Ideal S1x8x1x6144 .f32) (x6 : Vec Ideal S768x768 .f32) (x7 : Vec Ideal S1024x1024 .f32)
  (x8 : Vec Ideal S1x1024 .f32) (x9 : Vec Ideal S1024x128 .f32) (x10 : Vec Ideal S1x128 .f32) (x11 : Vec Ideal S256x256 .bf16)

theorem whole0 : View.ld x0 r0_0 = x0 := View.ld_unit_zero (all0 _ (by decide)) _ _
theorem whole1 : View.ld x6 r0_1 = x6 := View.ld_unit_zero (all0 _ (by decide)) _ _
theorem whole2 : View.ld x11 r0_2 = x11 := View.ld_unit_zero (all0 _ (by decide)) _ _
theorem whole3 : View.ld x7 r0_3 = x7 := View.ld_unit_zero (all0 _ (by decide)) _ _
theorem whole4 : View.ld x1 r0_4 = x1 := View.ld_unit_zero (all0 _ (by decide)) _ _
theorem whole5 : View.ld x4 r0_5 = x4 := View.ld_unit_zero (all0 _ (by decide)) _ _
theorem whole6 : View.ld x2 r0_6 = x2 := View.ld_unit_zero (all0 _ (by decide)) _ _
theorem whole7 : View.ld x5 r0_7 = x5 := View.ld_unit_zero (all0 _ (by decide)) _ _
theorem whole8 : View.ld x8 r0_8 = x8 := View.ld_unit_zero (all0 _ (by decide)) _ _
theorem whole9 : View.ld x9 r0_9 = x9 := View.ld_unit_zero (all0 _ (by decide)) _ _
theorem whole10 : View.ld x10 r0_10 = x10 := View.ld_unit_zero (all0 _ (by decide)) _ _
end

variable (m : (ℓ : Loc nD τ sig) → Buf (Elt Ideal) ℓ) (c : Dev nD)

/-- The kernel's arguments, entry by entry. -/
def kArgs : Args where
  y := fun g n k => aY m c (ix3 g n k)
  f := fun g s l k => aF m c (ix4 g s l k)
  p := fun b l d => aP m c (ix3 b l d)
  s := fun b l d => aS m c (ix3 b l d)
  pos := fun l d => aPos m c (ix2 l d)
  mod := fun n j => aMod m c (ix2 n j)
  wGlu := fun i j => aGlu m c (ix2 i j)
  wOut := fun i j => aOut m c (ix2 i j)
  g := fun d => aG m c (ix1 d)
  wr := fun d e => aWr m c (ix2 d e)
  br := fun e => aBr m c (ix1 e)

/-- A value the body names, at a point's blocks. -/
abbrev atPoint {α : Type} (f : grid0.Coords → Vec Ideal S1x1024x768 .f32 → Vec Ideal S1x8x128x256 .bf16 → Vec Ideal S1x8x128x1024 .f32 → Vec Ideal S1x8x128x1024 .f32 → Vec Ideal S4x128x1024 .f32 → Vec Ideal S1x8x1x6144 .f32 → Vec Ideal S768x768 .f32 → Vec Ideal S1024x1024 .f32 → Vec Ideal S1x1024 .f32 → Vec Ideal S1024x128 .f32 → Vec Ideal S1x128 .f32 → Vec Ideal S256x256 .bf16 → α)
    (t : Fin cfg0.N) : α :=
  f (grid0.coords t) (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t)

/-- The mixer's rows. -/
theorem mixed_at (t : Fin cfg0.N) (s : Fin 8) (q : Fin 128) (d : Fin 1024) :
    atPoint m c (k0_pay32 (F := Ideal)) t (ix2 ⟨s.val * 128 + q.val, by omega⟩ d) = mixRow (kArgs m c) (grp t) s (tok t q) d := by
  unfold atPoint k0_pay32
  rw [whole0, whole1, whole2, whole3, whole4, pay14_eq, pay14_apply _ _ _ (in11 m c t)]
  unfold mixRow
  have hr : stepRow ⟨s.val * 128 + q.val, by omega⟩ = ⟨q.val * 8 + s.val, by omega⟩ := by
    apply Fin.ext; unfold stepRow; dsimp only; omega
  have hs : (⟨(s.val * 128 + q.val) / 128, by omega⟩ : Fin 8) = s := Fin.ext (by dsimp only; omega)
  have hq : (⟨(s.val * 128 + q.val) % 128, by omega⟩ : Fin 128) = q := Fin.ext (by dsimp only; omega)
  have h0 : (fun j => iblk m c 0 t (ix3 0 (stepRow ⟨s.val * 128 + q.val, by omega⟩) j))
      = (kArgs m c).y (grp t) ⟨(tok t q).val * 8 + s.val, by have := (tok t q).isLt; omega⟩ := by
    funext j
    rw [hr, in0]
    show aY m c _ = aY m c _
    congr 2; apply Fin.ext; unfold tok; dsimp only; omega
  have h1 : (fun k => iblk m c 1 t (ix4 0 (⟨(s.val * 128 + q.val) / 128, by omega⟩ : Fin 8) (⟨(s.val * 128 + q.val) % 128, by omega⟩ : Fin 128) k))
      = (kArgs m c).f (grp t) s (tok t q) := by
    funext k; rw [hs, hq, in1]; rfl
  have h6 : (fun i j => iblk m c 6 t (ix2 i j)) = (kArgs m c).wGlu := by funext i j; exact in6 m c t i j
  have h7 : (fun i j => iblk m c 7 t (ix2 i j)) = (kArgs m c).wOut := by funext i j; exact in7 m c t i j
  exact congr (congr (congr (congrArg mix h7) (congr (congrArg glu h6) h0)) h1) rfl

/-- The flag of the third group. -/
abbrev third (t : Fin cfg0.N) : BitVec 1 := Scalar.cmpi .eq (BitVec.ofNat 32 (grid0.coords t 0).val) 2#32

theorem third_iff : ∀ t : Fin cfg0.N, third t = 1#1 ↔ ¬ t.val / 2 < 2 :=
  (by decide +kernel : ∀ t : Fin grid0.N, Scalar.cmpi .eq (BitVec.ofNat 32 (grid0.coords t 0).val) 2#32 = 1#1 ↔ ¬ t.val / 2 < 2)

/-- The rows after the gated residual, as the body computes them at a point. -/
abbrev midK (t : Fin cfg0.N) : FVec Ideal S8x128x1024 .f32 :=
  k0_pay17 (atPoint m c (k0_pay32 (F := Ideal)) t) (third t) (atPoint m c (k0_pay33 (F := Ideal)) t) (iblk m c 2 t) (iblk m c 5 t)

theorem mid_at (t : Fin cfg0.N) (s : Fin 8) (q : Fin 128) (d : Fin 1024) :
    midK m c t (ix3 s q d) = midRow (kArgs m c) (grp t) s (tok t q) d := by
  unfold midK
  rw [pay17_apply, mixed_at, in5]
  unfold midRow
  congr 1
  unfold inRow
  by_cases h : t.val / 2 < 2
  · rw [if_neg (fun e => (third_iff t).mp e h), in2 m c t h]
    rw [dif_pos (show (grp t).val < 2 from h)]
    rfl
  · rw [if_pos ((third_iff t).mpr h)]
    rw [dif_neg (show ¬ (grp t).val < 2 from h)]
    unfold atPoint k0_pay33
    rw [whole5, whole6, pay15_apply, in3 m c t h, in4]
    rfl

/-- The experts' input rows, as the body computes them at a point. -/
theorem norm_at (t : Fin cfg0.N) (s : Fin 8) (q : Fin 128) (d : Fin 1024) :
    atPoint m c (k0_pay34 (F := Ideal)) t (ix3 s q d) = normRow (kArgs m c) (grp t) s (tok t q) d := by
  unfold atPoint k0_pay34
  rw [whole6, whole7, whole8]
  refine (pay19_apply _ _ _ _ _ _ s q d).trans ?_
  unfold normRow
  have hx : (fun d => midK m c t (ix3 s q d)) = midRow (kArgs m c) (grp t) s (tok t q) := funext fun d => mid_at m c t s q d
  have hg : (fun d => iblk m c 8 t (ix2 0 d)) = (kArgs m c).g := by
    funext d; rw [in8]; rfl
  have hm : ∀ o (ho : o + 1024 ≤ 6144), (fun d : Fin 1024 => iblk m c 5 t (ix4 0 s 0 ⟨o + d.val, by omega⟩))
      = fun d : Fin 1024 => (kArgs m c).mod (chunk (grp t) s) ⟨o + d.val, by omega⟩ := fun o ho => by
    funext d; rw [in5]; rfl
  exact congr (congr (congr (congr (congrArg modNorm hx) hg) (hm 4096 (by omega))) (hm 3072 (by omega))) rfl

/-! ## The combine rows -/

/-- The logits on 128 lanes, as the body computes them at a point. -/
abbrev logitK (t : Fin cfg0.N) : FVec Ideal S1024x128 .f32 :=
  k0_pay22 (atPoint m c (k0_pay34 (F := Ideal)) t) (iblk m c 9 t) (iblk m c 10 t)

variable {m c} (hA : (kArgs m c).Tame)
include hA

theorem logit_at (t : Fin cfg0.N) (s : Fin 8) (q : Fin 128) (e : Fin 128) :
    logitK m c t (ix2 ⟨s.val * 128 + q.val, by omega⟩ e)
      = if h : e.val < 32 then logitRow (kArgs m c) (grp t) s (tok t q) ⟨e.val, h⟩ else Ideal.ofBits .f32 0xF149F2CA#32 := by
  unfold logitK
  refine (pay22_apply _ _ _ s q e).trans ?_
  unfold logit
  simp only [norm_at, in9, in10]
  by_cases h : e.val < 32
  · rw [dif_pos h, dif_pos h]
    simp only [dif_pos h]
    rfl
  · rw [dif_neg h, dif_neg h]
    simp only [dif_neg h]
    have : ∀ d, normRow (kArgs m c) (grp t) s (tok t q) d * (0 : EReal) = 0 := fun d => mul_zero _
    simp only [this, Finset.sum_const_zero, zero_add]

theorem comb_at (t : Fin cfg0.N) (s : Fin 8) (q : Fin 128) (e : Fin 128) :
    combK (logitK m c t) (ix2 ⟨s.val * 128 + q.val, by omega⟩ e) = routeRow (kArgs m c) (grp t) s (tok t q) e.val := by
  have hl := logit_at hA t s q
  have hw := logitRow_within hA (grp t) s (tok t q)
  have hin : ∀ e : Fin 32, logitK m c t (ix2 ⟨s.val * 128 + q.val, by omega⟩ (e.castLE (by decide)))
      = logitRow (kArgs m c) (grp t) s (tok t q) e := fun e => (hl _).trans (dif_pos e.isLt)
  have hpad : ∀ e : Fin 128, 32 ≤ e.val → logitK m c t (ix2 ⟨s.val * 128 + q.val, by omega⟩ e) = Ideal.ofBits .f32 0xF149F2CA#32 :=
    fun e he => (hl e).trans (dif_neg (by omega))
  have hz : ∀ e : Fin 128, cTaken < logitK m c t (ix2 ⟨s.val * 128 + q.val, by omega⟩ e) := fun e => by
    by_cases h : e.val < 32
    · rw [hl, dif_pos h]; exact mask_lt_pad.trans (pad_lt (hw _))
    · rw [hpad e (by omega)]; exact mask_lt_pad
  obtain ⟨p, hp, hc⟩ := combK_apply (logitK m c t) ⟨s.val * 128 + q.val, by omega⟩ hz
  obtain ⟨q', hq, hq'⟩ := hp.restrict (n := 32) (by decide) (by decide) hin fun e e' he => by
    rw [hpad e' he]; exact pad_lt (hw e)
  rw [hc e, combine_castLE (by decide) hin hq, hq'.unique (best_top _)]
  rfl

/-! ## The results after the run -/

omit hA
variable (m c)

theorem place12 (t : Fin cfg0.N) (s : Fin 8) (q : Fin 128) (d : Fin 1024) :
    ((cfg0.win 12).blk t).view.emb (ix4 0 s q d) = ix4 (grp t) s (tok t q) d := by
  have h := points t
  unfold grp tok
  blk_ext [idx12]
theorem place13 (t : Fin cfg0.N) (s : Fin 8) (q : Fin 128) (d : Fin 1024) :
    ((cfg0.win 13).blk t).view.emb (ix4 0 s q d) = ix4 (grp t) s (tok t q) d := by
  have h := points t
  unfold grp tok
  blk_ext [idx13]
theorem place14 (t : Fin cfg0.N) (s : Fin 8) (q : Fin 128) (e : Fin 128) :
    ((cfg0.win 14).blk t).view.emb (ix4 0 s q e) = ix4 (grp t) s (tok t q) e := by
  have h := points t
  unfold grp tok
  blk_ext [idx14]

theorem ofBlock {a b e : Nat} (y : (⟨4, ![1, a, b, e]⟩ : Shape).Idx) : ∃ (s : Fin a) (q : Fin b) (d : Fin e), y = ix4 0 s q d :=
  ⟨y 1, y 2, y 3, by funext x; match x with | ⟨0, _⟩ => exact Subsingleton.elim (α := Fin 1) _ _ | ⟨1, _⟩ => rfl | ⟨2, _⟩ => rfl | ⟨3, _⟩ => rfl⟩

theorem out12 : (dats m 0 c).arrAt 12 cfg0.N = fun i : S3x8x256x1024.Idx => midRow (kArgs m c) (i 0) (i 1) (i 2) (i 3) := by
  refine (dats m 0 c).arrAt_eq_of_covers 12 _ (by decide +kernel) fun t hf y => ?_
  obtain ⟨s, q, d, rfl⟩ := ofBlock y
  rw [place12]
  blk_simp
  rw [after0_12]
  frame_out
  exact (pay18_apply _ _ _ _ _ s q d).trans (mid_at m c t s q d)

theorem out13 : (dats m 0 c).arrAt 13 cfg0.N = fun i : S3x8x256x1024.Idx => normRow (kArgs m c) (i 0) (i 1) (i 2) (i 3) := by
  refine (dats m 0 c).arrAt_eq_of_covers 13 _ (by decide +kernel) fun t hf y => ?_
  obtain ⟨s, q, d, rfl⟩ := ofBlock y
  rw [place13]
  blk_simp
  rw [after0_13]
  have h := norm_at m c t s q d
  unfold atPoint k0_pay34 at h
  rw [whole6, whole7, whole8] at h
  frame_out
  exact (pay21_apply _ s q d).trans h

theorem out14 (hA : (kArgs m c).Tame) :
    (dats m 0 c).arrAt 14 cfg0.N = fun i : S3x8x256x128.Idx => routeRow (kArgs m c) (i 0) (i 1) (i 2) (i 3).val := by
  refine (dats m 0 c).arrAt_eq_of_covers 14 _ (by decide +kernel) fun t hf y => ?_
  obtain ⟨s, q, e, rfl⟩ := ofBlock y
  rw [place14]
  blk_simp
  rw [after0_14]
  have h := comb_at hA t s q e
  unfold out0_14
  rw [whole9, whole10, View.canon_unit_zero (all0 _ (by decide)), pay1_eq]
  refine (shapeCast_at (s := S8x128x128) (t := S1x8x128x128) (j := ix4 0 s q e) _ _ (ix3 s q e) (by rw [rowMajor3, rowMajor4]; simp)).trans ?_
  refine (shapeCast_at (s := S1024x128) (t := S8x128x128) (j := ix3 s q e) _ _ (ix2 ⟨s.val * 128 + q.val, by omega⟩ e)
    (by rw [rowMajor2, rowMajor3])).trans ?_
  exact h

end Cert.Proof

end
-- ==== Proof.RefRow.lean ====
/- The reference's rows: each operation read at chunk `s` of group `g`, token `l`, down to the rows of `Rows`. -/
module

public import proofs.«01_k».proof.Proof.Rows
public import proofs.«01_k».proof.Proof.Ix
public import proofs.«01_k».proof.Proof.Gen.ReferenceIdeal.Read
public import Idealize.ShloMosaic.Lib.Pipeline.ValueKit

@[expose] public section

set_option maxRecDepth 16384

noncomputable section

namespace Cert.Proof

open Cert.ReferenceIdeal Cert.ReferenceIdeal.Gen Cert.ReferenceIdeal.Read Idealize.ShloMosaic.ValueIdx
open Idealize.ShloMosaic hiding ix1 ix2 ix3 ix4
open scoped BigOperators

section
variable (x0 : FVec Ideal S3x2048x768 .f32) (x1 : FVec Ideal S3x8x256x256 .bf16) (x2 : FVec Ideal S16x256x1024 .f32)
  (x3 : FVec Ideal S2x1024x1024 .f32) (x4 : FVec Ideal S1024x1024 .f32) (x5 : FVec Ideal S24x6144 .f32)
  (x6 : FVec Ideal S768x768 .f32) (x7 : FVec Ideal S1024x1024 .f32) (x8 : FVec Ideal S1024 .f32)
  (x9 : FVec Ideal S1024x32 .f32) (x10 : FVec Ideal S32 .f32)

/-- The reference's arguments, entry by entry. -/
def rArgs : Args where
  y g n k := x0 (ix3 g n k)
  f g s l k := x1 (ix4 g s l k)
  p n l d := x2 (ix3 n l d)
  s n l d := x3 (ix3 n l d)
  pos l d := x4 (ix2 l d)
  mod n d := x5 (ix2 n d)
  wGlu j k := x6 (ix2 j k)
  wOut j k := x7 (ix2 j k)
  g d := x8 (ix1 d)
  wr d e := x9 (ix2 d e)
  br e := x10 (ix1 e)

variable (g : Fin 3) (s : Fin 8) (l : Fin 256)

/-! ## The mixer -/

theorem turned (k : Fin 768) : val_main_v7 (F := Ideal) x0 (ix3 (chunk g s) l k) = x0 (ix3 g ⟨l.val * 8 + s.val, by omega⟩ k) := by
  rw [val_main_v7_apply, show idx_main_v7 (ix3 (chunk g s) l k) = ix4 g s l k from by
      funext a; refine Fin.ext ?_
      match a with
      | ⟨0, _⟩ => show (((g.val * 8 + s.val) * 256 + l.val) * 768 + k.val) / 1572864 = g.val; omega
      | ⟨1, _⟩ => show (((g.val * 8 + s.val) * 256 + l.val) * 768 + k.val) / 196608 % 8 = s.val; omega
      | ⟨2, _⟩ => show (((g.val * 8 + s.val) * 256 + l.val) * 768 + k.val) / 768 % 256 = l.val; omega
      | ⟨3, _⟩ => show (((g.val * 8 + s.val) * 256 + l.val) * 768 + k.val) % 768 = k.val; omega,
    val_main_v6_apply, show idx_main_v6 (ix4 g s l k) = ix4 g l s k from by
      funext a; match a with | ⟨0, _⟩ => rfl | ⟨1, _⟩ => rfl | ⟨2, _⟩ => rfl | ⟨3, _⟩ => rfl,
    val_main_v5_apply]
  refine congrArg x0 (funext fun a => Fin.ext ?_)
  match a with
  | ⟨0, _⟩ => show (((g.val * 256 + l.val) * 8 + s.val) * 768 + k.val) / 1572864 = g.val; omega
  | ⟨1, _⟩ => show (((g.val * 256 + l.val) * 8 + s.val) * 768 + k.val) / 768 % 2048 = l.val * 8 + s.val; omega
  | ⟨2, _⟩ => show (((g.val * 256 + l.val) * 8 + s.val) * 768 + k.val) % 768 = k.val; omega

theorem fourier (k : Fin 256) : val_main_v9 (F := Ideal) x1 (ix3 (chunk g s) l k) = x1 (ix4 g s l k) := by
  rw [val_main_v9_apply, val_main_v8_apply]
  refine congrArg x1 (funext fun a => Fin.ext ?_)
  match a with
  | ⟨0, _⟩ => show (((g.val * 8 + s.val) * 256 + l.val) * 256 + k.val) / 524288 = g.val; omega
  | ⟨1, _⟩ => show (((g.val * 8 + s.val) * 256 + l.val) * 256 + k.val) / 65536 % 8 = s.val; omega
  | ⟨2, _⟩ => show (((g.val * 8 + s.val) * 256 + l.val) * 256 + k.val) / 256 % 256 = l.val; omega
  | ⟨3, _⟩ => show (((g.val * 8 + s.val) * 256 + l.val) * 256 + k.val) % 256 = k.val; omega

theorem gelu_apply (i : S24x256x768.Idx) : val_main_v28 (F := Ideal) x0 i = gelu (val_main_v7 (F := Ideal) x0 i) := by
  simp only [val_main_v28_apply, val_main_v27_apply, val_main_v26_apply, val_main_v25_apply, val_main_v24_apply,
    val_main_v23_apply, val_main_v22_apply, val_main_v21_apply, val_main_v20_apply, val_main_v19_apply, val_main_v18_apply,
    val_main_v17_apply, val_main_v16_apply]
  rfl

theorem one_over (z : EReal) : Ideal.div cOne (cOne + Ideal.exp (-z)) = Ideal.logistic z := by
  rw [cOne_eq]; rfl

theorem glu_apply (k : Fin 768) : val_main_v36 (F := Ideal) x0 x6 (ix3 (chunk g s) l k)
    = glu (fun i j => x6 (ix2 i j)) (fun k => x0 (ix3 g ⟨l.val * 8 + s.val, by omega⟩ k)) k := by
  rw [val_main_v36_apply, val_main_v35_apply, val_main_v33_apply, val_main_v31_apply, val_main_v30_apply, val_main_v34_apply,
    val_main_v32_apply, val_main_v29_apply, gelu_apply, turned]
  refine (congrArg (gelu _ * ·) (one_over _)).trans ?_
  unfold glu
  congr 2
  refine Finset.sum_congr rfl fun j _ => ?_
  rw [gelu_apply, show lidx_main_v29 (ix3 (chunk g s) l k) j = ix3 (chunk g s) l j from by
    funext a; match a with | ⟨0, _⟩ => rfl | ⟨1, _⟩ => rfl | ⟨2, _⟩ => rfl, turned]
  refine congrArg (gelu _ * ·) (congrArg x6 (funext fun a => ?_))
  match a with | ⟨0, _⟩ => rfl | ⟨1, _⟩ => rfl

theorem mix_apply (d : Fin 1024) : val_main_v38 (F := Ideal) x0 x1 x6 x7 (ix3 (chunk g s) l d)
    = mixRow (rArgs x0 x1 x2 x3 x4 x5 x6 x7 x8 x9 x10) g s l d := by
  rw [val_main_v38_apply]
  refine (Fin.sum_univ_add (a := 768) (b := 256) _).trans ?_
  unfold mixRow mix
  have hr : ∀ k : Fin 1024, ridx_main_v38 (ix3 (chunk g s) l d) k = ix2 k d := fun k => by
    funext a; match a with | ⟨0, _⟩ => rfl | ⟨1, _⟩ => rfl
  refine congr (congrArg _ (Finset.sum_congr rfl fun k _ => ?_)) (Finset.sum_congr rfl fun k _ => ?_)
  · rw [hr]
    refine congrArg (· * _) ?_
    refine (concatenate_pair_apply_left (t := S24x256x1024) (s₁ := S24x256x768) (s₂ := S24x256x256) 2 _ _ _ _ rfl
      (ix3 (chunk g s) l k) (fun b => by match b with | ⟨0, _⟩ => rfl | ⟨1, _⟩ => rfl | ⟨2, _⟩ => rfl)).trans ?_
    exact glu_apply x0 x6 g s l k
  · rw [hr]
    refine congrArg (· * _) ?_
    refine (concatenate_pair_apply_right (t := S24x256x1024) (s₁ := S24x256x768) (s₂ := S24x256x256) 2 _ _ _ _ rfl rfl
      (ix3 (chunk g s) l k) (fun b hb => by match b with | ⟨0, _⟩ => rfl | ⟨1, _⟩ => rfl | ⟨2, _⟩ => exact absurd rfl hb)
      (Nat.add_comm _ _)).trans ?_
    exact fourier x1 g s l k

/-! ## The residual row -/

theorem input_apply (d : Fin 1024) : val_main_v4 (F := Ideal) x2 x3 x4 (ix3 (chunk g s) l d)
    = inRow (rArgs x0 x1 x2 x3 x4 x5 x6 x7 x8 x9 x10) g s l d := by
  unfold inRow
  by_cases h : g.val < 2
  · rw [dif_pos h]
    exact concatenate_pair_apply_left (t := S24x256x1024) (s₁ := S16x256x1024) (s₂ := S8x256x1024) 0 _ _ _ _ rfl
      (ix3 ⟨g.val * 8 + s.val, by omega⟩ l d) (fun b => by match b with | ⟨0, _⟩ => rfl | ⟨1, _⟩ => rfl | ⟨2, _⟩ => rfl)
  · rw [dif_neg h]
    refine (concatenate_pair_apply_right (t := S24x256x1024) (s₁ := S16x256x1024) (s₂ := S8x256x1024) 0 _ _ _ _ rfl rfl
      (ix3 s l d) (fun b hb => by match b with | ⟨0, _⟩ => exact absurd rfl hb | ⟨1, _⟩ => rfl | ⟨2, _⟩ => rfl)
      (by show s.val + 16 = g.val * 8 + s.val; omega)).trans ?_
    rw [val_main_v3_apply, show idx_main_v3 (ix3 s l d) = ix3 ⟨s.val / 4, by omega⟩ (spot s l) d from by
        funext a; refine Fin.ext ?_
        match a with
        | ⟨0, _⟩ => show ((s.val * 256 + l.val) * 1024 + d.val) / 1048576 = s.val / 4; omega
        | ⟨1, _⟩ => show ((s.val * 256 + l.val) * 1024 + d.val) / 1024 % 1024 = s.val % 4 * 256 + l.val; omega
        | ⟨2, _⟩ => show ((s.val * 256 + l.val) * 1024 + d.val) % 1024 = d.val; omega,
      val_main_v2_apply, val_main_v1_apply, val_main_v0_apply]
    refine congrArg (x3 _ + ·) (congrArg x4 (funext fun a => ?_))
    match a with | ⟨0, _⟩ => rfl | ⟨1, _⟩ => rfl

/-- The three slices of the modulation the call uses. -/
theorem gate_apply (d : Fin 1024) : val_main_v11 (F := Ideal) x5 (ix3 (chunk g s) 0 d) = x5 (ix2 (chunk g s) ⟨2048 + d.val, by omega⟩) := by
  rw [val_main_v11_apply, val_main_v10_apply]
  exact congrArg x5 (funext fun a => by match a with | ⟨0, _⟩ => rfl | ⟨1, _⟩ => rfl)
theorem shift_apply (d : Fin 1024) : val_main_v13 (F := Ideal) x5 (ix3 (chunk g s) 0 d) = x5 (ix2 (chunk g s) ⟨3072 + d.val, by omega⟩) := by
  rw [val_main_v13_apply, val_main_v12_apply]
  exact congrArg x5 (funext fun a => by match a with | ⟨0, _⟩ => rfl | ⟨1, _⟩ => rfl)
theorem scale_apply (d : Fin 1024) : val_main_v15 (F := Ideal) x5 (ix3 (chunk g s) 0 d) = x5 (ix2 (chunk g s) ⟨4096 + d.val, by omega⟩) := by
  rw [val_main_v15_apply, val_main_v14_apply]
  exact congrArg x5 (funext fun a => by match a with | ⟨0, _⟩ => rfl | ⟨1, _⟩ => rfl)

theorem mid_apply (d : Fin 1024) : val_main_v41 (F := Ideal) x0 x1 x2 x3 x4 x5 x6 x7 (ix3 (chunk g s) l d)
    = midRow (rArgs x0 x1 x2 x3 x4 x5 x6 x7 x8 x9 x10) g s l d := by
  rw [val_main_v41_apply, val_main_v40_apply, val_main_v39_apply,
    show idx_main_v39 (ix3 (chunk g s) l d) = ix3 (chunk g s) 0 d from by
      funext a; match a with | ⟨0, _⟩ => rfl | ⟨1, _⟩ => rfl | ⟨2, _⟩ => rfl,
    gate_apply, mix_apply x0 x1 x2 x3 x4 x5 x6 x7 x8 x9 x10, input_apply x0 x1 x2 x3 x4 x5 x6 x7 x8 x9 x10]
  rfl

/-! ## The modulated norm -/

theorem rms_apply : val_main_v49 (F := Ideal) x0 x1 x2 x3 x4 x5 x6 x7 (ix3 (chunk g s) l 0)
    = rms (midRow (rArgs x0 x1 x2 x3 x4 x5 x6 x7 x8 x9 x10) g s l) := by
  rw [val_main_v49_apply, val_main_v48_apply, val_main_v46_apply, val_main_v44_apply, val_main_v45_apply, val_main_v47_apply,
    show idx_main_v44 (ix3 (chunk g s) l 0) = ix2 (chunk g s) l from by
      funext a; match a with | ⟨0, _⟩ => rfl | ⟨1, _⟩ => rfl,
    val_main_v43_apply]
  have hs : val_main_cst_5 (F := Ideal) (Shape.Idx.first h_S_)
      + ∑ k : Fin 1024, val_main_v42 (F := Ideal) x0 x1 x2 x3 x4 x5 x6 x7 (idx_main_v43 (ix2 (chunk g s) l) k)
      = ∑ d, midRow (rArgs x0 x1 x2 x3 x4 x5 x6 x7 x8 x9 x10) g s l d * midRow (rArgs x0 x1 x2 x3 x4 x5 x6 x7 x8 x9 x10) g s l d := by
    refine (congrArg (· + _) (Ideal.ofBits_zero_f32)).trans ((zero_add _).trans (Finset.sum_congr rfl fun k _ => ?_))
    rw [show idx_main_v43 (ix2 (chunk g s) l) k = ix3 (chunk g s) l k from by
        funext a; match a with | ⟨0, _⟩ => rfl | ⟨1, _⟩ => rfl | ⟨2, _⟩ => rfl,
      val_main_v42_apply, mid_apply x0 x1 x2 x3 x4 x5 x6 x7 x8 x9 x10]
    rfl
  rw [hs]
  rfl

theorem norm_apply (d : Fin 1024) : val_main_v60 (F := Ideal) x0 x1 x2 x3 x4 x5 x6 x7 x8 (ix3 (chunk g s) l d)
    = normRow (rArgs x0 x1 x2 x3 x4 x5 x6 x7 x8 x9 x10) g s l d := by
  rw [val_main_v60_apply, val_main_v59_apply, val_main_v58_apply, val_main_v57_apply, val_main_v54_apply, val_main_v53_apply,
    val_main_v51_apply, val_main_v50_apply,
    show idx_main_v50 (ix3 (chunk g s) l d) = ix3 (chunk g s) l 0 from by
      funext a; match a with | ⟨0, _⟩ => rfl | ⟨1, _⟩ => rfl | ⟨2, _⟩ => rfl,
    show idx_main_v57 (ix3 (chunk g s) l d) = ix3 (chunk g s) 0 d from by
      funext a; match a with | ⟨0, _⟩ => rfl | ⟨1, _⟩ => rfl | ⟨2, _⟩ => rfl,
    show idx_main_v59 (ix3 (chunk g s) l d) = ix3 (chunk g s) 0 d from by
      funext a; match a with | ⟨0, _⟩ => rfl | ⟨1, _⟩ => rfl | ⟨2, _⟩ => rfl,
    val_main_v56_apply, val_main_v55_apply, val_main_v52_apply, scale_apply, shift_apply,
    rms_apply x0 x1 x2 x3 x4 x5 x6 x7 x8 x9 x10, mid_apply x0 x1 x2 x3 x4 x5 x6 x7 x8 x9 x10,
    show idx_main_v52 (idx_main_v53 (ix3 (chunk g s) l d)) = ix1 d from by
      funext a; match a with | ⟨0, _⟩ => rfl]
  rfl

/-! ## The logits -/

/-- Token `l` of chunk `s` of group `g` in the flat list of tokens. -/
def flat (g : Fin 3) (s : Fin 8) (l : Fin 256) : Fin 6144 := ⟨(g.val * 8 + s.val) * 256 + l.val, by omega⟩

theorem logit_apply (e : Fin 32) : val_main_v65 (F := Ideal) x0 x1 x2 x3 x4 x5 x6 x7 x8 x9 x10 (ix2 (flat g s l) e)
    = logitRow (rArgs x0 x1 x2 x3 x4 x5 x6 x7 x8 x9 x10) g s l e := by
  rw [val_main_v65_apply, val_main_v62_apply, val_main_v64_apply, val_main_v63_apply,
    show idx_main_v63 (idx_main_v64 (ix2 (flat g s l) e)) = ix1 e from by funext a; match a with | ⟨0, _⟩ => rfl]
  refine congrArg (· + x10 (ix1 e)) (Finset.sum_congr rfl fun k _ => ?_)
  rw [val_main_v61_apply, show idx_main_v61 (lidx_main_v62 (ix2 (flat g s l) e) k) = ix3 (chunk g s) l k from by
      funext a; refine Fin.ext ?_
      match a with
      | ⟨0, _⟩ => show (((g.val * 8 + s.val) * 256 + l.val) * 1024 + k.val) / 262144 = g.val * 8 + s.val; omega
      | ⟨1, _⟩ => show (((g.val * 8 + s.val) * 256 + l.val) * 1024 + k.val) / 1024 % 256 = l.val; omega
      | ⟨2, _⟩ => show (((g.val * 8 + s.val) * 256 + l.val) * 1024 + k.val) % 1024 = k.val; omega,
    norm_apply x0 x1 x2 x3 x4 x5 x6 x7 x8 x9 x10]
  refine congrArg (_ * ·) (congrArg x9 (funext fun a => ?_))
  match a with | ⟨0, _⟩ => rfl | ⟨1, _⟩ => rfl

end

end Cert.Proof

end
-- ==== Proof.RefTop.lean ====
/- The reference's routing: its top four, their softmax and the combine row, down to the rows of `Rows`; then its three
   results. -/
module

public import proofs.«01_k».proof.Proof.RefRow
public import Idealize.ShloMosaic.Lib.KernelVsHost

@[expose] public section

set_option maxRecDepth 16384

noncomputable section

namespace Cert.Proof

open Cert.ReferenceIdeal Cert.ReferenceIdeal.Gen Cert.ReferenceIdeal.Read Idealize.ShloMosaic.ValueIdx
open Idealize.ShloMosaic hiding ix1 ix2 ix3 ix4 eq_ix4
open scoped BigOperators

/-! ## The top four -/

theorem along_row (r : Fin 6144) (a b : Fin 32) : (ix2 r a : S6144x32.Idx).along 1 b = ix2 r b := by
  funext x
  match x with
  | ⟨0, _⟩ => rfl
  | ⟨1, _⟩ => rfl

/-- The total order's "greater" is the extended reals'. -/
theorem gt_eq (a b : EReal) : (FloatOps.cmpfTotal (F := Ideal) (φ := .f32) .gt a b == 1#1) = decide (b < a) := by
  show (BitVec.ofBool (decide (b < a)) == 1#1) = _
  by_cases h : b < a <;> simp [h]

/-- The sort's position `k` of row `r`. -/
theorem sorted_row (x : FVec Ideal S6144x32 .f32) (r : Fin 6144) (a k : Fin 32) :
    sortedFrom (fun u v => FloatOps.cmpfTotal (F := Ideal) (φ := .f32) .gt (x ((ix2 r a : S6144x32.Idx).along 1 u))
      (x ((ix2 r a : S6144x32.Idx).along 1 v)) == 1#1) k
      = sortedFrom (fun u v : Fin 32 => decide (x (ix2 r v) < x (ix2 r u))) k := by
  refine congrArg (fun R => sortedFrom R k) (funext fun u : Fin 32 => funext fun v : Fin 32 => ?_)
  exact (congrArg₂ (fun i j => FloatOps.cmpfTotal (F := Ideal) (φ := .f32) .gt (x i) (x j) == 1#1) (along_row r a u)
    (along_row r a v)).trans (gt_eq _ _)

/-- A position's number along its row, as a word. -/
abbrev rowPos : S6144x32.Idx → BitVec 32 := fun i => if hd : 1 < S6144x32.rank then iotaInDim S6144x32 32 ⟨1, hd⟩ i else 0#32

theorem rowPos_eq (i : S6144x32.Idx) : rowPos i = BitVec.ofNat 32 (i 1).val := by
  unfold rowPos
  rw [dif_pos (show 1 < S6144x32.rank by decide)]
  rfl

/-- The operand sorted with its positions, by descending value. -/
abbrev sortRows (x : FVec Ideal S6144x32 .f32) : (S6144x32.Idx → EReal) × (S6144x32.Idx → BitVec 32) :=
  Host.sort2 S6144x32 1 (fun l r => FloatOps.cmpfTotal (F := Ideal) (φ := .f32) .gt l.1 r.1) x rowPos

section
variable (x : FVec Ideal S6144x32 .f32) (h : S6144x32.Slices (fun _ => 0) S6144x4) (r : Fin 6144) (k : Fin 4)

theorem topK_value : (Host.topK S6144x4 1 (FloatOps.cmpfTotal (F := Ideal) (φ := .f32) .gt) x h).1 (ix2 r k)
    = x (ix2 r (best (fun e => x (ix2 r e)) k)) := by
  show extractStridedSlice S6144x4 (fun _ => 0) (sortRows x).1 h (ix2 r k) = _
  refine (extractStridedSlice_apply _ _ _ _ (ix2 r (k.castLE (by decide)) : S6144x32.Idx) fun a => by
    match a with | ⟨0, _⟩ => exact (Nat.zero_add _).symm | ⟨1, _⟩ => exact (Nat.zero_add _).symm).trans ?_
  unfold sortRows Host.sort2
  rw [dif_pos (show 1 < S6144x32.rank by decide)]
  exact (congrArg (fun q => x ((ix2 r (k.castLE (by decide)) : S6144x32.Idx).along 1 q)) (sorted_row x r _ _)).trans
    (congrArg x (along_row r _ _))

theorem topK_index : (Host.topK S6144x4 1 (FloatOps.cmpfTotal (F := Ideal) (φ := .f32) .gt) x h).2 (ix2 r k)
    = BitVec.ofNat 32 (best (fun e => x (ix2 r e)) k).val := by
  show extractStridedSlice S6144x4 (fun _ => 0) (sortRows x).2 h (ix2 r k) = _
  refine (extractStridedSlice_apply _ _ _ _ (ix2 r (k.castLE (by decide)) : S6144x32.Idx) fun a => by
    match a with | ⟨0, _⟩ => exact (Nat.zero_add _).symm | ⟨1, _⟩ => exact (Nat.zero_add _).symm).trans ?_
  unfold sortRows Host.sort2
  rw [dif_pos (show 1 < S6144x32.rank by decide)]
  refine (rowPos_eq _).trans ((congrArg (fun i : S6144x32.Idx => BitVec.ofNat 32 (i 1).val) (along_row r _ _)).trans ?_)
  exact congrArg (fun q : Fin 32 => BitVec.ofNat 32 q.val) (sorted_row x r _ _)

end

/-- The greatest of four values of which the first is the greatest. -/
theorem fold_first (f : Fin 4 → EReal) (hf : ∀ k, f k ≤ f 0) : Finset.univ.fold max ⊥ f = f 0 :=
  le_antisymm ((Finset.fold_max_le _).mpr ⟨bot_le, fun k _ => hf k⟩) (le_fold_max f 0)

theorem neg_inf : Ideal.ofBits .f32 0xFF800000#32 = ⊥ := by simp [Ideal.ofBits, Ideal.ieee]

section
variable (x0 : FVec Ideal S3x2048x768 .f32) (x1 : FVec Ideal S3x8x256x256 .bf16) (x2 : FVec Ideal S16x256x1024 .f32)
  (x3 : FVec Ideal S2x1024x1024 .f32) (x4 : FVec Ideal S1024x1024 .f32) (x5 : FVec Ideal S24x6144 .f32)
  (x6 : FVec Ideal S768x768 .f32) (x7 : FVec Ideal S1024x1024 .f32) (x8 : FVec Ideal S1024 .f32)
  (x9 : FVec Ideal S1024x32 .f32) (x10 : FVec Ideal S32 .f32) (g : Fin 3) (s : Fin 8) (l : Fin 256)

/-- The logits of token `l`, and the four best. -/
abbrev lg : Fin 32 → EReal := logitRow (rArgs x0 x1 x2 x3 x4 x5 x6 x7 x8 x9 x10) g s l
abbrev bt : Fin 4 → Fin 32 := best (lg x0 x1 x2 x3 x4 x5 x6 x7 x8 x9 x10 g s l)

theorem logits_eq : (fun e : Fin 32 => val_main_v65 (F := Ideal) x0 x1 x2 x3 x4 x5 x6 x7 x8 x9 x10 (ix2 (flat g s l) e))
    = lg x0 x1 x2 x3 x4 x5 x6 x7 x8 x9 x10 g s l := funext fun e => logit_apply x0 x1 x2 x3 x4 x5 x6 x7 x8 x9 x10 g s l e

theorem values_apply (k : Fin 4) : val_main_values (F := Ideal) x0 x1 x2 x3 x4 x5 x6 x7 x8 x9 x10 (ix2 (flat g s l) k)
    = lg x0 x1 x2 x3 x4 x5 x6 x7 x8 x9 x10 g s l (bt x0 x1 x2 x3 x4 x5 x6 x7 x8 x9 x10 g s l k) := by
  refine (topK_value _ _ _ k).trans ?_
  rw [logits_eq, logit_apply]

theorem indices_apply (k : Fin 4) : val_main_indices (F := Ideal) x0 x1 x2 x3 x4 x5 x6 x7 x8 x9 x10 (ix2 (flat g s l) k)
    = BitVec.ofNat 32 (bt x0 x1 x2 x3 x4 x5 x6 x7 x8 x9 x10 g s l k).val := by
  refine (topK_index _ _ _ k).trans ?_
  rw [logits_eq]

/-! ## The softmax -/

theorem fold_apply : val_main_v66 (F := Ideal) x0 x1 x2 x3 x4 x5 x6 x7 x8 x9 x10 (ix1 (flat g s l))
    = lg x0 x1 x2 x3 x4 x5 x6 x7 x8 x9 x10 g s l (bt x0 x1 x2 x3 x4 x5 x6 x7 x8 x9 x10 g s l 0) := by
  refine (Host.reduce_eq_fold_single (max : EReal → EReal → EReal) _ _ reducesTo_S6144x4_S6144_d1
    (show S6144x4.Reduces [1] S6144 by decide) h_S_ _).trans ?_
  refine (congrArg (fun z => Finset.univ.fold max z _) neg_inf).trans ?_
  refine (congrArg (fun f : Fin 4 → EReal => Finset.univ.fold max ⊥ f) (funext fun k => ?_)).trans
    (fold_first (fun k => lg x0 x1 x2 x3 x4 x5 x6 x7 x8 x9 x10 g s l (bt x0 x1 x2 x3 x4 x5 x6 x7 x8 x9 x10 g s l k))
      fun k => (best_top _).le_first k)
  refine (congrArg _ (funext fun a => ?_)).trans (values_apply x0 x1 x2 x3 x4 x5 x6 x7 x8 x9 x10 g s l k)
  match a with | ⟨0, _⟩ => rfl | ⟨1, _⟩ => rfl

theorem max_apply : val_main_v68 (F := Ideal) x0 x1 x2 x3 x4 x5 x6 x7 x8 x9 x10 (ix1 (flat g s l))
    = lg x0 x1 x2 x3 x4 x5 x6 x7 x8 x9 x10 g s l (bt x0 x1 x2 x3 x4 x5 x6 x7 x8 x9 x10 g s l 0) := by
  rw [val_main_v68_apply, fold_apply]
  show max (Ideal.ofBits .f32 0xFF800000#32) _ = _
  rw [neg_inf]
  exact max_eq_right bot_le

theorem exp_apply (k : Fin 4) : val_main_v72 (F := Ideal) x0 x1 x2 x3 x4 x5 x6 x7 x8 x9 x10 (ix2 (flat g s l) k)
    = Ideal.exp (lg x0 x1 x2 x3 x4 x5 x6 x7 x8 x9 x10 g s l (bt x0 x1 x2 x3 x4 x5 x6 x7 x8 x9 x10 g s l k)
      - lg x0 x1 x2 x3 x4 x5 x6 x7 x8 x9 x10 g s l (bt x0 x1 x2 x3 x4 x5 x6 x7 x8 x9 x10 g s l 0)) := by
  rw [val_main_v72_apply, val_main_v71_apply, values_apply, val_main_v70_apply, val_main_v69_apply,
    show idx_main_v69 (idx_main_v70 (ix2 (flat g s l) k)) = ix1 (flat g s l) from by funext a; match a with | ⟨0, _⟩ => rfl,
    max_apply]
  rfl

theorem weight_apply (k : Fin 4) : val_main_v76 (F := Ideal) x0 x1 x2 x3 x4 x5 x6 x7 x8 x9 x10 (ix2 (flat g s l) k)
    = weight (lg x0 x1 x2 x3 x4 x5 x6 x7 x8 x9 x10 g s l) (bt x0 x1 x2 x3 x4 x5 x6 x7 x8 x9 x10 g s l) k := by
  rw [val_main_v76_apply, exp_apply, val_main_v75_apply, val_main_v74_apply,
    show idx_main_v74 (idx_main_v75 (ix2 (flat g s l) k)) = ix1 (flat g s l) from by funext a; match a with | ⟨0, _⟩ => rfl,
    val_main_v73_apply]
  unfold weight
  refine congrArg (Ideal.div _) ((congrArg (· + _) Ideal.ofBits_zero_f32).trans ((zero_add _).trans
    (Finset.sum_congr rfl fun j _ => ?_)))
  rw [show idx_main_v73 (ix1 (flat g s l)) j = ix2 (flat g s l) j from by
    funext a; match a with | ⟨0, _⟩ => rfl | ⟨1, _⟩ => rfl]
  exact exp_apply x0 x1 x2 x3 x4 x5 x6 x7 x8 x9 x10 g s l j

/-! ## The combine row -/

/-- A one-hot entry times a weight. -/
theorem hot (p e : Fin 32) (w : EReal) :
    FloatOps.mulf (F := Ideal) (φ := .f32) (FloatOps.uitofp .f32 (IntOp.cmpi .eq (BitVec.ofNat 32 p.val) (BitVec.ofNat 32 e.val))) w
      = if p.val = e.val then w else 0 := by
  have h : IntOp.cmpi .eq (BitVec.ofNat 32 p.val) (BitVec.ofNat 32 e.val) = if p.val = e.val then 1#1 else 0#1 :=
    (by decide +kernel : ∀ p e : Fin 32, IntOp.cmpi .eq (BitVec.ofNat 32 p.val) (BitVec.ofNat 32 e.val)
      = if p.val = e.val then 1#1 else 0#1) p e
  rw [h]
  show (((if p.val = e.val then 1#1 else 0#1 : BitVec 1).toNat : ℝ) : EReal) * w = _
  by_cases hpe : p.val = e.val
  · rw [if_pos hpe, if_pos hpe]; simp
  · rw [if_neg hpe, if_neg hpe]; simp

theorem combine_apply (e : Fin 32) : val_main_v81 (F := Ideal) x0 x1 x2 x3 x4 x5 x6 x7 x8 x9 x10 (ix2 (flat g s l) e)
    = routeRow (rArgs x0 x1 x2 x3 x4 x5 x6 x7 x8 x9 x10) g s l e.val := by
  rw [val_main_v81_apply, show val_main_cst_12 (F := Ideal) (Shape.Idx.first h_S_) = 0 from Ideal.ofBits_zero_f32, zero_add]
  unfold routeRow combine
  refine Finset.sum_congr rfl fun k _ => ?_
  rw [show idx_main_v81 (ix2 (flat g s l) e) k = ix3 (flat g s l) k e from by
      funext a; match a with | ⟨0, _⟩ => rfl | ⟨1, _⟩ => rfl | ⟨2, _⟩ => rfl,
    val_main_v80_apply, val_main_v77_apply, val_main_call0_v4_apply, val_main_call0_v2_apply, val_main_call0_v0_apply,
    val_main_call0_v3_apply, val_main_call0_v1_apply, val_main_v79_apply, val_main_v78_apply,
    show idx_main_call0_v0 (idx_main_call0_v2 (ix3 (flat g s l) k e)) = ix2 (flat g s l) k from by
      funext a; match a with | ⟨0, _⟩ => rfl | ⟨1, _⟩ => rfl,
    show idx_main_v78 (idx_main_v79 (ix3 (flat g s l) k e)) = ix2 (flat g s l) k from by
      funext a; match a with | ⟨0, _⟩ => rfl | ⟨1, _⟩ => rfl,
    indices_apply, weight_apply]
  exact hot _ e _

theorem padded_apply (e : Fin 128) : val_main_v82 (F := Ideal) x0 x1 x2 x3 x4 x5 x6 x7 x8 x9 x10 (ix2 (flat g s l) e)
    = routeRow (rArgs x0 x1 x2 x3 x4 x5 x6 x7 x8 x9 x10) g s l e.val := by
  unfold val_main_v82
  by_cases h : e.val < 32
  · refine (pad_apply_of_inside _ _ _ _ _ _ _ _ (ix2 (flat g s l) ⟨e.val, h⟩ : S6144x32.Idx) fun a => ?_).trans
      (combine_apply x0 x1 x2 x3 x4 x5 x6 x7 x8 x9 x10 g s l ⟨e.val, h⟩)
    match a with
    | ⟨0, _⟩ => show (flat g s l).val = 0 + (flat g s l).val * 1; omega
    | ⟨1, _⟩ => show e.val = 0 + e.val * 1; omega
  · refine (pad_apply_of_not_inside _ _ _ _ _ _ _ _ 1 fun hin => h ?_).trans ?_
    · have h3 : (e.val - 0) / 1 < 32 := hin.2.2
      omega
    · have hz : val_main_call1_v0 (F := Ideal) (Shape.Idx.first h_S_) = (0 : EReal) := by
        show (((0#32 : BitVec 32).toInt : ℝ) : EReal) = 0
        simp
      rw [hz]
      unfold routeRow combine
      exact (Finset.sum_eq_zero fun k _ => if_neg fun hk => h (by rw [← hk]; exact Fin.isLt _)).symm

/-! ## The results -/

theorem result83 : val_main_v83 (F := Ideal) x0 x1 x2 x3 x4 x5 x6 x7
    = fun i : S3x8x256x1024.Idx => midRow (rArgs x0 x1 x2 x3 x4 x5 x6 x7 x8 x9 x10) (i 0) (i 1) (i 2) (i 3) := by
  funext i
  obtain ⟨g, s, l, d, rfl⟩ : ∃ g s l d, i = ix4 g s l d := ⟨_, _, _, _, eq_ix4 i⟩
  rw [val_main_v83_apply, show idx_main_v83 (ix4 g s l d) = ix3 (chunk g s) l d from by
      funext a; refine Fin.ext ?_
      match a with
      | ⟨0, _⟩ => show (((g.val * 8 + s.val) * 256 + l.val) * 1024 + d.val) / 262144 = g.val * 8 + s.val; omega
      | ⟨1, _⟩ => show (((g.val * 8 + s.val) * 256 + l.val) * 1024 + d.val) / 1024 % 256 = l.val; omega
      | ⟨2, _⟩ => show (((g.val * 8 + s.val) * 256 + l.val) * 1024 + d.val) % 1024 = d.val; omega,
    mid_apply x0 x1 x2 x3 x4 x5 x6 x7 x8 x9 x10]

theorem result85 : val_main_v85 (F := Ideal) x0 x1 x2 x3 x4 x5 x6 x7 x8
    = fun i : S3x8x256x1024.Idx => normRow (rArgs x0 x1 x2 x3 x4 x5 x6 x7 x8 x9 x10) (i 0) (i 1) (i 2) (i 3) := by
  funext i
  obtain ⟨g, s, l, d, rfl⟩ : ∃ g s l d, i = ix4 g s l d := ⟨_, _, _, _, eq_ix4 i⟩
  rw [val_main_v85_apply, show idx_main_v85 (ix4 g s l d) = ix3 (chunk g s) l d from by
      funext a; refine Fin.ext ?_
      match a with
      | ⟨0, _⟩ => show (((g.val * 8 + s.val) * 256 + l.val) * 1024 + d.val) / 262144 = g.val * 8 + s.val; omega
      | ⟨1, _⟩ => show (((g.val * 8 + s.val) * 256 + l.val) * 1024 + d.val) / 1024 % 256 = l.val; omega
      | ⟨2, _⟩ => show (((g.val * 8 + s.val) * 256 + l.val) * 1024 + d.val) % 1024 = d.val; omega,
    val_main_v84_apply]
  exact norm_apply x0 x1 x2 x3 x4 x5 x6 x7 x8 x9 x10 g s l d

theorem result86 : val_main_v86 (F := Ideal) x0 x1 x2 x3 x4 x5 x6 x7 x8 x9 x10
    = fun i : S3x8x256x128.Idx => routeRow (rArgs x0 x1 x2 x3 x4 x5 x6 x7 x8 x9 x10) (i 0) (i 1) (i 2) (i 3).val := by
  funext i
  obtain ⟨g, s, l, e, rfl⟩ : ∃ g s l e, i = ix4 g s l e := ⟨_, _, _, _, eq_ix4 i⟩
  rw [val_main_v86_apply, show idx_main_v86 (ix4 g s l e) = ix2 (flat g s l) e from by
      funext a; refine Fin.ext ?_
      match a with
      | ⟨0, _⟩ => show (((g.val * 8 + s.val) * 256 + l.val) * 128 + e.val) / 128 = (g.val * 8 + s.val) * 256 + l.val; omega
      | ⟨1, _⟩ => show (((g.val * 8 + s.val) * 256 + l.val) * 128 + e.val) % 128 = e.val; omega,
    padded_apply]

end

end Cert.Proof

end
-- ==== Proof.Finite.lean ====
/- The precondition read entry by entry: finite arguments, the ones past the norm below 2^20. -/
module

public import proofs.«01_k».proof.Proof.RefRow
public import proofs.«01_k».proof.Pre_tame

@[expose] public section

set_option maxRecDepth 16384

noncomputable section

namespace Cert.Proof

open Idealize.ShloMosaic.ValueIdx
open Idealize.ShloMosaic hiding ix1 ix2 ix3 ix4 eq_ix4

theorem olt_one {a b : EReal} (h : Ideal.cmp .olt a b = 1#1) : a < b := by
  by_contra hn
  have h0 : Ideal.cmp .olt a b = 0#1 := by
    show BitVec.ofBool (decide (a < b)) = 0#1
    rw [decide_eq_false hn]; rfl
  rw [h0] at h
  exact absurd h (by decide)

theorem pos_inf : Ideal.ofBits .f32 0x7F800000#32 = ⊤ := by simp [Ideal.ofBits, Ideal.ieee]

theorem two20 : Ideal.ofBits .f32 0x49800000#32 = ((2 ^ 20 : ℝ) : EReal) := by
  rw [show (2 ^ 20 : ℝ) = 1048576 by norm_num]
  simp [Ideal.ofBits, Ideal.ieee, -EReal.coe_mul]; norm_num

/-- An entry whose magnitude is below infinity is a real number. -/
theorem real_of_lt {x : EReal} (h : Ideal.cmp .olt (max x (-x)) (Ideal.ofBits .f32 0x7F800000#32) = 1#1) : IsReal x := by
  have h := olt_one h
  rw [pos_inf] at h
  induction x with
  | bot => simp at h
  | coe r => exact ⟨r, rfl⟩
  | top => simp at h

/-- An entry whose magnitude is below 2^20 is a real number within it. -/
theorem within_of_lt {x : EReal} (h : Ideal.cmp .olt (max x (-x)) (Ideal.ofBits .f32 0x49800000#32) = 1#1) : Within (2 ^ 20) x := by
  have h := olt_one h
  rw [two20, max_lt_iff] at h
  induction x with
  | bot => simp at h
  | coe r =>
    refine ⟨r, rfl, abs_le.mpr ⟨?_, ?_⟩⟩
    · have h2 := h.2
      rw [← EReal.coe_neg, EReal.coe_lt_coe_iff] at h2
      linarith
    · exact (EReal.coe_lt_coe_iff.mp h.1).le
  | top => simp at h

section
open Cert.ReferenceIdeal
variable [Cert.Pre_tame.Facts]
variable {x0 : FVec Ideal S3x2048x768 .f32} {x1 : FVec Ideal S3x8x256x256 .bf16} {x2 : FVec Ideal S16x256x1024 .f32}
  {x3 : FVec Ideal S2x1024x1024 .f32} {x4 : FVec Ideal S1024x1024 .f32} {x5 : FVec Ideal S24x6144 .f32}
  {x6 : FVec Ideal S768x768 .f32} {x7 : FVec Ideal S1024x1024 .f32} {x8 : FVec Ideal S1024 .f32}
  {x9 : FVec Ideal S1024x32 .f32} {x10 : FVec Ideal S32 .f32}

/-- The precondition's eleven arrays, all ones. -/
theorem tame_of (h : Cert.Pre_tame.fn (F := Ideal) x0 x1 x2 x3 x4 x5 x6 x7 x8 x9 x10
      = (fun _ => 1#1, fun _ => 1#1, fun _ => 1#1, fun _ => 1#1, fun _ => 1#1, fun _ => 1#1, fun _ => 1#1, fun _ => 1#1,
        fun _ => 1#1, fun _ => 1#1, fun _ => 1#1)) :
    (rArgs x0 x1 x2 x3 x4 x5 x6 x7 x8 x9 x10).Tame := by
  unfold Cert.Pre_tame.fn Cert.Pre_tame.fn_part1 at h
  simp only [Prod.mk.injEq] at h
  obtain ⟨h0, h1, h2, h3, h4, h5, h6, h7, h8, h9, h10⟩ := h
  exact {
    y := fun a b c => real_of_lt (congrFun h0 (ix3 a b c))
    f := fun a b c d => real_of_lt (congrFun h1 (ix4 a b c d))
    p := fun a b c => real_of_lt (congrFun h2 (ix3 a b c))
    s := fun a b c => real_of_lt (congrFun h3 (ix3 a b c))
    pos := fun a b => real_of_lt (congrFun h4 (ix2 a b))
    mod := fun a b => within_of_lt (congrFun h5 (ix2 a b))
    wGlu := fun a b => real_of_lt (congrFun h6 (ix2 a b))
    wOut := fun a b => real_of_lt (congrFun h7 (ix2 a b))
    g := fun a => within_of_lt (congrFun h8 (ix1 a))
    wr := fun a b => within_of_lt (congrFun h9 (ix2 a b))
    br := fun a => within_of_lt (congrFun h10 (ix1 a)) }

end

end Cert.Proof

end
-- ==== Proof.Agree.lean ====
/- The two programs' runs end with the same three arrays. -/
module

public import proofs.«01_k».proof.Defs
public import proofs.«01_k».proof.Proof.Blocks
public import proofs.«01_k».proof.Proof.RefTop
public import proofs.«01_k».proof.Proof.Finite

@[expose] public section

set_option maxRecDepth 16384

noncomputable section

namespace Cert.Proof

open Idealize.ShloMosaic Idealize.ShloMosaic.TcCoe Idealize.SL.Sem

theorem tame_args [Cert.Pre_tame.Facts]
    {m : (ℓ : Loc Cert.KernelIdeal.nD Cert.KernelIdeal.τ Cert.KernelIdeal.sig) → Buf (Elt Ideal) ℓ}
    (h : Pre_KernelIdeal_tame m) (c : Dev Cert.KernelIdeal.nD) : (kArgs m c).Tame := by
  obtain ⟨h0, h1, h2, h3, h4, h5, h6, h7, h8, h9, h10⟩ := h c
  exact tame_of (Prod.ext h0 (Prod.ext h1 (Prod.ext h2 (Prod.ext h3 (Prod.ext h4 (Prod.ext h5 (Prod.ext h6 (Prod.ext h7
    (Prod.ext h8 (Prod.ext h9 h10))))))))))

theorem agree [hP : Cert.Pre_tame.Facts] : algebraic_KernelIdeal_ReferenceIdeal_pre_tame
    (hKernelIdeal := Cert.KernelIdeal.Gen.facts) (hReferenceIdeal := Cert.ReferenceIdeal.Gen.facts) (hPre_tame := hP) := by
  intro m g m' g' hpre hargs
  have hR : ∀ c : Dev Cert.KernelIdeal.nD, rArgs (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10)) = kArgs m c := fun c => by
    obtain ⟨e0, e1, e2, e3, e4, e5, e6, e7, e8, e9, e10⟩ := hargs c
    rw [e0, e1, e2, e3, e4, e5, e6, e7, e8, e9, e10]
    rfl
  refine ⟨fun c => fun i : Cert.KernelIdeal.S3x8x256x1024.Idx => midRow (kArgs m c) (i 0) (i 1) (i 2) (i 3),
    fun c => fun i : Cert.KernelIdeal.S3x8x256x1024.Idx => normRow (kArgs m c) (i 0) (i 1) (i 2) (i 3),
    fun c => fun i : Cert.KernelIdeal.S3x8x256x128.Idx => routeRow (kArgs m c) (i 0) (i 1) (i 2) (i 3).val, ?_, ?_⟩
  · refine (θ_run _ _ _).mono (fun r h c => ?_) (Cert.KernelIdeal.Value.run_blocks m g)
    obtain ⟨h12, h13, h14, hkept⟩ := h c
    exact ⟨h12.trans (out12 m c), h13.trans (out13 m c), h14.trans (out14 m c (tame_args hpre c)), hkept⟩
  · refine (θ_run _ _ _).mono (fun r h c => ?_) (Cert.ReferenceIdeal.Value.run (F := Ideal) m' g')
    obtain ⟨h83, h85, h86, hkept⟩ := h c
    refine ⟨(h83.trans (Cert.ReferenceIdeal.Read.val_main_v83_eq m' c)).trans ?_,
      (h85.trans (Cert.ReferenceIdeal.Read.val_main_v85_eq m' c)).trans ?_,
      (h86.trans (Cert.ReferenceIdeal.Read.val_main_v86_eq m' c)).trans ?_, hkept⟩
    · exact (result83 _ _ _ _ _ _ _ _ _ _ _).trans (by rw [hR c])
    · exact (result85 _ _ _ _ _ _ _ _ _ _ _).trans (by rw [hR c])
    · exact (result86 _ _ _ _ _ _ _ _ _ _ _).trans (by rw [hR c])

end Cert.Proof

end
-- ==== Proof.InSpec.lean ====
/- What the call before the token mixer computes, one token a row: the modulated norm and the input projection. -/
module

public import proofs.«01_k».proof.Proof.Spec

@[expose] public section

noncomputable section

namespace Cert.Proof.In

open Idealize.ShloMosaic
open scoped BigOperators

/-- The arguments, entry by entry: the prompts, the samples, the position table, the modulation rows, the norm's gain
    and the input projection. -/
structure Args where
  p : Fin 16 → Fin 256 → Fin 1024 → EReal
  s : Fin 2 → Fin 1024 → Fin 1024 → EReal
  pos : Fin 1024 → Fin 1024 → EReal
  mod : Fin 24 → Fin 6144 → EReal
  g : Fin 1024 → EReal
  w : Fin 1024 → Fin 1024 → EReal

/-- Chunk `s` of group `g`. -/
def chunk (g : Fin 3) (s : Fin 8) : Fin 24 := ⟨g.val * 8 + s.val, by omega⟩

/-- Token `l` of chunk `s` in its sample: four chunks make one sample. -/
def spot (s : Fin 8) (l : Fin 256) : Fin 1024 := ⟨s.val % 4 * 256 + l.val, by omega⟩

section
variable (A : Args) (g : Fin 3) (s : Fin 8) (l : Fin 256)

/-- The layer's input row: a prompt's in the first two groups, a sample's with its position in the third. -/
def inRow (d : Fin 1024) : EReal :=
  if h : g.val < 2 then A.p ⟨g.val * 8 + s.val, by omega⟩ l d else A.s ⟨s.val / 4, by omega⟩ (spot s l) d + A.pos (spot s l) d

/-- The modulated norm of that row. -/
def normRow (d : Fin 1024) : EReal :=
  modNorm (inRow A g s l) A.g (fun d => A.mod (chunk g s) ⟨1024 + d.val, by omega⟩) (fun d => A.mod (chunk g s) ⟨0 + d.val, by omega⟩) d

/-- The input projection of the row. -/
def projRow (e : Fin 1024) : EReal := ∑ d, normRow A g s l d * A.w d e

end

end Cert.Proof.In

end
-- ==== Proof.InKernel.lean ====
/- The kernel's modulated norm, its input projection and its change of row order, read at an index. -/
module

public import proofs.«01_k».proof.Proof.Gen.KernelInIdeal.Skeleton
public import proofs.«01_k».proof.Proof.InSpec
public import proofs.«01_k».proof.Proof.Ix

@[expose] public section

set_option maxRecDepth 16384

noncomputable section

namespace Cert.Proof.In

open Cert.KernelInIdeal Cert.KernelInIdeal.Gen Idealize.ShloMosaic Idealize.ShloMosaic.ValueIdx
open scoped BigOperators

theorem drop4 {α : Type} {a b c : Nat} (x : (⟨4, ![1, a, b, c]⟩ : Shape).Idx → α)
    (h : (⟨4, ![1, a, b, c]⟩ : Shape).ShapeCasts ⟨3, ![a, b, c]⟩) (i : Fin a) (j : Fin b) (k : Fin c) :
    shapeCast ⟨3, ![a, b, c]⟩ x h (ix3 i j k) = x (ix4 0 i j k) :=
  shapeCast_at x h _ (by rw [rowMajor3, rowMajor4]; simp)

/-! ## The modulated norm -/

/-- The rows of a block of the latent grid, with their positions added: the same four position rows serve both halves. -/
def placed (v1 : Vec Ideal S4x128x1024 .f32) (v4 : Vec Ideal S1x8x128x1024 .f32) : FVec Ideal S8x128x1024 .f32 :=
  addf (shapeCast S8x128x1024 v4 shapeCasts_S1x8x128x1024_S8x128x1024)
    (concatenate S8x128x1024 0 [⟨S4x128x1024, shapeCast S4x128x1024 v1 shapeCasts_S4x128x1024_S4x128x1024⟩,
      ⟨S4x128x1024, shapeCast S4x128x1024 v1 shapeCasts_S4x128x1024_S4x128x1024⟩] concatenates_S4x128x1024_S4x128x1024_S8x128x1024_d0)

theorem placed_apply (v1 : Vec Ideal S4x128x1024 .f32) (v4 : Vec Ideal S1x8x128x1024 .f32) (s : Fin 8) (q : Fin 128) (d : Fin 1024) :
    placed v1 v4 (ix3 s q d) = v4 (ix4 0 s q d) + v1 (ix3 ⟨s.val % 4, Nat.mod_lt _ (by decide)⟩ q d) := by
  unfold placed
  rw [addf_apply, drop4]
  congr 1
  rw [shapeCast_self]
  by_cases h : s.val < 4
  · rw [concatenate_pair_apply_left (t := S8x128x1024) (s₁ := S4x128x1024) (s₂ := S4x128x1024) 0 v1 v1 _ (ix3 s q d) rfl
      (ix3 ⟨s.val, h⟩ q d) (fun b => by match b with | ⟨0, _⟩ => rfl | ⟨1, _⟩ => rfl | ⟨2, _⟩ => rfl)]
    congr 2; exact Fin.ext (Nat.mod_eq_of_lt h).symm
  · rw [concatenate_pair_apply_right (t := S8x128x1024) (s₁ := S4x128x1024) (s₂ := S4x128x1024) 0 v1 v1 _ (ix3 s q d) rfl rfl
      (ix3 ⟨s.val - 4, by omega⟩ q d)
      (fun b hb => by match b with | ⟨0, _⟩ => exact absurd rfl hb | ⟨1, _⟩ => rfl | ⟨2, _⟩ => rfl)
      (by show s.val - 4 + 4 = s.val; omega)]
    congr 2; exact Fin.ext (by show s.val - 4 = s.val % 4; omega)

/-- A block's rows: placed ones where the flag is up, as they come where it is not. -/
def rowsK (b : BitVec 1) (v1 : Vec Ideal S4x128x1024 .f32) (v4 v7 : Vec Ideal S1x8x128x1024 .f32) : FVec Ideal S8x128x1024 .f32 :=
  Scalar.select b (placed v1 v4) (shapeCast S8x128x1024 v7 shapeCasts_S1x8x128x1024_S8x128x1024)

theorem rowsK_apply (b : BitVec 1) (v1 : Vec Ideal S4x128x1024 .f32) (v4 v7 : Vec Ideal S1x8x128x1024 .f32) (s : Fin 8) (q : Fin 128)
    (d : Fin 1024) : rowsK b v1 v4 v7 (ix3 s q d)
      = if b = 1#1 then v4 (ix4 0 s q d) + v1 (ix3 ⟨s.val % 4, Nat.mod_lt _ (by decide)⟩ q d) else v7 (ix4 0 s q d) := by
  unfold rowsK Scalar.select
  by_cases h : b = 1#1
  · rw [if_pos h, if_pos (show b = 1 from h)]; exact placed_apply v1 v4 s q d
  · rw [if_neg h, if_neg (show ¬ b = 1 from h)]; exact drop4 v7 _ _ _ _

/-- A slice of a sequence's modulation row. -/
theorem modRow_apply (v10 : Vec Ideal S1x8x1x6144 .f32) (o : Nat) (ho : o + 1024 ≤ 6144) (h : S8x1x6144.Slices ![0, 0, o] S8x1x1024)
    (s : Fin 8) (d : Fin 1024) :
    extractStridedSlice S8x1x1024 ![0, 0, o] (shapeCast S8x1x6144 v10 shapeCasts_S1x8x1x6144_S8x1x6144) h (ix3 s 0 d)
      = v10 (ix4 0 s 0 ⟨o + d.val, by omega⟩) :=
  (extractStridedSlice_apply _ _ _ _ (ix3 s 0 ⟨o + d.val, by omega⟩) fun a => by
    match a with
    | ⟨0, _⟩ => exact (Nat.zero_add _).symm
    | ⟨1, _⟩ => rfl
    | ⟨2, _⟩ => rfl).trans (drop4 v10 _ _ _ _)

/-- A row per sequence spread over its steps. -/
theorem spread_apply (x : FVec Ideal S8x1x1024 .f32) (h : S8x1x1024.Broadcasts S8x128x1024) (s : Fin 8) (q : Fin 128) (d : Fin 1024) :
    broadcastTo S8x128x1024 x h (ix3 s q d) = x (ix3 s 0 d) :=
  broadcastTo_apply _ _ _ _ fun a => by match a with | ⟨0, _⟩ => rfl | ⟨1, _⟩ => rfl | ⟨2, _⟩ => rfl

/-- The modulated norm of a block's rows. -/
def normK (X : FVec Ideal S8x128x1024 .f32) (v10 : Vec Ideal S1x8x1x6144 .f32) (v14 : Vec Ideal S1x1024 .f32) : FVec Ideal S8x128x1024 .f32 :=
  addf (mulf (mulf (mulf X (broadcastTo S8x128x1024 (rsqrt (addf (divf (shapeCast S8x128x1
          (multiReduction .add [2] S8x128 (mulf X X) 0x00000000#32 reduces_S8x128x1024_S8x128 (.inl rfl) rfl) shapeCasts_S8x128_S8x128x1)
          (broadcast S8x128x1 (Scalar.ofBits (F := Ideal) .f32 0x44800000#32))) (broadcast S8x128x1 (Scalar.ofBits (F := Ideal) .f32 0x358637BD#32))))
          broadcasts_S8x128x1_S8x128x1024))
        (broadcastTo S8x128x1024 (shapeCast S1x1x1024 (shapeCast S1x1024 v14 shapeCasts_S1x1024_S1x1024) shapeCasts_S1x1024_S1x1x1024)
          broadcasts_S1x1x1024_S8x128x1024))
      (broadcastTo S8x128x1024 (addf (broadcast S8x1x1024 (Scalar.ofBits (F := Ideal) .f32 0x3F800000#32))
        (extractStridedSlice S8x1x1024 ![0, 0, 1024] (shapeCast S8x1x6144 v10 shapeCasts_S1x8x1x6144_S8x1x6144) slices_S8x1x6144_o0_0_1024_S8x1x1024))
        broadcasts_S8x1x1024_S8x128x1024))
    (broadcastTo S8x128x1024 (extractStridedSlice S8x1x1024 ![0, 0, 0] (shapeCast S8x1x6144 v10 shapeCasts_S1x8x1x6144_S8x1x6144)
      slices_S8x1x6144_o0_0_0_S8x1x1024) broadcasts_S8x1x1024_S8x128x1024)

theorem normK_apply (X : FVec Ideal S8x128x1024 .f32) (v10 : Vec Ideal S1x8x1x6144 .f32) (v14 : Vec Ideal S1x1024 .f32)
    (s : Fin 8) (q : Fin 128) (d : Fin 1024) : normK X v10 v14 (ix3 s q d)
    = modNorm (fun d => X (ix3 s q d)) (fun d => v14 (ix2 0 d))
        (fun d => v10 (ix4 0 s 0 ⟨1024 + d.val, by omega⟩)) (fun d => v10 (ix4 0 s 0 ⟨0 + d.val, by omega⟩)) d := by
  have hsq : ∀ h, multiReduction (F := Ideal) .add [2] S8x128 (mulf X X) 0x00000000#32
      h (.inl rfl) rfl (ix2 s q) = ∑ k : Fin 1024, X (ix3 s q k) * X (ix3 s q k) := fun h => by
    refine (Ideal.multiReduction_add_single _ _ h _ _ _).trans (Finset.sum_congr rfl fun k _ => ?_)
    rw [mulf_apply]
    have : h.lift (ix2 s q) k = ix3 s q k := by
      funext a; match a with | ⟨0, _⟩ => rfl | ⟨1, _⟩ => rfl | ⟨2, _⟩ => rfl
    rw [this]; rfl
  have hcol : ∀ (x : FVec Ideal S8x128x1 .f32) h, broadcastTo S8x128x1024 x h (ix3 s q d) = x (ix3 s q 0) := fun x h =>
    broadcastTo_apply _ _ _ _ fun a => by match a with | ⟨0, _⟩ => rfl | ⟨1, _⟩ => rfl | ⟨2, _⟩ => rfl
  have hg : ∀ (x : FVec Ideal S1x1x1024 .f32) h, broadcastTo S8x128x1024 x h (ix3 s q d) = x (ix3 0 0 d) := fun x h =>
    broadcastTo_apply _ _ _ _ fun a => by match a with | ⟨0, _⟩ => rfl | ⟨1, _⟩ => rfl | ⟨2, _⟩ => rfl
  unfold normK modNorm rms
  simp only [addf_apply, mulf_apply, spread_apply, hcol, hg]
  rw [modRow_apply _ 0 (by omega), modRow_apply _ 1024 (by omega), shapeCast_self,
    shapeCast_at v14 _ (j := ix3 0 0 d) (ix2 0 d) (by rw [rowMajor2, rowMajor3]; simp)]
  refine congrArg (· + _) (congrArg (· * _) (congrArg (· * _) (congrArg (_ * ·) ?_)))
  show Ideal.rsqrt (Ideal.div (shapeCast S8x128x1 _ _ (ix3 s q 0)) cLen + cEps) = _
  rw [shapeCast_at _ _ (j := ix3 s q 0) (ix2 s q) (by rw [rowMajor2, rowMajor3]; simp), hsq]

/-- The printed rows entering the projection are those. -/
theorem pay4_eq (i : grid0.Coords) (v1 : Vec Ideal S4x128x1024 .f32) (v4 v7 : Vec Ideal S1x8x128x1024 .f32)
    (v10 : Vec Ideal S1x8x1x6144 .f32) (v14 : Vec Ideal S1x1024 .f32) : k0_pay4 i v1 v4 v7 v10 v14
      = shapeCast S1024x1024 (normK (rowsK (Scalar.cmpi .eq (BitVec.ofNat 32 (i 0).val) 2#32) v1 v4 v7) v10 v14)
          shapeCasts_S8x128x1024_S1024x1024 := rfl

/-! ## The input projection -/

theorem proj_apply (v35 : FVec Ideal S1024x1024 .f32) (v37 : Vec Ideal S1024x1024 .f32) (r e : Fin 1024) :
    k0_pay5 v35 v37 (ix2 r e) = ∑ d, v35 (ix2 r d) * v37 (ix2 d e) :=
  plain_apply (φ₁ := .bf16) (φ₂ := .bf16) none v35 v37 r e

theorem four_apply (v35 : FVec Ideal S1024x1024 .f32) (v37 : Vec Ideal S1024x1024 .f32) (s : Fin 8) (q : Fin 128) (k : Fin 256) :
    k0_pay6 v35 v37 (ix4 0 s q k) = k0_pay5 v35 v37 (ix2 ⟨s.val * 128 + q.val, by omega⟩ ⟨768 + k.val, by omega⟩) := by
  unfold k0_pay6
  refine (shapeCast_at (s := S8x128x256) (t := S1x8x128x256) (j := ix4 0 s q k) _ _ (ix3 s q k) (by rw [rowMajor3, rowMajor4]; simp)).trans ?_
  refine (shapeCast_at (s := S1024x256) (t := S8x128x256) (j := ix3 s q k) _ _ (ix2 ⟨s.val * 128 + q.val, by omega⟩ k)
    (by rw [rowMajor2, rowMajor3])).trans ?_
  exact extractStridedSlice_apply (s := S1024x1024) (t := S1024x256) ![0, 768] (k0_pay5 v35 v37)
    slices_S1024x1024_o0_768_S1024x256 (ix2 ⟨s.val * 128 + q.val, by omega⟩ k)
    (ix2 ⟨s.val * 128 + q.val, by omega⟩ ⟨768 + k.val, by omega⟩) fun a => by
      match a with | ⟨0, _⟩ => exact (Nat.zero_add _).symm | ⟨1, _⟩ => rfl

theorem five_apply (v35 : FVec Ideal S1024x1024 .f32) (v37 : Vec Ideal S1024x1024 .f32) (r : Fin 1024) (k : Fin 768) :
    k0_pay7 v35 v37 (ix2 r k) = k0_pay5 v35 v37 (ix2 r ⟨k.val, by omega⟩) :=
  extractStridedSlice_apply (s := S1024x1024) (t := S1024x768) ![0, 0] (k0_pay5 v35 v37) slices_S1024x1024_o0_0_S1024x768 (ix2 r k)
    (ix2 r ⟨k.val, by omega⟩) fun a => by
    match a with | ⟨0, _⟩ => exact (Nat.zero_add _).symm | ⟨1, _⟩ => exact (Nat.zero_add _).symm

/-! ## The change of row order -/

/-- Row `i` of the permuted block is row `turn i` of the block laid sequence by sequence. -/
def turn (i : Fin 256) : Fin 256 := ⟨i.val % 8 * 32 + i.val / 8, by omega⟩

/-- A product with the permutation's matrix reads the permuted row. -/
theorem perm_apply (v48 : FVec Ideal S256x256 .bf16) (hperm : ∀ i c, v48 (ix2 i c) = if c = turn i then (1 : EReal) else 0)
    (X : FVec Ideal S256x768 .bf16) (i : Fin 256) (k : Fin 768) :
    matmul dot_S256x256_S256x768_S256x768_1_0_0_1_n_n none v48 X (constant S256x768 .f32 0x00000000#32) (ix2 i k)
      = X (ix2 (turn i) k) := by
  show FloatOps.matmul (F := Ideal) (DotDims.plain 256 256 768) none _ _ _ (ix2 i k) = _
  rw [plain_apply]
  simp only [hperm, ite_mul, one_mul, zero_mul]
  rw [Finset.sum_ite_eq' Finset.univ (turn i)]
  simp

/-- The 32 steps from `o` of each of a block's eight sequences. -/
def piece (X : FVec Ideal S1024x768 .bf16) (o : Nat) (ho : o ≤ 96) (n : Fin 8) : FVec Ideal S32x768 .bf16 :=
  extractStridedSlice S32x768 ![n.val * 128 + o, 0] X
    ⟨rfl, fun a => by
      match a with
      | ⟨0, _⟩ => show n.val * 128 + o + 32 ≤ 1024; omega
      | ⟨1, _⟩ => show 0 + 768 ≤ 768; omega⟩

/-- Those pieces laid end to end. -/
def laid (X : FVec Ideal S1024x768 .bf16) (o : Nat) (ho : o ≤ 96) : FVec Ideal S256x768 .bf16 :=
  concatenate S256x768 0 (List.ofFn fun n : Fin 8 => (⟨S32x768, piece X o ho n⟩ : (s : Shape) × (s.Idx → Ideal .bf16)))
    concatenates_S32x768_S32x768_S32x768_S32x768_S32x768_S32x768_S32x768_S32x768_S256x768_d0

theorem ends_apply (X : FVec Ideal S1024x768 .bf16) (o : Nat) (ho : o ≤ 96)
    (h : Shape.Concatenates ((List.ofFn fun n : Fin 8 => (⟨S32x768, piece X o ho n⟩ : (s : Shape) × (s.Idx → Ideal .bf16))).map (·.1)) S256x768 0)
    (r : Fin 256) (k : Fin 768) :
    concatenate S256x768 0 (List.ofFn fun n : Fin 8 => (⟨S32x768, piece X o ho n⟩ : (s : Shape) × (s.Idx → Ideal .bf16))) h (ix2 r k)
      = X (ix2 ⟨r.val / 32 * 128 + o + r.val % 32, by omega⟩ k) := by
  rw [concatenate_ofFn_apply (t := S256x768) (s₁ := S32x768) 0 (piece X o ho) h rfl 32 rfl (ix2 r k) ⟨r.val / 32, by omega⟩ rfl
    (ix2 ⟨r.val % 32, by omega⟩ k) rfl (fun b hb => by
      match b with
      | ⟨0, _⟩ => exact absurd rfl hb
      | ⟨1, _⟩ => rfl)]
  exact extractStridedSlice_apply _ _ _ _ _ fun a => by
    match a with
    | ⟨0, _⟩ => rfl
    | ⟨1, _⟩ => exact (Nat.zero_add _).symm

theorem laid_apply (X : FVec Ideal S1024x768 .bf16) (o : Nat) (ho : o ≤ 96) (r : Fin 256) (k : Fin 768) :
    laid X o ho (ix2 r k) = X (ix2 ⟨r.val / 32 * 128 + o + r.val % 32, by omega⟩ k) := ends_apply X o ho _ r k

/-- A quarter of the recurrence's block, from the steps at `o`: the eight sequences interleaved step by step. -/
def quarter (X : FVec Ideal S1024x768 .bf16) (P : FVec Ideal S256x256 .bf16) (o : Nat) (ho : o ≤ 96) : FVec Ideal S1x256x768 .bf16 :=
  shapeCast S1x256x768 (matmul dot_S256x256_S256x768_S256x768_1_0_0_1_n_n none P (laid X o ho) (constant S256x768 .f32 0x00000000#32))
    shapeCasts_S256x768_S1x256x768

theorem quarter_apply (X : FVec Ideal S1024x768 .bf16) (P : FVec Ideal S256x256 .bf16)
    (hperm : ∀ i c, P (ix2 i c) = if c = turn i then (1 : EReal) else 0) (o : Nat) (ho : o ≤ 96) (i : Fin 256) (k : Fin 768) :
    quarter X P o ho (ix3 0 i k) = X (ix2 ⟨i.val % 8 * 128 + o + i.val / 8, by omega⟩ k) := by
  unfold quarter
  refine (shapeCast_at (s := S256x768) (t := S1x256x768) (j := ix3 0 i k) _ _ (ix2 i k) (by rw [rowMajor2, rowMajor3]; simp)).trans ?_
  refine (perm_apply P hperm _ i k).trans ((laid_apply X o ho _ k).trans (congrArg (fun r => X (ix2 r k)) (Fin.ext ?_)))
  show (i.val % 8 * 32 + i.val / 8) / 32 * 128 + o + (i.val % 8 * 32 + i.val / 8) % 32 = i.val % 8 * 128 + o + i.val / 8
  omega

section
variable (v35 : FVec Ideal S1024x1024 .f32) (v37 : Vec Ideal S1024x1024 .f32) (v48 : Vec Ideal S256x256 .bf16)

theorem pay9_eq : k0_pay9 v35 v37 v48 = quarter (k0_pay7 v35 v37) (k0_pay8 v48) 0 (by omega) := rfl
theorem pay10_eq : k0_pay1 (k0_pay10 v35 v37 v48) = quarter (k0_pay7 v35 v37) (k0_pay8 v48) 32 (by omega) := rfl
theorem pay2_eq (X : FVec Ideal S1024x768 .bf16) (P : FVec Ideal S256x256 .bf16) : k0_pay2 X P = quarter X P 64 (by omega) := rfl
theorem pay3_eq (X : FVec Ideal S1024x768 .bf16) (P : FVec Ideal S256x256 .bf16) : k0_pay3 X P = quarter X P 96 (by omega) := rfl
theorem pay8_eq : k0_pay8 v48 = v48 := shapeCast_self _ _
end

end Cert.Proof.In

end
-- ==== Proof.InBlocks.lean ====
/- The two results of the call before the token mixer after the run, entry by entry: the point `t` works on group `t / 2`
   of eight chunks and on half `t % 2` of the chunks' 256 tokens. -/
module

public import proofs.«01_k».proof.Proof.Gen.KernelInIdeal.Value
public import proofs.«01_k».proof.Proof.InKernel
public import Idealize.ShloMosaic.Lib.Pipeline.ValueKit

@[expose] public section

set_option maxRecDepth 16384

noncomputable section

namespace Cert.Proof.In

open Cert.KernelInIdeal Cert.KernelInIdeal.Gen Idealize.ShloMosaic.TcCoe Idealize.SL.Sem Idealize.ShloMosaic.ValueIdx
open Idealize.ShloMosaic hiding ix1 ix2 ix3 ix4
open Idealize.ShloMosaic.Pipeline (Dat)
open scoped BigOperators

variable (m : (ℓ : Loc nD τ sig) → Buf (Elt Ideal) ℓ) (c : Dev nD)

/-- The arguments as arrays of extended reals. -/
abbrev aP : FVec Ideal S16x256x1024 .f32 := m ((c : Thread nD τ).loc main_arg0)
abbrev aS : FVec Ideal S2x1024x1024 .f32 := m ((c : Thread nD τ).loc main_arg1)
abbrev aPos : FVec Ideal S1024x1024 .f32 := m ((c : Thread nD τ).loc main_arg2)
abbrev aMod : FVec Ideal S24x6144 .f32 := m ((c : Thread nD τ).loc main_arg3)
abbrev aG : FVec Ideal S1024 .f32 := m ((c : Thread nD τ).loc main_arg4)
abbrev aW : FVec Ideal S1024x1024 .f32 := m ((c : Thread nD τ).loc main_arg5)

theorem idx0 : ∀ t : Fin cfg0.N, win0_0.index t = ![min (t.val / 2) 1, 0, if t.val / 2 < 2 then t.val % 2 else 1, 0] :=
  (by decide +kernel : ∀ t : Fin grid0.N, win0_0.index t = ![min (t.val / 2) 1, 0, if t.val / 2 < 2 then t.val % 2 else 1, 0])
theorem idx1 : ∀ t : Fin cfg0.N, win0_1.index t = ![0, 0, if t.val / 2 < 2 then 0 else t.val % 2, 0] :=
  (by decide +kernel : ∀ t : Fin grid0.N, win0_1.index t = ![0, 0, if t.val / 2 < 2 then 0 else t.val % 2, 0])
theorem idx2 : ∀ t : Fin cfg0.N, win0_2.index t = ![0, t.val % 2, 0] :=
  (by decide +kernel : ∀ t : Fin grid0.N, win0_2.index t = ![0, t.val % 2, 0])
theorem idx3 : ∀ t : Fin cfg0.N, win0_3.index t = ![t.val / 2, 0, 0, 0] :=
  (by decide +kernel : ∀ t : Fin grid0.N, win0_3.index t = ![t.val / 2, 0, 0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![t.val / 2, t.val % 2, 0] :=
  (by decide +kernel : ∀ t : Fin grid0.N, win0_7.index t = ![t.val / 2, t.val % 2, 0])
theorem idx8 : ∀ t : Fin cfg0.N, win0_8.index t = ![t.val / 2, 0, t.val % 2, 0] :=
  (by decide +kernel : ∀ t : Fin grid0.N, win0_8.index t = ![t.val / 2, 0, t.val % 2, 0])
theorem points : ∀ t : Fin cfg0.N, t.val < 6 := (by decide +kernel : ∀ t : Fin grid0.N, t.val < 6)

/-- The group of a point and the token of its block's row `q`. -/
def grp (t : Fin cfg0.N) : Fin 3 := ⟨t.val / 2, by have := points t; omega⟩
def tok (t : Fin cfg0.N) (q : Fin 128) : Fin 256 := ⟨t.val % 2 * 128 + q.val, by omega⟩

/-! ## The blocks the points read -/

theorem in0 (t : Fin cfg0.N) (ht : t.val / 2 < 2) (s : Fin 8) (q : Fin 128) (d : Fin 1024) :
    iblk m c 0 t (ix4 0 s q d) = aP m c (ix3 ⟨t.val / 2 * 8 + s.val, by omega⟩ (tok t q) d) := by
  have h := points t
  show ((cfg0.win 0).blk t).view.read (Elt Ideal) (V m c main_v0) (ix4 0 s q d) = _
  entry_read
  show shapeCast S2x8x256x1024 (aP m c) shapeCasts_S16x256x1024_S2x8x256x1024 (((cfg0.win 0).blk t).view.emb (ix4 0 s q d)) = _
  rw [show ((cfg0.win 0).blk t).view.emb (ix4 0 s q d) = ix4 ⟨t.val / 2, ht⟩ s (tok t q) d from by
    unfold tok
    have e2 := idx0 t
    rw [if_pos ht, min_eq_left (by omega)] at e2
    blk_ext [e2]]
  exact shapeCast_at (s := S16x256x1024) (t := S2x8x256x1024) (j := ix4 _ s (tok t q) d) _ _ (ix3 _ (tok t q) d)
    (by rw [rowMajor3, rowMajor4])

theorem in1 (t : Fin cfg0.N) (ht : ¬ t.val / 2 < 2) (s : Fin 8) (q : Fin 128) (d : Fin 1024) :
    iblk m c 1 t (ix4 0 s q d)
      = aS m c (ix3 ⟨s.val / 4, by omega⟩ ⟨s.val % 4 * 256 + (tok t q).val, by have := (tok t q).isLt; omega⟩ d) := by
  have h := points t
  show ((cfg0.win 1).blk t).view.read (Elt Ideal) (V m c main_v1) (ix4 0 s q d) = _
  entry_read
  show shapeCast S1x8x256x1024 (aS m c) shapeCasts_S2x1024x1024_S1x8x256x1024 (((cfg0.win 1).blk t).view.emb (ix4 0 s q d)) = _
  rw [show ((cfg0.win 1).blk t).view.emb (ix4 0 s q d) = ix4 0 s (tok t q) d from by
    unfold tok
    have e2 := idx1 t
    rw [if_neg ht] at e2
    blk_ext [e2]]
  exact shapeCast_at (s := S2x1024x1024) (t := S1x8x256x1024) (j := ix4 0 s (tok t q) d) _ _ (ix3 _ _ d)
    (by rw [rowMajor3, rowMajor4]; simp only [Fin.val_zero]; omega)

theorem in2 (t : Fin cfg0.N) (a : Fin 4) (q : Fin 128) (d : Fin 1024) :
    iblk m c 2 t (ix3 a q d) = aPos m c (ix2 ⟨a.val * 256 + (tok t q).val, by have := (tok t q).isLt; omega⟩ d) := by
  have h := points t
  show ((cfg0.win 2).blk t).view.read (Elt Ideal) (V m c main_v2) (ix3 a q d) = _
  entry_read
  show shapeCast S4x256x1024 (aPos m c) shapeCasts_S1024x1024_S4x256x1024 (((cfg0.win 2).blk t).view.emb (ix3 a q d)) = _
  rw [show ((cfg0.win 2).blk t).view.emb (ix3 a q d) = ix3 a (tok t q) d from by
    unfold tok
    blk_ext [idx2]]
  exact shapeCast_at (s := S1024x1024) (t := S4x256x1024) (j := ix3 a (tok t q) d) _ _ (ix2 _ d) (by rw [rowMajor3, rowMajor2])

theorem in3 (t : Fin cfg0.N) (s : Fin 8) (j : Fin 6144) :
    iblk m c 3 t (ix4 0 s 0 j) = aMod m c (ix2 (chunk (grp t) s) j) := by
  have h := points t
  show ((cfg0.win 3).blk t).view.read (Elt Ideal) (V m c main_v3) (ix4 0 s 0 j) = _
  entry_read
  show shapeCast S3x8x1x6144 (aMod m c) shapeCasts_S24x6144_S3x8x1x6144 (((cfg0.win 3).blk t).view.emb (ix4 0 s 0 j)) = _
  rw [show ((cfg0.win 3).blk t).view.emb (ix4 0 s 0 j) = ix4 (grp t) s 0 j from by
    unfold grp
    blk_ext [idx3]]
  exact shapeCast_at (s := S24x6144) (t := S3x8x1x6144) (j := ix4 (grp t) s 0 j) _ _ (ix2 (chunk (grp t) s) j)
    (by rw [rowMajor2, rowMajor4]; simp [chunk])

theorem in4 (t : Fin cfg0.N) (d : Fin 1024) : iblk m c 4 t (ix2 0 d) = aG m c (ix1 d) := by
  show ((cfg0.win 4).blk t).view.read (Elt Ideal) (V m c main_v16) (ix2 0 d) = _
  entry_read
  show shapeCast S1x1024 (aG m c) shapeCasts_S1024_S1x1024 (((cfg0.win 4).blk t).view.emb (ix2 0 d)) = _
  rw [show ((cfg0.win 4).blk t).view.emb (ix2 0 d) = ix2 0 d from by blk_ext [idx4]]
  exact shapeCast_at (s := S1024) (t := S1x1024) (j := ix2 0 d) _ _ (ix1 d) (by rw [rowMajor1, rowMajor2]; simp)

theorem in5 (t : Fin cfg0.N) (i k : Fin 1024) : iblk m c 5 t (ix2 i k) = aW m c (ix2 i k) := by
  blk_ext [iblk, V_main_arg5, idx5]

/-- The host's number of the column that holds a row's one. -/
def turnWord (x : BitVec 32) : BitVec 32 := IntOp.addi (IntOp.muli (IntOp.remsi .host x 8#32) 32#32) (IntOp.divsi .host x 8#32)

theorem turn_word : ∀ i : Fin 256, turnWord (BitVec.ofNat 32 i.val) = BitVec.ofNat 32 (turn i).val := by
  decide +kernel

theorem host6 : V m c main_v15 = truncf .bf16 (uitofp (F := Ideal) .f32 (cmpi .eq (iotaInDim S256x256 32 1)
    (fun i => turnWord (iotaInDim S256x256 32 0 i)))) bitsLt_bf16_f32 := by
  entry_read; rfl

theorem in6 (t : Fin cfg0.N) (i j : Fin 256) : iblk m c 6 t (ix2 i j) = if j = turn i then (1 : EReal) else 0 := by
  have e6 : iblk m c 6 t (ix2 i j) = V m c main_v15 (ix2 i j) := by blk_ext [iblk, idx6]
  rw [e6, host6]
  show (((IntOp.cmpi .eq (BitVec.ofNat 32 j.val) (turnWord (BitVec.ofNat 32 i.val))).toNat : ℝ) : EReal) = _
  rw [turn_word]
  have hj := j.isLt
  have ht := (turn i).isLt
  by_cases h : j = turn i
  · rw [if_pos h, ← h]; simp [IntOp.cmpi]
  · rw [if_neg h]
    have : ¬ BitVec.ofNat 32 j.val = BitVec.ofNat 32 (turn i).val := fun e => h (Fin.ext (by
      have e' := congrArg BitVec.toNat e
      simp only [BitVec.toNat_ofNat] at e'
      omega))
    simp [IntOp.cmpi, this]

/-! ## Whole loads -/

theorem all0 {n : Nat} (x : Fin n → Nat) (h : ∀ a, x a = 0) : x = fun _ => 0 := funext h

section
variable (x1 : Vec Ideal S1x8x128x1024 .f32) (x2 : Vec Ideal S4x128x1024 .f32) (x3 : Vec Ideal S1x8x1x6144 .f32)
  (x4 : Vec Ideal S1x1024 .f32) (x5 : Vec Ideal S1024x1024 .f32) (x6 : Vec Ideal S256x256 .bf16)

theorem whole0 : View.ld x2 r0_0 = x2 := View.ld_unit_zero (all0 _ (by decide)) _ _
theorem whole1 : View.ld x1 r0_1 = x1 := View.ld_unit_zero (all0 _ (by decide)) _ _
theorem whole2 : View.ld x3 r0_2 = x3 := View.ld_unit_zero (all0 _ (by decide)) _ _
theorem whole3 : View.ld x4 r0_3 = x4 := View.ld_unit_zero (all0 _ (by decide)) _ _
theorem whole4 : View.ld x5 r0_4 = x5 := View.ld_unit_zero (all0 _ (by decide)) _ _
theorem whole6 : View.ld x6 r0_6 = x6 := View.ld_unit_zero (all0 _ (by decide)) _ _
end

/-! ## The values at a point -/

/-- The kernel's arguments, entry by entry. -/
def kArgs : Args where
  p := fun b l d => aP m c (ix3 b l d)
  s := fun b l d => aS m c (ix3 b l d)
  pos := fun l d => aPos m c (ix2 l d)
  mod := fun n j => aMod m c (ix2 n j)
  g := fun d => aG m c (ix1 d)
  w := fun d e => aW m c (ix2 d e)

/-- The flag of the third group. -/
abbrev third (t : Fin cfg0.N) : BitVec 1 := Scalar.cmpi .eq (BitVec.ofNat 32 (grid0.coords t 0).val) 2#32

theorem third_iff : ∀ t : Fin cfg0.N, third t = 1#1 ↔ ¬ t.val / 2 < 2 :=
  (by decide +kernel : ∀ t : Fin grid0.N, Scalar.cmpi .eq (BitVec.ofNat 32 (grid0.coords t 0).val) 2#32 = 1#1 ↔ ¬ t.val / 2 < 2)

/-- The rows entering the projection at a point. -/
abbrev rowsAt (t : Fin cfg0.N) : FVec Ideal S1024x1024 .f32 :=
  k0_pay11 (grid0.coords t) (iblk m c 0 t) (iblk m c 1 t) (iblk m c 2 t) (iblk m c 3 t) (iblk m c 4 t) (iblk m c 5 t) (iblk m c 6 t)

theorem input_at (t : Fin cfg0.N) (s : Fin 8) (q : Fin 128) (d : Fin 1024) :
    rowsK (third t) (iblk m c 2 t) (iblk m c 1 t) (iblk m c 0 t) (ix3 s q d) = inRow (kArgs m c) (grp t) s (tok t q) d := by
  rw [rowsK_apply]
  unfold inRow
  by_cases h : t.val / 2 < 2
  · rw [if_neg (fun e => (third_iff t).mp e h), in0 m c t h]
    rw [dif_pos (show (grp t).val < 2 from h)]
    rfl
  · rw [if_pos ((third_iff t).mpr h)]
    rw [dif_neg (show ¬ (grp t).val < 2 from h)]
    rw [in1 m c t h, in2]
    rfl

theorem norm_at (t : Fin cfg0.N) (s : Fin 8) (q : Fin 128) (d : Fin 1024) :
    rowsAt m c t (ix2 ⟨s.val * 128 + q.val, by omega⟩ d) = normRow (kArgs m c) (grp t) s (tok t q) d := by
  unfold rowsAt k0_pay11
  rw [whole0, whole1, whole1, whole2, whole3, pay4_eq]
  refine (shapeCast_at (s := S8x128x1024) (t := S1024x1024) (j := ix2 ⟨s.val * 128 + q.val, by omega⟩ d) _ _ (ix3 s q d)
    (by rw [rowMajor2, rowMajor3])).trans ?_
  refine (normK_apply _ _ _ s q d).trans ?_
  unfold normRow
  have hx : (fun d => rowsK (third t) (iblk m c 2 t) (iblk m c 1 t) (iblk m c 0 t) (ix3 s q d)) = inRow (kArgs m c) (grp t) s (tok t q) :=
    funext fun d => input_at m c t s q d
  have hg : (fun d => iblk m c 4 t (ix2 0 d)) = (kArgs m c).g := by
    funext d; rw [in4]; rfl
  have hm : ∀ o (ho : o + 1024 ≤ 6144), (fun d : Fin 1024 => iblk m c 3 t (ix4 0 s 0 ⟨o + d.val, by omega⟩))
      = fun d : Fin 1024 => (kArgs m c).mod (chunk (grp t) s) ⟨o + d.val, by omega⟩ := fun o ho => by
    funext d; rw [in3]; rfl
  exact congr (congr (congr (congr (congrArg modNorm hx) hg) (hm 1024 (by omega))) (hm 0 (by omega))) rfl

theorem proj_at (t : Fin cfg0.N) (s : Fin 8) (q : Fin 128) (e : Fin 1024) :
    k0_pay5 (rowsAt m c t) (iblk m c 5 t) (ix2 ⟨s.val * 128 + q.val, by omega⟩ e) = projRow (kArgs m c) (grp t) s (tok t q) e := by
  rw [proj_apply]
  unfold projRow
  refine Finset.sum_congr rfl fun d _ => ?_
  rw [norm_at, in5]
  rfl

theorem quarter_at (t : Fin cfg0.N) (o : Nat) (ho : o ≤ 96) (i : Fin 256) (k : Fin 768) :
    quarter (k0_pay7 (rowsAt m c t) (iblk m c 5 t)) (iblk m c 6 t) o ho (ix3 0 i k)
      = projRow (kArgs m c) (grp t) ⟨i.val % 8, Nat.mod_lt _ (by decide)⟩ (tok t ⟨o + i.val / 8, by omega⟩) ⟨k.val, by omega⟩ := by
  refine (quarter_apply _ _ (in6 m c t) o ho i k).trans ?_
  rw [five_apply]
  refine Eq.trans ?_ (proj_at m c t ⟨i.val % 8, Nat.mod_lt _ (by decide)⟩ ⟨o + i.val / 8, by omega⟩ ⟨k.val, by omega⟩)
  refine congrArg (fun r => k0_pay5 (rowsAt m c t) (iblk m c 5 t) (ix2 r ⟨k.val, by omega⟩)) (Fin.ext ?_)
  show i.val % 8 * 128 + o + i.val / 8 = i.val % 8 * 128 + (o + i.val / 8)
  omega

/-! ## The results after the run -/

theorem place7 (t : Fin cfg0.N) (n : Fin 1024) (k : Fin 768) :
    ((cfg0.win 7).blk t).view.emb (ix3 0 n k) = ix3 (grp t) ⟨t.val % 2 * 1024 + n.val, by omega⟩ k := by
  have h := points t
  unfold grp
  blk_ext [idx7]
theorem place8 (t : Fin cfg0.N) (s : Fin 8) (q : Fin 128) (k : Fin 256) :
    ((cfg0.win 8).blk t).view.emb (ix4 0 s q k) = ix4 (grp t) s (tok t q) k := by
  have h := points t
  unfold grp tok
  blk_ext [idx8]

/-- A block of the recurrence's rows: row `n` is step `n / 8` of sequence `n % 8`. -/
def wanted (t : Fin cfg0.N) (n : Nat) (hn : n < 1024) (k : Fin 768) : EReal :=
  projRow (kArgs m c) (grp t) ⟨n % 8, Nat.mod_lt _ (by decide)⟩ (tok t ⟨n / 8, by omega⟩) ⟨k.val, by omega⟩

theorem quarter_wanted (t : Fin cfg0.N) (o : Nat) (ho : o ≤ 96) (x : S1x256x768.Idx) (n : Fin 1024) (k : Fin 768)
    (e1 : n.val = o * 8 + (x 1).val) (e2 : k.val = (x 2).val) :
    quarter (k0_pay7 (rowsAt m c t) (iblk m c 5 t)) (iblk m c 6 t) o ho x = wanted m c t n.val n.isLt k := by
  obtain ⟨i, k', rfl⟩ : ∃ (i : Fin 256) (k' : Fin 768), x = ix3 0 i k' :=
    ⟨x 1, x 2, by funext a; match a with | ⟨0, _⟩ => exact Subsingleton.elim (α := Fin 1) _ _ | ⟨1, _⟩ => rfl | ⟨2, _⟩ => rfl⟩
  have e1 : n.val = o * 8 + i.val := e1
  obtain rfl : k = k' := Fin.ext e2
  rw [quarter_at]
  unfold wanted
  have h1 : (⟨i.val % 8, Nat.mod_lt _ (by decide)⟩ : Fin 8) = ⟨n.val % 8, Nat.mod_lt _ (by decide)⟩ := Fin.ext (by
    show i.val % 8 = n.val % 8; omega)
  have h2 : (⟨o + i.val / 8, by omega⟩ : Fin 128) = ⟨n.val / 8, by omega⟩ := Fin.ext (by
    show o + i.val / 8 = n.val / 8; omega)
  rw [h1, h2]

theorem block7 (t : Fin cfg0.N) (n : Fin 1024) (k : Fin 768) :
    out0_7 (grid0.coords t) (iblk m c 0 t) (iblk m c 1 t) (iblk m c 2 t) (iblk m c 3 t) (iblk m c 4 t) (iblk m c 5 t) (iblk m c 6 t) (ix3 0 n k)
      = wanted m c t n.val n.isLt k := by
  unfold out0_7 k0_pay12 k0_pay13
  rw [whole4, whole6, pay2_eq, pay3_eq, pay9_eq, pay10_eq, pay8_eq]
  canon_tiles x h
  · exact quarter_wanted m c t 96 _ x n k h1 h2
  · exact quarter_wanted m c t 64 _ x n k h1 h2
  · exact quarter_wanted m c t 32 _ x n k h1 h2
  · exact quarter_wanted m c t 0 _ x n k (by rw [Nat.zero_mul, Nat.zero_add]; exact h1) h2

theorem out7 : (dats m 0 c).arrAt 7 cfg0.N = fun i : S3x2048x768.Idx =>
    projRow (kArgs m c) (i 0) ⟨(i 1).val % 8, Nat.mod_lt _ (by decide)⟩
      ⟨(i 1).val / 8, by have h : (i 1).val < 2048 := (i 1).isLt; omega⟩ ⟨(i 2).val, by have h : (i 2).val < 768 := (i 2).isLt; omega⟩ := by
  refine (dats m 0 c).arrAt_eq_of_covers 7 _ (by decide +kernel) fun t hf y => ?_
  obtain ⟨n, k, rfl⟩ : ∃ (n : Fin 1024) (k : Fin 768), y = ix3 0 n k :=
    ⟨y 1, y 2, by funext x; match x with | ⟨0, _⟩ => exact Subsingleton.elim (α := Fin 1) _ _ | ⟨1, _⟩ => rfl | ⟨2, _⟩ => rfl⟩
  rw [place7]
  blk_simp
  rw [after0_7]
  refine (block7 m c t n k).trans ?_
  unfold wanted
  have h1 : (⟨n.val % 8, Nat.mod_lt _ (by decide)⟩ : Fin 8) = ⟨(t.val % 2 * 1024 + n.val) % 8, Nat.mod_lt _ (by decide)⟩ := Fin.ext (by
    show n.val % 8 = (t.val % 2 * 1024 + n.val) % 8; omega)
  have h2 : tok t ⟨n.val / 8, by omega⟩ = ⟨(t.val % 2 * 1024 + n.val) / 8, by omega⟩ := Fin.ext (by
    show t.val % 2 * 128 + n.val / 8 = (t.val % 2 * 1024 + n.val) / 8; omega)
  rw [h1, h2]

theorem out8 : (dats m 0 c).arrAt 8 cfg0.N = fun i : S3x8x256x256.Idx =>
    projRow (kArgs m c) (i 0) (i 1) (i 2) ⟨768 + (i 3).val, by have h : (i 3).val < 256 := (i 3).isLt; omega⟩ := by
  refine (dats m 0 c).arrAt_eq_of_covers 8 _ (by decide +kernel) fun t hf y => ?_
  obtain ⟨s, q, k, rfl⟩ : ∃ (s : Fin 8) (q : Fin 128) (k : Fin 256), y = ix4 0 s q k :=
    ⟨y 1, y 2, y 3, by funext x; match x with | ⟨0, _⟩ => exact Subsingleton.elim (α := Fin 1) _ _ | ⟨1, _⟩ => rfl | ⟨2, _⟩ => rfl | ⟨3, _⟩ => rfl⟩
  rw [place8]
  blk_simp
  rw [after0_8]
  unfold out0_8
  rw [whole4, View.canon_unit_zero (all0 _ (by decide))]
  exact (four_apply _ _ s q k).trans (proj_at m c t s q ⟨768 + k.val, by omega⟩)

end Cert.Proof.In

end
-- ==== Proof.InRef.lean ====
/- The reference's rows before the token mixer: each operation read at chunk `s` of group `g`, token `l`. -/
module

public import proofs.«01_k».proof.Proof.InSpec
public import proofs.«01_k».proof.Proof.Ix
public import proofs.«01_k».proof.Proof.Gen.ReferenceInIdeal.Read
public import Idealize.ShloMosaic.Lib.Pipeline.ValueKit

@[expose] public section

set_option maxRecDepth 16384

noncomputable section

namespace Cert.Proof.In

open Cert.ReferenceInIdeal Cert.ReferenceInIdeal.Gen Cert.ReferenceInIdeal.Read Idealize.ShloMosaic.ValueIdx
open Idealize.ShloMosaic hiding ix1 ix2 ix3 ix4
open scoped BigOperators

section
variable (x0 : FVec Ideal S16x256x1024 .f32) (x1 : FVec Ideal S2x1024x1024 .f32) (x2 : FVec Ideal S1024x1024 .f32)
  (x3 : FVec Ideal S24x6144 .f32) (x4 : FVec Ideal S1024 .f32) (x5 : FVec Ideal S1024x1024 .f32)

/-- The reference's arguments, entry by entry. -/
def rArgs : Args where
  p n l d := x0 (ix3 n l d)
  s n l d := x1 (ix3 n l d)
  pos l d := x2 (ix2 l d)
  mod n d := x3 (ix2 n d)
  g d := x4 (ix1 d)
  w d e := x5 (ix2 d e)

variable (g : Fin 3) (s : Fin 8) (l : Fin 256)

theorem input_apply (d : Fin 1024) : val_main_v4 (F := Ideal) x0 x1 x2 (ix3 (chunk g s) l d)
    = inRow (rArgs x0 x1 x2 x3 x4 x5) g s l d := by
  unfold inRow
  by_cases h : g.val < 2
  · rw [dif_pos h]
    exact concatenate_pair_apply_left (t := S24x256x1024) (s₁ := S16x256x1024) (s₂ := S8x256x1024) 0 _ _ _ _ rfl
      (ix3 ⟨g.val * 8 + s.val, by omega⟩ l d) (fun b => by match b with | ⟨0, _⟩ => rfl | ⟨1, _⟩ => rfl | ⟨2, _⟩ => rfl)
  · rw [dif_neg h]
    refine (concatenate_pair_apply_right (t := S24x256x1024) (s₁ := S16x256x1024) (s₂ := S8x256x1024) 0 _ _ _ _ rfl rfl
      (ix3 s l d) (fun b hb => by match b with | ⟨0, _⟩ => exact absurd rfl hb | ⟨1, _⟩ => rfl | ⟨2, _⟩ => rfl)
      (by show s.val + 16 = g.val * 8 + s.val; omega)).trans ?_
    rw [val_main_v3_apply, show idx_main_v3 (ix3 s l d) = ix3 ⟨s.val / 4, by omega⟩ (spot s l) d from by
        funext a; refine Fin.ext ?_
        match a with
        | ⟨0, _⟩ => show ((s.val * 256 + l.val) * 1024 + d.val) / 1048576 = s.val / 4; omega
        | ⟨1, _⟩ => show ((s.val * 256 + l.val) * 1024 + d.val) / 1024 % 1024 = s.val % 4 * 256 + l.val; omega
        | ⟨2, _⟩ => show ((s.val * 256 + l.val) * 1024 + d.val) % 1024 = d.val; omega,
      val_main_v2_apply, val_main_v1_apply, val_main_v0_apply]
    refine congrArg (x1 _ + ·) (congrArg x2 (funext fun a => ?_))
    match a with | ⟨0, _⟩ => rfl | ⟨1, _⟩ => rfl

/-- The two slices of the modulation the call uses. -/
theorem shift_apply (d : Fin 1024) : val_main_v6 (F := Ideal) x3 (ix3 (chunk g s) 0 d) = x3 (ix2 (chunk g s) ⟨0 + d.val, by omega⟩) := by
  rw [val_main_v6_apply, val_main_v5_apply]
  exact congrArg x3 (funext fun a => Fin.ext (by match a with | ⟨0, _⟩ => rfl | ⟨1, _⟩ => exact (Nat.zero_add _).symm))
theorem scale_apply (d : Fin 1024) : val_main_v8 (F := Ideal) x3 (ix3 (chunk g s) 0 d) = x3 (ix2 (chunk g s) ⟨1024 + d.val, by omega⟩) := by
  rw [val_main_v8_apply, val_main_v7_apply]
  exact congrArg x3 (funext fun a => by match a with | ⟨0, _⟩ => rfl | ⟨1, _⟩ => rfl)

theorem rms_apply : val_main_v16 (F := Ideal) x0 x1 x2 (ix3 (chunk g s) l 0)
    = rms (inRow (rArgs x0 x1 x2 x3 x4 x5) g s l) := by
  rw [val_main_v16_apply, val_main_v15_apply, val_main_v13_apply, val_main_v11_apply, val_main_v12_apply, val_main_v14_apply,
    show idx_main_v11 (ix3 (chunk g s) l 0) = ix2 (chunk g s) l from by
      funext a; match a with | ⟨0, _⟩ => rfl | ⟨1, _⟩ => rfl,
    val_main_v10_apply]
  have hs : val_main_cst (F := Ideal) (Shape.Idx.first h_S_)
      + ∑ k : Fin 1024, val_main_v9 (F := Ideal) x0 x1 x2 (idx_main_v10 (ix2 (chunk g s) l) k)
      = ∑ d, inRow (rArgs x0 x1 x2 x3 x4 x5) g s l d * inRow (rArgs x0 x1 x2 x3 x4 x5) g s l d := by
    refine (congrArg (· + _) (Ideal.ofBits_zero_f32)).trans ((zero_add _).trans (Finset.sum_congr rfl fun k _ => ?_))
    rw [show idx_main_v10 (ix2 (chunk g s) l) k = ix3 (chunk g s) l k from by
        funext a; match a with | ⟨0, _⟩ => rfl | ⟨1, _⟩ => rfl | ⟨2, _⟩ => rfl,
      val_main_v9_apply, input_apply x0 x1 x2 x3 x4 x5]
    rfl
  rw [hs]
  rfl

theorem norm_apply (d : Fin 1024) : val_main_v27 (F := Ideal) x0 x1 x2 x3 x4 (ix3 (chunk g s) l d)
    = normRow (rArgs x0 x1 x2 x3 x4 x5) g s l d := by
  rw [val_main_v27_apply, val_main_v26_apply, val_main_v25_apply, val_main_v24_apply, val_main_v21_apply, val_main_v20_apply,
    val_main_v18_apply, val_main_v17_apply,
    show idx_main_v17 (ix3 (chunk g s) l d) = ix3 (chunk g s) l 0 from by
      funext a; match a with | ⟨0, _⟩ => rfl | ⟨1, _⟩ => rfl | ⟨2, _⟩ => rfl,
    show idx_main_v24 (ix3 (chunk g s) l d) = ix3 (chunk g s) 0 d from by
      funext a; match a with | ⟨0, _⟩ => rfl | ⟨1, _⟩ => rfl | ⟨2, _⟩ => rfl,
    show idx_main_v26 (ix3 (chunk g s) l d) = ix3 (chunk g s) 0 d from by
      funext a; match a with | ⟨0, _⟩ => rfl | ⟨1, _⟩ => rfl | ⟨2, _⟩ => rfl,
    val_main_v23_apply, val_main_v22_apply, val_main_v19_apply, scale_apply, shift_apply,
    rms_apply x0 x1 x2 x3 x4 x5, input_apply x0 x1 x2 x3 x4 x5,
    show idx_main_v19 (idx_main_v20 (ix3 (chunk g s) l d)) = ix1 d from by
      funext a; match a with | ⟨0, _⟩ => rfl]
  rfl

theorem ref_proj_apply (e : Fin 1024) : val_main_v28 (F := Ideal) x0 x1 x2 x3 x4 x5 (ix3 (chunk g s) l e)
    = projRow (rArgs x0 x1 x2 x3 x4 x5) g s l e := by
  rw [val_main_v28_apply]
  unfold projRow
  refine Finset.sum_congr rfl fun k _ => ?_
  rw [show lidx_main_v28 (ix3 (chunk g s) l e) k = ix3 (chunk g s) l k from by
      funext a; match a with | ⟨0, _⟩ => rfl | ⟨1, _⟩ => rfl | ⟨2, _⟩ => rfl,
    norm_apply x0 x1 x2 x3 x4 x5]
  refine congrArg (_ * ·) (congrArg x5 (funext fun a => ?_))
  match a with | ⟨0, _⟩ => rfl | ⟨1, _⟩ => rfl

/-- The recurrence's channels: row `n` of a group is step `n / 8` of its sequence `n % 8`. -/
theorem result35 : val_main_v35 (F := Ideal) x0 x1 x2 x3 x4 x5 = fun i : S3x2048x768.Idx =>
    projRow (rArgs x0 x1 x2 x3 x4 x5) (i 0) ⟨(i 1).val % 8, Nat.mod_lt _ (by decide)⟩
      ⟨(i 1).val / 8, by have h : (i 1).val < 2048 := (i 1).isLt; omega⟩ ⟨(i 2).val, by have h : (i 2).val < 768 := (i 2).isLt; omega⟩ := by
  funext i
  obtain ⟨g, n, k, rfl⟩ : ∃ (g : Fin 3) (n : Fin 2048) (k : Fin 768), i = ix3 g n k :=
    ⟨i 0, i 1, i 2, by funext x; match x with | ⟨0, _⟩ => rfl | ⟨1, _⟩ => rfl | ⟨2, _⟩ => rfl⟩
  show val_main_v32 (F := Ideal) x0 x1 x2 x3 x4 x5 (ix3 g n k) = projRow _ g ⟨n.val % 8, _⟩ ⟨n.val / 8, by omega⟩ ⟨k.val, by omega⟩
  rw [val_main_v32_apply, show idx_main_v32 (ix3 g n k) = ix4 g ⟨n.val / 8, by omega⟩ ⟨n.val % 8, by omega⟩ k from by
      funext a; refine Fin.ext ?_
      match a with
      | ⟨0, _⟩ => show ((g.val * 2048 + n.val) * 768 + k.val) / 1572864 = g.val; omega
      | ⟨1, _⟩ => show ((g.val * 2048 + n.val) * 768 + k.val) / 6144 % 256 = n.val / 8; omega
      | ⟨2, _⟩ => show ((g.val * 2048 + n.val) * 768 + k.val) / 768 % 8 = n.val % 8; omega
      | ⟨3, _⟩ => show ((g.val * 2048 + n.val) * 768 + k.val) % 768 = k.val; omega,
    val_main_v31_apply, show idx_main_v31 (ix4 g ⟨n.val / 8, by omega⟩ ⟨n.val % 8, by omega⟩ k)
      = ix4 g ⟨n.val % 8, by omega⟩ ⟨n.val / 8, by omega⟩ k from by
      funext a; match a with | ⟨0, _⟩ => rfl | ⟨1, _⟩ => rfl | ⟨2, _⟩ => rfl | ⟨3, _⟩ => rfl]
  generalize (⟨n.val % 8, by omega⟩ : Fin 8) = s
  generalize (⟨n.val / 8, by omega⟩ : Fin 256) = l
  rw [val_main_v30_apply, val_main_v29_apply]
  refine (congrArg (val_main_v28 (F := Ideal) x0 x1 x2 x3 x4 x5) (funext fun a => Fin.ext ?_)).trans
    (ref_proj_apply x0 x1 x2 x3 x4 x5 g s l ⟨k.val, by omega⟩)
  match a with
  | ⟨0, _⟩ => show (((g.val * 8 + s.val) * 256 + l.val) * 768 + k.val) / 196608 = g.val * 8 + s.val; omega
  | ⟨1, _⟩ => show (((g.val * 8 + s.val) * 256 + l.val) * 768 + k.val) / 768 % 256 = l.val; omega
  | ⟨2, _⟩ => show (((g.val * 8 + s.val) * 256 + l.val) * 768 + k.val) % 768 = k.val; omega

/-- The Fourier channels. -/
theorem result36 : val_main_v36 (F := Ideal) x0 x1 x2 x3 x4 x5 = fun i : S3x8x256x256.Idx =>
    projRow (rArgs x0 x1 x2 x3 x4 x5) (i 0) (i 1) (i 2) ⟨768 + (i 3).val, by have h : (i 3).val < 256 := (i 3).isLt; omega⟩ := by
  funext i
  obtain ⟨g, s, l, k, rfl⟩ : ∃ (g : Fin 3) (s : Fin 8) (l k : Fin 256), i = ix4 g s l k :=
    ⟨i 0, i 1, i 2, i 3, by funext x; match x with | ⟨0, _⟩ => rfl | ⟨1, _⟩ => rfl | ⟨2, _⟩ => rfl | ⟨3, _⟩ => rfl⟩
  show val_main_v34 (F := Ideal) x0 x1 x2 x3 x4 x5 (ix4 g s l k) = projRow _ g s l ⟨768 + k.val, by omega⟩
  rw [val_main_v34_apply, val_main_v33_apply]
  refine (congrArg (val_main_v28 (F := Ideal) x0 x1 x2 x3 x4 x5) (funext fun a => Fin.ext ?_)).trans
    (ref_proj_apply x0 x1 x2 x3 x4 x5 g s l ⟨768 + k.val, by omega⟩)
  match a with
  | ⟨0, _⟩ => show (((g.val * 8 + s.val) * 256 + l.val) * 256 + k.val) / 65536 = g.val * 8 + s.val; omega
  | ⟨1, _⟩ => show (((g.val * 8 + s.val) * 256 + l.val) * 256 + k.val) / 256 % 256 = l.val; omega
  | ⟨2, _⟩ => show 768 + (((g.val * 8 + s.val) * 256 + l.val) * 256 + k.val) % 256 = 768 + k.val; omega

end

end Cert.Proof.In

end
-- ==== Proof.InAgree.lean ====
/- The two programs before the token mixer end with the same two arrays. -/
module

public import proofs.«01_k».proof.Defs
public import proofs.«01_k».proof.Proof.InBlocks
public import proofs.«01_k».proof.Proof.InRef
public import proofs.«01_k».proof.Proof.Gen.ReferenceInIdeal.Run

@[expose] public section

set_option maxRecDepth 16384

noncomputable section

namespace Cert.Proof.In

open Idealize.ShloMosaic Idealize.ShloMosaic.TcCoe Idealize.SL.Sem

theorem agree : algebraic_KernelInIdeal_ReferenceInIdeal
    (hKernelInIdeal := Cert.KernelInIdeal.Gen.facts) (hReferenceInIdeal := Cert.ReferenceInIdeal.Gen.facts) := by
  intro m g m' g' hpre hargs
  have hR : ∀ c : Dev Cert.KernelInIdeal.nD, rArgs (m' ((c.tc : Thread Cert.ReferenceInIdeal.nD Cert.ReferenceInIdeal.τ).loc Cert.ReferenceInIdeal.main_arg0))
      (m' ((c.tc : Thread Cert.ReferenceInIdeal.nD Cert.ReferenceInIdeal.τ).loc Cert.ReferenceInIdeal.main_arg1))
      (m' ((c.tc : Thread Cert.ReferenceInIdeal.nD Cert.ReferenceInIdeal.τ).loc Cert.ReferenceInIdeal.main_arg2))
      (m' ((c.tc : Thread Cert.ReferenceInIdeal.nD Cert.ReferenceInIdeal.τ).loc Cert.ReferenceInIdeal.main_arg3))
      (m' ((c.tc : Thread Cert.ReferenceInIdeal.nD Cert.ReferenceInIdeal.τ).loc Cert.ReferenceInIdeal.main_arg4))
      (m' ((c.tc : Thread Cert.ReferenceInIdeal.nD Cert.ReferenceInIdeal.τ).loc Cert.ReferenceInIdeal.main_arg5)) = kArgs m c := fun c => by
    obtain ⟨e0, e1, e2, e3, e4, e5⟩ := hargs c
    rw [e0, e1, e2, e3, e4, e5]
    rfl
  refine ⟨fun c => fun i : Cert.KernelInIdeal.S3x2048x768.Idx => projRow (kArgs m c) (i 0) ⟨(i 1).val % 8, Nat.mod_lt _ (by decide)⟩
      ⟨(i 1).val / 8, by have h : (i 1).val < 2048 := (i 1).isLt; omega⟩ ⟨(i 2).val, by have h : (i 2).val < 768 := (i 2).isLt; omega⟩,
    fun c => fun i : Cert.KernelInIdeal.S3x8x256x256.Idx => projRow (kArgs m c) (i 0) (i 1) (i 2)
      ⟨768 + (i 3).val, by have h : (i 3).val < 256 := (i 3).isLt; omega⟩, ?_, ?_⟩
  · refine (θ_run _ _ _).mono (fun r h c => ?_) (Cert.KernelInIdeal.Value.run_blocks m g)
    obtain ⟨h7, h8, hkept⟩ := h c
    exact ⟨h7.trans (out7 m c), h8.trans (out8 m c), hkept⟩
  · refine (θ_run _ _ _).mono (fun r h c => ?_) (Cert.ReferenceInIdeal.Value.run (F := Ideal) m' g')
    obtain ⟨h35, h36, hkept⟩ := h c
    refine ⟨(h35.trans (Cert.ReferenceInIdeal.Read.val_main_v35_eq _ _ _ _ _ _)).trans ?_,
      (h36.trans (Cert.ReferenceInIdeal.Read.val_main_v36_eq _ _ _ _ _ _)).trans ?_, hkept⟩
    · exact (result35 _ _ _ _ _ _).trans (by rw [hR c])
    · exact (result36 _ _ _ _ _ _).trans (by rw [hR c])

end Cert.Proof.In

end
-- ==== Proof.MoeSpec.lean ====
/- What the experts' call computes, one token a row: the clamped gated unit of every expert, weighted by the token's
   routing weight of that expert, through the expert's output projection, summed over the experts. -/
module

public import proofs.«01_k».proof.Proof.Spec

@[expose] public section

noncomputable section

namespace Cert.Proof.Moe

open Idealize.ShloMosaic
open scoped BigOperators

/-- The clamp's bounds and the logistic's slope. -/
abbrev cTop : EReal := Ideal.ofBits .f32 0x40E00000#32
abbrev cBot : EReal := Ideal.ofBits .f32 0xC0E00000#32
abbrev cSlope : EReal := Ideal.ofBits .f32 0x3FD9DB23#32

/-- The gate channel `f` of a row: a projection with its bias, clamped from above. -/
def gate (h : Fin 1024 → EReal) (w : Fin 1024 → Fin 1024 → EReal) (b : Fin 1024 → EReal) (f : Fin 1024) : EReal :=
  min (∑ d, h d * w d f + b f) cTop

/-- The up channel `f` of a row: a projection with its bias, clamped from both sides. -/
def up (h : Fin 1024 → EReal) (w : Fin 1024 → Fin 1024 → EReal) (b : Fin 1024 → EReal) (f : Fin 1024) : EReal :=
  min cTop (max cBot (∑ d, h d * w d f + b f))

/-- The clamped gated unit. -/
def unit (u g : EReal) : EReal := (u + cOne) * g * Ideal.logistic (cSlope * g)

/-- The arguments, entry by entry: the rows, their routing weights, and the three projections with their biases. -/
structure Args where
  h : Fin 6144 → Fin 1024 → EReal
  comb : Fin 6144 → Fin 128 → EReal
  wg : Fin 32 → Fin 1024 → Fin 1024 → EReal
  bg : Fin 32 → Fin 1024 → EReal
  wu : Fin 32 → Fin 1024 → Fin 1024 → EReal
  bu : Fin 32 → Fin 1024 → EReal
  wd : Fin 32 → Fin 1024 → Fin 1024 → EReal
  bd : Fin 32 → Fin 1024 → EReal

section
variable (A : Args) (t : Fin 6144)

/-- The routing weight of an expert: only the first 32 lanes hold one. -/
def weight (e : Fin 32) : EReal := A.comb t ⟨e.val, by omega⟩

/-- Expert `e`'s unit at channel `f`, weighted. -/
def act (e : Fin 32) (f : Fin 1024) : EReal :=
  unit (up (A.h t) (A.wu e) (A.bu e) f) (gate (A.h t) (A.wg e) (A.bg e) f) * weight A t e

/-- The call's result: over all experts and channels, then the weighted biases. -/
def result (d : Fin 1024) : EReal := ∑ e, ∑ f, act A t e f * A.wd e f d + ∑ e, weight A t e * A.bd e d

/-- One expert's share of a row. -/
def share (d : Fin 1024) (e : Fin 32) : EReal := ∑ f, act A t e f * A.wd e f d + weight A t e * A.bd e d

/-- The shares of the experts before the `n`-th. -/
def upTo (d : Fin 1024) (n : Nat) : EReal := ∑ e ∈ Finset.range n, if h : e < 32 then share A t d ⟨e, h⟩ else 0

theorem upTo_zero (d : Fin 1024) : upTo A t d 0 = 0 := rfl

theorem upTo_succ (d : Fin 1024) (e : Fin 32) : upTo A t d (e.val + 1)
    = upTo A t d e.val + ∑ f, act A t e f * A.wd e f d + weight A t e * A.bd e d := by
  unfold upTo
  rw [Finset.sum_range_succ, dif_pos e.isLt, add_assoc]
  rfl

/-- Expert by expert, the shares add up to the result. -/
theorem upTo_all (d : Fin 1024) : upTo A t d 32 = result A t d := by
  unfold upTo result
  rw [Finset.sum_range, ← Finset.sum_add_distrib]
  exact Finset.sum_congr rfl fun e _ => dif_pos e.isLt

end

end Cert.Proof.Moe

end
-- ==== Proof.MoeKernel.lean ====
/- What one trip over 256 rows stores, read at a row and a channel. -/
module

public import proofs.«01_k».proof.Proof.Gen.KernelMoeIdeal.Skeleton
public import proofs.«01_k».proof.Proof.MoeSpec
public import proofs.«01_k».proof.Proof.Ix
public import Idealize.ShloMosaic.Lib.Pipeline.ValueKit

@[expose] public section

set_option maxRecDepth 16384

noncomputable section

namespace Cert.Proof.Moe

open Cert.KernelMoeIdeal Cert.KernelMoeIdeal.Gen Idealize.ShloMosaic.ValueIdx
open Idealize.ShloMosaic hiding ix1 ix2 ix3 ix4
open scoped BigOperators

theorem drop3 {α : Type} {a b : Nat} (x : (⟨3, ![1, a, b]⟩ : Shape).Idx → α)
    (h : (⟨3, ![1, a, b]⟩ : Shape).ShapeCasts ⟨2, ![a, b]⟩) (i : Fin a) (j : Fin b) :
    shapeCast ⟨2, ![a, b]⟩ x h (ix2 i j) = x (ix3 0 i j) :=
  shapeCast_at x h _ (by rw [rowMajor2, rowMajor3]; simp)

/-- The lanes' numbers. -/
abbrev lanes : IVec S256x128 32 := iota .tc S256x128 32 [1] iota_S256x128_d1_w32

theorem lanes_apply (r : Fin 256) (l : Fin 128) : lanes (ix2 r l) = BitVec.ofNat 32 l.val := by
  unfold lanes
  exact iota_single_apply _ _ _ _ _ _

/-- The expert's lane is kept, the others are zero. -/
theorem kept_apply (e : Fin 32) (v21 : Vec Ideal S256x128 .f32) (r : Fin 256) (l : Fin 128) :
    select (cmpi .eq lanes (broadcast S256x128 (BitVec.ofNat 32 e.val))) v21
        (broadcast S256x128 (Scalar.ofBits (F := Ideal) .f32 0x00000000#32)) (ix2 r l)
      = if (⟨e.val, by omega⟩ : Fin 128) = l then v21 (ix2 r l) else 0 := by
  show (if IntOp.cmpi .eq (lanes (ix2 r l)) (BitVec.ofNat 32 e.val) = 1#1 then v21 (ix2 r l) else Ideal.ofBits .f32 0x00000000#32) = _
  rw [lanes_apply]
  have hlt := l.isLt
  by_cases h : (⟨e.val, by omega⟩ : Fin 128) = l
  · rw [if_pos h, if_pos (by rw [← h]; simp [IntOp.cmpi])]
  · rw [if_neg h, if_neg, Ideal.ofBits_zero_f32]
    have : ¬ BitVec.ofNat 32 l.val = BitVec.ofNat 32 e.val := fun q => h (Fin.ext (by
      have e' := congrArg BitVec.toNat q
      simp only [BitVec.toNat_ofNat] at e'
      show e.val = l.val
      omega))
    show ¬ BitVec.ofBool (BitVec.ofNat 32 l.val == BitVec.ofNat 32 e.val) = 1#1
    rw [beq_eq_false_iff_ne.mpr this]
    decide

/-- The routing weight: the sum over the lanes of the one whose number is the expert's. -/
theorem pick_apply (e : Fin 32) (v21 : Vec Ideal S256x128 .f32) (r : Fin 256) :
    k0_pay5 (BitVec.ofNat 32 e.val) lanes v21 (ix2 r 0) = v21 (ix2 r ⟨e.val, by omega⟩) := by
  unfold k0_pay5
  refine (shapeCast_at (s := S256) (t := S256x1) (j := ix2 r 0) _ _ (ix1 r) (by rw [rowMajor1, rowMajor2]; simp)).trans ?_
  refine (Ideal.multiReduction_add_single _ _ _ _ _ _).trans ?_
  refine Eq.trans (Finset.sum_congr rfl fun l _ => ?_)
    (Finset.sum_ite_eq Finset.univ (⟨e.val, by omega⟩ : Fin 128) (fun l => v21 (ix2 r l)) |>.trans (if_pos (Finset.mem_univ _)))
  have hl : reduces_S256x128_S256.lift (ix1 r) l = ix2 r l := by
    funext a; match a with | ⟨0, _⟩ => rfl | ⟨1, _⟩ => rfl
  exact (congrArg (select (cmpi .eq lanes (broadcast S256x128 (BitVec.ofNat 32 e.val))) v21
    (broadcast S256x128 (Scalar.ofBits (F := Ideal) .f32 0x00000000#32))) hl).trans (kept_apply e v21 r l)

/-- A row spread over the rows, and a column spread over the columns. -/
theorem row_apply (x : FVec Ideal S1x1024 .f32) (h : S1x1024.Broadcasts S256x1024) (r : Fin 256) (d : Fin 1024) :
    broadcastTo S256x1024 x h (ix2 r d) = x (ix2 0 d) :=
  broadcastTo_apply _ _ _ _ fun a => by match a with | ⟨0, _⟩ => rfl | ⟨1, _⟩ => rfl
theorem col_apply (x : FVec Ideal S256x1 .f32) (h : S256x1.Broadcasts S256x1024) (r : Fin 256) (d : Fin 1024) :
    broadcastTo S256x1024 x h (ix2 r d) = x (ix2 r 0) :=
  broadcastTo_apply _ _ _ _ fun a => by match a with | ⟨0, _⟩ => rfl | ⟨1, _⟩ => rfl

/-- A projection of 256 rows. -/
theorem proj_apply (a : FVec Ideal S256x1024 .bf16) (b : FVec Ideal S1024x1024 .bf16) (r : Fin 256) (d : Fin 1024) :
    matmul dot_S256x1024_S1024x1024_S256x1024_1_0_0_1_n_n none a b (constant S256x1024 .f32 0x00000000#32) (ix2 r d)
      = ∑ k, a (ix2 r k) * b (ix2 k d) := by
  show FloatOps.matmul (F := Ideal) (DotDims.plain 256 1024 1024) none _ _ _ (ix2 r d) = _
  rw [plain_apply]

section
variable (e : Fin 32) (v3 v6 v9 : Vec Ideal S1x1024x1024 .f32) (v17 : Vec Ideal S256x1024 .bf16) (v21 : Vec Ideal S256x128 .f32)
  (v27 v32 v57 : Vec Ideal S1x1x1024 .f32) (v52 : Vec Ideal S256x1024 .f32)

theorem unit_apply (r : Fin 256) (f : Fin 1024) :
    k0_pay6 (BitVec.ofNat 32 e.val) (k0_pay2 v3) (k0_pay3 v6) lanes v17 v21 v27 v32 (ix2 r f)
      = unit (up (fun d => v17 (ix2 r d)) (fun d f => v6 (ix3 0 d f)) (fun f => v32 (ix3 0 0 f)) f)
          (gate (fun d => v17 (ix2 r d)) (fun d f => v3 (ix3 0 d f)) (fun f => v27 (ix3 0 0 f)) f) * v21 (ix2 r ⟨e.val, by omega⟩) := by
  have hw : ∀ d f : Fin 1024, k0_pay2 v3 (ix2 d f) = v3 (ix3 0 d f) := fun d f => drop3 v3 _ d f
  have hu : ∀ d f : Fin 1024, k0_pay3 v6 (ix2 d f) = v6 (ix3 0 d f) := fun d f => drop3 v6 _ d f
  unfold k0_pay6
  generalize k0_pay2 v3 = wg at hw
  generalize k0_pay3 v6 = wu at hu
  rw [mulf_apply, col_apply, pick_apply, mulf_apply, mulf_apply]
  refine congrArg (· * _) ?_
  show (min cTop (max cBot (matmul dot_S256x1024_S1024x1024_S256x1024_1_0_0_1_n_n none v17 wu (constant S256x1024 .f32 0x00000000#32) (ix2 r f)
      + broadcastTo S256x1024 (shapeCast S1x1024 v32 shapeCasts_S1x1x1024_S1x1024) broadcasts_S1x1024_S256x1024 (ix2 r f))) + cOne)
    * min (matmul dot_S256x1024_S1024x1024_S256x1024_1_0_0_1_n_n none v17 wg (constant S256x1024 .f32 0x00000000#32) (ix2 r f)
      + broadcastTo S256x1024 (shapeCast S1x1024 v27 shapeCasts_S1x1x1024_S1x1024) broadcasts_S1x1024_S256x1024 (ix2 r f)) cTop
    * Ideal.logistic (cSlope * min (matmul dot_S256x1024_S1024x1024_S256x1024_1_0_0_1_n_n none v17 wg (constant S256x1024 .f32 0x00000000#32) (ix2 r f)
      + broadcastTo S256x1024 (shapeCast S1x1024 v27 shapeCasts_S1x1x1024_S1x1024) broadcasts_S1x1024_S256x1024 (ix2 r f)) cTop) = _
  rw [proj_apply, proj_apply, row_apply, row_apply, drop3, drop3]
  simp only [hw, hu]
  rfl

/-- What a trip stores: the rows it found, one expert's products added, then its weighted biases. -/
theorem stored_apply (r : Fin 256) (d : Fin 1024) :
    k0_pay4 v9 (k0_pay5 (BitVec.ofNat 32 e.val) lanes v21)
        (k0_pay6 (BitVec.ofNat 32 e.val) (k0_pay2 v3) (k0_pay3 v6) lanes v17 v21 v27 v32) (k0_pay7 v52) v57 (ix2 r d)
      = v52 (ix2 r d)
        + ∑ f, unit (up (fun d => v17 (ix2 r d)) (fun d f => v6 (ix3 0 d f)) (fun f => v32 (ix3 0 0 f)) f)
            (gate (fun d => v17 (ix2 r d)) (fun d f => v3 (ix3 0 d f)) (fun f => v27 (ix3 0 0 f)) f)
              * v21 (ix2 r ⟨e.val, by omega⟩) * v9 (ix3 0 f d)
        + v21 (ix2 r ⟨e.val, by omega⟩) * v57 (ix3 0 0 d) := by
  have hy := unit_apply e v3 v6 v17 v21 v27 v32 r
  have hp := pick_apply e v21 r
  generalize k0_pay6 (BitVec.ofNat 32 e.val) (k0_pay2 v3) (k0_pay3 v6) lanes v17 v21 v27 v32 = y at hy
  generalize k0_pay5 (BitVec.ofNat 32 e.val) lanes v21 = p at hp
  unfold k0_pay4 k0_pay7
  dsimp only
  rw [addf_apply, addf_apply, mulf_apply, col_apply, row_apply, drop3, shapeCast_self, proj_apply, hp]
  refine congrArg (fun z => _ + z + _) (Finset.sum_congr rfl fun f _ => ?_)
  exact congr (congrArg _ (hy f)) (drop3 v9 _ f d)

/-- A row of the accumulator after one expert, from the rows and weights `x0`, `x1` and one expert's projections. -/
def stepv (x0 : Vec Ideal S1024x1024 .bf16) (x1 : Vec Ideal S1024x128 .f32) (v3 : Vec Ideal S1x1024x1024 .f32)
    (x3 : Vec Ideal S1x1x1024 .f32) (v6 : Vec Ideal S1x1024x1024 .f32) (x5 : Vec Ideal S1x1x1024 .f32)
    (v9 : Vec Ideal S1x1024x1024 .f32) (x7 : Vec Ideal S1x1x1024 .f32) (e : Fin 32) (acc : EReal) (n d : Fin 1024) : EReal :=
  acc + ∑ f, unit (up (fun d => x0 (ix2 n d)) (fun d f => v6 (ix3 0 d f)) (fun f => x5 (ix3 0 0 f)) f)
      (gate (fun d => x0 (ix2 n d)) (fun d f => v3 (ix3 0 d f)) (fun f => x3 (ix3 0 0 f)) f)
        * x1 (ix2 n ⟨e.val, by omega⟩) * v9 (ix3 0 f d)
    + x1 (ix2 n ⟨e.val, by omega⟩) * x7 (ix3 0 0 d)

/-- What a trip stores at row `r` of its 256, where that is row `n` of the block. -/
theorem stored_row (x0 : Vec Ideal S1024x1024 .bf16) (x1 : Vec Ideal S1024x128 .f32) (x3 x5 x7 : Vec Ideal S1x1x1024 .f32)
    (acc : EReal) (r : Fin 256) (n d : Fin 1024) (h0 : ∀ d, v17 (ix2 r d) = x0 (ix2 n d)) (h1 : ∀ l, v21 (ix2 r l) = x1 (ix2 n l))
    (h3 : v27 = x3) (h5 : v32 = x5) (h7 : v57 = x7) (ha : v52 (ix2 r d) = acc) :
    k0_pay4 v9 (k0_pay5 (BitVec.ofNat 32 e.val) lanes v21)
        (k0_pay6 (BitVec.ofNat 32 e.val) (k0_pay2 v3) (k0_pay3 v6) lanes v17 v21 v27 v32) (k0_pay7 v52) v57 (ix2 r d)
      = stepv x0 x1 v3 x3 v6 x5 v9 x7 e acc n d := by
  subst h3 h5 h7 ha
  rw [stored_apply]
  unfold stepv
  simp only [h0, h1]

end

end Cert.Proof.Moe

end
-- ==== Proof.MoeLoop.lean ====
/- What the kernel's body leaves in the accumulator: four trips of 256 rows each add one expert's share to every row. -/
module

public import proofs.«01_k».proof.Proof.Gen.KernelMoeIdeal.Value
public import proofs.«01_k».proof.Proof.MoeKernel
public import Idealize.ShloMosaic.Lib.Pipeline.ValueKit
public import Idealize.ShloMosaic.Lib.WritesUnit
public import Idealize.ShloMosaic.Lib.Tactic

@[expose] public section

set_option maxRecDepth 16384

noncomputable section

namespace Cert.Proof.Moe

open Cert.KernelMoeIdeal Cert.KernelMoeIdeal.Gen Idealize.ShloMosaic.TcCoe Idealize.SL.Sem Idealize.ShloMosaic.ValueIdx
open Idealize.ShloMosaic hiding ix1 ix2 ix3 ix4
open Idealize.ShloMosaic.Tactic
open scoped BigOperators

theorem off1 : ∀ k : Fin k0_t1_loop.trips, k0_off1 k = ![256 * k.val, 0] := by decide +kernel
theorem off2 : ∀ k : Fin k0_t1_loop.trips, k0_off2 k = ![256 * k.val, 0] := by decide +kernel
theorem trips_eq : k0_t1_loop.trips = 4 := by decide +kernel

theorem all0 {n : Nat} (x : Fin n → Nat) (h : ∀ a, x a = 0) : x = fun _ => 0 := funext h

/-- A load of a whole rank-3 block reads the block. -/
theorem load3 {sp : Space} {a b : Nat} {ty : EltTy} {κ : Kind} (v : Memref sig κ sp ⟨3, ![1, a, b]⟩ ty) (h : v.IsWhole)
    (inb : ∀ x : Fin 3, ![0, 0, 0] x + (⟨3, ![1, a, b]⟩ : Shape).size x ≤ (⟨3, ![1, a, b]⟩ : Shape).size x)
    (x : Vec Ideal ⟨3, ![1, a, b]⟩ ty) :
    View.readAt (Elt Ideal) v.view (Rect.unit (s := ⟨3, ![1, a, b]⟩) ![0, 0, 0] (⟨3, ![1, a, b]⟩ : Shape).size inb).toLoadRect (h.unread x) = x := by
  refine (View.readAt_eq_ld _ _ _).trans ?_
  rw [h.read_unread]
  exact View.ld_unit_zero (all0 _ fun a => by match a with | ⟨0, _⟩ => rfl | ⟨1, _⟩ => rfl | ⟨2, _⟩ => rfl) _ _

section
variable (c : Dev nD) (i : grid0.Coords) (arg2 : Memref sig .tc .vmem S1024x1024 .bf16) (harg2 : arg2.IsWhole)
  (arg3 : Memref sig .tc .vmem S1024x128 .f32) (harg3 : arg3.IsWhole) (arg4 : Memref sig .tc .vmem S1x1024x1024 .f32)
  (harg4 : arg4.IsWhole) (arg5 : Memref sig .tc .vmem S1x1x1024 .f32) (harg5 : arg5.IsWhole)
  (arg6 : Memref sig .tc .vmem S1x1024x1024 .f32) (harg6 : arg6.IsWhole) (arg7 : Memref sig .tc .vmem S1x1x1024 .f32)
  (harg7 : arg7.IsWhole) (arg8 : Memref sig .tc .vmem S1x1024x1024 .f32) (harg8 : arg8.IsWhole)
  (arg9 : Memref sig .tc .vmem S1x1x1024 .f32) (harg9 : arg9.IsWhole) (arg10 : Memref sig .tc .vmem S1024x1024 .f32)
  (harg10 : arg10.IsWhole) (e : Fin 32)
  (x0 : Vec Ideal S1024x1024 .bf16) (x1 : Vec Ideal S1024x128 .f32) (x2 : Vec Ideal S1x1024x1024 .f32)
  (x3 : Vec Ideal S1x1x1024 .f32) (x4 : Vec Ideal S1x1024x1024 .f32) (x5 : Vec Ideal S1x1x1024 .f32)
  (x6 : Vec Ideal S1x1024x1024 .f32) (x7 : Vec Ideal S1x1x1024 .f32)

/-- One trip: its 256 rows take the expert's share, the others keep what the earlier writes left. -/
theorem trip_read (k : Fin k0_t1_loop.trips) (f G : BufTy.Contents (Elt Ideal) arg10.view.ty)
    (L : List (View.Piece (Elt Ideal) S1024x1024 .f32)) (n d : Fin 1024) :
    arg10.view.read (Elt Ideal) (arg10.view.writes (Elt Ideal) G (tripL_k0_t1 (F := Ideal) Variants.none c none i arg2 harg2 arg3 harg3
        arg4 harg4 arg5 harg5 arg6 harg6 arg7 harg7 arg8 harg8 arg9 harg9 arg10 harg10 (BitVec.ofNat 32 e.val) x2 x4 x6 lanes
        (harg2.unread x0) (harg3.unread x1) (harg5.unread x3) (harg7.unread x5) (harg9.unread x7) k f ++ L)) (ix2 n d)
      = if 256 * k.val ≤ n.val ∧ n.val < 256 * k.val + 256
          then stepv x0 x1 x2 x3 x4 x5 x6 x7 e (arg10.view.read (Elt Ideal) f (ix2 n d)) n d
          else arg10.view.read (Elt Ideal) (arg10.view.writes (Elt Ideal) G L) (ix2 n d) := by
  have o1 := off1 k
  have o2 := off2 k
  unfold tripL_k0_t1 trip_k0_t1
  dsimp only
  sl_unfold_words
  by_cases h : 256 * k.val ≤ n.val ∧ n.val < 256 * k.val + 256
  · rw [if_pos h]
    have hr : n.val = 256 * k.val + (n.val - 256 * k.val) := by omega
    refine (View.read_writes_cons_rows_of_mem (o := 256 * k.val) _ _ _ _ L (ix2 n d)
      (ix2 (⟨n.val - 256 * k.val, by omega⟩ : Fin 256) d) o1 hr rfl).trans ?_
    refine stored_row e x2 x4 x6 _ _ _ _ _ _ x0 x1 x3 x5 x7 _ _ n d (fun j => ?_) (fun l => ?_) ?_ ?_ ?_ ?_
    · refine (congrFun (View.readAt_eq_ld _ _ _) _).trans ?_
      rw [harg2.read_unread]
      exact View.ld_unit_apply_of _ _ _ _ _ (ix2 n j) fun a => by
        refine Eq.trans ?_ (congrArg (· + _) (congrFun o1 a).symm)
        match a with | ⟨0, _⟩ => exact hr | ⟨1, _⟩ => exact (Nat.zero_add _).symm
    · refine (congrFun (View.readAt_eq_ld _ _ _) _).trans ?_
      rw [harg3.read_unread]
      exact View.ld_unit_apply_of _ _ _ _ _ (ix2 n l) fun a => by
        refine Eq.trans ?_ (congrArg (· + _) (congrFun o2 a).symm)
        match a with | ⟨0, _⟩ => exact hr | ⟨1, _⟩ => exact (Nat.zero_add _).symm
    · exact load3 arg5 harg5 _ x3
    · exact load3 arg7 harg7 _ x5
    · exact load3 arg9 harg9 _ x7
    · refine (congrFun (View.readAt_eq_ld _ _ _) _).trans ?_
      exact View.ld_unit_apply_of _ _ _ _ _ (ix2 n d) fun a => by
        refine Eq.trans ?_ (congrArg (· + _) (congrFun o1 a).symm)
        match a with | ⟨0, _⟩ => exact hr | ⟨1, _⟩ => exact (Nat.zero_add _).symm
  · rw [if_neg h]
    exact View.read_writes_cons_rows_of_not_mem (o := 256 * k.val) (W := 256) _ _ _ _ L (ix2 n d) o1 rfl
      (by show n.val < _ ∨ _ ≤ n.val; omega)

/-- The trips before the `k`-th: the first `256 * k` rows have taken the expert's share. -/
theorem loop_read (G : BufTy.Contents (Elt Ideal) arg10.view.ty) (k : Nat) (hk : k ≤ 4) (n d : Fin 1024) :
    arg10.view.read (Elt Ideal) (arg10.view.writes (Elt Ideal) G (pb_k0_t1 (F := Ideal) Variants.none c none i arg2 harg2 arg3 harg3
        arg4 harg4 arg5 harg5 arg6 harg6 arg7 harg7 arg8 harg8 arg9 harg9 arg10 harg10 (BitVec.ofNat 32 e.val) x2 x4 x6 lanes
        (harg2.unread x0) (harg3.unread x1) (harg5.unread x3) (harg7.unread x5) (harg9.unread x7) G k)) (ix2 n d)
      = if n.val < 256 * k then stepv x0 x1 x2 x3 x4 x5 x6 x7 e (arg10.view.read (Elt Ideal) G (ix2 n d)) n d
          else arg10.view.read (Elt Ideal) G (ix2 n d) := by
  induction k with
  | zero => rw [if_neg (by omega)]; rfl
  | succ k ih =>
    have ih := ih (by omega)
    have hs := pb_k0_t1_succ (F := Ideal) Variants.none c none i arg2 harg2 arg3 harg3
        arg4 harg4 arg5 harg5 arg6 harg6 arg7 harg7 arg8 harg8 arg9 harg9 arg10 harg10 (BitVec.ofNat 32 e.val) x2 x4 x6 lanes
        (harg2.unread x0) (harg3.unread x1) (harg5.unread x3) (harg7.unread x5) (harg9.unread x7) G ⟨k, by rw [trips_eq]; omega⟩
    refine (congrArg (fun L => arg10.view.read (Elt Ideal) (arg10.view.writes (Elt Ideal) G L) (ix2 n d)) hs).trans ?_
    refine (trip_read c i arg2 harg2 arg3 harg3 arg4 harg4 arg5 harg5 arg6 harg6 arg7 harg7 arg8 harg8 arg9 harg9 arg10 harg10 e
      x0 x1 x2 x3 x4 x5 x6 x7 _ _ G _ n d).trans ?_
    dsimp only
    by_cases h : 256 * k ≤ n.val ∧ n.val < 256 * k + 256
    · rw [if_pos h, if_pos (by omega), ih, if_neg (by omega)]
    · rw [if_neg h, ih]
      by_cases h' : n.val < 256 * k
      · rw [if_pos h', if_pos (by omega)]
      · rw [if_neg h', if_neg (by omega)]

variable (he : (i 1).val = e.val)
include he

/-- A later expert: its share added to what the earlier left. -/
theorem later (hc0 : ¬cond0_0 i) (xo8 : Vec Ideal S1024x1024 .f32) (n d : Fin 1024) :
    out0_B_8 (F := Ideal) c i arg2 harg2 arg3 harg3 arg4 harg4 arg5 harg5 arg6 harg6 arg7 harg7 arg8 harg8 arg9 harg9 arg10 harg10 hc0
        x0 x1 x2 x3 x4 x5 x6 x7 xo8 (ix2 n d)
      = stepv x0 x1 x2 x3 x4 x5 x6 x7 e (xo8 (ix2 n d)) n d := by
  unfold out0_B_8
  refine (congrFun ((View.read_writes_eq_canon _ _ _ (cover0_B_8 c i arg2 harg2 arg3 harg3 arg4 harg4 arg5 harg5 arg6 harg6 arg7 harg7
    arg8 harg8 arg9 harg9 arg10 harg10 hc0 x0 x1 x2 x3 x4 x5 x6 x7 xo8)).trans
    (View.read_writes_eq_canon arg10.view (harg10.unread xo8) _ (cover0_B_8 c i arg2 harg2 arg3 harg3 arg4 harg4 arg5 harg5 arg6 harg6 arg7 harg7
    arg8 harg8 arg9 harg9 arg10 harg10 hc0 x0 x1 x2 x3 x4 x5 x6 x7 xo8)).symm) (ix2 n d)).trans ?_
  unfold kernelRun0_B
  dsimp only
  sl_unfold_words
  have e3 := load3 arg4 harg4 inb_S1x1024x1024_S1x1024x1024_0_0_0 x2
  have e6 := load3 arg6 harg6 inb_S1x1024x1024_S1x1024x1024_0_0_0 x4
  have e9 := load3 arg8 harg8 inb_S1x1024x1024_S1x1024x1024_0_0_0 x6
  rw [he, e3, e6, e9]
  refine (loop_read c i arg2 harg2 arg3 harg3 arg4 harg4 arg5 harg5 arg6 harg6 arg7 harg7 arg8 harg8 arg9 harg9 arg10 harg10 e
      x0 x1 x2 x3 x4 x5 x6 x7 (harg10.unread xo8) 4 le_rfl n d).trans ?_
  rw [if_pos (by omega), harg10.read_unread]

/-- The first expert: its share alone, added to zero. -/
theorem first (hc0 : cond0_0 i) (n d : Fin 1024) :
    out0_A_8 (F := Ideal) c i arg2 harg2 arg3 harg3 arg4 harg4 arg5 harg5 arg6 harg6 arg7 harg7 arg8 harg8 arg9 harg9 arg10 harg10 hc0
        x0 x1 x2 x3 x4 x5 x6 x7 (ix2 n d)
      = stepv x0 x1 x2 x3 x4 x5 x6 x7 e 0 n d := by
  unfold out0_A_8
  refine (congrFun ((View.read_writes_eq_canon _ _ _ (cover0_A_8 c i arg2 harg2 arg3 harg3 arg4 harg4 arg5 harg5 arg6 harg6 arg7 harg7
    arg8 harg8 arg9 harg9 arg10 harg10 hc0 x0 x1 x2 x3 x4 x5 x6 x7)).trans
    (View.read_writes_eq_canon arg10.view arg10.view.junk _ (cover0_A_8 c i arg2 harg2 arg3 harg3 arg4 harg4 arg5 harg5 arg6 harg6 arg7 harg7
    arg8 harg8 arg9 harg9 arg10 harg10 hc0 x0 x1 x2 x3 x4 x5 x6 x7)).symm) (ix2 n d)).trans ?_
  unfold kernelRun0_A
  dsimp only
  sl_unfold_words
  have e3 := load3 arg4 harg4 inb_S1x1024x1024_S1x1024x1024_0_0_0 x2
  have e6 := load3 arg6 harg6 inb_S1x1024x1024_S1x1024x1024_0_0_0 x4
  have e9 := load3 arg8 harg8 inb_S1x1024x1024_S1x1024x1024_0_0_0 x6
  rw [he, e3, e6, e9, View.writes_append]
  refine (loop_read c i arg2 harg2 arg3 harg3 arg4 harg4 arg5 harg5 arg6 harg6 arg7 harg7 arg8 harg8 arg9 harg9 arg10 harg10 e
      x0 x1 x2 x3 x4 x5 x6 x7 _ 4 le_rfl n d).trans ?_
  rw [if_pos (by omega)]
  refine congrArg (fun z => stepv x0 x1 x2 x3 x4 x5 x6 x7 e z n d) ?_
  refine (View.read_writes_cons_rows_of_mem (o := 0) _ _ _ _ [] (ix2 n d) (ix2 n d) rfl (Nat.zero_add _).symm rfl).trans ?_
  exact Ideal.ofBits_zero_f32

end

end Cert.Proof.Moe

end
-- ==== Proof.MoeBlocks.lean ====
/- The experts' result after the run, entry by entry: the point `t` adds expert `t % 32` to the block `t / 32` of 1024 rows. -/
module

public import proofs.«01_k».proof.Proof.MoeLoop

@[expose] public section

set_option maxRecDepth 16384

noncomputable section

namespace Cert.Proof.Moe

open Cert.KernelMoeIdeal Cert.KernelMoeIdeal.Gen Idealize.ShloMosaic.TcCoe Idealize.SL.Sem Idealize.ShloMosaic.ValueIdx
open Idealize.ShloMosaic hiding ix1 ix2 ix3 ix4
open Idealize.ShloMosaic.Pipeline (Dat)
open scoped BigOperators

variable (m : (ℓ : Loc nD τ sig) → Buf (Elt Ideal) ℓ) (c : Dev nD)

/-- The arguments as arrays of extended reals. -/
abbrev aH : FVec Ideal S6144x1024 .bf16 := m ((c : Thread nD τ).loc main_arg0)
abbrev aComb : FVec Ideal S6144x128 .f32 := m ((c : Thread nD τ).loc main_arg1)
abbrev aWg : FVec Ideal S32x1024x1024 .f32 := m ((c : Thread nD τ).loc main_arg2)
abbrev aBg : FVec Ideal S32x1024 .f32 := m ((c : Thread nD τ).loc main_arg3)
abbrev aWu : FVec Ideal S32x1024x1024 .f32 := m ((c : Thread nD τ).loc main_arg4)
abbrev aBu : FVec Ideal S32x1024 .f32 := m ((c : Thread nD τ).loc main_arg5)
abbrev aWd : FVec Ideal S32x1024x1024 .f32 := m ((c : Thread nD τ).loc main_arg6)
abbrev aBd : FVec Ideal S32x1024 .f32 := m ((c : Thread nD τ).loc main_arg7)

/-- The kernel's arguments, entry by entry. -/
def kArgs : Args where
  h t d := aH m c (ix2 t d)
  comb t l := aComb m c (ix2 t l)
  wg e d f := aWg m c (ix3 e d f)
  bg e f := aBg m c (ix2 e f)
  wu e d f := aWu m c (ix3 e d f)
  bu e f := aBu m c (ix2 e f)
  wd e f d := aWd m c (ix3 e f d)
  bd e d := aBd m c (ix2 e d)

theorem idx0 : ∀ t : Fin cfg0.N, win0_0.index t = ![t.val / 32, 0] :=
  (by decide +kernel : ∀ t : Fin grid0.N, win0_0.index t = ![t.val / 32, 0])
theorem idx1 : ∀ t : Fin cfg0.N, win0_1.index t = ![t.val / 32, 0] :=
  (by decide +kernel : ∀ t : Fin grid0.N, win0_1.index t = ![t.val / 32, 0])
theorem idx2 : ∀ t : Fin cfg0.N, win0_2.index t = ![t.val % 32, 0, 0] :=
  (by decide +kernel : ∀ t : Fin grid0.N, win0_2.index t = ![t.val % 32, 0, 0])
theorem idx3 : ∀ t : Fin cfg0.N, win0_3.index t = ![t.val % 32, 0, 0] :=
  (by decide +kernel : ∀ t : Fin grid0.N, win0_3.index t = ![t.val % 32, 0, 0])
theorem idx4 : ∀ t : Fin cfg0.N, win0_4.index t = ![t.val % 32, 0, 0] :=
  (by decide +kernel : ∀ t : Fin grid0.N, win0_4.index t = ![t.val % 32, 0, 0])
theorem idx5 : ∀ t : Fin cfg0.N, win0_5.index t = ![t.val % 32, 0, 0] :=
  (by decide +kernel : ∀ t : Fin grid0.N, win0_5.index t = ![t.val % 32, 0, 0])
theorem idx6 : ∀ t : Fin cfg0.N, win0_6.index t = ![t.val % 32, 0, 0] :=
  (by decide +kernel : ∀ t : Fin grid0.N, win0_6.index t = ![t.val % 32, 0, 0])
theorem idx7 : ∀ t : Fin cfg0.N, win0_7.index t = ![t.val % 32, 0, 0] :=
  (by decide +kernel : ∀ t : Fin grid0.N, win0_7.index t = ![t.val % 32, 0, 0])
theorem idx8 : ∀ t : Fin cfg0.N, win0_8.index t = ![t.val / 32, 0] :=
  (by decide +kernel : ∀ t : Fin grid0.N, win0_8.index t = ![t.val / 32, 0])
theorem points : ∀ t : Fin cfg0.N, t.val < 192 := (by decide +kernel : ∀ t : Fin grid0.N, t.val < 192)
theorem coord1 : ∀ t : Fin cfg0.N, (grid0.coords t 1).val = t.val % 32 :=
  (by decide +kernel : ∀ t : Fin grid0.N, (grid0.coords t 1).val = t.val % 32)

/-- The expert of a point and the row `n` of its block. -/
def expert (t : Fin cfg0.N) : Fin 32 := ⟨t.val % 32, Nat.mod_lt _ (by decide)⟩
def row (t : Fin cfg0.N) (n : Fin 1024) : Fin 6144 := ⟨t.val / 32 * 1024 + n.val, by have := points t; omega⟩

theorem in0 (t : Fin cfg0.N) (n d : Fin 1024) : iblk m c 0 t (ix2 n d) = aH m c (ix2 (row t n) d) := by
  have h := points t
  unfold row
  blk_ext [iblk, V_main_arg0, idx0]
theorem in1 (t : Fin cfg0.N) (n : Fin 1024) (l : Fin 128) : iblk m c 1 t (ix2 n l) = aComb m c (ix2 (row t n) l) := by
  have h := points t
  unfold row
  blk_ext [iblk, V_main_arg1, idx1]
theorem in2 (t : Fin cfg0.N) (d f : Fin 1024) : iblk m c 2 t (ix3 0 d f) = aWg m c (ix3 (expert t) d f) := by
  unfold expert
  blk_ext [iblk, V_main_arg2, idx2]
theorem in4 (t : Fin cfg0.N) (d f : Fin 1024) : iblk m c 4 t (ix3 0 d f) = aWu m c (ix3 (expert t) d f) := by
  unfold expert
  blk_ext [iblk, V_main_arg4, idx4]
theorem in6 (t : Fin cfg0.N) (d f : Fin 1024) : iblk m c 6 t (ix3 0 d f) = aWd m c (ix3 (expert t) d f) := by
  unfold expert
  blk_ext [iblk, V_main_arg6, idx6]

/-- A bias's host reshape at an expert. -/
theorem bias_at (x : FVec Ideal S32x1024 .f32) (e : Fin 32) (f : Fin 1024) :
    shapeCast S32x1x1024 x shapeCasts_S32x1024_S32x1x1024 (ix3 e 0 f) = x (ix2 e f) :=
  shapeCast_at (s := S32x1024) (t := S32x1x1024) (j := ix3 e 0 f) _ _ (ix2 e f) (by rw [rowMajor2, rowMajor3]; simp)

theorem in3 (t : Fin cfg0.N) (f : Fin 1024) : iblk m c 3 t (ix3 0 0 f) = aBg m c (ix2 (expert t) f) := by
  show ((cfg0.win 3).blk t).view.read (Elt Ideal) (V m c main_v0) (ix3 0 0 f) = _
  entry_read
  show shapeCast S32x1x1024 (aBg m c) shapeCasts_S32x1024_S32x1x1024 (((cfg0.win 3).blk t).view.emb (ix3 0 0 f)) = _
  rw [show ((cfg0.win 3).blk t).view.emb (ix3 0 0 f) = ix3 (expert t) 0 f from by
    unfold expert
    blk_ext [idx3]]
  exact bias_at _ _ _
theorem in5 (t : Fin cfg0.N) (f : Fin 1024) : iblk m c 5 t (ix3 0 0 f) = aBu m c (ix2 (expert t) f) := by
  show ((cfg0.win 5).blk t).view.read (Elt Ideal) (V m c main_v1) (ix3 0 0 f) = _
  entry_read
  show shapeCast S32x1x1024 (aBu m c) shapeCasts_S32x1024_S32x1x1024 (((cfg0.win 5).blk t).view.emb (ix3 0 0 f)) = _
  rw [show ((cfg0.win 5).blk t).view.emb (ix3 0 0 f) = ix3 (expert t) 0 f from by
    unfold expert
    blk_ext [idx5]]
  exact bias_at _ _ _
theorem in7 (t : Fin cfg0.N) (f : Fin 1024) : iblk m c 7 t (ix3 0 0 f) = aBd m c (ix2 (expert t) f) := by
  show ((cfg0.win 7).blk t).view.read (Elt Ideal) (V m c main_v2) (ix3 0 0 f) = _
  entry_read
  show shapeCast S32x1x1024 (aBd m c) shapeCasts_S32x1024_S32x1x1024 (((cfg0.win 7).blk t).view.emb (ix3 0 0 f)) = _
  rw [show ((cfg0.win 7).blk t).view.emb (ix3 0 0 f) = ix3 (expert t) 0 f from by
    unfold expert
    blk_ext [idx7]]
  exact bias_at _ _ _

/-- A point's step over its blocks: the shares before its expert go to the shares up to it. -/
theorem step_at (t : Fin cfg0.N) (n d : Fin 1024) :
    stepv (iblk m c 0 t) (iblk m c 1 t) (iblk m c 2 t) (iblk m c 3 t) (iblk m c 4 t) (iblk m c 5 t) (iblk m c 6 t) (iblk m c 7 t)
        (expert t) (upTo (kArgs m c) (row t n) d (expert t).val) n d
      = upTo (kArgs m c) (row t n) d ((expert t).val + 1) := by
  rw [upTo_succ]
  unfold stepv act weight
  simp only [in0, in1, in2, in3, in4, in5, in6, in7]
  rfl

/-- After a point the accumulator holds the shares of the experts up to the point's own. -/
theorem outs_at (n d : Fin 1024) : ∀ (k : Nat) (h : k < cfg0.N), outsAt0 m c k h (ix2 n d)
    = upTo (kArgs m c) (row ⟨k, h⟩ n) d ((expert ⟨k, h⟩).val + 1) := by
  intro k
  induction k with
  | zero =>
    intro h
    have e := outsAt0_A m c ⟨0, h⟩ (Nat.zero_mod _)
    refine (congrFun e (ix2 n d)).trans ?_
    refine (first c _ _ _ _ _ _ _ _ _ _ _ _ _ _ _ _ _ _ _ (expert ⟨0, h⟩) _ _ _ _ _ _ _ _ (coord1 ⟨0, h⟩) _ n d).trans ?_
    exact step_at m c ⟨0, h⟩ n d
  | succ k ih =>
    intro h
    by_cases h0 : (k + 1) % 32 = 0
    · have e := outsAt0_A m c ⟨k + 1, h⟩ h0
      refine (congrFun e (ix2 n d)).trans ?_
      refine (first c _ _ _ _ _ _ _ _ _ _ _ _ _ _ _ _ _ _ _ (expert ⟨k + 1, h⟩) _ _ _ _ _ _ _ _ (coord1 ⟨k + 1, h⟩) _ n d).trans ?_
      refine Eq.trans ?_ (step_at m c ⟨k + 1, h⟩ n d)
      rw [show (expert ⟨k + 1, h⟩).val = 0 from h0, upTo_zero]
    · have e := outsAt0_B m c ⟨k + 1, h⟩ h0
      refine (congrFun e (ix2 n d)).trans ?_
      refine (later c _ _ _ _ _ _ _ _ _ _ _ _ _ _ _ _ _ _ _ (expert ⟨k + 1, h⟩) _ _ _ _ _ _ _ _ (coord1 ⟨k + 1, h⟩) _ _ n d).trans ?_
      refine Eq.trans ?_ (step_at m c ⟨k + 1, h⟩ n d)
      refine congrArg (fun z => stepv (iblk m c 0 ⟨k + 1, h⟩) (iblk m c 1 ⟨k + 1, h⟩) (iblk m c 2 ⟨k + 1, h⟩) (iblk m c 3 ⟨k + 1, h⟩)
        (iblk m c 4 ⟨k + 1, h⟩) (iblk m c 5 ⟨k + 1, h⟩) (iblk m c 6 ⟨k + 1, h⟩) (iblk m c 7 ⟨k + 1, h⟩) (expert ⟨k + 1, h⟩) z n d) ?_
      refine (ih (by omega)).trans ?_
      have hr : row ⟨k, by omega⟩ n = row ⟨k + 1, h⟩ n := Fin.ext (by
        show k / 32 * 1024 + n.val = (k + 1) / 32 * 1024 + n.val; omega)
      have hx : (expert ⟨k, by omega⟩).val + 1 = (expert ⟨k + 1, h⟩).val := by
        show k % 32 + 1 = (k + 1) % 32; omega
      rw [hr, hx]

theorem place8 (t : Fin cfg0.N) (n d : Fin 1024) : ((cfg0.win 8).blk t).view.emb (ix2 n d) = ix2 (row t n) d := by
  have h := points t
  unfold row
  blk_ext [idx8]

theorem out8 : (dats m 0 c).arrAt 8 cfg0.N = fun i : S6144x1024.Idx => result (kArgs m c) (i 0) (i 1) := by
  refine (dats m 0 c).arrAt_eq_of_covers 8 _ (by decide +kernel) fun t hf y => ?_
  obtain ⟨n, d, rfl⟩ : ∃ (n d : Fin 1024), y = ix2 n d :=
    ⟨y 0, y 1, by funext x; match x with | ⟨0, _⟩ => rfl | ⟨1, _⟩ => rfl⟩
  rw [place8]
  blk_simp
  rw [after0_8]
  have hl : t.val % 32 = 31 := (flush0_8 t).mp hf
  refine (outs_at m c n d t.val t.isLt).trans ?_
  rw [show (expert ⟨t.val, t.isLt⟩).val + 1 = 32 from by show t.val % 32 + 1 = 32; omega]
  exact upTo_all _ _ _

end Cert.Proof.Moe

end
-- ==== Proof.MoeRef.lean ====
/- The reference's experts: each operation read at a token, an expert and a channel. -/
module

public import proofs.«01_k».proof.Proof.MoeSpec
public import proofs.«01_k».proof.Proof.Ix
public import proofs.«01_k».proof.Proof.Gen.ReferenceMoeIdeal.Read
public import Idealize.ShloMosaic.Lib.Pipeline.ValueKit

@[expose] public section

set_option maxRecDepth 16384

noncomputable section

namespace Cert.Proof.Moe

open Cert.ReferenceMoeIdeal Cert.ReferenceMoeIdeal.Gen Cert.ReferenceMoeIdeal.Read Idealize.ShloMosaic.ValueIdx
open Idealize.ShloMosaic hiding ix1 ix2 ix3 ix4
open scoped BigOperators

theorem one_over (z : EReal) : Ideal.div cOne (cOne + Ideal.exp (-z)) = Ideal.logistic z := by
  rw [show cOne = 1 from Ideal.ofBits_one_f32]; rfl

section
variable (x0 : FVec Ideal S6144x1024 .bf16) (x1 : FVec Ideal S6144x128 .f32) (x2 : FVec Ideal S32x1024x1024 .f32)
  (x3 : FVec Ideal S32x1024 .f32) (x4 : FVec Ideal S32x1024x1024 .f32) (x5 : FVec Ideal S32x1024 .f32)
  (x6 : FVec Ideal S32x1024x1024 .f32) (x7 : FVec Ideal S32x1024 .f32)

/-- The reference's arguments, entry by entry. -/
def rArgs : Args where
  h t d := x0 (ix2 t d)
  comb t l := x1 (ix2 t l)
  wg e d f := x2 (ix3 e d f)
  bg e f := x3 (ix2 e f)
  wu e d f := x4 (ix3 e d f)
  bu e f := x5 (ix2 e f)
  wd e f d := x6 (ix3 e f d)
  bd e d := x7 (ix2 e d)

variable (t : Fin 6144) (e : Fin 32)

theorem gate_apply (f : Fin 1024) : val_main_v11 (F := Ideal) x0 x2 x3 (ix3 t e f)
    = gate (fun d => x0 (ix2 t d)) (fun d f => x2 (ix3 e d f)) (fun f => x3 (ix2 e f)) f := by
  rw [val_main_v11_apply, val_main_v5_apply, val_main_v2_apply, val_main_v4_apply, val_main_v3_apply, val_main_v10_apply,
    show idx_main_v3 (idx_main_v4 (ix3 t e f)) = ix2 e f from by funext a; match a with | ⟨0, _⟩ => rfl | ⟨1, _⟩ => rfl]
  unfold gate
  refine congrArg (fun z => min (z + _) _) (Finset.sum_congr rfl fun k _ => ?_)
  rw [show ridx_main_v2 (ix3 t e f) k = ix3 e k f from by
      funext a; match a with | ⟨0, _⟩ => rfl | ⟨1, _⟩ => rfl | ⟨2, _⟩ => rfl,
    show lidx_main_v2 (ix3 t e f) k = ix2 t k from by funext a; match a with | ⟨0, _⟩ => rfl | ⟨1, _⟩ => rfl]
  rfl

theorem up_apply (f : Fin 1024) : val_main_v12 (F := Ideal) x0 x4 x5 (ix3 t e f)
    = up (fun d => x0 (ix2 t d)) (fun d f => x4 (ix3 e d f)) (fun f => x5 (ix2 e f)) f := by
  rw [val_main_v12_apply, val_main_call0_v2_apply, val_main_v9_apply, val_main_v6_apply, val_main_v8_apply, val_main_v7_apply,
    show idx_main_v7 (idx_main_v8 (ix3 t e f)) = ix2 e f from by funext a; match a with | ⟨0, _⟩ => rfl | ⟨1, _⟩ => rfl,
    val_main_call0_v4_apply, val_main_call0_v1_apply]
  unfold up
  refine congrArg (fun z => min _ (max _ (z + _))) (Finset.sum_congr rfl fun k _ => ?_)
  rw [show ridx_main_v6 (ix3 t e f) k = ix3 e k f from by
      funext a; match a with | ⟨0, _⟩ => rfl | ⟨1, _⟩ => rfl | ⟨2, _⟩ => rfl,
    show lidx_main_v6 (ix3 t e f) k = ix2 t k from by funext a; match a with | ⟨0, _⟩ => rfl | ⟨1, _⟩ => rfl]
  rfl

theorem weight_apply : val_main_v1 (F := Ideal) x1 (ix2 t e) = weight (rArgs x0 x1 x2 x3 x4 x5 x6 x7) t e := by
  rw [val_main_v1_apply]
  exact congrArg x1 (funext fun a => by match a with | ⟨0, _⟩ => rfl | ⟨1, _⟩ => rfl)

theorem act_apply (f : Fin 1024) : val_main_v27 (F := Ideal) x0 x1 x2 x3 x4 x5 (ix3 t e f)
    = act (rArgs x0 x1 x2 x3 x4 x5 x6 x7) t e f := by
  rw [val_main_v27_apply, val_main_v26_apply, val_main_v25_apply,
    show idx_main_v25 (idx_main_v26 (ix3 t e f)) = ix2 t e from by funext a; match a with | ⟨0, _⟩ => rfl | ⟨1, _⟩ => rfl,
    weight_apply x0 x1 x2 x3 x4 x5 x6 x7]
  unfold act unit
  refine congrArg (· * _) ?_
  rw [val_main_v24_apply, val_main_v15_apply, val_main_v14_apply, val_main_v23_apply, val_main_v22_apply, val_main_v21_apply,
    val_main_v20_apply, val_main_v19_apply, val_main_v18_apply, val_main_v17_apply, val_main_v16_apply, val_main_v13_apply,
    gate_apply, up_apply]
  exact congrArg (_ * ·) (one_over _)

/-- The two summed axes of the output projection as a pair. -/
def pairs : dot_S6144x32x1024_S32x1024x1024_S6144x1024_12_01_0_2_n_n.contr.Idx ≃ Fin 32 × Fin 1024 where
  toFun q := (q ⟨0, by decide⟩, q ⟨1, by decide⟩)
  invFun p := fun a => match a with | ⟨0, _⟩ => p.1 | ⟨1, _⟩ => p.2
  left_inv q := by funext a; match a with | ⟨0, _⟩ => rfl | ⟨1, _⟩ => rfl
  right_inv _ := rfl

theorem down_apply (d : Fin 1024) : val_main_v28 (F := Ideal) x0 x1 x2 x3 x4 x5 x6 (ix2 t d)
    = ∑ e, ∑ f, act (rArgs x0 x1 x2 x3 x4 x5 x6 x7) t e f * x6 (ix3 e f d) := by
  unfold val_main_v28
  have hy := act_apply x0 x1 x2 x3 x4 x5 x6 x7 t
  generalize val_main_v27 (F := Ideal) x0 x1 x2 x3 x4 x5 = y at hy
  refine (Ideal.dotGeneral_apply dot_S6144x32x1024_S32x1024x1024_S6144x1024_12_01_0_2_n_n _ _ y x6 (ix2 t d)).trans ?_
  rw [← Equiv.sum_comp pairs.symm, Fintype.sum_prod_type]
  refine Finset.sum_congr rfl fun e _ => Finset.sum_congr rfl fun f _ => ?_
  rw [← hy e f]
  have el : dot_S6144x32x1024_S32x1024x1024_S6144x1024_12_01_0_2_n_n.lhsIdx (ix2 t d) (pairs.symm (e, f)) = ix3 t e f := by
    funext a; match a with | ⟨0, _⟩ => rfl | ⟨1, _⟩ => rfl | ⟨2, _⟩ => rfl
  have er : dot_S6144x32x1024_S32x1024x1024_S6144x1024_12_01_0_2_n_n.rhsIdx (ix2 t d) (pairs.symm (e, f)) = ix3 e f d := by
    funext a; match a with | ⟨0, _⟩ => rfl | ⟨1, _⟩ => rfl | ⟨2, _⟩ => rfl
  rw [el, er]

theorem bias_apply (d : Fin 1024) : val_main_v29 (F := Ideal) x1 x7 (ix2 t d)
    = ∑ e, weight (rArgs x0 x1 x2 x3 x4 x5 x6 x7) t e * x7 (ix2 e d) := by
  rw [val_main_v29_apply]
  refine Finset.sum_congr rfl fun k _ => ?_
  rw [show lidx_main_v29 (ix2 t d) k = ix2 t k from by funext a; match a with | ⟨0, _⟩ => rfl | ⟨1, _⟩ => rfl,
    show ridx_main_v29 (ix2 t d) k = ix2 k d from by funext a; match a with | ⟨0, _⟩ => rfl | ⟨1, _⟩ => rfl,
    weight_apply x0 x1 x2 x3 x4 x5 x6 x7]

theorem result30 : val_main_v30 (F := Ideal) x0 x1 x2 x3 x4 x5 x6 x7 = fun i : S6144x1024.Idx =>
    result (rArgs x0 x1 x2 x3 x4 x5 x6 x7) (i 0) (i 1) := by
  funext i
  obtain ⟨t, d, rfl⟩ : ∃ (t : Fin 6144) (d : Fin 1024), i = ix2 t d :=
    ⟨i 0, i 1, by funext x; match x with | ⟨0, _⟩ => rfl | ⟨1, _⟩ => rfl⟩
  rw [val_main_v30_apply, down_apply x0 x1 x2 x3 x4 x5 x6 x7, bias_apply x0 x1 x2 x3 x4 x5 x6 x7]
  rfl

end

end Cert.Proof.Moe

end
-- ==== Proof.MoeAgree.lean ====
/- The two programs of the experts end with the same array. -/
module

public import proofs.«01_k».proof.Defs
public import proofs.«01_k».proof.Proof.MoeBlocks
public import proofs.«01_k».proof.Proof.MoeRef
public import proofs.«01_k».proof.Proof.Gen.ReferenceMoeIdeal.Run

@[expose] public section

set_option maxRecDepth 16384

noncomputable section

namespace Cert.Proof.Moe

open Idealize.ShloMosaic Idealize.ShloMosaic.TcCoe Idealize.SL.Sem

theorem agree : algebraic_KernelMoeIdeal_ReferenceMoeIdeal
    (hKernelMoeIdeal := Cert.KernelMoeIdeal.Gen.facts) (hReferenceMoeIdeal := Cert.ReferenceMoeIdeal.Gen.facts) := by
  intro m g m' g' hpre hargs
  have hR : ∀ c : Dev Cert.KernelMoeIdeal.nD, rArgs (m' ((c.tc : Thread Cert.ReferenceMoeIdeal.nD Cert.ReferenceMoeIdeal.τ).loc Cert.ReferenceMoeIdeal.main_arg0))
      (m' ((c.tc : Thread Cert.ReferenceMoeIdeal.nD Cert.ReferenceMoeIdeal.τ).loc Cert.ReferenceMoeIdeal.main_arg1))
      (m' ((c.tc : Thread Cert.ReferenceMoeIdeal.nD Cert.ReferenceMoeIdeal.τ).loc Cert.ReferenceMoeIdeal.main_arg2))
      (m' ((c.tc : Thread Cert.ReferenceMoeIdeal.nD Cert.ReferenceMoeIdeal.τ).loc Cert.ReferenceMoeIdeal.main_arg3))
      (m' ((c.tc : Thread Cert.ReferenceMoeIdeal.nD Cert.ReferenceMoeIdeal.τ).loc Cert.ReferenceMoeIdeal.main_arg4))
      (m' ((c.tc : Thread Cert.ReferenceMoeIdeal.nD Cert.ReferenceMoeIdeal.τ).loc Cert.ReferenceMoeIdeal.main_arg5))
      (m' ((c.tc : Thread Cert.ReferenceMoeIdeal.nD Cert.ReferenceMoeIdeal.τ).loc Cert.ReferenceMoeIdeal.main_arg6))
      (m' ((c.tc : Thread Cert.ReferenceMoeIdeal.nD Cert.ReferenceMoeIdeal.τ).loc Cert.ReferenceMoeIdeal.main_arg7)) = kArgs m c := fun c => by
    obtain ⟨e0, e1, e2, e3, e4, e5, e6, e7⟩ := hargs c
    rw [e0, e1, e2, e3, e4, e5, e6, e7]
    rfl
  refine ⟨fun c => fun i : Cert.KernelMoeIdeal.S6144x1024.Idx => result (kArgs m c) (i 0) (i 1), ?_, ?_⟩
  · refine (θ_run _ _ _).mono (fun r h c => ?_) (Cert.KernelMoeIdeal.Value.run_blocks m g)
    obtain ⟨h8, hkept⟩ := h c
    exact ⟨h8.trans (out8 m c), hkept⟩
  · refine (θ_run _ _ _).mono (fun r h c => ?_) (Cert.ReferenceMoeIdeal.Value.run (F := Ideal) m' g')
    obtain ⟨h30, hkept⟩ := h c
    refine ⟨(h30.trans (Cert.ReferenceMoeIdeal.Read.val_main_v30_eq _ _ _ _ _ _ _ _)).trans ?_, hkept⟩
    exact (result30 _ _ _ _ _ _ _ _).trans (by rw [hR c])

end Cert.Proof.Moe

end
-- ==== Proof.FinalSpec.lean ====
/- What the last call computes, one token a row: the gated residual and the final norm. -/
module

public import proofs.«01_k».proof.Proof.Spec

@[expose] public section

noncomputable section

namespace Cert.Proof.Final

open Idealize.ShloMosaic
open scoped BigOperators

/-- The arguments, entry by entry: the residual stream of chunk `s` of group `g` at token `l`, the experts' rows, the
    modulation rows and the norm's gain. -/
structure Args where
  x : Fin 3 → Fin 8 → Fin 256 → Fin 1024 → EReal
  y : Fin 6144 → Fin 1024 → EReal
  mod : Fin 24 → Fin 6144 → EReal
  g : Fin 1024 → EReal

/-- Chunk `s` of group `g`, and its token `l` among the rows. -/
def chunk (g : Fin 3) (s : Fin 8) : Fin 24 := ⟨g.val * 8 + s.val, by omega⟩
def place (g : Fin 3) (s : Fin 8) (l : Fin 256) : Fin 6144 := ⟨(g.val * 8 + s.val) * 256 + l.val, by omega⟩

section
variable (A : Args) (g : Fin 3) (s : Fin 8) (l : Fin 256)

/-- The gated residual. -/
def sumRow (d : Fin 1024) : EReal := A.x g s l d + A.mod (chunk g s) ⟨5120 + d.val, by omega⟩ * A.y (place g s l) d

/-- Its norm. -/
def outRow (d : Fin 1024) : EReal := sumRow A g s l d * rms (sumRow A g s l) * A.g d

end

end Cert.Proof.Final

end
-- ==== Proof.FinalBlocks.lean ====
/- The last call's result after the run, entry by entry: the point `t` works on group `t / 2` of eight chunks and on half
   `t % 2` of the chunks' 256 tokens. -/
module

public import proofs.«01_k».proof.Proof.Gen.KernelFinalIdeal.Value
public import proofs.«01_k».proof.Proof.FinalSpec
public import proofs.«01_k».proof.Proof.Ix
public import Idealize.ShloMosaic.Lib.Pipeline.ValueKit

@[expose] public section

set_option maxRecDepth 16384

noncomputable section

namespace Cert.Proof.Final

open Cert.KernelFinalIdeal Cert.KernelFinalIdeal.Gen Idealize.ShloMosaic.TcCoe Idealize.SL.Sem Idealize.ShloMosaic.ValueIdx
open Idealize.ShloMosaic hiding ix1 ix2 ix3 ix4
open Idealize.ShloMosaic.Pipeline (Dat)
open scoped BigOperators

theorem drop4 {α : Type} {a b c : Nat} (x : (⟨4, ![1, a, b, c]⟩ : Shape).Idx → α)
    (h : (⟨4, ![1, a, b, c]⟩ : Shape).ShapeCasts ⟨3, ![a, b, c]⟩) (i : Fin a) (j : Fin b) (k : Fin c) :
    shapeCast ⟨3, ![a, b, c]⟩ x h (ix3 i j k) = x (ix4 0 i j k) :=
  shapeCast_at x h _ (by rw [rowMajor3, rowMajor4]; simp)

/-- A block's gated residual. -/
def sumK (v0 : Vec Ideal S1x8x1x6144 .f32) (v3 v5 : Vec Ideal S1x8x128x1024 .f32) : FVec Ideal S8x128x1024 .f32 :=
  addf (shapeCast S8x128x1024 v3 shapeCasts_S1x8x128x1024_S8x128x1024)
    (mulf (broadcastTo S8x128x1024 (shapeCast S8x1x1024 (extractStridedSlice S1x8x1x1024 ![0, 0, 0, 5120] (shapeCast S1x8x1x6144 v0
        shapeCasts_S1x8x1x6144_S1x8x1x6144) slices_S1x8x1x6144_o0_0_0_5120_S1x8x1x1024) shapeCasts_S1x8x1x1024_S8x1x1024) broadcasts_S8x1x1024_S8x128x1024)
      (shapeCast S8x128x1024 v5 shapeCasts_S1x8x128x1024_S8x128x1024))

theorem sumK_apply (v0 : Vec Ideal S1x8x1x6144 .f32) (v3 v5 : Vec Ideal S1x8x128x1024 .f32) (s : Fin 8) (q : Fin 128) (d : Fin 1024) :
    sumK v0 v3 v5 (ix3 s q d) = v3 (ix4 0 s q d) + v0 (ix4 0 s 0 ⟨5120 + d.val, by omega⟩) * v5 (ix4 0 s q d) := by
  unfold sumK
  rw [addf_apply, mulf_apply, drop4, drop4]
  refine congrArg (fun z : EReal => v3 (ix4 0 s q d) + z * v5 (ix4 0 s q d)) ?_
  refine (broadcastTo_apply _ _ _ (ix3 s 0 d) fun a => by match a with | ⟨0, _⟩ => rfl | ⟨1, _⟩ => rfl | ⟨2, _⟩ => rfl).trans ?_
  rw [drop4, shapeCast_self]
  exact extractStridedSlice_apply (s := S1x8x1x6144) (t := S1x8x1x1024) _ _ _ _ (ix4 0 s 0 ⟨5120 + d.val, by omega⟩) fun a => by
    match a with
    | ⟨0, _⟩ => rfl
    | ⟨1, _⟩ => exact (Nat.zero_add _).symm
    | ⟨2, _⟩ => rfl
    | ⟨3, _⟩ => rfl

/-- Its norm. -/
def normK (X : FVec Ideal S8x128x1024 .f32) (v10 : Vec Ideal S1x1024 .f32) : FVec Ideal S8x128x1024 .f32 :=
  mulf (mulf X (broadcastTo S8x128x1024 (rsqrt (addf (divf (shapeCast S8x128x1
          (multiReduction .add [2] S8x128 (mulf X X) 0x00000000#32 reduces_S8x128x1024_S8x128 (.inl rfl) rfl) shapeCasts_S8x128_S8x128x1)
          (broadcast S8x128x1 (Scalar.ofBits (F := Ideal) .f32 0x44800000#32))) (broadcast S8x128x1 (Scalar.ofBits (F := Ideal) .f32 0x358637BD#32))))
          broadcasts_S8x128x1_S8x128x1024))
    (broadcastTo S8x128x1024 (shapeCast S1x1x1024 (shapeCast S1x1024 v10 shapeCasts_S1x1024_S1x1024) shapeCasts_S1x1024_S1x1x1024)
      broadcasts_S1x1x1024_S8x128x1024)

theorem normK_apply (X : FVec Ideal S8x128x1024 .f32) (v10 : Vec Ideal S1x1024 .f32) (s : Fin 8) (q : Fin 128) (d : Fin 1024) :
    normK X v10 (ix3 s q d) = X (ix3 s q d) * rms (fun d => X (ix3 s q d)) * v10 (ix2 0 d) := by
  have hsq : ∀ h, multiReduction (F := Ideal) .add [2] S8x128 (mulf X X) 0x00000000#32
      h (.inl rfl) rfl (ix2 s q) = ∑ k : Fin 1024, X (ix3 s q k) * X (ix3 s q k) := fun h => by
    refine (Ideal.multiReduction_add_single _ _ h _ _ _).trans (Finset.sum_congr rfl fun k _ => ?_)
    rw [mulf_apply]
    have : h.lift (ix2 s q) k = ix3 s q k := by
      funext a; match a with | ⟨0, _⟩ => rfl | ⟨1, _⟩ => rfl | ⟨2, _⟩ => rfl
    rw [this]; rfl
  have hcol : ∀ (x : FVec Ideal S8x128x1 .f32) h, broadcastTo S8x128x1024 x h (ix3 s q d) = x (ix3 s q 0) := fun x h =>
    broadcastTo_apply _ _ _ _ fun a => by match a with | ⟨0, _⟩ => rfl | ⟨1, _⟩ => rfl | ⟨2, _⟩ => rfl
  have hg : ∀ (x : FVec Ideal S1x1x1024 .f32) h, broadcastTo S8x128x1024 x h (ix3 s q d) = x (ix3 0 0 d) := fun x h =>
    broadcastTo_apply _ _ _ _ fun a => by match a with | ⟨0, _⟩ => rfl | ⟨1, _⟩ => rfl | ⟨2, _⟩ => rfl
  unfold normK rms
  simp only [mulf_apply, hcol, hg]
  rw [shapeCast_self, shapeCast_at v10 _ (j := ix3 0 0 d) (ix2 0 d) (by rw [rowMajor2, rowMajor3]; simp)]
  refine congrArg (· * _) (congrArg (_ * ·) ?_)
  show Ideal.rsqrt (Ideal.div (shapeCast S8x128x1 _ _ (ix3 s q 0)) cLen + cEps) = _
  rw [shapeCast_at _ _ (j := ix3 s q 0) (ix2 s q) (by rw [rowMajor2, rowMajor3]; simp), hsq]

/-- The printed payload is that norm. -/
theorem pay1_eq (v0 : Vec Ideal S1x8x1x6144 .f32) (v3 v5 : Vec Ideal S1x8x128x1024 .f32) (v10 : Vec Ideal S1x1024 .f32) :
    k0_pay1 v0 v3 v5 v10 = shapeCast S1x8x128x1024 (normK (sumK v0 v3 v5) v10) shapeCasts_S8x128x1024_S1x8x128x1024 := rfl

/-! ## The blocks -/

variable (m : (ℓ : Loc nD τ sig) → Buf (Elt Ideal) ℓ) (c : Dev nD)

/-- The arguments as arrays of extended reals. -/
abbrev aX : FVec Ideal S3x8x256x1024 .f32 := m ((c : Thread nD τ).loc main_arg0)
abbrev aY : FVec Ideal S6144x1024 .f32 := m ((c : Thread nD τ).loc main_arg1)
abbrev aMod : FVec Ideal S24x6144 .f32 := m ((c : Thread nD τ).loc main_arg2)
abbrev aG : FVec Ideal S1024 .f32 := m ((c : Thread nD τ).loc main_arg3)

/-- The kernel's arguments, entry by entry. -/
def kArgs : Args where
  x g s l d := aX m c (ix4 g s l d)
  y t d := aY m c (ix2 t d)
  mod n j := aMod m c (ix2 n j)
  g d := aG m c (ix1 d)

theorem idx0 : ∀ t : Fin cfg0.N, win0_0.index t = ![t.val / 2, 0, t.val % 2, 0] :=
  (by decide +kernel : ∀ t : Fin grid0.N, win0_0.index t = ![t.val / 2, 0, t.val % 2, 0])
theorem idx1 : ∀ t : Fin cfg0.N, win0_1.index t = ![t.val / 2, 0, t.val % 2, 0] :=
  (by decide +kernel : ∀ t : Fin grid0.N, win0_1.index t = ![t.val / 2, 0, t.val % 2, 0])
theorem idx2 : ∀ t : Fin cfg0.N, win0_2.index t = ![t.val / 2, 0, 0, 0] :=
  (by decide +kernel : ∀ t : Fin grid0.N, win0_2.index t = ![t.val / 2, 0, 0, 0])
theorem idx3 : ∀ t : Fin cfg0.N, win0_3.index t = ![0, 0] := (by decide +kernel : ∀ t : Fin grid0.N, win0_3.index t = ![0, 0])
theorem idx4 : ∀ t : Fin cfg0.N, win0_4.index t = ![t.val / 2, 0, t.val % 2, 0] :=
  (by decide +kernel : ∀ t : Fin grid0.N, win0_4.index t = ![t.val / 2, 0, t.val % 2, 0])
theorem points : ∀ t : Fin cfg0.N, t.val < 6 := (by decide +kernel : ∀ t : Fin grid0.N, t.val < 6)

/-- The group of a point and the token of its block's row `q`. -/
def grp (t : Fin cfg0.N) : Fin 3 := ⟨t.val / 2, by have := points t; omega⟩
def tok (t : Fin cfg0.N) (q : Fin 128) : Fin 256 := ⟨t.val % 2 * 128 + q.val, by omega⟩

theorem in0 (t : Fin cfg0.N) (s : Fin 8) (q : Fin 128) (d : Fin 1024) :
    iblk m c 0 t (ix4 0 s q d) = aX m c (ix4 (grp t) s (tok t q) d) := by
  have h := points t
  unfold grp tok
  blk_ext [iblk, V_main_arg0, idx0]
theorem in1 (t : Fin cfg0.N) (s : Fin 8) (q : Fin 128) (d : Fin 1024) :
    iblk m c 1 t (ix4 0 s q d) = aY m c (ix2 (place (grp t) s (tok t q)) d) := by
  have h := points t
  show ((cfg0.win 1).blk t).view.read (Elt Ideal) (V m c main_v1) (ix4 0 s q d) = _
  entry_read
  show shapeCast S3x8x256x1024 (aY m c) shapeCasts_S6144x1024_S3x8x256x1024 (((cfg0.win 1).blk t).view.emb (ix4 0 s q d)) = _
  rw [show ((cfg0.win 1).blk t).view.emb (ix4 0 s q d) = ix4 (grp t) s (tok t q) d from by
    unfold grp tok
    blk_ext [idx1]]
  exact shapeCast_at (s := S6144x1024) (t := S3x8x256x1024) (j := ix4 (grp t) s (tok t q) d) _ _ (ix2 (place (grp t) s (tok t q)) d)
    (by rw [rowMajor2, rowMajor4]; rfl)
theorem in2 (t : Fin cfg0.N) (s : Fin 8) (j : Fin 6144) :
    iblk m c 2 t (ix4 0 s 0 j) = aMod m c (ix2 (chunk (grp t) s) j) := by
  have h := points t
  show ((cfg0.win 2).blk t).view.read (Elt Ideal) (V m c main_v0) (ix4 0 s 0 j) = _
  entry_read
  show shapeCast S3x8x1x6144 (aMod m c) shapeCasts_S24x6144_S3x8x1x6144 (((cfg0.win 2).blk t).view.emb (ix4 0 s 0 j)) = _
  rw [show ((cfg0.win 2).blk t).view.emb (ix4 0 s 0 j) = ix4 (grp t) s 0 j from by
    unfold grp
    blk_ext [idx2]]
  exact shapeCast_at (s := S24x6144) (t := S3x8x1x6144) (j := ix4 (grp t) s 0 j) _ _ (ix2 (chunk (grp t) s) j)
    (by rw [rowMajor2, rowMajor4]; simp [chunk])
theorem in3 (t : Fin cfg0.N) (d : Fin 1024) : iblk m c 3 t (ix2 0 d) = aG m c (ix1 d) := by
  show ((cfg0.win 3).blk t).view.read (Elt Ideal) (V m c main_v2) (ix2 0 d) = _
  entry_read
  show shapeCast S1x1024 (aG m c) shapeCasts_S1024_S1x1024 (((cfg0.win 3).blk t).view.emb (ix2 0 d)) = _
  rw [show ((cfg0.win 3).blk t).view.emb (ix2 0 d) = ix2 0 d from by blk_ext [idx3]]
  exact shapeCast_at (s := S1024) (t := S1x1024) (j := ix2 0 d) _ _ (ix1 d) (by rw [rowMajor1, rowMajor2]; simp)

theorem all0 {n : Nat} (x : Fin n → Nat) (h : ∀ a, x a = 0) : x = fun _ => 0 := funext h

section
variable (x0 : Vec Ideal S1x8x1x6144 .f32) (x1 : Vec Ideal S1x8x128x1024 .f32) (x2 : Vec Ideal S1x1024 .f32)

theorem whole0 : View.ld x0 r0_0 = x0 := View.ld_unit_zero (all0 _ (by decide)) _ _
theorem whole1 : View.ld x1 r0_1 = x1 := View.ld_unit_zero (all0 _ (by decide)) _ _
theorem whole2 : View.ld x2 r0_2 = x2 := View.ld_unit_zero (all0 _ (by decide)) _ _
end

theorem out_at (t : Fin cfg0.N) (s : Fin 8) (q : Fin 128) (d : Fin 1024) :
    k0_pay1 (iblk m c 2 t) (iblk m c 0 t) (iblk m c 1 t) (iblk m c 3 t) (ix4 0 s q d) = outRow (kArgs m c) (grp t) s (tok t q) d := by
  rw [pay1_eq]
  refine (shapeCast_at (s := S8x128x1024) (t := S1x8x128x1024) (j := ix4 0 s q d) _ _ (ix3 s q d)
    (by rw [rowMajor3, rowMajor4]; simp)).trans ?_
  refine (normK_apply _ _ s q d).trans ?_
  have hx : (fun d => sumK (iblk m c 2 t) (iblk m c 0 t) (iblk m c 1 t) (ix3 s q d)) = sumRow (kArgs m c) (grp t) s (tok t q) := by
    funext d
    rw [sumK_apply, in0, in1, in2]
    rfl
  unfold outRow
  rw [hx, in3, show sumK (iblk m c 2 t) (iblk m c 0 t) (iblk m c 1 t) (ix3 s q d) = _ from congrFun hx d]
  rfl

theorem place4 (t : Fin cfg0.N) (s : Fin 8) (q : Fin 128) (d : Fin 1024) :
    ((cfg0.win 4).blk t).view.emb (ix4 0 s q d) = ix4 (grp t) s (tok t q) d := by
  have h := points t
  unfold grp tok
  blk_ext [idx4]

theorem out4 : (dats m 0 c).arrAt 4 cfg0.N = fun i : S3x8x256x1024.Idx => outRow (kArgs m c) (i 0) (i 1) (i 2) (i 3) := by
  refine (dats m 0 c).arrAt_eq_of_covers 4 _ (by decide +kernel) fun t hf y => ?_
  obtain ⟨s, q, d, rfl⟩ : ∃ (s : Fin 8) (q : Fin 128) (d : Fin 1024), y = ix4 0 s q d :=
    ⟨y 1, y 2, y 3, by funext x; match x with | ⟨0, _⟩ => exact Subsingleton.elim (α := Fin 1) _ _ | ⟨1, _⟩ => rfl | ⟨2, _⟩ => rfl | ⟨3, _⟩ => rfl⟩
  rw [place4]
  blk_simp
  rw [after0_4]
  unfold out0_4
  rw [whole0, whole1, whole1, whole2, View.canon_unit_zero (all0 _ (by decide))]
  exact out_at m c t s q d

end Cert.Proof.Final

end
-- ==== Proof.FinalRef.lean ====
/- The reference's last lines: each operation read at a chunk's token and channel. -/
module

public import proofs.«01_k».proof.Proof.FinalSpec
public import proofs.«01_k».proof.Proof.Ix
public import proofs.«01_k».proof.Proof.Gen.ReferenceFinalIdeal.Read
public import Idealize.ShloMosaic.Lib.Pipeline.ValueKit

@[expose] public section

set_option maxRecDepth 16384

noncomputable section

namespace Cert.Proof.Final

open Cert.ReferenceFinalIdeal Cert.ReferenceFinalIdeal.Gen Cert.ReferenceFinalIdeal.Read Idealize.ShloMosaic.ValueIdx
open Idealize.ShloMosaic hiding ix1 ix2 ix3 ix4
open scoped BigOperators

section
variable (x0 : FVec Ideal S3x8x256x1024 .f32) (x1 : FVec Ideal S6144x1024 .f32) (x2 : FVec Ideal S24x6144 .f32) (x3 : FVec Ideal S1024 .f32)

/-- The reference's arguments, entry by entry. -/
def rArgs : Args where
  x g s l d := x0 (ix4 g s l d)
  y t d := x1 (ix2 t d)
  mod n j := x2 (ix2 n j)
  g d := x3 (ix1 d)

variable (g : Fin 3) (s : Fin 8) (l : Fin 256)

theorem sum_apply (d : Fin 1024) : val_main_v6 (F := Ideal) x0 x1 x2 (ix3 (chunk g s) l d) = sumRow (rArgs x0 x1 x2 x3) g s l d := by
  rw [val_main_v6_apply, val_main_v0_apply, val_main_v5_apply, val_main_v4_apply, val_main_v2_apply, val_main_v1_apply, val_main_v3_apply,
    show idx_main_v0 (ix3 (chunk g s) l d) = ix4 g s l d from by
      funext a; refine Fin.ext ?_
      match a with
      | ⟨0, _⟩ => show (((g.val * 8 + s.val) * 256 + l.val) * 1024 + d.val) / 2097152 = g.val; omega
      | ⟨1, _⟩ => show (((g.val * 8 + s.val) * 256 + l.val) * 1024 + d.val) / 262144 % 8 = s.val; omega
      | ⟨2, _⟩ => show (((g.val * 8 + s.val) * 256 + l.val) * 1024 + d.val) / 1024 % 256 = l.val; omega
      | ⟨3, _⟩ => show (((g.val * 8 + s.val) * 256 + l.val) * 1024 + d.val) % 1024 = d.val; omega,
    show idx_main_v3 (ix3 (chunk g s) l d) = ix2 (place g s l) d from by
      funext a; refine Fin.ext ?_
      match a with
      | ⟨0, _⟩ => show (((g.val * 8 + s.val) * 256 + l.val) * 1024 + d.val) / 1024 = (g.val * 8 + s.val) * 256 + l.val; omega
      | ⟨1, _⟩ => show (((g.val * 8 + s.val) * 256 + l.val) * 1024 + d.val) % 1024 = d.val; omega,
    show idx_main_v1 (idx_main_v2 (idx_main_v4 (ix3 (chunk g s) l d))) = ix2 (chunk g s) ⟨5120 + d.val, by omega⟩ from by
      funext a; match a with | ⟨0, _⟩ => rfl | ⟨1, _⟩ => rfl]
  rfl

theorem rms_apply : val_main_v14 (F := Ideal) x0 x1 x2 (ix3 (chunk g s) l 0) = rms (sumRow (rArgs x0 x1 x2 x3) g s l) := by
  rw [val_main_v14_apply, val_main_v13_apply, val_main_v11_apply, val_main_v9_apply, val_main_v10_apply, val_main_v12_apply,
    show idx_main_v9 (ix3 (chunk g s) l 0) = ix2 (chunk g s) l from by
      funext a; match a with | ⟨0, _⟩ => rfl | ⟨1, _⟩ => rfl,
    val_main_v8_apply]
  have hs : val_main_cst (F := Ideal) (Shape.Idx.first h_S_)
      + ∑ k : Fin 1024, val_main_v7 (F := Ideal) x0 x1 x2 (idx_main_v8 (ix2 (chunk g s) l) k)
      = ∑ d, sumRow (rArgs x0 x1 x2 x3) g s l d * sumRow (rArgs x0 x1 x2 x3) g s l d := by
    refine (congrArg (· + _) (Ideal.ofBits_zero_f32)).trans ((zero_add _).trans (Finset.sum_congr rfl fun k _ => ?_))
    rw [show idx_main_v8 (ix2 (chunk g s) l) k = ix3 (chunk g s) l k from by
        funext a; match a with | ⟨0, _⟩ => rfl | ⟨1, _⟩ => rfl | ⟨2, _⟩ => rfl,
      val_main_v7_apply, sum_apply x0 x1 x2 x3]
    rfl
  rw [hs]
  rfl

theorem ref_apply (d : Fin 1024) : val_main_v19 (F := Ideal) x0 x1 x2 x3 (ix3 (chunk g s) l d) = outRow (rArgs x0 x1 x2 x3) g s l d := by
  rw [val_main_v19_apply, val_main_v16_apply, val_main_v15_apply, val_main_v18_apply, val_main_v17_apply,
    show idx_main_v15 (ix3 (chunk g s) l d) = ix3 (chunk g s) l 0 from by
      funext a; match a with | ⟨0, _⟩ => rfl | ⟨1, _⟩ => rfl | ⟨2, _⟩ => rfl,
    show idx_main_v17 (idx_main_v18 (ix3 (chunk g s) l d)) = ix1 d from by
      funext a; match a with | ⟨0, _⟩ => rfl,
    rms_apply x0 x1 x2 x3, sum_apply x0 x1 x2 x3]
  rfl

theorem result20 : val_main_v20 (F := Ideal) x0 x1 x2 x3 = fun i : S3x8x256x1024.Idx =>
    outRow (rArgs x0 x1 x2 x3) (i 0) (i 1) (i 2) (i 3) := by
  funext i
  obtain ⟨g, s, l, d, rfl⟩ : ∃ (g : Fin 3) (s : Fin 8) (l : Fin 256) (d : Fin 1024), i = ix4 g s l d :=
    ⟨i 0, i 1, i 2, i 3, by funext x; match x with | ⟨0, _⟩ => rfl | ⟨1, _⟩ => rfl | ⟨2, _⟩ => rfl | ⟨3, _⟩ => rfl⟩
  rw [val_main_v20_apply]
  refine (congrArg (val_main_v19 (F := Ideal) x0 x1 x2 x3) (funext fun a => Fin.ext ?_)).trans (ref_apply x0 x1 x2 x3 g s l d)
  match a with
  | ⟨0, _⟩ => show (((g.val * 8 + s.val) * 256 + l.val) * 1024 + d.val) / 262144 = g.val * 8 + s.val; omega
  | ⟨1, _⟩ => show (((g.val * 8 + s.val) * 256 + l.val) * 1024 + d.val) / 1024 % 256 = l.val; omega
  | ⟨2, _⟩ => show (((g.val * 8 + s.val) * 256 + l.val) * 1024 + d.val) % 1024 = d.val; omega

end

end Cert.Proof.Final

end
-- ==== Proof.FinalAgree.lean ====
/- The two programs of the last call end with the same array. -/
module

public import proofs.«01_k».proof.Defs
public import proofs.«01_k».proof.Proof.FinalBlocks
public import proofs.«01_k».proof.Proof.FinalRef
public import proofs.«01_k».proof.Proof.Gen.ReferenceFinalIdeal.Run

@[expose] public section

set_option maxRecDepth 16384

noncomputable section

namespace Cert.Proof.Final

open Idealize.ShloMosaic Idealize.ShloMosaic.TcCoe Idealize.SL.Sem

theorem agree : algebraic_KernelFinalIdeal_ReferenceFinalIdeal
    (hKernelFinalIdeal := Cert.KernelFinalIdeal.Gen.facts) (hReferenceFinalIdeal := Cert.ReferenceFinalIdeal.Gen.facts) := by
  intro m g m' g' hpre hargs
  have hR : ∀ c : Dev Cert.KernelFinalIdeal.nD, rArgs (m' ((c.tc : Thread Cert.ReferenceFinalIdeal.nD Cert.ReferenceFinalIdeal.τ).loc Cert.ReferenceFinalIdeal.main_arg0))
      (m' ((c.tc : Thread Cert.ReferenceFinalIdeal.nD Cert.ReferenceFinalIdeal.τ).loc Cert.ReferenceFinalIdeal.main_arg1))
      (m' ((c.tc : Thread Cert.ReferenceFinalIdeal.nD Cert.ReferenceFinalIdeal.τ).loc Cert.ReferenceFinalIdeal.main_arg2))
      (m' ((c.tc : Thread Cert.ReferenceFinalIdeal.nD Cert.ReferenceFinalIdeal.τ).loc Cert.ReferenceFinalIdeal.main_arg3)) = kArgs m c := fun c => by
    obtain ⟨e0, e1, e2, e3⟩ := hargs c
    rw [e0, e1, e2, e3]
    rfl
  refine ⟨fun c => fun i : Cert.KernelFinalIdeal.S3x8x256x1024.Idx => outRow (kArgs m c) (i 0) (i 1) (i 2) (i 3), ?_, ?_⟩
  · refine (θ_run _ _ _).mono (fun r h c => ?_) (Cert.KernelFinalIdeal.Value.run_blocks m g)
    obtain ⟨h4, hkept⟩ := h c
    exact ⟨h4.trans (out4 m c), hkept⟩
  · refine (θ_run _ _ _).mono (fun r h c => ?_) (Cert.ReferenceFinalIdeal.Value.run (F := Ideal) m' g')
    obtain ⟨h20, hkept⟩ := h c
    refine ⟨(h20.trans (Cert.ReferenceFinalIdeal.Read.val_main_v20_eq _ _ _ _)).trans ?_, hkept⟩
    exact (result20 _ _ _ _).trans (by rw [hR c])

end Cert.Proof.Final

end
-- ==== Proof.ModAgree.lean ====
/- The modulation call: one dense layer over the gated condition, six blocks of columns one after the other. Both programs
   end with `∑ k, c i k * logistic (c i k) * w k j + b j` at row `i` and column `j`. -/
module

public import proofs.«01_k».proof.Defs
public import proofs.«01_k».proof.Proof.Gen.KernelModIdeal.Value
public import proofs.«01_k».proof.Proof.Gen.ReferenceModIdeal.Run
public import proofs.«01_k».proof.Proof.Gen.ReferenceModIdeal.Read
public import proofs.«01_k».proof.Proof.Ix
public import Idealize.ShloMosaic.Lib.Pipeline.ValueKit

@[expose] public section

set_option maxRecDepth 16384

noncomputable section

namespace Cert.Proof.Mod

open Idealize.ShloMosaic.TcCoe Idealize.SL.Sem Idealize.ShloMosaic.ValueIdx
open Idealize.ShloMosaic hiding ix1 ix2 ix3 ix4
open scoped BigOperators

/-- The modulation of condition row `i` at column `j`. -/
def dense (cv : FVec Ideal ⟨2, ![8, 1024]⟩ .f32) (w : FVec Ideal ⟨2, ![1024, 6144]⟩ .f32) (b : FVec Ideal ⟨1, ![6144]⟩ .f32)
    (i : Fin 8) (j : Fin 6144) : EReal :=
  (∑ k : Fin 1024, (cv (ix2 i k) * Ideal.logistic (cv (ix2 i k))) * w (ix2 k j)) + b (ix1 j)

section Kernel
open Cert.KernelModIdeal Cert.KernelModIdeal.Gen

theorem pay1_apply (v0 : Vec Ideal S8x1024 .f32) (v3 : Vec Ideal S1024x1024 .f32) (v5 : Vec Ideal S1x1024 .f32) (i : Fin 8) (q : Fin 1024) :
    k0_pay1 v0 v3 v5 (ix2 i q)
      = (∑ k : Fin 1024, (v0 (ix2 i k) * Ideal.logistic (v0 (ix2 i k))) * v3 (ix2 k q)) + v5 (ix2 0 q) := by
  unfold k0_pay1
  show FloatOps.matmul (F := Ideal) (DotDims.plain 8 1024 1024) _ _ _ _ _ + _ = _
  rw [plain_apply]
  refine congrArg (fun z : EReal => (∑ k : Fin 1024, (v0 (ix2 i k) * Ideal.logistic (v0 (ix2 i k))) * v3 (ix2 k q)) + z) ?_
  refine (broadcastTo_apply _ _ _ (ix2 0 q) fun a => by match a with | ⟨0, _⟩ => rfl | ⟨1, _⟩ => rfl).trans ?_
  rw [shapeCast_self]

variable (m : (ℓ : Loc nD τ sig) → Buf (Elt Ideal) ℓ) (c : Dev nD)

abbrev aC : FVec Ideal S8x1024 .f32 := m ((c.tc : Thread nD τ).loc main_arg0)
abbrev aW : FVec Ideal S1024x6144 .f32 := m ((c.tc : Thread nD τ).loc main_arg1)
abbrev aB : FVec Ideal S6144 .f32 := m ((c.tc : Thread nD τ).loc main_arg2)

theorem idx0 : ∀ t : Fin cfg0.N, win0_0.index t = ![0, 0] := (by decide +kernel : ∀ t : Fin grid0.N, win0_0.index t = ![0, 0])
theorem idx1 : ∀ t : Fin cfg0.N, win0_1.index t = ![0, t.val] := (by decide +kernel : ∀ t : Fin grid0.N, win0_1.index t = ![0, t.val])
theorem idx2 : ∀ t : Fin cfg0.N, win0_2.index t = ![0, t.val] := (by decide +kernel : ∀ t : Fin grid0.N, win0_2.index t = ![0, t.val])
theorem idx3 : ∀ t : Fin cfg0.N, win0_3.index t = ![0, t.val] := (by decide +kernel : ∀ t : Fin grid0.N, win0_3.index t = ![0, t.val])
theorem points : ∀ t : Fin cfg0.N, t.val < 6 := (by decide +kernel : ∀ t : Fin grid0.N, t.val < 6)

/-- Column `q` of block `t`. -/
def col (t : Fin cfg0.N) (q : Fin 1024) : Fin 6144 := ⟨t.val * 1024 + q.val, by have := points t; omega⟩

theorem in0 (t : Fin cfg0.N) (i : Fin 8) (k : Fin 1024) : iblk m c 0 t (ix2 i k) = aC m c (ix2 i k) := by
  blk_ext [iblk, V_main_arg0, idx0]
theorem in1 (t : Fin cfg0.N) (k q : Fin 1024) : iblk m c 1 t (ix2 k q) = aW m c (ix2 k (col t q)) := by
  have h := points t
  unfold col
  blk_ext [iblk, V_main_arg1, idx1]
theorem in2 (t : Fin cfg0.N) (q : Fin 1024) : iblk m c 2 t (ix2 0 q) = aB m c (ix1 (col t q)) := by
  have h := points t
  show ((cfg0.win 2).blk t).view.read (Elt Ideal) (V m c main_v0) (ix2 0 q) = _
  entry_read
  show shapeCast S1x6144 (aB m c) shapeCasts_S6144_S1x6144 (((cfg0.win 2).blk t).view.emb (ix2 0 q)) = _
  rw [show ((cfg0.win 2).blk t).view.emb (ix2 0 q) = ix2 0 (col t q) from by
    unfold col
    blk_ext [idx2]]
  exact shapeCast_at (s := S6144) (t := S1x6144) (j := ix2 0 (col t q)) _ _ (ix1 (col t q)) (by rw [rowMajor1, rowMajor2]; simp)

theorem all0 {n : Nat} (x : Fin n → Nat) (h : ∀ a, x a = 0) : x = fun _ => 0 := funext h

theorem whole0 (x : Vec Ideal S8x1024 .f32) : View.ld x r0_0 = x := View.ld_unit_zero (all0 _ (by decide)) _ _
theorem whole1 (x : Vec Ideal S1024x1024 .f32) : View.ld x r0_1 = x := View.ld_unit_zero (all0 _ (by decide)) _ _
theorem whole2 (x : Vec Ideal S1x1024 .f32) : View.ld x r0_2 = x := View.ld_unit_zero (all0 _ (by decide)) _ _

theorem place3 (t : Fin cfg0.N) (i : Fin 8) (q : Fin 1024) : ((cfg0.win 3).blk t).view.emb (ix2 i q) = ix2 i (col t q) := by
  have h := points t
  unfold col
  blk_ext [idx3]

theorem out_at (t : Fin cfg0.N) (i : Fin 8) (q : Fin 1024) :
    k0_pay1 (iblk m c 0 t) (iblk m c 1 t) (iblk m c 2 t) (ix2 i q) = dense (aC m c) (aW m c) (aB m c) i (col t q) := by
  refine (pay1_apply _ _ _ i q).trans ?_
  rw [in2]
  unfold dense
  refine congrArg (fun z : EReal => z + aB m c (ix1 (col t q))) (Finset.sum_congr rfl fun k _ => ?_)
  rw [in0, in1]

theorem out3 : (dats m 0 c).arrAt 3 cfg0.N = fun i : S8x6144.Idx => dense (aC m c) (aW m c) (aB m c) (i 0) (i 1) := by
  refine (dats m 0 c).arrAt_eq_of_covers 3 _ (by decide +kernel) fun t hf y => ?_
  obtain ⟨i, q, rfl⟩ : ∃ (i : Fin 8) (q : Fin 1024), y = ix2 i q :=
    ⟨y 0, y 1, by funext x; match x with | ⟨0, _⟩ => rfl | ⟨1, _⟩ => rfl⟩
  rw [place3]
  blk_simp
  rw [after0_3]
  unfold out0_3
  rw [whole0, whole1, whole2, View.canon_unit_zero (all0 _ (by decide))]
  exact out_at m c t i q

end Kernel

section Reference
open Cert.ReferenceModIdeal Cert.ReferenceModIdeal.Gen Cert.ReferenceModIdeal.Read

variable (x0 : FVec Ideal S8x1024 .f32) (x1 : FVec Ideal S1024x6144 .f32) (x2 : FVec Ideal S6144 .f32)

theorem silu_apply (i : Fin 8) (k : Fin 1024) : val_main_v0 (F := Ideal) x0 (ix2 i k) = x0 (ix2 i k) * Ideal.logistic (x0 (ix2 i k)) := by
  show x0 (ix2 i k) * Ideal.div (Ideal.ofBits .f32 0x3F800000#32) (Ideal.ofBits .f32 0x3F800000#32 + Ideal.exp (-(x0 (ix2 i k)))) = _
  rw [Ideal.ofBits_one_f32]
  rfl

theorem ref_apply (i : Fin 8) (j : Fin 6144) : val_main_v4 (F := Ideal) x0 x1 x2 (ix2 i j) = dense x0 x1 x2 i j := by
  rw [val_main_v4_apply, val_main_v1_apply, val_main_v3_apply, val_main_v2_apply,
    show idx_main_v2 (idx_main_v3 (ix2 i j)) = ix1 j from by funext a; match a with | ⟨0, _⟩ => rfl]
  unfold dense
  refine congrArg (fun z : EReal => z + x2 (ix1 j)) (Finset.sum_congr rfl fun k _ => ?_)
  rw [show lidx_main_v1 (ix2 i j) k = ix2 i k from by funext a; match a with | ⟨0, _⟩ => rfl | ⟨1, _⟩ => rfl,
    show ridx_main_v1 (ix2 i j) k = ix2 k j from by funext a; match a with | ⟨0, _⟩ => rfl | ⟨1, _⟩ => rfl,
    silu_apply]

theorem result4 : val_main_v4 (F := Ideal) x0 x1 x2 = fun i : S8x6144.Idx => dense x0 x1 x2 (i 0) (i 1) := by
  funext y
  obtain ⟨i, j, rfl⟩ : ∃ (i : Fin 8) (j : Fin 6144), y = ix2 i j :=
    ⟨y 0, y 1, by funext x; match x with | ⟨0, _⟩ => rfl | ⟨1, _⟩ => rfl⟩
  exact ref_apply x0 x1 x2 i j

end Reference

theorem agree : algebraic_KernelModIdeal_ReferenceModIdeal
    (hKernelModIdeal := Cert.KernelModIdeal.Gen.facts) (hReferenceModIdeal := Cert.ReferenceModIdeal.Gen.facts) := by
  intro m g m' g' hpre hargs
  refine ⟨fun c => fun i : Cert.KernelModIdeal.S8x6144.Idx => dense (aC m c) (aW m c) (aB m c) (i 0) (i 1), ?_, ?_⟩
  · refine (θ_run _ _ _).mono (fun r h c => ?_) (Cert.KernelModIdeal.Value.run_blocks m g)
    obtain ⟨h3, hkept⟩ := h c
    exact ⟨h3.trans (out3 m c), hkept⟩
  · refine (θ_run _ _ _).mono (fun r h c => ?_) (Cert.ReferenceModIdeal.Value.run (F := Ideal) m' g')
    obtain ⟨h4, hkept⟩ := h c
    refine ⟨(h4.trans (Cert.ReferenceModIdeal.Read.val_main_v4_eq _ _ _)).trans ?_, hkept⟩
    obtain ⟨e0, e1, e2⟩ := hargs c
    exact (result4 _ _ _).trans (by rw [e0, e1, e2])

end Cert.Proof.Mod

end
-- ==== Proof.DiscAgree.lean ====
/- The discretisation call: the state matrix held exactly over one step, and the input matrix that goes with it, for every
   direction, group and state. The kernel keeps direction and group as one axis of 96; the reference computes them apart. -/
module

public import proofs.«01_k».proof.Defs
public import proofs.«01_k».proof.Proof.Gen.KernelDiscIdeal.Value
public import proofs.«01_k».proof.Proof.Gen.ReferenceDiscIdeal.Run
public import proofs.«01_k».proof.Proof.Gen.ReferenceDiscIdeal.Read
public import proofs.«01_k».proof.Proof.Ix
public import Idealize.ShloMosaic.Lib.Pipeline.ValueKit

@[expose] public section

set_option maxRecDepth 16384

noncomputable section

namespace Cert.Proof.Disc

open Idealize.ShloMosaic.TcCoe Idealize.SL.Sem Idealize.ShloMosaic.ValueIdx
open Idealize.ShloMosaic hiding ix1 ix2 ix3 ix4

/-- The decay rate: the real part, kept below a small negative number. -/
def decay (lr : EReal) : EReal := min lr (Ideal.ofBits .f32 0xB8D1B717#32)
/-- The held state factor `exp (λ δ)`, its real and imaginary parts. -/
def abRe (lr li ld : EReal) : EReal := Ideal.exp (decay lr * Ideal.exp ld) * Ideal.cos (li * Ideal.exp ld)
def abIm (lr li ld : EReal) : EReal := Ideal.exp (decay lr * Ideal.exp ld) * Ideal.sin (li * Ideal.exp ld)
/-- The squared modulus of `λ`. -/
def norm2 (lr li : EReal) : EReal := decay lr * decay lr + li * li
/-- The real part of the held factor less one. -/
def less1 (lr li ld : EReal) : EReal := abRe lr li ld - Ideal.ofBits .f32 0x3F800000#32
/-- `(exp (λ δ) - 1) / λ`, its real and imaginary parts. -/
def fRe (lr li ld : EReal) : EReal := Ideal.div (less1 lr li ld * decay lr + abIm lr li ld * li) (norm2 lr li)
def fIm (lr li ld : EReal) : EReal := Ideal.div (abIm lr li ld * decay lr - less1 lr li ld * li) (norm2 lr li)
/-- Its product with an entry of the input matrix. -/
def bbRe (lr li ld br bi : EReal) : EReal := fRe lr li ld * br - fIm lr li ld * bi
def bbIm (lr li ld br bi : EReal) : EReal := fRe lr li ld * bi + fIm lr li ld * br

/-- The arguments, entry by entry. -/
structure Args where
  lr : Fin 2 → Fin 48 → Fin 64 → EReal
  li : Fin 2 → Fin 48 → Fin 64 → EReal
  ld : Fin 2 → Fin 48 → EReal
  br : Fin 2 → Fin 48 → Fin 64 → Fin 16 → EReal
  bi : Fin 2 → Fin 48 → Fin 64 → Fin 16 → EReal

/-- The direction and the group of row `n` of the joint axis. -/
def dir (n : Fin 96) : Fin 2 := ⟨n.val / 48, by omega⟩
def grp (n : Fin 96) : Fin 48 := ⟨n.val % 48, by omega⟩

section
variable (A : Args) (n : Fin 96) (j : Fin 16) (p : Fin 64)
def o0 : EReal := abRe (A.lr (dir n) (grp n) p) (A.li (dir n) (grp n) p) (A.ld (dir n) (grp n))
def o1 : EReal := abIm (A.lr (dir n) (grp n) p) (A.li (dir n) (grp n) p) (A.ld (dir n) (grp n))
def o2 : EReal := bbRe (A.lr (dir n) (grp n) p) (A.li (dir n) (grp n) p) (A.ld (dir n) (grp n)) (A.br (dir n) (grp n) p j) (A.bi (dir n) (grp n) p j)
def o3 : EReal := bbIm (A.lr (dir n) (grp n) p) (A.li (dir n) (grp n) p) (A.ld (dir n) (grp n)) (A.br (dir n) (grp n) p j) (A.bi (dir n) (grp n) p j)
end

section Kernel
open Cert.KernelDiscIdeal Cert.KernelDiscIdeal.Gen

section
variable (vd vr vi : Vec Ideal S96x1x64 .f32) (wr wi : Vec Ideal S96x16x64 .f32) (i : S96x1x64.Idx)

theorem pay3_apply : k0_pay3 vd i = Ideal.exp (vd i) := by
  unfold k0_pay3; rw [shapeCast_self]; rfl
theorem pay4_apply : k0_pay4 vr i = decay (vr i) := by
  unfold k0_pay4; rw [shapeCast_self]; rfl
theorem pay5_apply : k0_pay5 vi i = vi i := by
  unfold k0_pay5; rw [shapeCast_self]
theorem pay6_apply : k0_pay6 vd vr i = Ideal.exp (decay (vr i) * Ideal.exp (vd i)) := by
  unfold k0_pay6
  show Ideal.exp (k0_pay4 vr i * k0_pay3 vd i) = _
  rw [pay3_apply, pay4_apply]
theorem pay7_apply : k0_pay7 vd vr vi i = abRe (vr i) (vi i) (vd i) := by
  unfold k0_pay7
  show k0_pay6 vd vr i * Ideal.cos (k0_pay5 vi i * k0_pay3 vd i) = _
  rw [pay6_apply, pay5_apply, pay3_apply]; rfl
theorem pay8_apply : k0_pay8 vd vr vi i = abIm (vr i) (vi i) (vd i) := by
  unfold k0_pay8
  show k0_pay6 vd vr i * Ideal.sin (k0_pay5 vi i * k0_pay3 vd i) = _
  rw [pay6_apply, pay5_apply, pay3_apply]; rfl
theorem pay9_apply : k0_pay9 vr vi i = norm2 (vr i) (vi i) := by
  unfold k0_pay9
  show k0_pay4 vr i * k0_pay4 vr i + k0_pay5 vi i * k0_pay5 vi i = _
  rw [pay4_apply, pay5_apply]; rfl
theorem pay10_apply : k0_pay10 vd vr vi i = less1 (vr i) (vi i) (vd i) := by
  unfold k0_pay10
  show k0_pay7 vd vr vi i - Ideal.ofBits .f32 0x3F800000#32 = _
  rw [pay7_apply]; rfl
theorem pay11_apply : k0_pay11 vd vr vi i = fRe (vr i) (vi i) (vd i) := by
  unfold k0_pay11
  show Ideal.div (k0_pay10 vd vr vi i * k0_pay4 vr i + k0_pay8 vd vr vi i * k0_pay5 vi i) (k0_pay9 vr vi i) = _
  rw [pay10_apply, pay4_apply, pay8_apply, pay5_apply, pay9_apply]; rfl
theorem pay12_apply : k0_pay12 vd vr vi i = fIm (vr i) (vi i) (vd i) := by
  unfold k0_pay12
  show Ideal.div (k0_pay8 vd vr vi i * k0_pay4 vr i - k0_pay10 vd vr vi i * k0_pay5 vi i) (k0_pay9 vr vi i) = _
  rw [pay10_apply, pay4_apply, pay8_apply, pay5_apply, pay9_apply]; rfl

theorem spread (x : FVec Ideal S96x1x64 .f32) (h) (n : Fin 96) (j : Fin 16) (p : Fin 64) :
    broadcastTo S96x16x64 x h (ix3 n j p) = x (ix3 n 0 p) :=
  broadcastTo_apply _ _ _ _ fun a => by match a with | ⟨0, _⟩ => rfl | ⟨1, _⟩ => rfl | ⟨2, _⟩ => rfl

variable (n : Fin 96) (j : Fin 16) (p : Fin 64)

theorem pay1_apply : k0_pay1 (k0_pay11 vd vr vi) (k0_pay12 vd vr vi) (k0_pay13 wr) (k0_pay14 wi) (ix3 n j p)
    = bbRe (vr (ix3 n 0 p)) (vi (ix3 n 0 p)) (vd (ix3 n 0 p)) (wr (ix3 n j p)) (wi (ix3 n j p)) := by
  unfold k0_pay1 k0_pay13 k0_pay14
  rw [shapeCast_self, shapeCast_self]
  show broadcastTo S96x16x64 (k0_pay11 vd vr vi) _ (ix3 n j p) * wr (ix3 n j p)
    - broadcastTo S96x16x64 (k0_pay12 vd vr vi) _ (ix3 n j p) * wi (ix3 n j p) = _
  rw [spread, spread, pay11_apply, pay12_apply]; rfl
theorem pay2_apply : k0_pay2 (k0_pay11 vd vr vi) (k0_pay12 vd vr vi) (k0_pay13 wr) (k0_pay14 wi) (ix3 n j p)
    = bbIm (vr (ix3 n 0 p)) (vi (ix3 n 0 p)) (vd (ix3 n 0 p)) (wr (ix3 n j p)) (wi (ix3 n j p)) := by
  unfold k0_pay2 k0_pay13 k0_pay14
  rw [shapeCast_self, shapeCast_self]
  show broadcastTo S96x16x64 (k0_pay11 vd vr vi) _ (ix3 n j p) * wi (ix3 n j p)
    + broadcastTo S96x16x64 (k0_pay12 vd vr vi) _ (ix3 n j p) * wr (ix3 n j p) = _
  rw [spread, spread, pay11_apply, pay12_apply]; rfl
end

variable (m : (ℓ : Loc nD τ sig) → Buf (Elt Ideal) ℓ) (c : Dev nD)

abbrev aLr : FVec Ideal S2x48x64 .f32 := m ((c.tc : Thread nD τ).loc main_arg0)
abbrev aLi : FVec Ideal S2x48x64 .f32 := m ((c.tc : Thread nD τ).loc main_arg1)
abbrev aLd : FVec Ideal S2x48 .f32 := m ((c.tc : Thread nD τ).loc main_arg2)
abbrev aBr : FVec Ideal S2x48x64x16 .f32 := m ((c.tc : Thread nD τ).loc main_arg3)
abbrev aBi : FVec Ideal S2x48x64x16 .f32 := m ((c.tc : Thread nD τ).loc main_arg4)

/-- The kernel's arguments, entry by entry. -/
def kArgs : Args where
  lr d g p := aLr m c (ix3 d g p)
  li d g p := aLi m c (ix3 d g p)
  ld d g := aLd m c (ix2 d g)
  br d g p j := aBr m c (ix4 d g p j)
  bi d g p j := aBi m c (ix4 d g p j)

theorem idx0 : ∀ t : Fin cfg0.N, win0_0.index t = ![0, 0, 0] := (by decide +kernel : ∀ t : Fin grid0.N, win0_0.index t = ![0, 0, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![0, 0, 0] := (by decide +kernel : ∀ t : Fin grid0.N, win0_2.index t = ![0, 0, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![0, 0, 0] := (by decide +kernel : ∀ t : Fin grid0.N, win0_4.index t = ![0, 0, 0])
theorem idx5 : ∀ t : Fin cfg0.N, win0_5.index t = ![0, 0, 0] := (by decide +kernel : ∀ t : Fin grid0.N, win0_5.index t = ![0, 0, 0])
theorem idx6 : ∀ t : Fin cfg0.N, win0_6.index t = ![0, 0, 0] := (by decide +kernel : ∀ t : Fin grid0.N, win0_6.index t = ![0, 0, 0])
theorem idx7 : ∀ t : Fin cfg0.N, win0_7.index t = ![0, 0, 0] := (by decide +kernel : ∀ t : Fin grid0.N, win0_7.index t = ![0, 0, 0])
theorem idx8 : ∀ t : Fin cfg0.N, win0_8.index t = ![0, 0, 0] := (by decide +kernel : ∀ t : Fin grid0.N, win0_8.index t = ![0, 0, 0])

/-- A row of the joint axis read from the two axes it joins. -/
theorem split3 (x : FVec Ideal S2x48x64 .f32) (h) (n : Fin 96) (p : Fin 64) :
    shapeCast S96x1x64 x h (ix3 n 0 p) = x (ix3 (dir n) (grp n) p) :=
  shapeCast_at (s := S2x48x64) (t := S96x1x64) (j := ix3 n 0 p) _ _ (ix3 (dir n) (grp n) p) (by
    rw [rowMajor3, rowMajor3]
    show (n.val / 48 * 48 + n.val % 48) * 64 + p.val = (n.val * 1 + 0) * 64 + p.val
    omega)
theorem split2 (x : FVec Ideal S2x48 .f32) (h) (n : Fin 96) :
    shapeCast S96x1x1 x h (ix3 n 0 0) = x (ix2 (dir n) (grp n)) :=
  shapeCast_at (s := S2x48) (t := S96x1x1) (j := ix3 n 0 0) _ _ (ix2 (dir n) (grp n)) (by
    rw [rowMajor2, rowMajor3]
    show n.val / 48 * 48 + n.val % 48 = (n.val * 1 + 0) * 1 + 0
    omega)
theorem split4 (x : FVec Ideal S2x48x16x64 .f32) (h) (n : Fin 96) (j : Fin 16) (p : Fin 64) :
    shapeCast S96x16x64 x h (ix3 n j p) = x (ix4 (dir n) (grp n) j p) :=
  shapeCast_at (s := S2x48x16x64) (t := S96x16x64) (j := ix3 n j p) _ _ (ix4 (dir n) (grp n) j p) (by
    rw [rowMajor4, rowMajor3]
    show ((n.val / 48 * 48 + n.val % 48) * 16 + j.val) * 64 + p.val = (n.val * 16 + j.val) * 64 + p.val
    omega)
theorem swap4 (x : FVec Ideal S2x48x64x16 .f32) (h) (d : Fin 2) (g : Fin 48) (j : Fin 16) (p : Fin 64) :
    transpose S2x48x16x64 [0, 1, 3, 2] x h (ix4 d g j p) = x (ix4 d g p j) :=
  transpose_apply [0, 1, 3, 2] x h (ix4 d g j p) (ix4 d g p j) fun b => by
    match b with | ⟨0, _⟩ => rfl | ⟨1, _⟩ => rfl | ⟨2, _⟩ => rfl | ⟨3, _⟩ => rfl

theorem in0 (t : Fin cfg0.N) (n : Fin 96) (p : Fin 64) : iblk m c 0 t (ix3 n 0 p) = (kArgs m c).lr (dir n) (grp n) p := by
  show ((cfg0.win 0).blk t).view.read (Elt Ideal) (V m c main_v0) (ix3 n 0 p) = _
  entry_read
  show shapeCast S96x1x64 (aLr m c) shapeCasts_S2x48x64_S96x1x64 (((cfg0.win 0).blk t).view.emb (ix3 n 0 p)) = _
  rw [show ((cfg0.win 0).blk t).view.emb (ix3 n 0 p) = ix3 n 0 p from by blk_ext [idx0]]
  exact split3 _ _ n p
theorem in1 (t : Fin cfg0.N) (n : Fin 96) (p : Fin 64) : iblk m c 1 t (ix3 n 0 p) = (kArgs m c).li (dir n) (grp n) p := by
  show ((cfg0.win 1).blk t).view.read (Elt Ideal) (V m c main_v1) (ix3 n 0 p) = _
  entry_read
  show shapeCast S96x1x64 (aLi m c) shapeCasts_S2x48x64_S96x1x64 (((cfg0.win 1).blk t).view.emb (ix3 n 0 p)) = _
  rw [show ((cfg0.win 1).blk t).view.emb (ix3 n 0 p) = ix3 n 0 p from by blk_ext [idx1]]
  exact split3 _ _ n p
theorem in2 (t : Fin cfg0.N) (n : Fin 96) (p : Fin 64) : iblk m c 2 t (ix3 n 0 p) = (kArgs m c).ld (dir n) (grp n) := by
  show ((cfg0.win 2).blk t).view.read (Elt Ideal) (V m c main_v3) (ix3 n 0 p) = _
  entry_read
  show broadcastInDim S96x1x64 ![0, 1, 2] bcast_S96x1x1_S96x1x64_0_1_2 (shapeCast S96x1x1 (aLd m c) shapeCasts_S2x48_S96x1x1)
    (((cfg0.win 2).blk t).view.emb (ix3 n 0 p)) = _
  rw [show ((cfg0.win 2).blk t).view.emb (ix3 n 0 p) = ix3 n 0 p from by blk_ext [idx2]]
  refine (broadcastInDim_apply _ bcast_S96x1x1_S96x1x64_0_1_2 _ (ix3 n 0 p) (ix3 n 0 0) fun a => ?_).trans (split2 _ _ n)
  match a with | ⟨0, _⟩ => rfl | ⟨1, _⟩ => rfl | ⟨2, _⟩ => rfl
theorem in3 (t : Fin cfg0.N) (n : Fin 96) (j : Fin 16) (p : Fin 64) :
    iblk m c 3 t (ix3 n j p) = (kArgs m c).br (dir n) (grp n) p j := by
  show ((cfg0.win 3).blk t).view.read (Elt Ideal) (V m c main_v5) (ix3 n j p) = _
  entry_read
  show shapeCast S96x16x64 (transpose S2x48x16x64 [0, 1, 3, 2] (aBr m c) transposes_S2x48x64x16_S2x48x16x64_0_1_3_2)
    shapeCasts_S2x48x16x64_S96x16x64 (((cfg0.win 3).blk t).view.emb (ix3 n j p)) = _
  rw [show ((cfg0.win 3).blk t).view.emb (ix3 n j p) = ix3 n j p from by blk_ext [idx3]]
  exact (split4 _ _ n j p).trans (swap4 _ _ _ _ j p)
theorem in4 (t : Fin cfg0.N) (n : Fin 96) (j : Fin 16) (p : Fin 64) :
    iblk m c 4 t (ix3 n j p) = (kArgs m c).bi (dir n) (grp n) p j := by
  show ((cfg0.win 4).blk t).view.read (Elt Ideal) (V m c main_v7) (ix3 n j p) = _
  entry_read
  show shapeCast S96x16x64 (transpose S2x48x16x64 [0, 1, 3, 2] (aBi m c) transposes_S2x48x64x16_S2x48x16x64_0_1_3_2)
    shapeCasts_S2x48x16x64_S96x16x64 (((cfg0.win 4).blk t).view.emb (ix3 n j p)) = _
  rw [show ((cfg0.win 4).blk t).view.emb (ix3 n j p) = ix3 n j p from by blk_ext [idx4]]
  exact (split4 _ _ n j p).trans (swap4 _ _ _ _ j p)

theorem all0 {n : Nat} (x : Fin n → Nat) (h : ∀ a, x a = 0) : x = fun _ => 0 := funext h
theorem whole0 (x : Vec Ideal S96x1x64 .f32) : View.ld x r0_0 = x := View.ld_unit_zero (all0 _ (by decide)) _ _
theorem whole1 (x : Vec Ideal S96x16x64 .f32) : View.ld x r0_1 = x := View.ld_unit_zero (all0 _ (by decide)) _ _

theorem place5 (t : Fin cfg0.N) (n : Fin 96) (p : Fin 64) : ((cfg0.win 5).blk t).view.emb (ix3 n 0 p) = ix3 n 0 p := by blk_ext [idx5]
theorem place6 (t : Fin cfg0.N) (n : Fin 96) (p : Fin 64) : ((cfg0.win 6).blk t).view.emb (ix3 n 0 p) = ix3 n 0 p := by blk_ext [idx6]
theorem place7 (t : Fin cfg0.N) (n : Fin 96) (j : Fin 16) (p : Fin 64) : ((cfg0.win 7).blk t).view.emb (ix3 n j p) = ix3 n j p := by
  blk_ext [idx7]
theorem place8 (t : Fin cfg0.N) (n : Fin 96) (j : Fin 16) (p : Fin 64) : ((cfg0.win 8).blk t).view.emb (ix3 n j p) = ix3 n j p := by
  blk_ext [idx8]

theorem thin (y : S96x1x64.Idx) : ∃ (n : Fin 96) (p : Fin 64), y = ix3 n 0 p :=
  ⟨y 0, y 2, by funext x; match x with | ⟨0, _⟩ => rfl | ⟨1, _⟩ => exact Subsingleton.elim (α := Fin 1) _ _ | ⟨2, _⟩ => rfl⟩
theorem thick (y : S96x16x64.Idx) : ∃ (n : Fin 96) (j : Fin 16) (p : Fin 64), y = ix3 n j p :=
  ⟨y 0, y 1, y 2, by funext x; match x with | ⟨0, _⟩ => rfl | ⟨1, _⟩ => rfl | ⟨2, _⟩ => rfl⟩

theorem out5 : (dats m 0 c).arrAt 5 cfg0.N = fun i : S96x1x64.Idx => o0 (kArgs m c) (i 0) (i 2) := by
  refine (dats m 0 c).arrAt_eq_of_covers 5 _ (by decide +kernel) fun t hf y => ?_
  obtain ⟨n, p, rfl⟩ := thin y
  rw [place5]
  blk_simp
  rw [after0_5]
  unfold out0_5
  rw [whole0, whole0, whole0, View.canon_unit_zero (all0 _ (by decide))]
  refine (pay7_apply _ _ _ _).trans ?_
  rw [in0, in1, in2]
  rfl
theorem out6 : (dats m 0 c).arrAt 6 cfg0.N = fun i : S96x1x64.Idx => o1 (kArgs m c) (i 0) (i 2) := by
  refine (dats m 0 c).arrAt_eq_of_covers 6 _ (by decide +kernel) fun t hf y => ?_
  obtain ⟨n, p, rfl⟩ := thin y
  rw [place6]
  blk_simp
  rw [after0_6]
  unfold out0_6
  rw [whole0, whole0, whole0, View.canon_unit_zero (all0 _ (by decide))]
  refine (pay8_apply _ _ _ _).trans ?_
  rw [in0, in1, in2]
  rfl
theorem out7 : (dats m 0 c).arrAt 7 cfg0.N = fun i : S96x16x64.Idx => o2 (kArgs m c) (i 0) (i 1) (i 2) := by
  refine (dats m 0 c).arrAt_eq_of_covers 7 _ (by decide +kernel) fun t hf y => ?_
  obtain ⟨n, j, p, rfl⟩ := thick y
  rw [place7]
  blk_simp
  rw [after0_7]
  unfold out0_7 k0_pay15 k0_pay16 k0_pay17 k0_pay18
  rw [whole0, whole0, whole0, whole1, whole1, View.canon_unit_zero (all0 _ (by decide))]
  refine (pay1_apply _ _ _ _ _ n j p).trans ?_
  rw [in0, in1, in2, in3, in4]
  rfl
theorem out8 : (dats m 0 c).arrAt 8 cfg0.N = fun i : S96x16x64.Idx => o3 (kArgs m c) (i 0) (i 1) (i 2) := by
  refine (dats m 0 c).arrAt_eq_of_covers 8 _ (by decide +kernel) fun t hf y => ?_
  obtain ⟨n, j, p, rfl⟩ := thick y
  rw [place8]
  blk_simp
  rw [after0_8]
  unfold out0_8 k0_pay15 k0_pay16 k0_pay17 k0_pay18
  rw [whole0, whole0, whole0, whole1, whole1, View.canon_unit_zero (all0 _ (by decide))]
  refine (pay2_apply _ _ _ _ _ n j p).trans ?_
  rw [in0, in1, in2, in3, in4]
  rfl

end Kernel

section Reference
open Cert.ReferenceDiscIdeal Cert.ReferenceDiscIdeal.Gen Cert.ReferenceDiscIdeal.Read

variable (x0 x1 : FVec Ideal S2x48x64 .f32) (x2 : FVec Ideal S2x48 .f32) (x3 x4 : FVec Ideal S2x48x64x16 .f32)

/-- The reference's arguments, entry by entry. -/
def rArgs : Args where
  lr d g p := x0 (ix3 d g p)
  li d g p := x1 (ix3 d g p)
  ld d g := x2 (ix2 d g)
  br d g p j := x3 (ix4 d g p j)
  bi d g p j := x4 (ix4 d g p j)

section
variable (d : Fin 2) (g : Fin 48) (p : Fin 64)

theorem step_apply : val_main_v1 (F := Ideal) x2 (ix3 d g 0) = Ideal.exp (x2 (ix2 d g)) := by
  rw [val_main_v1_apply, show idx_main_v1 (ix3 d g 0) = ix2 d g from by funext a; match a with | ⟨0, _⟩ => rfl | ⟨1, _⟩ => rfl]
  rfl
theorem v3_apply : val_main_v3 (F := Ideal) x0 (ix3 d g p) = decay (x0 (ix3 d g p)) := by
  rw [val_main_v3_apply, val_main_v2_apply]; rfl
theorem along (i : S2x48x1.Idx) (h0 : i 0 = d) (h1 : i 1 = g) : i = ix3 d g 0 := by
  funext a; match a with | ⟨0, _⟩ => exact h0 | ⟨1, _⟩ => exact h1 | ⟨2, _⟩ => exact Subsingleton.elim (α := Fin 1) _ _
theorem v6_apply : val_main_v6 (F := Ideal) x0 x2 (ix3 d g p) = Ideal.exp (decay (x0 (ix3 d g p)) * Ideal.exp (x2 (ix2 d g))) := by
  rw [val_main_v6_apply, val_main_v5_apply, v3_apply, val_main_v4_apply, along d g (idx_main_v4 (ix3 d g p)) rfl rfl, step_apply]; rfl
theorem v10_apply : val_main_v10 (F := Ideal) x0 x1 x2 (ix3 d g p) = abRe (x0 (ix3 d g p)) (x1 (ix3 d g p)) (x2 (ix2 d g)) := by
  rw [val_main_v10_apply, v6_apply, val_main_v9_apply, val_main_v8_apply, val_main_v7_apply,
    along d g (idx_main_v7 (ix3 d g p)) rfl rfl, step_apply]; rfl
theorem v14_apply : val_main_v14 (F := Ideal) x0 x1 x2 (ix3 d g p) = abIm (x0 (ix3 d g p)) (x1 (ix3 d g p)) (x2 (ix2 d g)) := by
  rw [val_main_v14_apply, v6_apply, val_main_v13_apply, val_main_v12_apply, val_main_v11_apply,
    along d g (idx_main_v11 (ix3 d g p)) rfl rfl, step_apply]; rfl
theorem v17_apply : val_main_v17 (F := Ideal) x0 x1 (ix3 d g p) = norm2 (x0 (ix3 d g p)) (x1 (ix3 d g p)) := by
  rw [val_main_v17_apply, val_main_v15_apply, val_main_v16_apply, v3_apply]; rfl
theorem v19_apply : val_main_v19 (F := Ideal) x0 x1 x2 (ix3 d g p) = less1 (x0 (ix3 d g p)) (x1 (ix3 d g p)) (x2 (ix2 d g)) := by
  rw [val_main_v19_apply, v10_apply, val_main_v18_apply]; rfl
theorem v23_apply : val_main_v23 (F := Ideal) x0 x1 x2 (ix3 d g p) = fRe (x0 (ix3 d g p)) (x1 (ix3 d g p)) (x2 (ix2 d g)) := by
  rw [val_main_v23_apply, val_main_v22_apply, val_main_v20_apply, val_main_v21_apply, v19_apply, v3_apply, v14_apply, v17_apply]; rfl
theorem v28_apply : val_main_v28 (F := Ideal) x0 x1 x2 (ix3 d g p) = fIm (x0 (ix3 d g p)) (x1 (ix3 d g p)) (x2 (ix2 d g)) := by
  rw [val_main_v28_apply, val_main_v27_apply, val_main_v25_apply, val_main_v26_apply, v19_apply, v3_apply, v14_apply, v17_apply]; rfl

variable (j : Fin 16)
theorem lift (i : S2x48x64.Idx) (h0 : i 0 = d) (h1 : i 1 = g) (h2 : i 2 = p) : i = ix3 d g p := by
  funext a; match a with | ⟨0, _⟩ => exact h0 | ⟨1, _⟩ => exact h1 | ⟨2, _⟩ => exact h2
theorem v34_apply : val_main_v34 (F := Ideal) x0 x1 x2 x3 x4 (ix4 d g p j)
    = bbRe (x0 (ix3 d g p)) (x1 (ix3 d g p)) (x2 (ix2 d g)) (x3 (ix4 d g p j)) (x4 (ix4 d g p j)) := by
  rw [val_main_v34_apply, val_main_v31_apply, val_main_v33_apply, val_main_v30_apply, val_main_v32_apply, val_main_v24_apply, val_main_v29_apply,
    lift d g p (idx_main_v24 (idx_main_v30 (ix4 d g p j))) rfl rfl rfl, lift d g p (idx_main_v29 (idx_main_v32 (ix4 d g p j))) rfl rfl rfl,
    v23_apply, v28_apply]; rfl
theorem v40_apply : val_main_v40 (F := Ideal) x0 x1 x2 x3 x4 (ix4 d g p j)
    = bbIm (x0 (ix3 d g p)) (x1 (ix3 d g p)) (x2 (ix2 d g)) (x3 (ix4 d g p j)) (x4 (ix4 d g p j)) := by
  rw [val_main_v40_apply, val_main_v37_apply, val_main_v39_apply, val_main_v36_apply, val_main_v38_apply, val_main_v24_apply, val_main_v29_apply,
    lift d g p (idx_main_v24 (idx_main_v36 (ix4 d g p j))) rfl rfl rfl, lift d g p (idx_main_v29 (idx_main_v38 (ix4 d g p j))) rfl rfl rfl,
    v23_apply, v28_apply]; rfl
end

section
variable (n : Fin 96) (j : Fin 16) (p : Fin 64)
theorem at42 : idx_main_v42 (ix3 n 0 p) = ix3 (dir n) (grp n) p := by
  funext a; refine Fin.ext ?_
  match a with
  | ⟨0, _⟩ => show ((n.val * 1 + 0) * 64 + p.val) / 3072 = n.val / 48; omega
  | ⟨1, _⟩ => show ((n.val * 1 + 0) * 64 + p.val) / 64 % 48 = n.val % 48; omega
  | ⟨2, _⟩ => show ((n.val * 1 + 0) * 64 + p.val) % 64 = p.val; omega
theorem at43 : idx_main_v43 (ix3 n 0 p) = ix3 (dir n) (grp n) p := at42 n p
theorem at44 : idx_main_v35 (idx_main_v44 (ix3 n j p)) = ix4 (dir n) (grp n) p j := by
  funext a; refine Fin.ext ?_
  match a with
  | ⟨0, _⟩ => show ((n.val * 16 + j.val) * 64 + p.val) / 49152 = n.val / 48; omega
  | ⟨1, _⟩ => show ((n.val * 16 + j.val) * 64 + p.val) / 1024 % 48 = n.val % 48; omega
  | ⟨2, _⟩ => show ((n.val * 16 + j.val) * 64 + p.val) % 64 = p.val; omega
  | ⟨3, _⟩ => show ((n.val * 16 + j.val) * 64 + p.val) / 64 % 16 = j.val; omega
theorem at45 : idx_main_v41 (idx_main_v45 (ix3 n j p)) = ix4 (dir n) (grp n) p j := at44 n j p
end

theorem result42 : val_main_v42 (F := Ideal) x0 x1 x2 = fun i : S96x1x64.Idx => o0 (rArgs x0 x1 x2 x3 x4) (i 0) (i 2) := by
  funext y
  obtain ⟨n, p, rfl⟩ := thin y
  rw [val_main_v42_apply, at42, v10_apply]
  rfl
theorem result43 : val_main_v43 (F := Ideal) x0 x1 x2 = fun i : S96x1x64.Idx => o1 (rArgs x0 x1 x2 x3 x4) (i 0) (i 2) := by
  funext y
  obtain ⟨n, p, rfl⟩ := thin y
  rw [val_main_v43_apply, at43, v14_apply]
  rfl
theorem result44 : val_main_v44 (F := Ideal) x0 x1 x2 x3 x4 = fun i : S96x16x64.Idx => o2 (rArgs x0 x1 x2 x3 x4) (i 0) (i 1) (i 2) := by
  funext y
  obtain ⟨n, j, p, rfl⟩ := thick y
  rw [val_main_v44_apply, val_main_v35_apply, at44, v34_apply]
  rfl
theorem result45 : val_main_v45 (F := Ideal) x0 x1 x2 x3 x4 = fun i : S96x16x64.Idx => o3 (rArgs x0 x1 x2 x3 x4) (i 0) (i 1) (i 2) := by
  funext y
  obtain ⟨n, j, p, rfl⟩ := thick y
  rw [val_main_v45_apply, val_main_v41_apply, at45, v40_apply]
  rfl

end Reference

theorem agree : algebraic_KernelDiscIdeal_ReferenceDiscIdeal
    (hKernelDiscIdeal := Cert.KernelDiscIdeal.Gen.facts) (hReferenceDiscIdeal := Cert.ReferenceDiscIdeal.Gen.facts) := by
  intro m g m' g' hpre hargs
  have hR : ∀ c : Dev Cert.KernelDiscIdeal.nD, rArgs (m' ((c.tc : Thread Cert.ReferenceDiscIdeal.nD Cert.ReferenceDiscIdeal.τ).loc Cert.ReferenceDiscIdeal.main_arg0))
      (m' ((c.tc : Thread Cert.ReferenceDiscIdeal.nD Cert.ReferenceDiscIdeal.τ).loc Cert.ReferenceDiscIdeal.main_arg1))
      (m' ((c.tc : Thread Cert.ReferenceDiscIdeal.nD Cert.ReferenceDiscIdeal.τ).loc Cert.ReferenceDiscIdeal.main_arg2))
      (m' ((c.tc : Thread Cert.ReferenceDiscIdeal.nD Cert.ReferenceDiscIdeal.τ).loc Cert.ReferenceDiscIdeal.main_arg3))
      (m' ((c.tc : Thread Cert.ReferenceDiscIdeal.nD Cert.ReferenceDiscIdeal.τ).loc Cert.ReferenceDiscIdeal.main_arg4)) = kArgs m c := fun c => by
    obtain ⟨e0, e1, e2, e3, e4⟩ := hargs c
    rw [e0, e1, e2, e3, e4]
    rfl
  refine ⟨fun c => fun i : Cert.KernelDiscIdeal.S96x1x64.Idx => o0 (kArgs m c) (i 0) (i 2),
    fun c => fun i : Cert.KernelDiscIdeal.S96x1x64.Idx => o1 (kArgs m c) (i 0) (i 2),
    fun c => fun i : Cert.KernelDiscIdeal.S96x16x64.Idx => o2 (kArgs m c) (i 0) (i 1) (i 2),
    fun c => fun i : Cert.KernelDiscIdeal.S96x16x64.Idx => o3 (kArgs m c) (i 0) (i 1) (i 2), ?_, ?_⟩
  · refine (θ_run _ _ _).mono (fun r h c => ?_) (Cert.KernelDiscIdeal.Value.run_blocks m g)
    obtain ⟨h5, h6, h7, h8, hkept⟩ := h c
    exact ⟨h5.trans (out5 m c), h6.trans (out6 m c), h7.trans (out7 m c), h8.trans (out8 m c), hkept⟩
  · refine (θ_run _ _ _).mono (fun r h c => ?_) (Cert.ReferenceDiscIdeal.Value.run (F := Ideal) m' g')
    obtain ⟨h0, h1, h2, h3, hkept⟩ := h c
    refine ⟨(h0.trans (Cert.ReferenceDiscIdeal.Read.val_main_v42_eq _ _ _)).trans ?_,
      (h1.trans (Cert.ReferenceDiscIdeal.Read.val_main_v43_eq _ _ _)).trans ?_,
      (h2.trans (Cert.ReferenceDiscIdeal.Read.val_main_v44_eq m' c)).trans ?_,
      (h3.trans (Cert.ReferenceDiscIdeal.Read.val_main_v45_eq m' c)).trans ?_, hkept⟩
    · exact (result42 _ _ _ _ _).trans (by rw [hR c])
    · exact (result43 _ _ _ _ _).trans (by rw [hR c])
    · exact (result44 _ _ _ _ _).trans (by rw [hR c])
    · exact (result45 _ _ _ _ _).trans (by rw [hR c])

end Cert.Proof.Disc

end
-- ==== Proof.FwAgree.lean ====
/- The Fourier mixer's weights: the kernel multiplies two block-diagonal matrices of 256 channels, the reference multiplies
   group by group and sets each product in its place. -/
module

public import proofs.«01_k».proof.Defs
public import proofs.«01_k».proof.Proof.Ix
public import proofs.«01_k».proof.Proof.Gen.KernelFwIdeal.Value
public import proofs.«01_k».proof.Proof.Gen.ReferenceFwIdeal.Run
public import proofs.«01_k».proof.Proof.Gen.ReferenceFwIdeal.Read
public import Idealize.ShloMosaic.Lib.Pipeline.ValueKit

@[expose] public section

set_option maxRecDepth 16384

noncomputable section

namespace Cert.Proof.Fw

open Idealize.ShloMosaic.TcCoe Idealize.SL.Sem Idealize.ShloMosaic.ValueIdx
open Idealize.ShloMosaic hiding ix1 ix2 ix3 ix4
open scoped BigOperators

/-- The group of a channel, its place in the group, and the channel at a place of a group. -/
def grp (i : Fin 256) : Fin 4 := ⟨i.val / 64, by omega⟩
def spot (i : Fin 256) : Fin 64 := ⟨i.val % 64, by omega⟩
def chan (h : Fin 4) (f : Fin 64) : Fin 256 := ⟨h.val * 64 + f.val, by omega⟩

theorem grp_chan (h : Fin 4) (f : Fin 64) : grp (chan h f) = h := Fin.ext (by show (h.val * 64 + f.val) / 64 = h.val; omega)
theorem spot_chan (h : Fin 4) (f : Fin 64) : spot (chan h f) = f := Fin.ext (by show (h.val * 64 + f.val) % 64 = f.val; omega)

/-- The channels are the places of the four groups. -/
def split : Fin 256 ≃ Fin 4 × Fin 64 where
  toFun i := (grp i, spot i)
  invFun p := chan p.1 p.2
  left_inv i := Fin.ext (by show i.val / 64 * 64 + i.val % 64 = i.val; omega)
  right_inv p := Prod.ext (grp_chan p.1 p.2) (spot_chan p.1 p.2)

theorem sum_split (F : Fin 256 → EReal) : ∑ k, F k = ∑ h : Fin 4, ∑ f : Fin 64, F (chan h f) := by
  rw [← Equiv.sum_comp split.symm F, Fintype.sum_prod_type]
  rfl

/-- One on the diagonal, zero off it. -/
def eye (g h : Fin 4) : EReal := if g = h then 1 else 0

/-- Row `i`, column `j` of a table times the groups' maps: within a group their product, across groups zero. -/
def blocks (t : Fin 64 → Fin 64 → EReal) (w : Fin 4 → Fin 64 → Fin 64 → EReal) (i j : Fin 256) : EReal :=
  if grp i = grp j then ∑ f, w (grp i) f (spot j) * t (spot i) f else 0

/-- The product of the two block-diagonal matrices is block-diagonal. -/
theorem blocks_eq (t : Fin 64 → Fin 64 → EReal) (w : Fin 4 → Fin 64 → Fin 64 → EReal) (i j : Fin 256) :
    ∑ k, (eye (grp i) (grp k) * t (spot i) (spot k)) * (w (grp k) (spot k) (spot j) * eye (grp k) (grp j)) = blocks t w i j := by
  rw [sum_split, Finset.sum_eq_single (grp i)]
  · unfold blocks
    split_ifs with h
    · refine Finset.sum_congr rfl fun f _ => ?_
      rw [grp_chan, spot_chan, h]
      unfold eye
      rw [if_pos rfl, one_mul, mul_one, mul_comm]
    · refine Finset.sum_eq_zero fun f _ => ?_
      rw [grp_chan]
      unfold eye
      rw [if_neg h, mul_zero, mul_zero]
  · intro h _ hne
    refine Finset.sum_eq_zero fun f _ => ?_
    rw [grp_chan]
    unfold eye
    rw [if_neg (Ne.symm hne), zero_mul, zero_mul]
  · exact fun h => absurd (Finset.mem_univ _) h

section Kernel
open Cert.KernelFwIdeal Cert.KernelFwIdeal.Gen

theorem pay1_apply (v0 : Vec Ideal S256x256 .f32) (i : S256x256.Idx) : k0_pay1 v0 i = v0 i := by
  unfold k0_pay1; rw [shapeCast_self]

theorem pay2_apply (w x : Vec Ideal S256x256 .f32) (i j : Fin 256) :
    k0_pay2 w x (ix2 i j) = ∑ k : Fin 256, x (ix2 i k) * w (ix2 k j) := by
  unfold k0_pay2
  refine (plain_apply (φ₁ := .f32) (φ₂ := .f32) (some .fp32) _ _ i j).trans (Finset.sum_congr rfl fun k _ => ?_)
  rw [shapeCast_self, pay1_apply]

theorem pay3_apply (w x : Vec Ideal S256x256 .f32) (i j : Fin 256) :
    k0_pay3 w x (ix2 i j) = ∑ k : Fin 256, x (ix2 i k) * w (ix2 k j) := by
  unfold k0_pay3
  refine (plain_apply (φ₁ := .f32) (φ₂ := .f32) (some .fp32) _ _ i j).trans (Finset.sum_congr rfl fun k _ => ?_)
  rw [shapeCast_self, pay1_apply]

theorem words : ∀ g h : Fin 4, lit0 ⟨g.val * 4 + h.val, by omega⟩ = if g = h then 0x3F800000#32 else 0x00000000#32 := by
  decide +kernel

/-- The printed identity table. -/
abbrev table : FVec Ideal S4x4 .f32 := fun i => FloatOps.ofBits .f32 (lit0 (S4x4.rowMajor i))

theorem table_apply (g h : Fin 4) : table (ix2 g h) = eye g h := by
  show Ideal.ofBits .f32 (lit0 (S4x4.rowMajor (ix2 g h))) = _
  rw [show S4x4.rowMajor (ix2 g h) = ⟨g.val * 4 + h.val, by show _ < 16; omega⟩ from Fin.ext (rowMajor2 g h)]
  refine (congrArg (Ideal.ofBits .f32) (words g h)).trans ?_
  unfold eye
  split_ifs
  · exact Ideal.ofBits_one_f32
  · exact Ideal.ofBits_zero_f32

/-- The identity, spread over the places of the two groups. -/
theorem wide_eye (g h : Fin 4) (p q : Fin 64) :
    broadcastInDim S4x64x4x64 ![0, 1, 2, 3] bcast_S4x1x4x1_S4x64x4x64_0_1_2_3
      (broadcastInDim S4x1x4x1 ![0, 2] bcast_S4x4_S4x1x4x1_0_2 table) (ix4 g p h q) = eye g h := by
  refine (broadcastInDim_apply _ bcast_S4x1x4x1_S4x64x4x64_0_1_2_3 _ (ix4 g p h q) (ix4 g 0 h 0) fun a => ?_).trans ?_
  · match a with | ⟨0, _⟩ => rfl | ⟨1, _⟩ => rfl | ⟨2, _⟩ => rfl | ⟨3, _⟩ => rfl
  refine (broadcastInDim_apply _ bcast_S4x4_S4x1x4x1_0_2 _ (ix4 g 0 h 0) (ix2 g h) fun a => ?_).trans (table_apply g h)
  match a with | ⟨0, _⟩ => rfl | ⟨1, _⟩ => rfl

/-- A group's table repeated along the diagonal. -/
abbrev diagTable (x : FVec Ideal S64x64 .f32) : FVec Ideal S256x256 .f32 :=
    shapeCast S256x256 (mulf (broadcastInDim S4x64x4x64 ![0, 1, 2, 3] bcast_S4x1x4x1_S4x64x4x64_0_1_2_3
        (broadcastInDim S4x1x4x1 ![0, 2] bcast_S4x4_S4x1x4x1_0_2 table))
      (broadcastInDim S4x64x4x64 ![0, 1, 2, 3] bcast_S1x64x1x64_S4x64x4x64_0_1_2_3
        (broadcastInDim S1x64x1x64 ![1, 3] bcast_S64x64_S1x64x1x64_1_3 x))) shapeCasts_S4x64x4x64_S256x256

theorem diag_table (x : FVec Ideal S64x64 .f32) (i k : Fin 256) :
    diagTable x (ix2 i k)
      = eye (grp i) (grp k) * x (ix2 (spot i) (spot k)) := by
  refine (shapeCast_at (s := S4x64x4x64) (t := S256x256) (j := ix2 i k) _ _ (ix4 (grp i) (spot i) (grp k) (spot k)) (by
    rw [rowMajor4, rowMajor2]
    show ((i.val / 64 * 64 + i.val % 64) * 4 + k.val / 64) * 64 + k.val % 64 = i.val * 256 + k.val
    omega)).trans ?_
  refine congrArg₂ (fun a b : EReal => a * b) (wide_eye _ _ _ _) ?_
  refine (broadcastInDim_apply _ bcast_S1x64x1x64_S4x64x4x64_0_1_2_3 _ (ix4 (grp i) (spot i) (grp k) (spot k)) (ix4 0 (spot i) 0 (spot k)) fun a => ?_).trans ?_
  · match a with | ⟨0, _⟩ => rfl | ⟨1, _⟩ => rfl | ⟨2, _⟩ => rfl | ⟨3, _⟩ => rfl
  refine broadcastInDim_apply _ bcast_S64x64_S1x64x1x64_1_3 x (ix4 0 (spot i) 0 (spot k)) (ix2 (spot i) (spot k)) fun a => ?_
  match a with | ⟨0, _⟩ => rfl | ⟨1, _⟩ => rfl

/-- The groups' maps along the diagonal. -/
abbrev diagMaps (x : FVec Ideal S4x64x64 .f32) : FVec Ideal S256x256 .f32 :=
    shapeCast S256x256 (mulf (broadcastInDim S4x64x4x64 ![0, 1, 2, 3] bcast_S4x64x1x64_S4x64x4x64_0_1_2_3
        (broadcastInDim S4x64x1x64 ![0, 1, 3] bcast_S4x64x64_S4x64x1x64_0_1_3 x))
      (broadcastInDim S4x64x4x64 ![0, 1, 2, 3] bcast_S4x1x4x1_S4x64x4x64_0_1_2_3
        (broadcastInDim S4x1x4x1 ![0, 2] bcast_S4x4_S4x1x4x1_0_2 table))) shapeCasts_S4x64x4x64_S256x256

theorem diag_maps (x : FVec Ideal S4x64x64 .f32) (k j : Fin 256) :
    diagMaps x (ix2 k j)
      = x (ix3 (grp k) (spot k) (spot j)) * eye (grp k) (grp j) := by
  refine (shapeCast_at (s := S4x64x4x64) (t := S256x256) (j := ix2 k j) _ _ (ix4 (grp k) (spot k) (grp j) (spot j)) (by
    rw [rowMajor4, rowMajor2]
    show ((k.val / 64 * 64 + k.val % 64) * 4 + j.val / 64) * 64 + j.val % 64 = k.val * 256 + j.val
    omega)).trans ?_
  refine congrArg₂ (fun a b : EReal => a * b) ?_ (wide_eye _ _ _ _)
  refine (broadcastInDim_apply _ bcast_S4x64x1x64_S4x64x4x64_0_1_2_3 _ (ix4 (grp k) (spot k) (grp j) (spot j)) (ix4 (grp k) (spot k) 0 (spot j)) fun a => ?_).trans ?_
  · match a with | ⟨0, _⟩ => rfl | ⟨1, _⟩ => rfl | ⟨2, _⟩ => rfl | ⟨3, _⟩ => rfl
  refine broadcastInDim_apply _ bcast_S4x64x64_S4x64x1x64_0_1_3 x (ix4 (grp k) (spot k) 0 (spot j)) (ix3 (grp k) (spot k) (spot j)) fun a => ?_
  match a with | ⟨0, _⟩ => rfl | ⟨1, _⟩ => rfl | ⟨2, _⟩ => rfl

variable (m : (ℓ : Loc nD τ sig) → Buf (Elt Ideal) ℓ) (c : Dev nD)

abbrev aC : FVec Ideal S64x64 .f32 := m ((c.tc : Thread nD τ).loc main_arg0)
abbrev aS : FVec Ideal S64x64 .f32 := m ((c.tc : Thread nD τ).loc main_arg1)
abbrev aW : FVec Ideal S4x64x64 .f32 := m ((c.tc : Thread nD τ).loc main_arg2)

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])

theorem in0 (t : Fin cfg0.N) (i k : Fin 256) :
    iblk m c 0 t (ix2 i k) = eye (grp i) (grp k) * aC m c (ix2 (spot i) (spot k)) := by
  show ((cfg0.win 0).blk t).view.read (Elt Ideal) (V m c main_v5) (ix2 i k) = _
  entry_read
  exact (congrArg (diagTable (aC m c)) (show ((cfg0.win 0).blk t).view.emb (ix2 i k) = ix2 i k from by blk_ext [idx0])).trans
    (diag_table (aC m c) i k)
theorem in1 (t : Fin cfg0.N) (i k : Fin 256) :
    iblk m c 1 t (ix2 i k) = eye (grp i) (grp k) * aS m c (ix2 (spot i) (spot k)) := by
  show ((cfg0.win 1).blk t).view.read (Elt Ideal) (V m c main_v11) (ix2 i k) = _
  entry_read
  exact (congrArg (diagTable (aS m c)) (show ((cfg0.win 1).blk t).view.emb (ix2 i k) = ix2 i k from by blk_ext [idx1])).trans
    (diag_table (aS m c) i k)
theorem in2 (t : Fin cfg0.N) (k j : Fin 256) :
    iblk m c 2 t (ix2 k j) = aW m c (ix3 (grp k) (spot k) (spot j)) * eye (grp k) (grp j) := by
  show ((cfg0.win 2).blk t).view.read (Elt Ideal) (V m c main_v17) (ix2 k j) = _
  entry_read
  exact (congrArg (diagMaps (aW m c)) (show ((cfg0.win 2).blk t).view.emb (ix2 k j) = ix2 k j from by blk_ext [idx2])).trans
    (diag_maps (aW m c) k j)

theorem all0 {n : Nat} (x : Fin n → Nat) (h : ∀ a, x a = 0) : x = fun _ => 0 := funext h
theorem whole0 (x : Vec Ideal S256x256 .f32) : View.ld x r0_0 = x := View.ld_unit_zero (all0 _ (by decide)) _ _

theorem place3 (t : Fin cfg0.N) (i j : Fin 256) : ((cfg0.win 3).blk t).view.emb (ix2 i j) = ix2 i j := by blk_ext [idx3]
theorem place4 (t : Fin cfg0.N) (i j : Fin 256) : ((cfg0.win 4).blk t).view.emb (ix2 i j) = ix2 i j := by blk_ext [idx4]

theorem square (y : S256x256.Idx) : ∃ (i j : Fin 256), y = ix2 i j :=
  ⟨y 0, y 1, by funext x; match x with | ⟨0, _⟩ => rfl | ⟨1, _⟩ => rfl⟩

/-- The result of a table: its product with the groups' maps, on the diagonal blocks. -/
def spread (x : FVec Ideal S64x64 .f32) (w : FVec Ideal S4x64x64 .f32) : FVec Ideal S256x256 .bf16 := fun i =>
  blocks (fun a b => x (ix2 a b)) (fun g a b => w (ix3 g a b)) (i 0) (i 1)

theorem out3 : (dats m 0 c).arrAt 3 cfg0.N = spread (aC m c) (aW m c) := by
  refine (dats m 0 c).arrAt_eq_of_covers 3 _ (by decide +kernel) fun t hf y => ?_
  obtain ⟨i, j, rfl⟩ := square y
  rw [place3]
  blk_simp
  rw [after0_3]
  unfold out0_3
  rw [whole0, whole0, View.canon_unit_zero (all0 _ (by decide))]
  refine (pay2_apply _ _ i j).trans ?_
  simp only [in0, in2]
  exact blocks_eq (fun a b => aC m c (ix2 a b)) (fun g a b => aW m c (ix3 g a b)) i j
theorem out4 : (dats m 0 c).arrAt 4 cfg0.N = spread (aS m c) (aW m c) := by
  refine (dats m 0 c).arrAt_eq_of_covers 4 _ (by decide +kernel) fun t hf y => ?_
  obtain ⟨i, j, rfl⟩ := square y
  rw [place4]
  blk_simp
  rw [after0_4]
  unfold out0_4
  rw [whole0, whole0, View.canon_unit_zero (all0 _ (by decide))]
  refine (pay3_apply _ _ i j).trans ?_
  simp only [in1, in2]
  exact blocks_eq (fun a b => aS m c (ix2 a b)) (fun g a b => aW m c (ix3 g a b)) i j

end Kernel

section Reference
open Cert.ReferenceFwIdeal Cert.ReferenceFwIdeal.Gen Cert.ReferenceFwIdeal.Read

variable (x0 x1 : FVec Ideal S64x64 .f32) (x2 : FVec Ideal S4x64x64 .f32)

/-- The comparison of the two group numbers. -/
theorem mask_apply (g h : Fin 4) : val_main_v5 (F := Ideal) (ix2 g h) = if g = h then 1#1 else 0#1 := by
  rw [val_main_v5_apply, val_main_v3_apply, val_main_v4_apply, val_main_v1_apply, val_main_v2_apply]
  show IntOp.cmpi .eq (BitVec.ofNat 32 g.val) (BitVec.ofNat 32 h.val) = _
  revert g h
  decide

theorem product_apply (g : Fin 4) (a b : Fin 64) :
    val_main_v8 (F := Ideal) x0 x2 (ix3 g a b) = ∑ f : Fin 64, x2 (ix3 g f b) * x0 (ix2 a f) := by
  rw [val_main_v8_apply, show idx_main_v8 (ix3 g a b) = ix3 g b a from by
      funext z; match z with | ⟨0, _⟩ => rfl | ⟨1, _⟩ => rfl | ⟨2, _⟩ => rfl, val_main_v7_apply]
  refine Finset.sum_congr rfl fun f _ => ?_
  rw [show lidx_main_v7 (ix3 g b a) f = ix3 g f b from by funext z; match z with | ⟨0, _⟩ => rfl | ⟨1, _⟩ => rfl | ⟨2, _⟩ => rfl,
    show ridx_main_v7 (ix3 g b a) f = ix2 a f from by funext z; match z with | ⟨0, _⟩ => rfl | ⟨1, _⟩ => rfl]

theorem placed_apply (g h : Fin 4) (a b : Fin 64) : val_main_v10 (F := Ideal) x0 x2 (ix4 g a h b)
    = if g = h then ∑ f : Fin 64, x2 (ix3 g f b) * x0 (ix2 a f) else 0 := by
  rw [val_main_v10_apply, val_main_call0_v1_apply, val_main_v6_apply, val_main_call0_v2_apply, val_main_v9_apply,
    show idx_main_v6 (idx_main_call0_v1 (ix4 g a h b)) = ix2 g h from by funext z; match z with | ⟨0, _⟩ => rfl | ⟨1, _⟩ => rfl,
    show idx_main_v9 (idx_main_call0_v2 (ix4 g a h b)) = ix3 g a b from by
      funext z; match z with | ⟨0, _⟩ => rfl | ⟨1, _⟩ => rfl | ⟨2, _⟩ => rfl,
    mask_apply, product_apply]
  split_ifs
  · rfl
  · exact Ideal.ofBits_zero_f32

theorem ref_apply (i j : Fin 256) : val_main_v12 (F := Ideal) x0 x2 (ix2 i j) = spread x0 x2 (ix2 i j) := by
  show val_main_v11 (F := Ideal) x0 x2 (ix2 i j) = _
  rw [val_main_v11_apply, show idx_main_v11 (ix2 i j) = ix4 (grp i) (spot i) (grp j) (spot j) from by
      funext z; refine Fin.ext ?_
      match z with
      | ⟨0, _⟩ => show (i.val * 256 + j.val) / 16384 = i.val / 64; omega
      | ⟨1, _⟩ => show (i.val * 256 + j.val) / 256 % 64 = i.val % 64; omega
      | ⟨2, _⟩ => show (i.val * 256 + j.val) / 64 % 4 = j.val / 64; omega
      | ⟨3, _⟩ => show (i.val * 256 + j.val) % 64 = j.val % 64; omega, placed_apply]
  rfl

theorem result12 : val_main_v12 (F := Ideal) x0 x2 = spread x0 x2 := by
  funext y
  obtain ⟨i, j, rfl⟩ := square y
  exact ref_apply x0 x2 i j

/-- The second result is the first one's function of the other table. -/
theorem result18 : val_main_v18 (F := Ideal) x1 x2 = spread x1 x2 := result12 x1 x2

end Reference

theorem agree : algebraic_KernelFwIdeal_ReferenceFwIdeal
    (hKernelFwIdeal := Cert.KernelFwIdeal.Gen.facts) (hReferenceFwIdeal := Cert.ReferenceFwIdeal.Gen.facts) := by
  intro m g m' g' hpre hargs
  refine ⟨fun c => spread (aC m c) (aW m c), fun c => spread (aS m c) (aW m c), ?_, ?_⟩
  · refine (θ_run _ _ _).mono (fun r h c => ?_) (Cert.KernelFwIdeal.Value.run_blocks m g)
    obtain ⟨h3, h4, hkept⟩ := h c
    exact ⟨h3.trans (out3 m c), h4.trans (out4 m c), hkept⟩
  · refine (θ_run _ _ _).mono (fun r h c => ?_) (Cert.ReferenceFwIdeal.Value.run (F := Ideal) m' g')
    obtain ⟨h12, h18, hkept⟩ := h c
    obtain ⟨e0, e1, e2⟩ := hargs c
    refine ⟨(h12.trans (Cert.ReferenceFwIdeal.Read.val_main_v12_eq _ _)).trans ?_,
      (h18.trans (Cert.ReferenceFwIdeal.Read.val_main_v18_eq _ _)).trans ?_, hkept⟩
    · exact (result12 _ _).trans (by rw [e0, e2])
    · exact (result18 _ _).trans (by rw [e1, e2])

end Cert.Proof.Fw

end
-- ==== Proof.FnetAgree.lean ====
/- The Fourier mixer's call over the positions: for every sequence the channels' product is taken first and the transform
   along the positions second. The reference transforms first. For real entries the two orders agree. -/
module

public import proofs.«01_k».proof.Defs
public import proofs.«01_k».proof.Proof.Finite
public import proofs.«01_k».proof.Proof.Ix
public import proofs.«01_k».proof.Pre_finite
public import proofs.«01_k».proof.Proof.Gen.Pre_finite
public import proofs.«01_k».proof.Proof.Gen.KernelFnetIdeal.Value
public import proofs.«01_k».proof.Proof.Gen.ReferenceFnetIdeal.Run
public import proofs.«01_k».proof.Proof.Gen.ReferenceFnetIdeal.Read
public import Idealize.ShloMosaic.Lib.Pipeline.ValueKit

@[expose] public section

set_option maxRecDepth 16384

noncomputable section

namespace Cert.Proof.Fnet

open Idealize.ShloMosaic.TcCoe Idealize.SL.Sem Idealize.ShloMosaic.ValueIdx
open Idealize.ShloMosaic hiding ix1 ix2 ix3 ix4
open scoped BigOperators

/-- A double sum of products of real numbers, taken in either order. -/
theorem swap {n p : Nat} {c : Fin n → EReal} {u : Fin n → Fin p → EReal} {w : Fin p → EReal} (hc : ∀ l, IsReal (c l))
    (hu : ∀ l j, IsReal (u l j)) (hw : ∀ j, IsReal (w j)) :
    ∑ l, c l * ∑ j, u l j * w j = ∑ j, (∑ l, u l j * c l) * w j := by
  choose c' hc using hc
  choose u' hu using hu
  choose w' hw using hw
  have push : ∀ {k : Nat} (f : Fin k → ℝ), ∑ i, ((f i : ℝ) : EReal) = ((∑ i, f i : ℝ) : EReal) := fun f =>
    (map_sum (⟨⟨Real.toEReal, EReal.coe_zero⟩, EReal.coe_add⟩ : ℝ →+ EReal) f Finset.univ).symm
  simp only [hc, hu, hw, ← EReal.coe_mul, push]
  refine congrArg Real.toEReal ?_
  simp only [Finset.mul_sum, Finset.sum_mul]
  rw [Finset.sum_comm]
  exact Finset.sum_congr rfl fun j _ => Finset.sum_congr rfl fun l _ => by ring

/-- The arguments, entry by entry: the sequences, the two tables over the positions, the two matrices over the channels. -/
structure Args where
  u : Fin 16 → Fin 256 → Fin 256 → EReal
  c : Fin 256 → Fin 256 → EReal
  s : Fin 256 → Fin 256 → EReal
  m1 : Fin 256 → Fin 256 → EReal
  m2 : Fin 256 → Fin 256 → EReal

/-- Every argument entry is a real number. -/
structure Args.Real (A : Args) : Prop where
  u : ∀ b l j, IsReal (A.u b l j)
  c : ∀ k l, IsReal (A.c k l)
  s : ∀ k l, IsReal (A.s k l)
  m1 : ∀ j e, IsReal (A.m1 j e)
  m2 : ∀ j e, IsReal (A.m2 j e)

/-- Channels first, then positions: what the kernel computes for sequence `b`, frequency `k`, channel `e`. -/
def channelsFirst (A : Args) (b : Fin 16) (k e : Fin 256) : EReal :=
  (∑ l, A.c k l * ∑ j, A.u b l j * A.m1 j e) - ∑ l, A.s k l * ∑ j, A.u b l j * A.m2 j e
/-- Positions first, then channels: what the reference computes. -/
def positionsFirst (A : Args) (b : Fin 16) (k e : Fin 256) : EReal :=
  (∑ j, (∑ l, A.u b l j * A.c k l) * A.m1 j e) - ∑ j, (∑ l, A.u b l j * A.s k l) * A.m2 j e

theorem orders_agree {A : Args} (h : A.Real) (b : Fin 16) (k e : Fin 256) : positionsFirst A b k e = channelsFirst A b k e := by
  unfold positionsFirst channelsFirst
  rw [swap (h.c k) (h.u b) fun j => h.m1 j e, swap (h.s k) (h.u b) fun j => h.m2 j e]

section Kernel
open Cert.KernelFnetIdeal Cert.KernelFnetIdeal.Gen

theorem pay1_apply (v0 : Vec Ideal S1x256x256 .bf16) (v2 v5 : Vec Ideal S256x256 .bf16) (v8 v11 : Vec Ideal S256x256 .f32)
    (k e : Fin 256) : k0_pay1 v0 v2 v5 v8 v11 (ix3 0 k e)
      = (∑ l : Fin 256, v8 (ix2 k l) * ∑ j : Fin 256, v0 (ix3 0 l j) * v2 (ix2 j e))
        - ∑ l : Fin 256, v11 (ix2 k l) * ∑ j : Fin 256, v0 (ix3 0 l j) * v5 (ix2 j e) := by
  unfold k0_pay1
  refine (shapeCast_at (s := S256x256) (t := S1x256x256) (j := ix3 0 k e) _ _ (ix2 k e) (by rw [rowMajor2, rowMajor3]; simp)).trans ?_
  have inner : ∀ (w : Vec Ideal S256x256 .bf16) (l : Fin 256),
      FloatOps.matmul (F := Ideal) (DotDims.plain 256 256 256) none (shapeCast S256x256 v0 shapeCasts_S1x256x256_S256x256 : FVec Ideal S256x256 .bf16) w
        (constant S256x256 .f32 0x00000000#32) (ix2 l e) = ∑ j : Fin 256, v0 (ix3 0 l j) * w (ix2 j e) := fun w l => by
    refine (plain_apply (φ₁ := .bf16) (φ₂ := .bf16) none _ w l e).trans (Finset.sum_congr rfl fun j _ => ?_)
    rw [shapeCast_at (s := S1x256x256) (t := S256x256) (j := ix2 l j) _ _ (ix3 0 l j) (by rw [rowMajor2, rowMajor3]; simp)]
  refine congrArg₂ (fun a b : EReal => a - b) ?_ ?_
  · refine (plain_apply (φ₁ := .bf16) (φ₂ := .bf16) none (v8 : FVec Ideal S256x256 .bf16) _ k e).trans (Finset.sum_congr rfl fun l _ => ?_)
    exact congrArg (v8 (ix2 k l) * ·) (inner v2 l)
  · refine (plain_apply (φ₁ := .bf16) (φ₂ := .bf16) none (v11 : FVec Ideal S256x256 .bf16) _ k e).trans (Finset.sum_congr rfl fun l _ => ?_)
    exact congrArg (v11 (ix2 k l) * ·) (inner v5 l)

variable (m : (ℓ : Loc nD τ sig) → Buf (Elt Ideal) ℓ) (c : Dev nD)

abbrev aU : FVec Ideal S16x256x256 .bf16 := m ((c.tc : Thread nD τ).loc main_arg0)
abbrev aC : FVec Ideal S256x256 .f32 := m ((c.tc : Thread nD τ).loc main_arg1)
abbrev aS : FVec Ideal S256x256 .f32 := m ((c.tc : Thread nD τ).loc main_arg2)
abbrev aM1 : FVec Ideal S256x256 .bf16 := m ((c.tc : Thread nD τ).loc main_arg3)
abbrev aM2 : FVec Ideal S256x256 .bf16 := m ((c.tc : Thread nD τ).loc main_arg4)

/-- The kernel's arguments, entry by entry. -/
def kArgs : Args where
  u b l j := aU m c (ix3 b l j)
  c k l := aC m c (ix2 k l)
  s k l := aS m c (ix2 k l)
  m1 j e := aM1 m c (ix2 j e)
  m2 j e := aM2 m c (ix2 j e)

theorem idx0 : ∀ t : Fin cfg0.N, win0_0.index t = ![t.val, 0, 0] := (by decide +kernel : ∀ t : Fin grid0.N, win0_0.index t = ![t.val, 0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0, 0] := (by decide +kernel : ∀ t : Fin grid0.N, win0_5.index t = ![t.val, 0, 0])
theorem points : ∀ t : Fin cfg0.N, t.val < 16 := (by decide +kernel : ∀ t : Fin grid0.N, t.val < 16)

/-- The sequence of step `t`. -/
def seq (t : Fin cfg0.N) : Fin 16 := ⟨t.val, points t⟩

theorem in0 (t : Fin cfg0.N) (l j : Fin 256) : iblk m c 0 t (ix3 0 l j) = aU m c (ix3 (seq t) l j) := by
  have h := points t
  unfold seq
  blk_ext [iblk, V_main_arg0, idx0]
theorem in1 (t : Fin cfg0.N) (k l : Fin 256) : iblk m c 1 t (ix2 k l) = aC m c (ix2 k l) := by
  blk_ext [iblk, V_main_arg1, idx1]
theorem in2 (t : Fin cfg0.N) (k l : Fin 256) : iblk m c 2 t (ix2 k l) = aS m c (ix2 k l) := by
  blk_ext [iblk, V_main_arg2, idx2]
theorem in3 (t : Fin cfg0.N) (j e : Fin 256) : iblk m c 3 t (ix2 j e) = aM1 m c (ix2 j e) := by
  blk_ext [iblk, V_main_arg3, idx3]
theorem in4 (t : Fin cfg0.N) (j e : Fin 256) : iblk m c 4 t (ix2 j e) = aM2 m c (ix2 j e) := by
  blk_ext [iblk, V_main_arg4, idx4]

theorem all0 {n : Nat} (x : Fin n → Nat) (h : ∀ a, x a = 0) : x = fun _ => 0 := funext h
theorem whole0 (x : Vec Ideal S1x256x256 .bf16) : View.ld x r0_0 = x := View.ld_unit_zero (all0 _ (by decide)) _ _
theorem whole1 {φ : EltTy} (x : Vec Ideal S256x256 φ) : View.ld x r0_1 = x := View.ld_unit_zero (all0 _ (by decide)) _ _

theorem place5 (t : Fin cfg0.N) (k e : Fin 256) : ((cfg0.win 5).blk t).view.emb (ix3 0 k e) = ix3 (seq t) k e := by
  have h := points t
  unfold seq
  blk_ext [idx5]

theorem out_at (t : Fin cfg0.N) (k e : Fin 256) :
    k0_pay1 (iblk m c 0 t) (iblk m c 3 t) (iblk m c 4 t) (iblk m c 1 t) (iblk m c 2 t) (ix3 0 k e)
      = channelsFirst (kArgs m c) (seq t) k e := by
  refine (pay1_apply _ _ _ _ _ k e).trans ?_
  unfold channelsFirst kArgs
  simp only [in0, in1, in2, in3, in4]

/-- The call's result array. -/
theorem out5 : (dats m 0 c).arrAt 5 cfg0.N = fun i : S16x256x256.Idx => channelsFirst (kArgs m c) (i 0) (i 1) (i 2) := by
  refine (dats m 0 c).arrAt_eq_of_covers 5 _ (by decide +kernel) fun t hf y => ?_
  obtain ⟨k, e, rfl⟩ : ∃ (k e : Fin 256), y = ix3 0 k e :=
    ⟨y 1, y 2, by funext x; match x with | ⟨0, _⟩ => exact Subsingleton.elim (α := Fin 1) _ _ | ⟨1, _⟩ => rfl | ⟨2, _⟩ => rfl⟩
  rw [place5]
  blk_simp
  rw [after0_5]
  unfold out0_5
  rw [whole0, whole1, whole1, whole1, whole1, View.canon_unit_zero (all0 _ (by decide))]
  exact out_at m c t k e

end Kernel

section Reference
open Cert.ReferenceFnetIdeal Cert.ReferenceFnetIdeal.Gen Cert.ReferenceFnetIdeal.Read

variable (x0 : FVec Ideal S16x256x256 .bf16) (x1 x2 : FVec Ideal S256x256 .f32) (x3 x4 : FVec Ideal S256x256 .bf16)

/-- The reference's arguments, entry by entry. -/
def rArgs : Args where
  u b l j := x0 (ix3 b l j)
  c k l := x1 (ix2 k l)
  s k l := x2 (ix2 k l)
  m1 j e := x3 (ix2 j e)
  m2 j e := x4 (ix2 j e)

theorem cosines_apply (b : Fin 16) (k j : Fin 256) :
    val_main_v2 (F := Ideal) x0 x1 (ix3 b k j) = ∑ l : Fin 256, x0 (ix3 b l j) * x1 (ix2 k l) := by
  rw [val_main_v2_apply, show idx_main_v2 (ix3 b k j) = ix3 b j k from by
      funext a; match a with | ⟨0, _⟩ => rfl | ⟨1, _⟩ => rfl | ⟨2, _⟩ => rfl, val_main_v1_apply]
  refine Finset.sum_congr rfl fun l _ => ?_
  rw [show lidx_main_v1 (ix3 b j k) l = ix3 b l j from by funext a; match a with | ⟨0, _⟩ => rfl | ⟨1, _⟩ => rfl | ⟨2, _⟩ => rfl,
    show ridx_main_v1 (ix3 b j k) l = ix2 k l from by funext a; match a with | ⟨0, _⟩ => rfl | ⟨1, _⟩ => rfl]
  rfl

theorem sines_apply (b : Fin 16) (k j : Fin 256) :
    val_main_v4 (F := Ideal) x0 x2 (ix3 b k j) = ∑ l : Fin 256, x0 (ix3 b l j) * x2 (ix2 k l) := by
  rw [val_main_v4_apply, show idx_main_v4 (ix3 b k j) = ix3 b j k from by
      funext a; match a with | ⟨0, _⟩ => rfl | ⟨1, _⟩ => rfl | ⟨2, _⟩ => rfl, val_main_v3_apply]
  refine Finset.sum_congr rfl fun l _ => ?_
  rw [show lidx_main_v3 (ix3 b j k) l = ix3 b l j from by funext a; match a with | ⟨0, _⟩ => rfl | ⟨1, _⟩ => rfl | ⟨2, _⟩ => rfl,
    show ridx_main_v3 (ix3 b j k) l = ix2 k l from by funext a; match a with | ⟨0, _⟩ => rfl | ⟨1, _⟩ => rfl]
  rfl

theorem ref_apply (b : Fin 16) (k e : Fin 256) :
    val_main_v10 (F := Ideal) x0 x1 x2 x3 x4 (ix3 b k e) = positionsFirst (rArgs x0 x1 x2 x3 x4) b k e := by
  show val_main_v6 (F := Ideal) x0 x1 x3 (ix3 b k e) - val_main_v8 (F := Ideal) x0 x2 x4 (ix3 b k e) = _
  rw [val_main_v6_apply, val_main_v8_apply]
  unfold positionsFirst rArgs
  refine congrArg₂ (fun a b : EReal => a - b) (Finset.sum_congr rfl fun j _ => ?_) (Finset.sum_congr rfl fun j _ => ?_)
  · rw [show lidx_main_v6 (ix3 b k e) j = ix3 b k j from by funext a; match a with | ⟨0, _⟩ => rfl | ⟨1, _⟩ => rfl | ⟨2, _⟩ => rfl,
      show ridx_main_v6 (ix3 b k e) j = ix2 j e from by funext a; match a with | ⟨0, _⟩ => rfl | ⟨1, _⟩ => rfl, cosines_apply]
    rfl
  · rw [show lidx_main_v8 (ix3 b k e) j = ix3 b k j from by funext a; match a with | ⟨0, _⟩ => rfl | ⟨1, _⟩ => rfl | ⟨2, _⟩ => rfl,
      show ridx_main_v8 (ix3 b k e) j = ix2 j e from by funext a; match a with | ⟨0, _⟩ => rfl | ⟨1, _⟩ => rfl, sines_apply]
    rfl

theorem result10 : val_main_v10 (F := Ideal) x0 x1 x2 x3 x4
    = fun i : S16x256x256.Idx => positionsFirst (rArgs x0 x1 x2 x3 x4) (i 0) (i 1) (i 2) := by
  funext y
  obtain ⟨b, k, e, rfl⟩ : ∃ (b : Fin 16) (k e : Fin 256), y = ix3 b k e :=
    ⟨y 0, y 1, y 2, by funext x; match x with | ⟨0, _⟩ => rfl | ⟨1, _⟩ => rfl | ⟨2, _⟩ => rfl⟩
  exact ref_apply x0 x1 x2 x3 x4 b k e

variable [Cert.Pre_finite.Facts] {x0 x1 x2 x3 x4}

/-- The precondition's five arrays, all ones. -/
theorem real_of (h : Cert.Pre_finite.fn (F := Ideal) x0 x1 x2 x3 x4
      = (fun _ => 1#1, fun _ => 1#1, fun _ => 1#1, fun _ => 1#1, fun _ => 1#1)) : (rArgs x0 x1 x2 x3 x4).Real := by
  unfold Cert.Pre_finite.fn at h
  simp only [Prod.mk.injEq] at h
  obtain ⟨h0, h1, h2, h3, h4⟩ := h
  exact {
    u := fun b l j => real_of_lt (congrFun h0 (ix3 b l j))
    c := fun k l => real_of_lt (congrFun h1 (ix2 k l))
    s := fun k l => real_of_lt (congrFun h2 (ix2 k l))
    m1 := fun j e => real_of_lt (congrFun h3 (ix2 j e))
    m2 := fun j e => real_of_lt (congrFun h4 (ix2 j e)) }

end Reference

theorem agree [hP : Cert.Pre_finite.Facts] : algebraic_KernelFnetIdeal_ReferenceFnetIdeal_pre_finite
    (hKernelFnetIdeal := Cert.KernelFnetIdeal.Gen.facts) (hReferenceFnetIdeal := Cert.ReferenceFnetIdeal.Gen.facts)
    (hPre_finite := hP) := by
  intro m g m' g' hpre hargs
  refine ⟨fun c => fun i : Cert.KernelFnetIdeal.S16x256x256.Idx => channelsFirst (kArgs m c) (i 0) (i 1) (i 2), ?_, ?_⟩
  · refine (θ_run _ _ _).mono (fun r h c => ?_) (Cert.KernelFnetIdeal.Value.run_blocks m g)
    obtain ⟨h5, hkept⟩ := h c
    exact ⟨h5.trans (out5 m c), hkept⟩
  · refine (θ_run _ _ _).mono (fun r h c => ?_) (Cert.ReferenceFnetIdeal.Value.run (F := Ideal) m' g')
    obtain ⟨h10, hkept⟩ := h c
    refine ⟨(h10.trans (Cert.ReferenceFnetIdeal.Read.val_main_v10_eq _ _ _ _ _)).trans ?_, hkept⟩
    obtain ⟨e0, e1, e2, e3, e4⟩ := hargs c
    refine (result10 _ _ _ _ _).trans ?_
    rw [e0, e1, e2, e3, e4]
    obtain ⟨h0, h1, h2, h3, h4⟩ := hpre c
    exact funext fun i => orders_agree (real_of (Prod.ext h0 (Prod.ext h1 (Prod.ext h2 (Prod.ext h3 h4))))) (i 0) (i 1) (i 2)

end Cert.Proof.Fnet

end
-- ==== Proof.LongAgree.lean ====
/- The Fourier mixer's call at the samples' length: two sequences of 1024 tokens, the orders as at the prompts' length. -/
module

public import proofs.«01_k».proof.Defs
public import proofs.«01_k».proof.Proof.Finite
public import proofs.«01_k».proof.Proof.Ix
public import proofs.«01_k».proof.Proof.FnetAgree
public import proofs.«01_k».proof.Pre_finite_long
public import proofs.«01_k».proof.Proof.Gen.Pre_finite_long
public import proofs.«01_k».proof.Proof.Gen.KernelLongIdeal.Value
public import proofs.«01_k».proof.Proof.Gen.ReferenceLongIdeal.Run
public import proofs.«01_k».proof.Proof.Gen.ReferenceLongIdeal.Read
public import Idealize.ShloMosaic.Lib.Pipeline.ValueKit

@[expose] public section

set_option maxRecDepth 16384

noncomputable section

namespace Cert.Proof.Long

open Idealize.ShloMosaic.TcCoe Idealize.SL.Sem Idealize.ShloMosaic.ValueIdx
open Idealize.ShloMosaic hiding ix1 ix2 ix3 ix4
open scoped BigOperators

/-- The arguments, entry by entry: the sequences, the two tables over the positions, the two matrices over the channels. -/
structure Args where
  u : Fin 2 → Fin 1024 → Fin 256 → EReal
  c : Fin 1024 → Fin 1024 → EReal
  s : Fin 1024 → Fin 1024 → EReal
  m1 : Fin 256 → Fin 256 → EReal
  m2 : Fin 256 → Fin 256 → EReal

/-- Every argument entry is a real number. -/
structure Args.Real (A : Args) : Prop where
  u : ∀ b l j, IsReal (A.u b l j)
  c : ∀ k l, IsReal (A.c k l)
  s : ∀ k l, IsReal (A.s k l)
  m1 : ∀ j e, IsReal (A.m1 j e)
  m2 : ∀ j e, IsReal (A.m2 j e)

/-- Channels first, then positions: what the kernel computes for sequence `b`, frequency `k`, channel `e`. -/
def channelsFirst (A : Args) (b : Fin 2) (k : Fin 1024) (e : Fin 256) : EReal :=
  (∑ l, A.c k l * ∑ j, A.u b l j * A.m1 j e) - ∑ l, A.s k l * ∑ j, A.u b l j * A.m2 j e
/-- Positions first, then channels: what the reference computes. -/
def positionsFirst (A : Args) (b : Fin 2) (k : Fin 1024) (e : Fin 256) : EReal :=
  (∑ j, (∑ l, A.u b l j * A.c k l) * A.m1 j e) - ∑ j, (∑ l, A.u b l j * A.s k l) * A.m2 j e

theorem orders_agree {A : Args} (h : A.Real) (b : Fin 2) (k : Fin 1024) (e : Fin 256) : positionsFirst A b k e = channelsFirst A b k e := by
  unfold positionsFirst channelsFirst
  rw [Fnet.swap (h.c k) (h.u b) fun j => h.m1 j e, Fnet.swap (h.s k) (h.u b) fun j => h.m2 j e]

section Kernel
open Cert.KernelLongIdeal Cert.KernelLongIdeal.Gen

theorem pay1_apply (v0 : Vec Ideal S1x1024x256 .bf16) (v2 v5 : Vec Ideal S256x256 .bf16) (v8 v11 : Vec Ideal S1024x1024 .f32)
    (k : Fin 1024) (e : Fin 256) : k0_pay1 v0 v2 v5 v8 v11 (ix3 0 k e)
      = (∑ l : Fin 1024, v8 (ix2 k l) * ∑ j : Fin 256, v0 (ix3 0 l j) * v2 (ix2 j e))
        - ∑ l : Fin 1024, v11 (ix2 k l) * ∑ j : Fin 256, v0 (ix3 0 l j) * v5 (ix2 j e) := by
  unfold k0_pay1
  refine (shapeCast_at (s := S1024x256) (t := S1x1024x256) (j := ix3 0 k e) _ _ (ix2 k e) (by rw [rowMajor2, rowMajor3]; simp)).trans ?_
  have inner : ∀ (w : Vec Ideal S256x256 .bf16) (l : Fin 1024),
      FloatOps.matmul (F := Ideal) (DotDims.plain 1024 256 256) none (shapeCast S1024x256 v0 shapeCasts_S1x1024x256_S1024x256 : FVec Ideal S1024x256 .bf16) w
        (constant S1024x256 .f32 0x00000000#32) (ix2 l e) = ∑ j : Fin 256, v0 (ix3 0 l j) * w (ix2 j e) := fun w l => by
    refine (plain_apply (φ₁ := .bf16) (φ₂ := .bf16) none _ w l e).trans (Finset.sum_congr rfl fun j _ => ?_)
    rw [shapeCast_at (s := S1x1024x256) (t := S1024x256) (j := ix2 l j) _ _ (ix3 0 l j) (by rw [rowMajor2, rowMajor3]; simp)]
  refine congrArg₂ (fun a b : EReal => a - b) ?_ ?_
  · refine (plain_apply (φ₁ := .bf16) (φ₂ := .bf16) none (v8 : FVec Ideal S1024x1024 .bf16) _ k e).trans (Finset.sum_congr rfl fun l _ => ?_)
    exact congrArg (v8 (ix2 k l) * ·) (inner v2 l)
  · refine (plain_apply (φ₁ := .bf16) (φ₂ := .bf16) none (v11 : FVec Ideal S1024x1024 .bf16) _ k e).trans (Finset.sum_congr rfl fun l _ => ?_)
    exact congrArg (v11 (ix2 k l) * ·) (inner v5 l)

variable (m : (ℓ : Loc nD τ sig) → Buf (Elt Ideal) ℓ) (c : Dev nD)

abbrev aU : FVec Ideal S2x1024x256 .bf16 := m ((c.tc : Thread nD τ).loc main_arg0)
abbrev aC : FVec Ideal S1024x1024 .f32 := m ((c.tc : Thread nD τ).loc main_arg1)
abbrev aS : FVec Ideal S1024x1024 .f32 := m ((c.tc : Thread nD τ).loc main_arg2)
abbrev aM1 : FVec Ideal S256x256 .bf16 := m ((c.tc : Thread nD τ).loc main_arg3)
abbrev aM2 : FVec Ideal S256x256 .bf16 := m ((c.tc : Thread nD τ).loc main_arg4)

/-- The kernel's arguments, entry by entry. -/
def kArgs : Args where
  u b l j := aU m c (ix3 b l j)
  c k l := aC m c (ix2 k l)
  s k l := aS m c (ix2 k l)
  m1 j e := aM1 m c (ix2 j e)
  m2 j e := aM2 m c (ix2 j e)

theorem idx0 : ∀ t : Fin cfg0.N, win0_0.index t = ![t.val, 0, 0] := (by decide +kernel : ∀ t : Fin grid0.N, win0_0.index t = ![t.val, 0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0, 0] := (by decide +kernel : ∀ t : Fin grid0.N, win0_5.index t = ![t.val, 0, 0])
theorem points : ∀ t : Fin cfg0.N, t.val < 2 := (by decide +kernel : ∀ t : Fin grid0.N, t.val < 2)

/-- The sequence of step `t`. -/
def seq (t : Fin cfg0.N) : Fin 2 := ⟨t.val, points t⟩

theorem in0 (t : Fin cfg0.N) (l : Fin 1024) (j : Fin 256) : iblk m c 0 t (ix3 0 l j) = aU m c (ix3 (seq t) l j) := by
  have h := points t
  unfold seq
  blk_ext [iblk, V_main_arg0, idx0]
theorem in1 (t : Fin cfg0.N) (k l : Fin 1024) : iblk m c 1 t (ix2 k l) = aC m c (ix2 k l) := by
  blk_ext [iblk, V_main_arg1, idx1]
theorem in2 (t : Fin cfg0.N) (k l : Fin 1024) : iblk m c 2 t (ix2 k l) = aS m c (ix2 k l) := by
  blk_ext [iblk, V_main_arg2, idx2]
theorem in3 (t : Fin cfg0.N) (j e : Fin 256) : iblk m c 3 t (ix2 j e) = aM1 m c (ix2 j e) := by
  blk_ext [iblk, V_main_arg3, idx3]
theorem in4 (t : Fin cfg0.N) (j e : Fin 256) : iblk m c 4 t (ix2 j e) = aM2 m c (ix2 j e) := by
  blk_ext [iblk, V_main_arg4, idx4]

theorem all0 {n : Nat} (x : Fin n → Nat) (h : ∀ a, x a = 0) : x = fun _ => 0 := funext h
theorem whole0 (x : Vec Ideal S1x1024x256 .bf16) : View.ld x r0_0 = x := View.ld_unit_zero (all0 _ (by decide)) _ _
theorem whole1 {φ : EltTy} (x : Vec Ideal S256x256 φ) : View.ld x r0_1 = x := View.ld_unit_zero (all0 _ (by decide)) _ _
theorem whole2 {φ : EltTy} (x : Vec Ideal S1024x1024 φ) : View.ld x r0_2 = x := View.ld_unit_zero (all0 _ (by decide)) _ _

theorem place5 (t : Fin cfg0.N) (k : Fin 1024) (e : Fin 256) : ((cfg0.win 5).blk t).view.emb (ix3 0 k e) = ix3 (seq t) k e := by
  have h := points t
  unfold seq
  blk_ext [idx5]

theorem out_at (t : Fin cfg0.N) (k : Fin 1024) (e : Fin 256) :
    k0_pay1 (iblk m c 0 t) (iblk m c 3 t) (iblk m c 4 t) (iblk m c 1 t) (iblk m c 2 t) (ix3 0 k e)
      = channelsFirst (kArgs m c) (seq t) k e := by
  refine (pay1_apply _ _ _ _ _ k e).trans ?_
  unfold channelsFirst kArgs
  simp only [in0, in1, in2, in3, in4]

/-- The call's result array. -/
theorem out5 : (dats m 0 c).arrAt 5 cfg0.N = fun i : S2x1024x256.Idx => channelsFirst (kArgs m c) (i 0) (i 1) (i 2) := by
  refine (dats m 0 c).arrAt_eq_of_covers 5 _ (by decide +kernel) fun t hf y => ?_
  obtain ⟨k, e, rfl⟩ : ∃ (k : Fin 1024) (e : Fin 256), y = ix3 0 k e :=
    ⟨y 1, y 2, by funext x; match x with | ⟨0, _⟩ => exact Subsingleton.elim (α := Fin 1) _ _ | ⟨1, _⟩ => rfl | ⟨2, _⟩ => rfl⟩
  rw [place5]
  blk_simp
  rw [after0_5]
  unfold out0_5
  rw [whole0, whole1, whole1, whole2, whole2, View.canon_unit_zero (all0 _ (by decide))]
  exact out_at m c t k e

end Kernel

section Reference
open Cert.ReferenceLongIdeal Cert.ReferenceLongIdeal.Gen Cert.ReferenceLongIdeal.Read

variable (x0 : FVec Ideal S2x1024x256 .bf16) (x1 x2 : FVec Ideal S1024x1024 .f32) (x3 x4 : FVec Ideal S256x256 .bf16)

/-- The reference's arguments, entry by entry. -/
def rArgs : Args where
  u b l j := x0 (ix3 b l j)
  c k l := x1 (ix2 k l)
  s k l := x2 (ix2 k l)
  m1 j e := x3 (ix2 j e)
  m2 j e := x4 (ix2 j e)

theorem cosines_apply (b : Fin 2) (k : Fin 1024) (j : Fin 256) :
    val_main_v2 (F := Ideal) x0 x1 (ix3 b k j) = ∑ l : Fin 1024, x0 (ix3 b l j) * x1 (ix2 k l) := by
  rw [val_main_v2_apply, show idx_main_v2 (ix3 b k j) = ix3 b j k from by
      funext a; match a with | ⟨0, _⟩ => rfl | ⟨1, _⟩ => rfl | ⟨2, _⟩ => rfl, val_main_v1_apply]
  refine Finset.sum_congr rfl fun l _ => ?_
  rw [show lidx_main_v1 (ix3 b j k) l = ix3 b l j from by funext a; match a with | ⟨0, _⟩ => rfl | ⟨1, _⟩ => rfl | ⟨2, _⟩ => rfl,
    show ridx_main_v1 (ix3 b j k) l = ix2 k l from by funext a; match a with | ⟨0, _⟩ => rfl | ⟨1, _⟩ => rfl]
  rfl

theorem sines_apply (b : Fin 2) (k : Fin 1024) (j : Fin 256) :
    val_main_v4 (F := Ideal) x0 x2 (ix3 b k j) = ∑ l : Fin 1024, x0 (ix3 b l j) * x2 (ix2 k l) := by
  rw [val_main_v4_apply, show idx_main_v4 (ix3 b k j) = ix3 b j k from by
      funext a; match a with | ⟨0, _⟩ => rfl | ⟨1, _⟩ => rfl | ⟨2, _⟩ => rfl, val_main_v3_apply]
  refine Finset.sum_congr rfl fun l _ => ?_
  rw [show lidx_main_v3 (ix3 b j k) l = ix3 b l j from by funext a; match a with | ⟨0, _⟩ => rfl | ⟨1, _⟩ => rfl | ⟨2, _⟩ => rfl,
    show ridx_main_v3 (ix3 b j k) l = ix2 k l from by funext a; match a with | ⟨0, _⟩ => rfl | ⟨1, _⟩ => rfl]
  rfl

theorem ref_apply (b : Fin 2) (k : Fin 1024) (e : Fin 256) :
    val_main_v10 (F := Ideal) x0 x1 x2 x3 x4 (ix3 b k e) = positionsFirst (rArgs x0 x1 x2 x3 x4) b k e := by
  show val_main_v6 (F := Ideal) x0 x1 x3 (ix3 b k e) - val_main_v8 (F := Ideal) x0 x2 x4 (ix3 b k e) = _
  rw [val_main_v6_apply, val_main_v8_apply]
  unfold positionsFirst rArgs
  refine congrArg₂ (fun a b : EReal => a - b) (Finset.sum_congr rfl fun j _ => ?_) (Finset.sum_congr rfl fun j _ => ?_)
  · rw [show lidx_main_v6 (ix3 b k e) j = ix3 b k j from by funext a; match a with | ⟨0, _⟩ => rfl | ⟨1, _⟩ => rfl | ⟨2, _⟩ => rfl,
      show ridx_main_v6 (ix3 b k e) j = ix2 j e from by funext a; match a with | ⟨0, _⟩ => rfl | ⟨1, _⟩ => rfl, cosines_apply]
    rfl
  · rw [show lidx_main_v8 (ix3 b k e) j = ix3 b k j from by funext a; match a with | ⟨0, _⟩ => rfl | ⟨1, _⟩ => rfl | ⟨2, _⟩ => rfl,
      show ridx_main_v8 (ix3 b k e) j = ix2 j e from by funext a; match a with | ⟨0, _⟩ => rfl | ⟨1, _⟩ => rfl, sines_apply]
    rfl

theorem result10 : val_main_v10 (F := Ideal) x0 x1 x2 x3 x4
    = fun i : S2x1024x256.Idx => positionsFirst (rArgs x0 x1 x2 x3 x4) (i 0) (i 1) (i 2) := by
  funext y
  obtain ⟨b, k, e, rfl⟩ : ∃ (b : Fin 2) (k : Fin 1024) (e : Fin 256), y = ix3 b k e :=
    ⟨y 0, y 1, y 2, by funext x; match x with | ⟨0, _⟩ => rfl | ⟨1, _⟩ => rfl | ⟨2, _⟩ => rfl⟩
  exact ref_apply x0 x1 x2 x3 x4 b k e

variable [Cert.Pre_finite_long.Facts] {x0 x1 x2 x3 x4}

/-- The precondition's five arrays, all ones. -/
theorem real_of (h : Cert.Pre_finite_long.fn (F := Ideal) x0 x1 x2 x3 x4
      = (fun _ => 1#1, fun _ => 1#1, fun _ => 1#1, fun _ => 1#1, fun _ => 1#1)) : (rArgs x0 x1 x2 x3 x4).Real := by
  unfold Cert.Pre_finite_long.fn at h
  simp only [Prod.mk.injEq] at h
  obtain ⟨h0, h1, h2, h3, h4⟩ := h
  exact {
    u := fun b l j => real_of_lt (congrFun h0 (ix3 b l j))
    c := fun k l => real_of_lt (congrFun h1 (ix2 k l))
    s := fun k l => real_of_lt (congrFun h2 (ix2 k l))
    m1 := fun j e => real_of_lt (congrFun h3 (ix2 j e))
    m2 := fun j e => real_of_lt (congrFun h4 (ix2 j e)) }

end Reference

theorem agree [hP : Cert.Pre_finite_long.Facts] : algebraic_KernelLongIdeal_ReferenceLongIdeal_pre_finite_long
    (hKernelLongIdeal := Cert.KernelLongIdeal.Gen.facts) (hReferenceLongIdeal := Cert.ReferenceLongIdeal.Gen.facts)
    (hPre_finite_long := hP) := by
  intro m g m' g' hpre hargs
  refine ⟨fun c => fun i : Cert.KernelLongIdeal.S2x1024x256.Idx => channelsFirst (kArgs m c) (i 0) (i 1) (i 2), ?_, ?_⟩
  · refine (θ_run _ _ _).mono (fun r h c => ?_) (Cert.KernelLongIdeal.Value.run_blocks m g)
    obtain ⟨h5, hkept⟩ := h c
    exact ⟨h5.trans (out5 m c), hkept⟩
  · refine (θ_run _ _ _).mono (fun r h c => ?_) (Cert.ReferenceLongIdeal.Value.run (F := Ideal) m' g')
    obtain ⟨h10, hkept⟩ := h c
    refine ⟨(h10.trans (Cert.ReferenceLongIdeal.Read.val_main_v10_eq _ _ _ _ _)).trans ?_, hkept⟩
    obtain ⟨e0, e1, e2, e3, e4⟩ := hargs c
    refine (result10 _ _ _ _ _).trans ?_
    rw [e0, e1, e2, e3, e4]
    obtain ⟨h0, h1, h2, h3, h4⟩ := hpre c
    exact funext fun i => orders_agree (real_of (Prod.ext h0 (Prod.ext h1 (Prod.ext h2 (Prod.ext h3 h4))))) (i 0) (i 1) (i 2)

end Cert.Proof.Long

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_tame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.KernelInIdeal.Value
public import proofs.«01_k».proof.Proof.Gen.ReferenceInIdeal.Run
public import proofs.«01_k».proof.Proof.Gen.ReferenceInIdeal.Read
public import proofs.«01_k».proof.Proof.Gen.KernelMoe
public import proofs.«01_k».proof.Proof.Gen.KernelMoe.Skeleton
public import proofs.«01_k».proof.Proof.Gen.KernelMoe.Launch
public import proofs.«01_k».proof.Proof.Gen.KernelMoe.Points
public import proofs.«01_k».proof.Proof.Gen.KernelMoe.Frame
public import proofs.«01_k».proof.Proof.Gen.KernelMoeIdeal
public import proofs.«01_k».proof.Proof.Gen.KernelMoeIdeal.Skeleton
public import proofs.«01_k».proof.Proof.Gen.KernelMoeIdeal.Launch
public import proofs.«01_k».proof.Proof.Gen.KernelMoeIdeal.Points
public import proofs.«01_k».proof.Proof.Gen.KernelMoeIdeal.Frame
public import proofs.«01_k».proof.Proof.Gen.KernelMoeIdeal.Value
public import proofs.«01_k».proof.Proof.Gen.KernelFinal
public import proofs.«01_k».proof.Proof.Gen.KernelFinal.Skeleton
public import proofs.«01_k».proof.Proof.Gen.KernelFinal.Launch
public import proofs.«01_k».proof.Proof.Gen.KernelFinal.Points
public import proofs.«01_k».proof.Proof.Gen.KernelFinal.Frame
public import proofs.«01_k».proof.Proof.Gen.KernelFinalIdeal
public import proofs.«01_k».proof.Proof.Gen.KernelFinalIdeal.Skeleton
public import proofs.«01_k».proof.Proof.Gen.KernelFinalIdeal.Launch
public import proofs.«01_k».proof.Proof.Gen.KernelFinalIdeal.Points
public import proofs.«01_k».proof.Proof.Gen.KernelFinalIdeal.Frame
public import proofs.«01_k».proof.Proof.Gen.KernelFinalIdeal.Value
public import proofs.«01_k».proof.Proof.Gen.ReferenceMoeIdeal
public import proofs.«01_k».proof.Proof.Gen.ReferenceMoeIdeal.Run
public import proofs.«01_k».proof.Proof.Gen.ReferenceMoeIdeal.Read
public import proofs.«01_k».proof.Proof.Gen.ReferenceFinalIdeal
public import proofs.«01_k».proof.Proof.Gen.ReferenceFinalIdeal.Run
public import proofs.«01_k».proof.Proof.Gen.ReferenceFinalIdeal.Read
public import proofs.«01_k».proof.Proof.Gen.KernelMod
public import proofs.«01_k».proof.Proof.Gen.KernelMod.Skeleton
public import proofs.«01_k».proof.Proof.Gen.KernelMod.Launch
public import proofs.«01_k».proof.Proof.Gen.KernelMod.Points
public import proofs.«01_k».proof.Proof.Gen.KernelMod.Frame
public import proofs.«01_k».proof.Proof.Gen.KernelModIdeal
public import proofs.«01_k».proof.Proof.Gen.KernelModIdeal.Skeleton
public import proofs.«01_k».proof.Proof.Gen.KernelModIdeal.Launch
public import proofs.«01_k».proof.Proof.Gen.KernelModIdeal.Points
public import proofs.«01_k».proof.Proof.Gen.KernelModIdeal.Frame
public import proofs.«01_k».proof.Proof.Gen.KernelModIdeal.Value
public import proofs.«01_k».proof.Proof.Gen.ReferenceModIdeal
public import proofs.«01_k».proof.Proof.Gen.ReferenceModIdeal.Run
public import proofs.«01_k».proof.Proof.Gen.ReferenceModIdeal.Read
public import proofs.«01_k».proof.Proof.Gen.KernelDisc
public import proofs.«01_k».proof.Proof.Gen.KernelDisc.Skeleton
public import proofs.«01_k».proof.Proof.Gen.KernelDisc.Launch
public import proofs.«01_k».proof.Proof.Gen.KernelDisc.Points
public import proofs.«01_k».proof.Proof.Gen.KernelDisc.Frame
public import proofs.«01_k».proof.Proof.Gen.KernelDiscIdeal
public import proofs.«01_k».proof.Proof.Gen.KernelDiscIdeal.Skeleton
public import proofs.«01_k».proof.Proof.Gen.KernelDiscIdeal.Launch
public import proofs.«01_k».proof.Proof.Gen.KernelDiscIdeal.Points
public import proofs.«01_k».proof.Proof.Gen.KernelDiscIdeal.Frame
public import proofs.«01_k».proof.Proof.Gen.KernelDiscIdeal.Value
public import proofs.«01_k».proof.Proof.Gen.ReferenceDiscIdeal
public import proofs.«01_k».proof.Proof.Gen.ReferenceDiscIdeal.Run
public import proofs.«01_k».proof.Proof.Gen.ReferenceDiscIdeal.Read
public import proofs.«01_k».proof.Proof.Gen.KernelFw
public import proofs.«01_k».proof.Proof.Gen.KernelFw.Skeleton
public import proofs.«01_k».proof.Proof.Gen.KernelFw.Launch
public import proofs.«01_k».proof.Proof.Gen.KernelFw.Points
public import proofs.«01_k».proof.Proof.Gen.KernelFw.Frame
public import proofs.«01_k».proof.Proof.Gen.KernelFwIdeal
public import proofs.«01_k».proof.Proof.Gen.KernelFwIdeal.Skeleton
public import proofs.«01_k».proof.Proof.Gen.KernelFwIdeal.Launch
public import proofs.«01_k».proof.Proof.Gen.KernelFwIdeal.Points
public import proofs.«01_k».proof.Proof.Gen.KernelFwIdeal.Frame
public import proofs.«01_k».proof.Proof.Gen.KernelFwIdeal.Value
public import proofs.«01_k».proof.Proof.Gen.ReferenceFwIdeal
public import proofs.«01_k».proof.Proof.Gen.ReferenceFwIdeal.Run
public import proofs.«01_k».proof.Proof.Gen.ReferenceFwIdeal.Read
public import proofs.«01_k».proof.Proof.Gen.KernelFnet
public import proofs.«01_k».proof.Proof.Gen.KernelFnet.Skeleton
public import proofs.«01_k».proof.Proof.Gen.KernelFnet.Launch
public import proofs.«01_k».proof.Proof.Gen.KernelFnet.Points
public import proofs.«01_k».proof.Proof.Gen.KernelFnet.Frame
public import proofs.«01_k».proof.Proof.Gen.KernelFnetIdeal
public import proofs.«01_k».proof.Proof.Gen.KernelFnetIdeal.Skeleton
public import proofs.«01_k».proof.Proof.Gen.KernelFnetIdeal.Launch
public import proofs.«01_k».proof.Proof.Gen.KernelFnetIdeal.Points
public import proofs.«01_k».proof.Proof.Gen.KernelFnetIdeal.Frame
public import proofs.«01_k».proof.Proof.Gen.KernelFnetIdeal.Value
public import proofs.«01_k».proof.Proof.Gen.ReferenceFnetIdeal
public import proofs.«01_k».proof.Proof.Gen.ReferenceFnetIdeal.Run
public import proofs.«01_k».proof.Proof.Gen.ReferenceFnetIdeal.Read
public import proofs.«01_k».proof.Proof.Gen.Pre_finite
public import proofs.«01_k».proof.Proof.Gen.KernelLong
public import proofs.«01_k».proof.Proof.Gen.KernelLong.Skeleton
public import proofs.«01_k».proof.Proof.Gen.KernelLong.Launch
public import proofs.«01_k».proof.Proof.Gen.KernelLong.Points
public import proofs.«01_k».proof.Proof.Gen.KernelLong.Frame
public import proofs.«01_k».proof.Proof.Gen.KernelLongIdeal
public import proofs.«01_k».proof.Proof.Gen.KernelLongIdeal.Skeleton
public import proofs.«01_k».proof.Proof.Gen.KernelLongIdeal.Launch
public import proofs.«01_k».proof.Proof.Gen.KernelLongIdeal.Points
public import proofs.«01_k».proof.Proof.Gen.KernelLongIdeal.Frame
public import proofs.«01_k».proof.Proof.Gen.KernelLongIdeal.Value
public import proofs.«01_k».proof.Proof.Gen.ReferenceLongIdeal
public import proofs.«01_k».proof.Proof.Gen.ReferenceLongIdeal.Run
public import proofs.«01_k».proof.Proof.Gen.ReferenceLongIdeal.Read
public import proofs.«01_k».proof.Proof.Gen.Pre_finite_long
public import proofs.«01_k».proof.Proof.Agree
public import proofs.«01_k».proof.Proof.InAgree
public import proofs.«01_k».proof.Proof.MoeAgree
public import proofs.«01_k».proof.Proof.FinalAgree
public import proofs.«01_k».proof.Proof.ModAgree
public import proofs.«01_k».proof.Proof.DiscAgree
public import proofs.«01_k».proof.Proof.FwAgree
public import proofs.«01_k».proof.Proof.FnetAgree
public import proofs.«01_k».proof.Proof.LongAgree
public import Idealize.ShloMosaic.Adequacy
public import Idealize.ShloMosaic.Init

@[expose] public section

noncomputable section

namespace Cert.Proof

open Idealize.ShloMosaic Idealize.SL.Sem Cert.Kernel

/-- The reference ends with its arguments as they were, and it has no semaphores. -/
theorem reference_frame : Cert.quiescent_ReferenceIdeal (hReferenceIdeal := Cert.ReferenceIdeal.Gen.facts) := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- So does the reference before the token mixer. -/
theorem reference_in_frame : Cert.quiescent_ReferenceInIdeal (hReferenceInIdeal := Cert.ReferenceInIdeal.Gen.facts) := fun m ρ _ =>
  (θ_run Cert.ReferenceInIdeal.defs _ _).mono (fun r h => ⟨fun c => (h c).2.2,
      Idealize.ShloMosaic.sem_eq_zero_of_no_sems (by decide) r.2⟩)
    (Cert.ReferenceInIdeal.Value.run (F := Ideal) m ρ)

/-- So does the experts' reference. -/
theorem reference_moe_frame : Cert.quiescent_ReferenceMoeIdeal (hReferenceMoeIdeal := Cert.ReferenceMoeIdeal.Gen.facts) := fun m ρ _ =>
  (θ_run Cert.ReferenceMoeIdeal.defs _ _).mono (fun r h => ⟨fun c => (h c).2,
      Idealize.ShloMosaic.sem_eq_zero_of_no_sems (by decide) r.2⟩)
    (Cert.ReferenceMoeIdeal.Value.run (F := Ideal) m ρ)

/-- And the reference of the last norm. -/
theorem reference_final_frame : Cert.quiescent_ReferenceFinalIdeal (hReferenceFinalIdeal := Cert.ReferenceFinalIdeal.Gen.facts) := fun m ρ _ =>
  (θ_run Cert.ReferenceFinalIdeal.defs _ _).mono (fun r h => ⟨fun c => (h c).2,
      Idealize.ShloMosaic.sem_eq_zero_of_no_sems (by decide) r.2⟩)
    (Cert.ReferenceFinalIdeal.Value.run (F := Ideal) m ρ)

/-- And the reference of the modulation. -/
theorem reference_mod_frame : Cert.quiescent_ReferenceModIdeal (hReferenceModIdeal := Cert.ReferenceModIdeal.Gen.facts) := fun m ρ _ =>
  (θ_run Cert.ReferenceModIdeal.defs _ _).mono (fun r h => ⟨fun c => (h c).2,
      Idealize.ShloMosaic.sem_eq_zero_of_no_sems (by decide) r.2⟩)
    (Cert.ReferenceModIdeal.Value.run (F := Ideal) m ρ)

/-- And the reference of the discretisation. -/
theorem reference_disc_frame : Cert.quiescent_ReferenceDiscIdeal (hReferenceDiscIdeal := Cert.ReferenceDiscIdeal.Gen.facts) := fun m ρ _ =>
  (θ_run Cert.ReferenceDiscIdeal.defs _ _).mono (fun r h => ⟨fun c => (h c).2.2.2.2,
      Idealize.ShloMosaic.sem_eq_zero_of_no_sems (by decide) r.2⟩)
    (Cert.ReferenceDiscIdeal.Value.run (F := Ideal) m ρ)

/-- And the reference of the Fourier mixer's weights. -/
theorem reference_fw_frame : Cert.quiescent_ReferenceFwIdeal (hReferenceFwIdeal := Cert.ReferenceFwIdeal.Gen.facts) := fun m ρ _ =>
  (θ_run Cert.ReferenceFwIdeal.defs _ _).mono (fun r h => ⟨fun c => (h c).2.2,
      Idealize.ShloMosaic.sem_eq_zero_of_no_sems (by decide) r.2⟩)
    (Cert.ReferenceFwIdeal.Value.run (F := Ideal) m ρ)

/-- And the reference of the Fourier mixer. -/
theorem reference_fnet_frame : Cert.quiescent_ReferenceFnetIdeal (hReferenceFnetIdeal := Cert.ReferenceFnetIdeal.Gen.facts) := fun m ρ _ =>
  (θ_run Cert.ReferenceFnetIdeal.defs _ _).mono (fun r h => ⟨fun c => (h c).2,
      Idealize.ShloMosaic.sem_eq_zero_of_no_sems (by decide) r.2⟩)
    (Cert.ReferenceFnetIdeal.Value.run (F := Ideal) m ρ)

/-- And the reference of the Fourier mixer at the samples' length. -/
theorem reference_long_frame : Cert.quiescent_ReferenceLongIdeal (hReferenceLongIdeal := Cert.ReferenceLongIdeal.Gen.facts) := fun m ρ _ =>
  (θ_run Cert.ReferenceLongIdeal.defs _ _).mono (fun r h => ⟨fun c => (h c).2,
      Idealize.ShloMosaic.sem_eq_zero_of_no_sems (by decide) r.2⟩)
    (Cert.ReferenceLongIdeal.Value.run (F := Ideal) m ρ)

theorem claim : Cert.Claim :=
  ⟨Cert.Kernel.Gen.facts, Cert.KernelIdeal.Gen.facts, Cert.ReferenceIdeal.Gen.facts,
   Cert.KernelIn.Gen.facts, Cert.KernelInIdeal.Gen.facts, Cert.ReferenceInIdeal.Gen.facts,
   Cert.KernelMoe.Gen.facts, Cert.KernelMoeIdeal.Gen.facts, Cert.ReferenceMoeIdeal.Gen.facts,
   Cert.KernelFinal.Gen.facts, Cert.KernelFinalIdeal.Gen.facts, Cert.ReferenceFinalIdeal.Gen.facts,
   Cert.KernelMod.Gen.facts, Cert.KernelModIdeal.Gen.facts, Cert.ReferenceModIdeal.Gen.facts,
   Cert.KernelDisc.Gen.facts, Cert.KernelDiscIdeal.Gen.facts, Cert.ReferenceDiscIdeal.Gen.facts,
   Cert.KernelFw.Gen.facts, Cert.KernelFwIdeal.Gen.facts, Cert.ReferenceFwIdeal.Gen.facts,
   Cert.KernelFnet.Gen.facts, Cert.KernelFnetIdeal.Gen.facts, Cert.ReferenceFnetIdeal.Gen.facts,
   Cert.KernelLong.Gen.facts, Cert.KernelLongIdeal.Gen.facts, Cert.ReferenceLongIdeal.Gen.facts,
   Cert.Pre_tame.Gen.facts, Cert.Pre_finite.Gen.facts, Cert.Pre_finite_long.Gen.facts,
   fun m ρ _ => Cert.Kernel.Gen.frame m ρ, fun m ρ _ => Cert.KernelIdeal.Gen.frame m ρ,
   fun m ρ _ => Cert.KernelIdeal.Gen.frame m ρ, reference_frame, fun m ρ _ => reference_frame m ρ trivial,
   fun m ρ _ => Cert.KernelIn.Gen.frame m ρ, fun m ρ _ => Cert.KernelInIdeal.Gen.frame m ρ, reference_in_frame,
   fun m ρ _ => Cert.KernelMoe.Gen.frame m ρ, fun m ρ _ => Cert.KernelMoeIdeal.Gen.frame m ρ, reference_moe_frame,
   fun m ρ _ => Cert.KernelFinal.Gen.frame m ρ, fun m ρ _ => Cert.KernelFinalIdeal.Gen.frame m ρ, reference_final_frame,
   fun m ρ _ => Cert.KernelMod.Gen.frame m ρ, fun m ρ _ => Cert.KernelModIdeal.Gen.frame m ρ, reference_mod_frame,
   fun m ρ _ => Cert.KernelDisc.Gen.frame m ρ, fun m ρ _ => Cert.KernelDiscIdeal.Gen.frame m ρ, reference_disc_frame,
   fun m ρ _ => Cert.KernelFw.Gen.frame m ρ, fun m ρ _ => Cert.KernelFwIdeal.Gen.frame m ρ, reference_fw_frame,
   fun m ρ _ => Cert.KernelFnet.Gen.frame m ρ, fun m ρ _ => Cert.KernelFnetIdeal.Gen.frame m ρ,
   fun m ρ _ => Cert.KernelFnetIdeal.Gen.frame m ρ, reference_fnet_frame, fun m ρ _ => reference_fnet_frame m ρ trivial,
   fun m ρ _ => Cert.KernelLong.Gen.frame m ρ, fun m ρ _ => Cert.KernelLongIdeal.Gen.frame m ρ,
   fun m ρ _ => Cert.KernelLongIdeal.Gen.frame m ρ, reference_long_frame, fun m ρ _ => reference_long_frame m ρ trivial,
   trivial, agree (hP := Cert.Pre_tame.Gen.facts), trivial, In.agree, trivial, Moe.agree, trivial, Final.agree,
   trivial, Mod.agree, trivial, Disc.agree, trivial, Fw.agree, trivial, Fnet.agree (hP := Cert.Pre_finite.Gen.facts), trivial,
   Long.agree (hP := Cert.Pre_finite_long.Gen.facts)⟩

end Cert.Proof

end
